-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gate_in_range [hPre_gate_in_range : Cert.Pre_gate_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_gate_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gate_in_range [hPre_gate_in_range : Cert.Pre_gate_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gate_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Step (m : (ℓ : Loc Cert.Step.nD Cert.Step.τ Cert.Step.sig) → Buf (Elt Bits) ℓ) : Prop :=
  True

def Pre_StepIdeal (m : (ℓ : Loc Cert.StepIdeal.nD Cert.StepIdeal.τ Cert.StepIdeal.sig) → Buf (Elt Ideal) ℓ) : Prop :=
  True

def Pre_StepReferenceIdeal (m : (ℓ : Loc Cert.StepReferenceIdeal.nD Cert.StepReferenceIdeal.τ Cert.StepReferenceIdeal.sig) → Buf (Elt Ideal) ℓ) : Prop :=
  True

def Pre_Token (m : (ℓ : Loc Cert.Token.nD Cert.Token.τ Cert.Token.sig) → Buf (Elt Bits) ℓ) : Prop :=
  True

def Pre_TokenIdeal (m : (ℓ : Loc Cert.TokenIdeal.nD Cert.TokenIdeal.τ Cert.TokenIdeal.sig) → Buf (Elt Ideal) ℓ) : Prop :=
  True

def Pre_TokenIdeal_gate_finite [hPre_gate_finite : Cert.Pre_gate_finite.Facts] (m : (ℓ : Loc Cert.TokenIdeal.nD Cert.TokenIdeal.τ Cert.TokenIdeal.sig) → Buf (Elt Ideal) ℓ) : Prop :=
  ∀ c : Dev Cert.TokenIdeal.nD,
    (Cert.Pre_gate_finite.fn (F := Ideal) (m ((c.tc : Thread Cert.TokenIdeal.nD Cert.TokenIdeal.τ).loc Cert.TokenIdeal.main_arg0)) (m ((c.tc : Thread Cert.TokenIdeal.nD Cert.TokenIdeal.τ).loc Cert.TokenIdeal.main_arg1)) (m ((c.tc : Thread Cert.TokenIdeal.nD Cert.TokenIdeal.τ).loc Cert.TokenIdeal.main_arg2)) (m ((c.tc : Thread Cert.TokenIdeal.nD Cert.TokenIdeal.τ).loc Cert.TokenIdeal.main_arg3)) (m ((c.tc : Thread Cert.TokenIdeal.nD Cert.TokenIdeal.τ).loc Cert.TokenIdeal.main_arg4)) (m ((c.tc : Thread Cert.TokenIdeal.nD Cert.TokenIdeal.τ).loc Cert.TokenIdeal.main_arg5)) (m ((c.tc : Thread Cert.TokenIdeal.nD Cert.TokenIdeal.τ).loc Cert.TokenIdeal.main_arg6)) (m ((c.tc : Thread Cert.TokenIdeal.nD Cert.TokenIdeal.τ).loc Cert.TokenIdeal.main_arg7)) (m ((c.tc : Thread Cert.TokenIdeal.nD Cert.TokenIdeal.τ).loc Cert.TokenIdeal.main_arg8))) = (fun _ => 1#1)

def Pre_TokenReferenceIdeal (m : (ℓ : Loc Cert.TokenReferenceIdeal.nD Cert.TokenReferenceIdeal.τ Cert.TokenReferenceIdeal.sig) → Buf (Elt Ideal) ℓ) : Prop :=
  True

def Pre_TokenReferenceIdeal_gate_finite [hPre_gate_finite : Cert.Pre_gate_finite.Facts] (m : (ℓ : Loc Cert.TokenReferenceIdeal.nD Cert.TokenReferenceIdeal.τ Cert.TokenReferenceIdeal.sig) → Buf (Elt Ideal) ℓ) : Prop :=
  ∀ c : Dev Cert.TokenReferenceIdeal.nD,
    (Cert.Pre_gate_finite.fn (F := Ideal) (m ((c.tc : Thread Cert.TokenReferenceIdeal.nD Cert.TokenReferenceIdeal.τ).loc Cert.TokenReferenceIdeal.main_arg0)) (m ((c.tc : Thread Cert.TokenReferenceIdeal.nD Cert.TokenReferenceIdeal.τ).loc Cert.TokenReferenceIdeal.main_arg1)) (m ((c.tc : Thread Cert.TokenReferenceIdeal.nD Cert.TokenReferenceIdeal.τ).loc Cert.TokenReferenceIdeal.main_arg2)) (m ((c.tc : Thread Cert.TokenReferenceIdeal.nD Cert.TokenReferenceIdeal.τ).loc Cert.TokenReferenceIdeal.main_arg3)) (m ((c.tc : Thread Cert.TokenReferenceIdeal.nD Cert.TokenReferenceIdeal.τ).loc Cert.TokenReferenceIdeal.main_arg4)) (m ((c.tc : Thread Cert.TokenReferenceIdeal.nD Cert.TokenReferenceIdeal.τ).loc Cert.TokenReferenceIdeal.main_arg5)) (m ((c.tc : Thread Cert.TokenReferenceIdeal.nD Cert.TokenReferenceIdeal.τ).loc Cert.TokenReferenceIdeal.main_arg6)) (m ((c.tc : Thread Cert.TokenReferenceIdeal.nD Cert.TokenReferenceIdeal.τ).loc Cert.TokenReferenceIdeal.main_arg7)) (m ((c.tc : Thread Cert.TokenReferenceIdeal.nD Cert.TokenReferenceIdeal.τ).loc Cert.TokenReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_gate_in_range [hKernelIdeal : Cert.KernelIdeal.Facts] [hPre_gate_in_range : Cert.Pre_gate_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gate_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_gate_in_range [hReferenceIdeal : Cert.ReferenceIdeal.Facts] [hPre_gate_in_range : Cert.Pre_gate_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gate_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8))
      ∧ r.2.sem = fun _ => 0)

def quiescent_Step [hStep : Cert.Step.Facts] : Prop :=
  ∀ (m : (ℓ : Loc Cert.Step.nD Cert.Step.τ Cert.Step.sig) → Buf (Elt Bits) ℓ) (g : Dev Cert.Step.nD → PrngReg), Pre_Step m →
    θ_run (Cert.Step.defs (F := Bits)) (onTc (τ := Cert.Step.τ) (Cert.Step.main (F := Bits))) ⟨m, fun _ => 0, g⟩ (fun r => (∀ c : Dev Cert.Step.nD,
      r.2.mem ((c.tc : Thread Cert.Step.nD Cert.Step.τ).loc Cert.Step.main_arg0) = m ((c.tc : Thread Cert.Step.nD Cert.Step.τ).loc Cert.Step.main_arg0)
      ∧ r.2.mem ((c.tc : Thread Cert.Step.nD Cert.Step.τ).loc Cert.Step.main_arg1) = m ((c.tc : Thread Cert.Step.nD Cert.Step.τ).loc Cert.Step.main_arg1)
      ∧ r.2.mem ((c.tc : Thread Cert.Step.nD Cert.Step.τ).loc Cert.Step.main_arg2) = m ((c.tc : Thread Cert.Step.nD Cert.Step.τ).loc Cert.Step.main_arg2)
      ∧ r.2.mem ((c.tc : Thread Cert.Step.nD Cert.Step.τ).loc Cert.Step.main_arg3) = m ((c.tc : Thread Cert.Step.nD Cert.Step.τ).loc Cert.Step.main_arg3)
      ∧ r.2.mem ((c.tc : Thread Cert.Step.nD Cert.Step.τ).loc Cert.Step.main_arg4) = m ((c.tc : Thread Cert.Step.nD Cert.Step.τ).loc Cert.Step.main_arg4)
      ∧ r.2.mem ((c.tc : Thread Cert.Step.nD Cert.Step.τ).loc Cert.Step.main_arg5) = m ((c.tc : Thread Cert.Step.nD Cert.Step.τ).loc Cert.Step.main_arg5)
      ∧ r.2.mem ((c.tc : Thread Cert.Step.nD Cert.Step.τ).loc Cert.Step.main_arg6) = m ((c.tc : Thread Cert.Step.nD Cert.Step.τ).loc Cert.Step.main_arg6))
      ∧ r.2.sem = fun _ => 0)

def quiescent_StepIdeal [hStepIdeal : Cert.StepIdeal.Facts] : Prop :=
  ∀ (m : (ℓ : Loc Cert.StepIdeal.nD Cert.StepIdeal.τ Cert.StepIdeal.sig) → Buf (Elt Ideal) ℓ) (g : Dev Cert.StepIdeal.nD → PrngReg), Pre_StepIdeal m →
    θ_run (Cert.StepIdeal.defs (F := Ideal)) (onTc (τ := Cert.StepIdeal.τ) (Cert.StepIdeal.main (F := Ideal))) ⟨m, fun _ => 0, g⟩ (fun r => (∀ c : Dev Cert.StepIdeal.nD,
      r.2.mem ((c.tc : Thread Cert.StepIdeal.nD Cert.StepIdeal.τ).loc Cert.StepIdeal.main_arg0) = m ((c.tc : Thread Cert.StepIdeal.nD Cert.StepIdeal.τ).loc Cert.StepIdeal.main_arg0)
      ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
      ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
      ∧ r.2.mem ((c.tc : Thread Cert.StepIdeal.nD Cert.StepIdeal.τ).loc Cert.StepIdeal.main_arg3) = m ((c.tc : Thread Cert.StepIdeal.nD Cert.StepIdeal.τ).loc Cert.StepIdeal.main_arg3)
      ∧ r.2.mem ((c.tc : Thread Cert.StepIdeal.nD Cert.StepIdeal.τ).loc Cert.StepIdeal.main_arg4) = m ((c.tc : Thread Cert.StepIdeal.nD Cert.StepIdeal.τ).loc Cert.StepIdeal.main_arg4)
      ∧ r.2.mem ((c.tc : Thread Cert.StepIdeal.nD Cert.StepIdeal.τ).loc Cert.StepIdeal.main_arg5) = m ((c.tc : Thread Cert.StepIdeal.nD Cert.StepIdeal.τ).loc Cert.StepIdeal.main_arg5)
      ∧ r.2.mem ((c.tc : Thread Cert.StepIdeal.nD Cert.StepIdeal.τ).loc Cert.StepIdeal.main_arg6) = m ((c.tc : Thread Cert.StepIdeal.nD Cert.StepIdeal.τ).loc Cert.StepIdeal.main_arg6))
      ∧ r.2.sem = fun _ => 0)

def quiescent_StepReferenceIdeal [hStepReferenceIdeal : Cert.StepReferenceIdeal.Facts] : Prop :=
  ∀ (m : (ℓ : Loc Cert.StepReferenceIdeal.nD Cert.StepReferenceIdeal.τ Cert.StepReferenceIdeal.sig) → Buf (Elt Ideal) ℓ) (g : Dev Cert.StepReferenceIdeal.nD → PrngReg), Pre_StepReferenceIdeal m →
    θ_run (Cert.StepReferenceIdeal.defs (F := Ideal)) (onTc (τ := Cert.StepReferenceIdeal.τ) (Cert.StepReferenceIdeal.main (F := Ideal))) ⟨m, fun _ => 0, g⟩ (fun r => (∀ c : Dev Cert.StepReferenceIdeal.nD,
      r.2.mem ((c.tc : Thread Cert.StepReferenceIdeal.nD Cert.StepReferenceIdeal.τ).loc Cert.StepReferenceIdeal.main_arg0) = m ((c.tc : Thread Cert.StepReferenceIdeal.nD Cert.StepReferenceIdeal.τ).loc Cert.StepReferenceIdeal.main_arg0)
      ∧ r.2.mem ((c.tc : Thread Cert.StepReferenceIdeal.nD Cert.StepReferenceIdeal.τ).loc Cert.StepReferenceIdeal.main_arg1) = m ((c.tc : Thread Cert.StepReferenceIdeal.nD Cert.StepReferenceIdeal.τ).loc Cert.StepReferenceIdeal.main_arg1)
      ∧ r.2.mem ((c.tc : Thread Cert.StepReferenceIdeal.nD Cert.StepReferenceIdeal.τ).loc Cert.StepReferenceIdeal.main_arg2) = m ((c.tc : Thread Cert.StepReferenceIdeal.nD Cert.StepReferenceIdeal.τ).loc Cert.StepReferenceIdeal.main_arg2)
      ∧ r.2.mem ((c.tc : Thread Cert.StepReferenceIdeal.nD Cert.StepReferenceIdeal.τ).loc Cert.StepReferenceIdeal.main_arg3) = m ((c.tc : Thread Cert.StepReferenceIdeal.nD Cert.StepReferenceIdeal.τ).loc Cert.StepReferenceIdeal.main_arg3)
      ∧ r.2.mem ((c.tc : Thread Cert.StepReferenceIdeal.nD Cert.StepReferenceIdeal.τ).loc Cert.StepReferenceIdeal.main_arg4) = m ((c.tc : Thread Cert.StepReferenceIdeal.nD Cert.StepReferenceIdeal.τ).loc Cert.StepReferenceIdeal.main_arg4)
      ∧ r.2.mem ((c.tc : Thread Cert.StepReferenceIdeal.nD Cert.StepReferenceIdeal.τ).loc Cert.StepReferenceIdeal.main_arg5) = m ((c.tc : Thread Cert.StepReferenceIdeal.nD Cert.StepReferenceIdeal.τ).loc Cert.StepReferenceIdeal.main_arg5)
      ∧ r.2.mem ((c.tc : Thread Cert.StepReferenceIdeal.nD Cert.StepReferenceIdeal.τ).loc Cert.StepReferenceIdeal.main_arg6) = m ((c.tc : Thread Cert.StepReferenceIdeal.nD Cert.StepReferenceIdeal.τ).loc Cert.StepReferenceIdeal.main_arg6))
      ∧ r.2.sem = fun _ => 0)

def quiescent_Token [hToken : Cert.Token.Facts] : Prop :=
  ∀ (m : (ℓ : Loc Cert.Token.nD Cert.Token.τ Cert.Token.sig) → Buf (Elt Bits) ℓ) (g : Dev Cert.Token.nD → PrngReg), Pre_Token m →
    θ_run (Cert.Token.defs (F := Bits)) (onTc (τ := Cert.Token.τ) (Cert.Token.main (F := Bits))) ⟨m, fun _ => 0, g⟩ (fun r => (∀ c : Dev Cert.Token.nD,
      r.2.mem ((c.tc : Thread Cert.Token.nD Cert.Token.τ).loc Cert.Token.main_arg0) = m ((c.tc : Thread Cert.Token.nD Cert.Token.τ).loc Cert.Token.main_arg0)
      ∧ r.2.mem ((c.tc : Thread Cert.Token.nD Cert.Token.τ).loc Cert.Token.main_arg1) = m ((c.tc : Thread Cert.Token.nD Cert.Token.τ).loc Cert.Token.main_arg1)
      ∧ r.2.mem ((c.tc : Thread Cert.Token.nD Cert.Token.τ).loc Cert.Token.main_arg2) = m ((c.tc : Thread Cert.Token.nD Cert.Token.τ).loc Cert.Token.main_arg2)
      ∧ r.2.mem ((c.tc : Thread Cert.Token.nD Cert.Token.τ).loc Cert.Token.main_arg3) = m ((c.tc : Thread Cert.Token.nD Cert.Token.τ).loc Cert.Token.main_arg3)
      ∧ r.2.mem ((c.tc : Thread Cert.Token.nD Cert.Token.τ).loc Cert.Token.main_arg4) = m ((c.tc : Thread Cert.Token.nD Cert.Token.τ).loc Cert.Token.main_arg4)
      ∧ r.2.mem ((c.tc : Thread Cert.Token.nD Cert.Token.τ).loc Cert.Token.main_arg5) = m ((c.tc : Thread Cert.Token.nD Cert.Token.τ).loc Cert.Token.main_arg5)
      ∧ r.2.mem ((c.tc : Thread Cert.Token.nD Cert.Token.τ).loc Cert.Token.main_arg6) = m ((c.tc : Thread Cert.Token.nD Cert.Token.τ).loc Cert.Token.main_arg6)
      ∧ r.2.mem ((c.tc : Thread Cert.Token.nD Cert.Token.τ).loc Cert.Token.main_arg7) = m ((c.tc : Thread Cert.Token.nD Cert.Token.τ).loc Cert.Token.main_arg7)
      ∧ r.2.mem ((c.tc : Thread Cert.Token.nD Cert.Token.τ).loc Cert.Token.main_arg8) = m ((c.tc : Thread Cert.Token.nD Cert.Token.τ).loc Cert.Token.main_arg8))
      ∧ r.2.sem = fun _ => 0)

def quiescent_TokenIdeal [hTokenIdeal : Cert.TokenIdeal.Facts] : Prop :=
  ∀ (m : (ℓ : Loc Cert.TokenIdeal.nD Cert.TokenIdeal.τ Cert.TokenIdeal.sig) → Buf (Elt Ideal) ℓ) (g : Dev Cert.TokenIdeal.nD → PrngReg), Pre_TokenIdeal m →
    θ_run (Cert.TokenIdeal.defs (F := Ideal)) (onTc (τ := Cert.TokenIdeal.τ) (Cert.TokenIdeal.main (F := Ideal))) ⟨m, fun _ => 0, g⟩ (fun r => (∀ c : Dev Cert.TokenIdeal.nD,
      r.2.mem ((c.tc : Thread Cert.TokenIdeal.nD Cert.TokenIdeal.τ).loc Cert.TokenIdeal.main_arg0) = m ((c.tc : Thread Cert.TokenIdeal.nD Cert.TokenIdeal.τ).loc Cert.TokenIdeal.main_arg0)
      ∧ r.2.mem ((c.tc : Thread Cert.TokenIdeal.nD Cert.TokenIdeal.τ).loc Cert.TokenIdeal.main_arg1) = m ((c.tc : Thread Cert.TokenIdeal.nD Cert.TokenIdeal.τ).loc Cert.TokenIdeal.main_arg1)
      ∧ r.2.mem ((c.tc : Thread Cert.TokenIdeal.nD Cert.TokenIdeal.τ).loc Cert.TokenIdeal.main_arg2) = m ((c.tc : Thread Cert.TokenIdeal.nD Cert.TokenIdeal.τ).loc Cert.TokenIdeal.main_arg2)
      ∧ r.2.mem ((c.tc : Thread Cert.TokenIdeal.nD Cert.TokenIdeal.τ).loc Cert.TokenIdeal.main_arg3) = m ((c.tc : Thread Cert.TokenIdeal.nD Cert.TokenIdeal.τ).loc Cert.TokenIdeal.main_arg3)
      ∧ r.2.mem ((c.tc : Thread Cert.TokenIdeal.nD Cert.TokenIdeal.τ).loc Cert.TokenIdeal.main_arg4) = m ((c.tc : Thread Cert.TokenIdeal.nD Cert.TokenIdeal.τ).loc Cert.TokenIdeal.main_arg4)
      ∧ r.2.mem ((c.tc : Thread Cert.TokenIdeal.nD Cert.TokenIdeal.τ).loc Cert.TokenIdeal.main_arg5) = m ((c.tc : Thread Cert.TokenIdeal.nD Cert.TokenIdeal.τ).loc Cert.TokenIdeal.main_arg5)
      ∧ r.2.mem ((c.tc : Thread Cert.TokenIdeal.nD Cert.TokenIdeal.τ).loc Cert.TokenIdeal.main_arg6) = m ((c.tc : Thread Cert.TokenIdeal.nD Cert.TokenIdeal.τ).loc Cert.TokenIdeal.main_arg6)
      ∧ r.2.mem ((c.tc : Thread Cert.TokenIdeal.nD Cert.TokenIdeal.τ).loc Cert.TokenIdeal.main_arg7) = m ((c.tc : Thread Cert.TokenIdeal.nD Cert.TokenIdeal.τ).loc Cert.TokenIdeal.main_arg7)
      ∧ r.2.mem ((c.tc : Thread Cert.TokenIdeal.nD Cert.TokenIdeal.τ).loc Cert.TokenIdeal.main_arg8) = m ((c.tc : Thread Cert.TokenIdeal.nD Cert.TokenIdeal.τ).loc Cert.TokenIdeal.main_arg8))
      ∧ r.2.sem = fun _ => 0)

def quiescent_TokenIdeal_pre_gate_finite [hTokenIdeal : Cert.TokenIdeal.Facts] [hPre_gate_finite : Cert.Pre_gate_finite.Facts] : Prop :=
  ∀ (m : (ℓ : Loc Cert.TokenIdeal.nD Cert.TokenIdeal.τ Cert.TokenIdeal.sig) → Buf (Elt Ideal) ℓ) (g : Dev Cert.TokenIdeal.nD → PrngReg), Pre_TokenIdeal_gate_finite m →
    θ_run (Cert.TokenIdeal.defs (F := Ideal)) (onTc (τ := Cert.TokenIdeal.τ) (Cert.TokenIdeal.main (F := Ideal))) ⟨m, fun _ => 0, g⟩ (fun r => (∀ c : Dev Cert.TokenIdeal.nD,
      r.2.mem ((c.tc : Thread Cert.TokenIdeal.nD Cert.TokenIdeal.τ).loc Cert.TokenIdeal.main_arg0) = m ((c.tc : Thread Cert.TokenIdeal.nD Cert.TokenIdeal.τ).loc Cert.TokenIdeal.main_arg0)
      ∧ r.2.mem ((c.tc : Thread Cert.TokenIdeal.nD Cert.TokenIdeal.τ).loc Cert.TokenIdeal.main_arg1) = m ((c.tc : Thread Cert.TokenIdeal.nD Cert.TokenIdeal.τ).loc Cert.TokenIdeal.main_arg1)
      ∧ r.2.mem ((c.tc : Thread Cert.TokenIdeal.nD Cert.TokenIdeal.τ).loc Cert.TokenIdeal.main_arg2) = m ((c.tc : Thread Cert.TokenIdeal.nD Cert.TokenIdeal.τ).loc Cert.TokenIdeal.main_arg2)
      ∧ r.2.mem ((c.tc : Thread Cert.TokenIdeal.nD Cert.TokenIdeal.τ).loc Cert.TokenIdeal.main_arg3) = m ((c.tc : Thread Cert.TokenIdeal.nD Cert.TokenIdeal.τ).loc Cert.TokenIdeal.main_arg3)
      ∧ r.2.mem ((c.tc : Thread Cert.TokenIdeal.nD Cert.TokenIdeal.τ).loc Cert.TokenIdeal.main_arg4) = m ((c.tc : Thread Cert.TokenIdeal.nD Cert.TokenIdeal.τ).loc Cert.TokenIdeal.main_arg4)
      ∧ r.2.mem ((c.tc : Thread Cert.TokenIdeal.nD Cert.TokenIdeal.τ).loc Cert.TokenIdeal.main_arg5) = m ((c.tc : Thread Cert.TokenIdeal.nD Cert.TokenIdeal.τ).loc Cert.TokenIdeal.main_arg5)
      ∧ r.2.mem ((c.tc : Thread Cert.TokenIdeal.nD Cert.TokenIdeal.τ).loc Cert.TokenIdeal.main_arg6) = m ((c.tc : Thread Cert.TokenIdeal.nD Cert.TokenIdeal.τ).loc Cert.TokenIdeal.main_arg6)
      ∧ r.2.mem ((c.tc : Thread Cert.TokenIdeal.nD Cert.TokenIdeal.τ).loc Cert.TokenIdeal.main_arg7) = m ((c.tc : Thread Cert.TokenIdeal.nD Cert.TokenIdeal.τ).loc Cert.TokenIdeal.main_arg7)
      ∧ r.2.mem ((c.tc : Thread Cert.TokenIdeal.nD Cert.TokenIdeal.τ).loc Cert.TokenIdeal.main_arg8) = m ((c.tc : Thread Cert.TokenIdeal.nD Cert.TokenIdeal.τ).loc Cert.TokenIdeal.main_arg8))
      ∧ r.2.sem = fun _ => 0)

def quiescent_TokenReferenceIdeal [hTokenReferenceIdeal : Cert.TokenReferenceIdeal.Facts] : Prop :=
  ∀ (m : (ℓ : Loc Cert.TokenReferenceIdeal.nD Cert.TokenReferenceIdeal.τ Cert.TokenReferenceIdeal.sig) → Buf (Elt Ideal) ℓ) (g : Dev Cert.TokenReferenceIdeal.nD → PrngReg), Pre_TokenReferenceIdeal m →
    θ_run (Cert.TokenReferenceIdeal.defs (F := Ideal)) (onTc (τ := Cert.TokenReferenceIdeal.τ) (Cert.TokenReferenceIdeal.main (F := Ideal))) ⟨m, fun _ => 0, g⟩ (fun r => (∀ c : Dev Cert.TokenReferenceIdeal.nD,
      r.2.mem ((c.tc : Thread Cert.TokenReferenceIdeal.nD Cert.TokenReferenceIdeal.τ).loc Cert.TokenReferenceIdeal.main_arg0) = m ((c.tc : Thread Cert.TokenReferenceIdeal.nD Cert.TokenReferenceIdeal.τ).loc Cert.TokenReferenceIdeal.main_arg0)
      ∧ r.2.mem ((c.tc : Thread Cert.TokenReferenceIdeal.nD Cert.TokenReferenceIdeal.τ).loc Cert.TokenReferenceIdeal.main_arg1) = m ((c.tc : Thread Cert.TokenReferenceIdeal.nD Cert.TokenReferenceIdeal.τ).loc Cert.TokenReferenceIdeal.main_arg1)
      ∧ r.2.mem ((c.tc : Thread Cert.TokenReferenceIdeal.nD Cert.TokenReferenceIdeal.τ).loc Cert.TokenReferenceIdeal.main_arg2) = m ((c.tc : Thread Cert.TokenReferenceIdeal.nD Cert.TokenReferenceIdeal.τ).loc Cert.TokenReferenceIdeal.main_arg2)
      ∧ r.2.mem ((c.tc : Thread Cert.TokenReferenceIdeal.nD Cert.TokenReferenceIdeal.τ).loc Cert.TokenReferenceIdeal.main_arg3) = m ((c.tc : Thread Cert.TokenReferenceIdeal.nD Cert.TokenReferenceIdeal.τ).loc Cert.TokenReferenceIdeal.main_arg3)
      ∧ r.2.mem ((c.tc : Thread Cert.TokenReferenceIdeal.nD Cert.TokenReferenceIdeal.τ).loc Cert.TokenReferenceIdeal.main_arg4) = m ((c.tc : Thread Cert.TokenReferenceIdeal.nD Cert.TokenReferenceIdeal.τ).loc Cert.TokenReferenceIdeal.main_arg4)
      ∧ r.2.mem ((c.tc : Thread Cert.TokenReferenceIdeal.nD Cert.TokenReferenceIdeal.τ).loc Cert.TokenReferenceIdeal.main_arg5) = m ((c.tc : Thread Cert.TokenReferenceIdeal.nD Cert.TokenReferenceIdeal.τ).loc Cert.TokenReferenceIdeal.main_arg5)
      ∧ r.2.mem ((c.tc : Thread Cert.TokenReferenceIdeal.nD Cert.TokenReferenceIdeal.τ).loc Cert.TokenReferenceIdeal.main_arg6) = m ((c.tc : Thread Cert.TokenReferenceIdeal.nD Cert.TokenReferenceIdeal.τ).loc Cert.TokenReferenceIdeal.main_arg6)
      ∧ r.2.mem ((c.tc : Thread Cert.TokenReferenceIdeal.nD Cert.TokenReferenceIdeal.τ).loc Cert.TokenReferenceIdeal.main_arg7) = m ((c.tc : Thread Cert.TokenReferenceIdeal.nD Cert.TokenReferenceIdeal.τ).loc Cert.TokenReferenceIdeal.main_arg7)
      ∧ r.2.mem ((c.tc : Thread Cert.TokenReferenceIdeal.nD Cert.TokenReferenceIdeal.τ).loc Cert.TokenReferenceIdeal.main_arg8) = m ((c.tc : Thread Cert.TokenReferenceIdeal.nD Cert.TokenReferenceIdeal.τ).loc Cert.TokenReferenceIdeal.main_arg8))
      ∧ r.2.sem = fun _ => 0)

def quiescent_TokenReferenceIdeal_pre_gate_finite [hTokenReferenceIdeal : Cert.TokenReferenceIdeal.Facts] [hPre_gate_finite : Cert.Pre_gate_finite.Facts] : Prop :=
  ∀ (m : (ℓ : Loc Cert.TokenReferenceIdeal.nD Cert.TokenReferenceIdeal.τ Cert.TokenReferenceIdeal.sig) → Buf (Elt Ideal) ℓ) (g : Dev Cert.TokenReferenceIdeal.nD → PrngReg), Pre_TokenReferenceIdeal_gate_finite m →
    θ_run (Cert.TokenReferenceIdeal.defs (F := Ideal)) (onTc (τ := Cert.TokenReferenceIdeal.τ) (Cert.TokenReferenceIdeal.main (F := Ideal))) ⟨m, fun _ => 0, g⟩ (fun r => (∀ c : Dev Cert.TokenReferenceIdeal.nD,
      r.2.mem ((c.tc : Thread Cert.TokenReferenceIdeal.nD Cert.TokenReferenceIdeal.τ).loc Cert.TokenReferenceIdeal.main_arg0) = m ((c.tc : Thread Cert.TokenReferenceIdeal.nD Cert.TokenReferenceIdeal.τ).loc Cert.TokenReferenceIdeal.main_arg0)
      ∧ r.2.mem ((c.tc : Thread Cert.TokenReferenceIdeal.nD Cert.TokenReferenceIdeal.τ).loc Cert.TokenReferenceIdeal.main_arg1) = m ((c.tc : Thread Cert.TokenReferenceIdeal.nD Cert.TokenReferenceIdeal.τ).loc Cert.TokenReferenceIdeal.main_arg1)
      ∧ r.2.mem ((c.tc : Thread Cert.TokenReferenceIdeal.nD Cert.TokenReferenceIdeal.τ).loc Cert.TokenReferenceIdeal.main_arg2) = m ((c.tc : Thread Cert.TokenReferenceIdeal.nD Cert.TokenReferenceIdeal.τ).loc Cert.TokenReferenceIdeal.main_arg2)
      ∧ r.2.mem ((c.tc : Thread Cert.TokenReferenceIdeal.nD Cert.TokenReferenceIdeal.τ).loc Cert.TokenReferenceIdeal.main_arg3) = m ((c.tc : Thread Cert.TokenReferenceIdeal.nD Cert.TokenReferenceIdeal.τ).loc Cert.TokenReferenceIdeal.main_arg3)
      ∧ r.2.mem ((c.tc : Thread Cert.TokenReferenceIdeal.nD Cert.TokenReferenceIdeal.τ).loc Cert.TokenReferenceIdeal.main_arg4) = m ((c.tc : Thread Cert.TokenReferenceIdeal.nD Cert.TokenReferenceIdeal.τ).loc Cert.TokenReferenceIdeal.main_arg4)
      ∧ r.2.mem ((c.tc : Thread Cert.TokenReferenceIdeal.nD Cert.TokenReferenceIdeal.τ).loc Cert.TokenReferenceIdeal.main_arg5) = m ((c.tc : Thread Cert.TokenReferenceIdeal.nD Cert.TokenReferenceIdeal.τ).loc Cert.TokenReferenceIdeal.main_arg5)
      ∧ r.2.mem ((c.tc : Thread Cert.TokenReferenceIdeal.nD Cert.TokenReferenceIdeal.τ).loc Cert.TokenReferenceIdeal.main_arg6) = m ((c.tc : Thread Cert.TokenReferenceIdeal.nD Cert.TokenReferenceIdeal.τ).loc Cert.TokenReferenceIdeal.main_arg6)
      ∧ r.2.mem ((c.tc : Thread Cert.TokenReferenceIdeal.nD Cert.TokenReferenceIdeal.τ).loc Cert.TokenReferenceIdeal.main_arg7) = m ((c.tc : Thread Cert.TokenReferenceIdeal.nD Cert.TokenReferenceIdeal.τ).loc Cert.TokenReferenceIdeal.main_arg7)
      ∧ r.2.mem ((c.tc : Thread Cert.TokenReferenceIdeal.nD Cert.TokenReferenceIdeal.τ).loc Cert.TokenReferenceIdeal.main_arg8) = m ((c.tc : Thread Cert.TokenReferenceIdeal.nD Cert.TokenReferenceIdeal.τ).loc Cert.TokenReferenceIdeal.main_arg8))
      ∧ r.2.sem = fun _ => 0)

def preserves_Kernel_KernelIdeal : Prop :=
  True

def algebraic_KernelIdeal_ReferenceIdeal_pre_gate_in_range [hKernelIdeal : Cert.KernelIdeal.Facts] [hReferenceIdeal : Cert.ReferenceIdeal.Facts] [hPre_gate_in_range : Cert.Pre_gate_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gate_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v4_0)) (v1 : (c : Dev Cert.FfnIdeal.nD) → Buf (Elt Ideal) ((c.tc : Thread Cert.FfnIdeal.nD Cert.FfnIdeal.τ).loc Cert.FfnIdeal.main_v4_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4_0) = v0 c
          ∧ r.2.mem ((c.tc : Thread Cert.FfnIdeal.nD Cert.FfnIdeal.τ).loc Cert.FfnIdeal.main_v4_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v58) = v0 c
          ∧ r.2.mem ((c.tc : Thread Cert.FfnReferenceIdeal.nD Cert.FfnReferenceIdeal.τ).loc Cert.FfnReferenceIdeal.main_v57) = v1 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v9)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v9) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v21) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8))

def preserves_Step_StepIdeal : Prop :=
  True

def algebraic_StepIdeal_StepReferenceIdeal [hStepIdeal : Cert.StepIdeal.Facts] [hStepReferenceIdeal : Cert.StepReferenceIdeal.Facts] : Prop :=
  ∀ (m : (ℓ : Loc Cert.StepIdeal.nD Cert.StepIdeal.τ Cert.StepIdeal.sig) → Buf (Elt Ideal) ℓ) (g : Dev Cert.StepIdeal.nD → PrngReg)
    (m' : (ℓ : Loc Cert.StepReferenceIdeal.nD Cert.StepReferenceIdeal.τ Cert.StepReferenceIdeal.sig) → Buf (Elt Ideal) ℓ) (g' : Dev Cert.StepReferenceIdeal.nD → PrngReg), Pre_StepIdeal m →
    (∀ c : Dev Cert.StepIdeal.nD,
      m' ((c.tc : Thread Cert.StepReferenceIdeal.nD Cert.StepReferenceIdeal.τ).loc Cert.StepReferenceIdeal.main_arg0) = m ((c.tc : Thread Cert.StepIdeal.nD Cert.StepIdeal.τ).loc Cert.StepIdeal.main_arg0)
      ∧ m' ((c.tc : Thread Cert.StepReferenceIdeal.nD Cert.StepReferenceIdeal.τ).loc Cert.StepReferenceIdeal.main_arg1) = m ((c.tc : Thread Cert.StepIdeal.nD Cert.StepIdeal.τ).loc Cert.StepIdeal.main_arg1)
      ∧ m' ((c.tc : Thread Cert.StepReferenceIdeal.nD Cert.StepReferenceIdeal.τ).loc Cert.StepReferenceIdeal.main_arg2) = m ((c.tc : Thread Cert.StepIdeal.nD Cert.StepIdeal.τ).loc Cert.StepIdeal.main_arg2)
      ∧ m' ((c.tc : Thread Cert.StepReferenceIdeal.nD Cert.StepReferenceIdeal.τ).loc Cert.StepReferenceIdeal.main_arg3) = m ((c.tc : Thread Cert.StepIdeal.nD Cert.StepIdeal.τ).loc Cert.StepIdeal.main_arg3)
      ∧ m' ((c.tc : Thread Cert.StepReferenceIdeal.nD Cert.StepReferenceIdeal.τ).loc Cert.StepReferenceIdeal.main_arg4) = m ((c.tc : Thread Cert.StepIdeal.nD Cert.StepIdeal.τ).loc Cert.StepIdeal.main_arg4)
      ∧ m' ((c.tc : Thread Cert.StepReferenceIdeal.nD Cert.StepReferenceIdeal.τ).loc Cert.StepReferenceIdeal.main_arg5) = m ((c.tc : Thread Cert.StepIdeal.nD Cert.StepIdeal.τ).loc Cert.StepIdeal.main_arg5)
      ∧ m' ((c.tc : Thread Cert.StepReferenceIdeal.nD Cert.StepReferenceIdeal.τ).loc Cert.StepReferenceIdeal.main_arg6) = m ((c.tc : Thread Cert.StepIdeal.nD Cert.StepIdeal.τ).loc Cert.StepIdeal.main_arg6)) →
    ∃ (v0 : (c : Dev Cert.StepIdeal.nD) → Buf (Elt Ideal) ((c.tc : Thread Cert.StepIdeal.nD Cert.StepIdeal.τ).loc Cert.StepIdeal.main_v8_0)) (v1 : (c : Dev Cert.StepIdeal.nD) → Buf (Elt Ideal) ((c.tc : Thread Cert.StepIdeal.nD Cert.StepIdeal.τ).loc Cert.StepIdeal.main_v8_1)),
      θ_run (Cert.StepIdeal.defs (F := Ideal)) (onTc (τ := Cert.StepIdeal.τ) (Cert.StepIdeal.main (F := Ideal))) ⟨m, fun _ => 0, g⟩ (fun r => ∀ c : Dev Cert.StepIdeal.nD,
          r.2.mem ((c.tc : Thread Cert.StepIdeal.nD Cert.StepIdeal.τ).loc Cert.StepIdeal.main_v8_0) = v0 c
          ∧ r.2.mem ((c.tc : Thread Cert.StepIdeal.nD Cert.StepIdeal.τ).loc Cert.StepIdeal.main_v8_1) = v1 c
          ∧ r.2.mem ((c.tc : Thread Cert.StepIdeal.nD Cert.StepIdeal.τ).loc Cert.StepIdeal.main_arg0) = m ((c.tc : Thread Cert.StepIdeal.nD Cert.StepIdeal.τ).loc Cert.StepIdeal.main_arg0)
          ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
          ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
          ∧ r.2.mem ((c.tc : Thread Cert.StepIdeal.nD Cert.StepIdeal.τ).loc Cert.StepIdeal.main_arg3) = m ((c.tc : Thread Cert.StepIdeal.nD Cert.StepIdeal.τ).loc Cert.StepIdeal.main_arg3)
          ∧ r.2.mem ((c.tc : Thread Cert.StepIdeal.nD Cert.StepIdeal.τ).loc Cert.StepIdeal.main_arg4) = m ((c.tc : Thread Cert.StepIdeal.nD Cert.StepIdeal.τ).loc Cert.StepIdeal.main_arg4)
          ∧ r.2.mem ((c.tc : Thread Cert.StepIdeal.nD Cert.StepIdeal.τ).loc Cert.StepIdeal.main_arg5) = m ((c.tc : Thread Cert.StepIdeal.nD Cert.StepIdeal.τ).loc Cert.StepIdeal.main_arg5)
          ∧ r.2.mem ((c.tc : Thread Cert.StepIdeal.nD Cert.StepIdeal.τ).loc Cert.StepIdeal.main_arg6) = m ((c.tc : Thread Cert.StepIdeal.nD Cert.StepIdeal.τ).loc Cert.StepIdeal.main_arg6))
      ∧ θ_run (Cert.StepReferenceIdeal.defs (F := Ideal)) (onTc (τ := Cert.StepReferenceIdeal.τ) (Cert.StepReferenceIdeal.main (F := Ideal))) ⟨m', fun _ => 0, g'⟩ (fun r => ∀ c : Dev Cert.StepReferenceIdeal.nD,
          r.2.mem ((c.tc : Thread Cert.StepReferenceIdeal.nD Cert.StepReferenceIdeal.τ).loc Cert.StepReferenceIdeal.main_v60) = v0 c
          ∧ r.2.mem ((c.tc : Thread Cert.StepReferenceIdeal.nD Cert.StepReferenceIdeal.τ).loc Cert.StepReferenceIdeal.main_v62) = v1 c
          ∧ r.2.mem ((c.tc : Thread Cert.StepReferenceIdeal.nD Cert.StepReferenceIdeal.τ).loc Cert.StepReferenceIdeal.main_arg0) = m' ((c.tc : Thread Cert.StepReferenceIdeal.nD Cert.StepReferenceIdeal.τ).loc Cert.StepReferenceIdeal.main_arg0)
          ∧ r.2.mem ((c.tc : Thread Cert.StepReferenceIdeal.nD Cert.StepReferenceIdeal.τ).loc Cert.StepReferenceIdeal.main_arg1) = m' ((c.tc : Thread Cert.StepReferenceIdeal.nD Cert.StepReferenceIdeal.τ).loc Cert.StepReferenceIdeal.main_arg1)
          ∧ r.2.mem ((c.tc : Thread Cert.StepReferenceIdeal.nD Cert.StepReferenceIdeal.τ).loc Cert.StepReferenceIdeal.main_arg2) = m' ((c.tc : Thread Cert.StepReferenceIdeal.nD Cert.StepReferenceIdeal.τ).loc Cert.StepReferenceIdeal.main_arg2)
          ∧ r.2.mem ((c.tc : Thread Cert.StepReferenceIdeal.nD Cert.StepReferenceIdeal.τ).loc Cert.StepReferenceIdeal.main_arg3) = m' ((c.tc : Thread Cert.StepReferenceIdeal.nD Cert.StepReferenceIdeal.τ).loc Cert.StepReferenceIdeal.main_arg3)
          ∧ r.2.mem ((c.tc : Thread Cert.StepReferenceIdeal.nD Cert.StepReferenceIdeal.τ).loc Cert.StepReferenceIdeal.main_arg4) = m' ((c.tc : Thread Cert.StepReferenceIdeal.nD Cert.StepReferenceIdeal.τ).loc Cert.StepReferenceIdeal.main_arg4)
          ∧ r.2.mem ((c.tc : Thread Cert.StepReferenceIdeal.nD Cert.StepReferenceIdeal.τ).loc Cert.StepReferenceIdeal.main_arg5) = m' ((c.tc : Thread Cert.StepReferenceIdeal.nD Cert.StepReferenceIdeal.τ).loc Cert.StepReferenceIdeal.main_arg5)
          ∧ r.2.mem ((c.tc : Thread Cert.StepReferenceIdeal.nD Cert.StepReferenceIdeal.τ).loc Cert.StepReferenceIdeal.main_arg6) = m' ((c.tc : Thread Cert.StepReferenceIdeal.nD Cert.StepReferenceIdeal.τ).loc Cert.StepReferenceIdeal.main_arg6))

def preserves_Token_TokenIdeal : Prop :=
  True

def algebraic_TokenIdeal_TokenReferenceIdeal_pre_gate_finite [hTokenIdeal : Cert.TokenIdeal.Facts] [hTokenReferenceIdeal : Cert.TokenReferenceIdeal.Facts] [hPre_gate_finite : Cert.Pre_gate_finite.Facts] : Prop :=
  ∀ (m : (ℓ : Loc Cert.TokenIdeal.nD Cert.TokenIdeal.τ Cert.TokenIdeal.sig) → Buf (Elt Ideal) ℓ) (g : Dev Cert.TokenIdeal.nD → PrngReg)
    (m' : (ℓ : Loc Cert.TokenReferenceIdeal.nD Cert.TokenReferenceIdeal.τ Cert.TokenReferenceIdeal.sig) → Buf (Elt Ideal) ℓ) (g' : Dev Cert.TokenReferenceIdeal.nD → PrngReg), Pre_TokenIdeal_gate_finite m →
    (∀ c : Dev Cert.TokenIdeal.nD,
      m' ((c.tc : Thread Cert.TokenReferenceIdeal.nD Cert.TokenReferenceIdeal.τ).loc Cert.TokenReferenceIdeal.main_arg0) = m ((c.tc : Thread Cert.TokenIdeal.nD Cert.TokenIdeal.τ).loc Cert.TokenIdeal.main_arg0)
      ∧ m' ((c.tc : Thread Cert.TokenReferenceIdeal.nD Cert.TokenReferenceIdeal.τ).loc Cert.TokenReferenceIdeal.main_arg1) = m ((c.tc : Thread Cert.TokenIdeal.nD Cert.TokenIdeal.τ).loc Cert.TokenIdeal.main_arg1)
      ∧ m' ((c.tc : Thread Cert.TokenReferenceIdeal.nD Cert.TokenReferenceIdeal.τ).loc Cert.TokenReferenceIdeal.main_arg2) = m ((c.tc : Thread Cert.TokenIdeal.nD Cert.TokenIdeal.τ).loc Cert.TokenIdeal.main_arg2)
      ∧ m' ((c.tc : Thread Cert.TokenReferenceIdeal.nD Cert.TokenReferenceIdeal.τ).loc Cert.TokenReferenceIdeal.main_arg3) = m ((c.tc : Thread Cert.TokenIdeal.nD Cert.TokenIdeal.τ).loc Cert.TokenIdeal.main_arg3)
      ∧ m' ((c.tc : Thread Cert.TokenReferenceIdeal.nD Cert.TokenReferenceIdeal.τ).loc Cert.TokenReferenceIdeal.main_arg4) = m ((c.tc : Thread Cert.TokenIdeal.nD Cert.TokenIdeal.τ).loc Cert.TokenIdeal.main_arg4)
      ∧ m' ((c.tc : Thread Cert.TokenReferenceIdeal.nD Cert.TokenReferenceIdeal.τ).loc Cert.TokenReferenceIdeal.main_arg5) = m ((c.tc : Thread Cert.TokenIdeal.nD Cert.TokenIdeal.τ).loc Cert.TokenIdeal.main_arg5)
      ∧ m' ((c.tc : Thread Cert.TokenReferenceIdeal.nD Cert.TokenReferenceIdeal.τ).loc Cert.TokenReferenceIdeal.main_arg6) = m ((c.tc : Thread Cert.TokenIdeal.nD Cert.TokenIdeal.τ).loc Cert.TokenIdeal.main_arg6)
      ∧ m' ((c.tc : Thread Cert.TokenReferenceIdeal.nD Cert.TokenReferenceIdeal.τ).loc Cert.TokenReferenceIdeal.main_arg7) = m ((c.tc : Thread Cert.TokenIdeal.nD Cert.TokenIdeal.τ).loc Cert.TokenIdeal.main_arg7)
      ∧ m' ((c.tc : Thread Cert.TokenReferenceIdeal.nD Cert.TokenReferenceIdeal.τ).loc Cert.TokenReferenceIdeal.main_arg8) = m ((c.tc : Thread Cert.TokenIdeal.nD Cert.TokenIdeal.τ).loc Cert.TokenIdeal.main_arg8)) →
    ∃ (v0 : (c : Dev Cert.TokenIdeal.nD) → Buf (Elt Ideal) ((c.tc : Thread Cert.TokenIdeal.nD Cert.TokenIdeal.τ).loc Cert.TokenIdeal.main_v19_0)) (v1 : (c : Dev Cert.TokenIdeal.nD) → Buf (Elt Ideal) ((c.tc : Thread Cert.TokenIdeal.nD Cert.TokenIdeal.τ).loc Cert.TokenIdeal.main_v19_1)),
      θ_run (Cert.TokenIdeal.defs (F := Ideal)) (onTc (τ := Cert.TokenIdeal.τ) (Cert.TokenIdeal.main (F := Ideal))) ⟨m, fun _ => 0, g⟩ (fun r => ∀ c : Dev Cert.TokenIdeal.nD,
          r.2.mem ((c.tc : Thread Cert.TokenIdeal.nD Cert.TokenIdeal.τ).loc Cert.TokenIdeal.main_v19_0) = v0 c
          ∧ r.2.mem ((c.tc : Thread Cert.TokenIdeal.nD Cert.TokenIdeal.τ).loc Cert.TokenIdeal.main_v19_1) = v1 c
          ∧ r.2.mem ((c.tc : Thread Cert.TokenIdeal.nD Cert.TokenIdeal.τ).loc Cert.TokenIdeal.main_arg0) = m ((c.tc : Thread Cert.TokenIdeal.nD Cert.TokenIdeal.τ).loc Cert.TokenIdeal.main_arg0)
          ∧ r.2.mem ((c.tc : Thread Cert.TokenIdeal.nD Cert.TokenIdeal.τ).loc Cert.TokenIdeal.main_arg1) = m ((c.tc : Thread Cert.TokenIdeal.nD Cert.TokenIdeal.τ).loc Cert.TokenIdeal.main_arg1)
          ∧ r.2.mem ((c.tc : Thread Cert.TokenIdeal.nD Cert.TokenIdeal.τ).loc Cert.TokenIdeal.main_arg2) = m ((c.tc : Thread Cert.TokenIdeal.nD Cert.TokenIdeal.τ).loc Cert.TokenIdeal.main_arg2)
          ∧ r.2.mem ((c.tc : Thread Cert.TokenIdeal.nD Cert.TokenIdeal.τ).loc Cert.TokenIdeal.main_arg3) = m ((c.tc : Thread Cert.TokenIdeal.nD Cert.TokenIdeal.τ).loc Cert.TokenIdeal.main_arg3)
          ∧ r.2.mem ((c.tc : Thread Cert.TokenIdeal.nD Cert.TokenIdeal.τ).loc Cert.TokenIdeal.main_arg4) = m ((c.tc : Thread Cert.TokenIdeal.nD Cert.TokenIdeal.τ).loc Cert.TokenIdeal.main_arg4)
          ∧ r.2.mem ((c.tc : Thread Cert.TokenIdeal.nD Cert.TokenIdeal.τ).loc Cert.TokenIdeal.main_arg5) = m ((c.tc : Thread Cert.TokenIdeal.nD Cert.TokenIdeal.τ).loc Cert.TokenIdeal.main_arg5)
          ∧ r.2.mem ((c.tc : Thread Cert.TokenIdeal.nD Cert.TokenIdeal.τ).loc Cert.TokenIdeal.main_arg6) = m ((c.tc : Thread Cert.TokenIdeal.nD Cert.TokenIdeal.τ).loc Cert.TokenIdeal.main_arg6)
          ∧ r.2.mem ((c.tc : Thread Cert.TokenIdeal.nD Cert.TokenIdeal.τ).loc Cert.TokenIdeal.main_arg7) = m ((c.tc : Thread Cert.TokenIdeal.nD Cert.TokenIdeal.τ).loc Cert.TokenIdeal.main_arg7)
          ∧ r.2.mem ((c.tc : Thread Cert.TokenIdeal.nD Cert.TokenIdeal.τ).loc Cert.TokenIdeal.main_arg8) = m ((c.tc : Thread Cert.TokenIdeal.nD Cert.TokenIdeal.τ).loc Cert.TokenIdeal.main_arg8))
      ∧ θ_run (Cert.TokenReferenceIdeal.defs (F := Ideal)) (onTc (τ := Cert.TokenReferenceIdeal.τ) (Cert.TokenReferenceIdeal.main (F := Ideal))) ⟨m', fun _ => 0, g'⟩ (fun r => ∀ c : Dev Cert.TokenReferenceIdeal.nD,
          r.2.mem ((c.tc : Thread Cert.TokenReferenceIdeal.nD Cert.TokenReferenceIdeal.τ).loc Cert.TokenReferenceIdeal.main_v60) = v0 c
          ∧ r.2.mem ((c.tc : Thread Cert.TokenReferenceIdeal.nD Cert.TokenReferenceIdeal.τ).loc Cert.TokenReferenceIdeal.main_v41_6) = v1 c
          ∧ r.2.mem ((c.tc : Thread Cert.TokenReferenceIdeal.nD Cert.TokenReferenceIdeal.τ).loc Cert.TokenReferenceIdeal.main_arg0) = m' ((c.tc : Thread Cert.TokenReferenceIdeal.nD Cert.TokenReferenceIdeal.τ).loc Cert.TokenReferenceIdeal.main_arg0)
          ∧ r.2.mem ((c.tc : Thread Cert.TokenReferenceIdeal.nD Cert.TokenReferenceIdeal.τ).loc Cert.TokenReferenceIdeal.main_arg1) = m' ((c.tc : Thread Cert.TokenReferenceIdeal.nD Cert.TokenReferenceIdeal.τ).loc Cert.TokenReferenceIdeal.main_arg1)
          ∧ r.2.mem ((c.tc : Thread Cert.TokenReferenceIdeal.nD Cert.TokenReferenceIdeal.τ).loc Cert.TokenReferenceIdeal.main_arg2) = m' ((c.tc : Thread Cert.TokenReferenceIdeal.nD Cert.TokenReferenceIdeal.τ).loc Cert.TokenReferenceIdeal.main_arg2)
          ∧ r.2.mem ((c.tc : Thread Cert.TokenReferenceIdeal.nD Cert.TokenReferenceIdeal.τ).loc Cert.TokenReferenceIdeal.main_arg3) = m' ((c.tc : Thread Cert.TokenReferenceIdeal.nD Cert.TokenReferenceIdeal.τ).loc Cert.TokenReferenceIdeal.main_arg3)
          ∧ r.2.mem ((c.tc : Thread Cert.TokenReferenceIdeal.nD Cert.TokenReferenceIdeal.τ).loc Cert.TokenReferenceIdeal.main_arg4) = m' ((c.tc : Thread Cert.TokenReferenceIdeal.nD Cert.TokenReferenceIdeal.τ).loc Cert.TokenReferenceIdeal.main_arg4)
          ∧ r.2.mem ((c.tc : Thread Cert.TokenReferenceIdeal.nD Cert.TokenReferenceIdeal.τ).loc Cert.TokenReferenceIdeal.main_arg5) = m' ((c.tc : Thread Cert.TokenReferenceIdeal.nD Cert.TokenReferenceIdeal.τ).loc Cert.TokenReferenceIdeal.main_arg5)
          ∧ r.2.mem ((c.tc : Thread Cert.TokenReferenceIdeal.nD Cert.TokenReferenceIdeal.τ).loc Cert.TokenReferenceIdeal.main_arg6) = m' ((c.tc : Thread Cert.TokenReferenceIdeal.nD Cert.TokenReferenceIdeal.τ).loc Cert.TokenReferenceIdeal.main_arg6)
          ∧ r.2.mem ((c.tc : Thread Cert.TokenReferenceIdeal.nD Cert.TokenReferenceIdeal.τ).loc Cert.TokenReferenceIdeal.main_arg7) = m' ((c.tc : Thread Cert.TokenReferenceIdeal.nD Cert.TokenReferenceIdeal.τ).loc Cert.TokenReferenceIdeal.main_arg7)
          ∧ r.2.mem ((c.tc : Thread Cert.TokenReferenceIdeal.nD Cert.TokenReferenceIdeal.τ).loc Cert.TokenReferenceIdeal.main_arg8) = m' ((c.tc : Thread Cert.TokenReferenceIdeal.nD Cert.TokenReferenceIdeal.τ).loc Cert.TokenReferenceIdeal.main_arg8))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hMerge : Cert.Merge.Facts) (hMergeIdeal : Cert.MergeIdeal.Facts) (hMergeReferenceIdeal : Cert.MergeReferenceIdeal.Facts) (hStep : Cert.Step.Facts) (hStepIdeal : Cert.StepIdeal.Facts) (hStepReferenceIdeal : Cert.StepReferenceIdeal.Facts) (hToken : Cert.Token.Facts) (hTokenIdeal : Cert.TokenIdeal.Facts) (hTokenReferenceIdeal : Cert.TokenReferenceIdeal.Facts) (hPre_gate_in_range : Cert.Pre_gate_in_range.Facts) (hPre_gate_finite : Cert.Pre_gate_finite.Facts),
    quiescent_Kernel (hKernel := hKernel)
    ∧ quiescent_KernelIdeal (hKernelIdeal := hKernelIdeal)
    ∧ quiescent_KernelIdeal_pre_gate_in_range (hKernelIdeal := hKernelIdeal) (hPre_gate_in_range := hPre_gate_in_range)
    ∧ quiescent_ReferenceIdeal (hReferenceIdeal := hReferenceIdeal)
    ∧ quiescent_ReferenceIdeal_pre_gate_in_range (hReferenceIdeal := hReferenceIdeal) (hPre_gate_in_range := hPre_gate_in_range)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Step (hStep := hStep)
    ∧ quiescent_StepIdeal (hStepIdeal := hStepIdeal)
    ∧ quiescent_StepReferenceIdeal (hStepReferenceIdeal := hStepReferenceIdeal)
    ∧ quiescent_Token (hToken := hToken)
    ∧ quiescent_TokenIdeal (hTokenIdeal := hTokenIdeal)
    ∧ quiescent_TokenIdeal_pre_gate_finite (hTokenIdeal := hTokenIdeal) (hPre_gate_finite := hPre_gate_finite)
    ∧ quiescent_TokenReferenceIdeal (hTokenReferenceIdeal := hTokenReferenceIdeal)
    ∧ quiescent_TokenReferenceIdeal_pre_gate_finite (hTokenReferenceIdeal := hTokenReferenceIdeal) (hPre_gate_finite := hPre_gate_finite)
    ∧ preserves_Kernel_KernelIdeal
    ∧ algebraic_KernelIdeal_ReferenceIdeal_pre_gate_in_range (hKernelIdeal := hKernelIdeal) (hReferenceIdeal := hReferenceIdeal) (hPre_gate_in_range := hPre_gate_in_range)
    ∧ preserves_Ffn_FfnIdeal
    ∧ algebraic_FfnIdeal_FfnReferenceIdeal (hFfnIdeal := hFfnIdeal) (hFfnReferenceIdeal := hFfnReferenceIdeal)
    ∧ preserves_Merge_MergeIdeal
    ∧ algebraic_MergeIdeal_MergeReferenceIdeal (hMergeIdeal := hMergeIdeal) (hMergeReferenceIdeal := hMergeReferenceIdeal)
    ∧ preserves_Step_StepIdeal
    ∧ algebraic_StepIdeal_StepReferenceIdeal (hStepIdeal := hStepIdeal) (hStepReferenceIdeal := hStepReferenceIdeal)
    ∧ preserves_Token_TokenIdeal
    ∧ algebraic_TokenIdeal_TokenReferenceIdeal_pre_gate_finite (hTokenIdeal := hTokenIdeal) (hTokenReferenceIdeal := hTokenReferenceIdeal) (hPre_gate_finite := hPre_gate_finite)
-- ==== Pre_gate_finite.lean ====
abbrev S32x256 : Shape := ⟨2, ![32, 256]⟩
abbrev S32x512 : Shape := ⟨2, ![32, 512]⟩
abbrev S32x16 : Shape := ⟨2, ![32, 16]⟩
abbrev S32x4x64x128 : Shape := ⟨4, ![32, 4, 64, 128]⟩
abbrev S16x256 : Shape := ⟨2, ![16, 256]⟩
abbrev S256 : Shape := ⟨1, ![256]⟩
abbrev S128 : Shape := ⟨1, ![128]⟩
abbrev S1x256 : Shape := ⟨2, ![1, 256]⟩
abbrev S_ : Shape := ⟨0, ![]⟩

class Facts : Prop where
  bcast_S256_S1x256_1 : S256.BroadcastsInDim S1x256 (![1] : Fin 1 → Fin S1x256.rank)
  bcast_S1x256_S32x256_0_1 : S1x256.BroadcastsInDim S32x256 (![0, 1] : Fin 2 → Fin S32x256.rank)
  bcast_S_S32x256 : S_.BroadcastsInDim S32x256 (![] : Fin 0 → Fin S32x256.rank)
  dot_S32x16_S16x256_S32x256_1_0_0_1_n_n_wf : DotDims.WF S32x16 S16x256 S32x256 [1] [0] [0] [1] [] []

variable [Facts]

def dot_S32x16_S16x256_S32x256_1_0_0_1_n_n : DotDims S32x16 S16x256 S32x256 where
  lhsContracting := [1]
  rhsContracting := [0]
  lhsNonContracting := [0]
  rhsNonContracting := [1]
  lhsBatch := []
  rhsBatch := []
  wf := dot_S32x16_S16x256_S32x256_1_0_0_1_n_n_wf
def fn {F : FTy → Type} [FloatOps F] (main_arg0 : FVec F S32x256 .f32) (main_arg1 : FVec F S32x256 .f32) (main_arg2 : FVec F S32x512 .f32) (main_arg3 : FVec F S32x16 .f32) (main_arg4 : FVec F S32x512 .f32) (main_arg5 : FVec F S32x4x64x128 .f32) (main_arg6 : FVec F S16x256 .f32) (main_arg7 : FVec F S256 .f32) (main_arg8 : FVec F S128 .f32) : IVec S32x256 1 :=
  let main_v0 : FVec F S32x256 .f32 := (fun l r => Host.dotGeneral dot_S32x16_S16x256_S32x256_1_0_0_1_n_n none l r) main_arg3 main_arg6
  let main_v1 : FVec F S1x256 .f32 := broadcastInDim S1x256 ![1] bcast_S256_S1x256_1 main_arg7
  let main_v2 : FVec F S32x256 .f32 := broadcastInDim S32x256 ![0, 1] bcast_S1x256_S32x256_0_1 main_v1
  let main_v3 : FVec F S32x256 .f32 := addf main_v0 main_v2
  let main_cst : FVec F S_ .f32 := constant S_ .f32 0xFF800000#32
  let main_v4 : FVec F S32x256 .f32 := broadcastInDim S32x256 ![] bcast_S_S32x256 main_cst
  let main_v5 : IVec S32x256 1 := cmpf .ogt main_v3 main_v4
  main_v5
-- ==== Pre_gate_in_range.lean ====
abbrev S2x8192x256 : Shape := ⟨3, ![2, 8192, 256]⟩
abbrev S2x8192x512 : Shape := ⟨3, ![2, 8192, 512]⟩
abbrev S2x8192x16 : Shape := ⟨3, ![2, 8192, 16]⟩
abbrev S16x256 : Shape := ⟨2, ![16, 256]⟩
abbrev S256 : Shape := ⟨1, ![256]⟩
abbrev S128 : Shape := ⟨1, ![128]⟩
abbrev S1x1x256 : Shape := ⟨3, ![1, 1, 256]⟩
abbrev S_ : Shape := ⟨0, ![]⟩

class Facts : Prop where
  bcast_S256_S1x1x256_2 : S256.BroadcastsInDim S1x1x256 (![2] : Fin 1 → Fin S1x1x256.rank)
  bcast_S1x1x256_S2x8192x256_0_1_2 : S1x1x256.BroadcastsInDim S2x8192x256 (![0, 1, 2] : Fin 3 → Fin S2x8192x256.rank)
  bcast_S_S2x8192x256 : S_.BroadcastsInDim S2x8192x256 (![] : Fin 0 → Fin S2x8192x256.rank)
  dot_S2x8192x16_S16x256_S2x8192x256_2_0_01_1_n_n_wf : DotDims.WF S2x8192x16 S16x256 S2x8192x256 [2] [0] [0, 1] [1] [] []

variable [Facts]

def dot_S2x8192x16_S16x256_S2x8192x256_2_0_01_1_n_n : DotDims S2x8192x16 S16x256 S2x8192x256 where
  lhsContracting := [2]
  rhsContracting := [0]
  lhsNonContracting := [0, 1]
  rhsNonContracting := [1]
  lhsBatch := []
  rhsBatch := []
  wf := dot_S2x8192x16_S16x256_S2x8192x256_2_0_01_1_n_n_wf
def fn {F : FTy → Type} [FloatOps F] (main_arg0 : FVec F S2x8192x256 .f32) (main_arg1 : FVec F S2x8192x256 .f32) (main_arg2 : FVec F S2x8192x512 .f32) (main_arg3 : FVec F S2x8192x16 .f32) (main_arg4 : FVec F S2x8192x512 .f32) (main_arg5 : FVec F S16x256 .f32) (main_arg6 : FVec F S256 .f32) (main_arg7 : FVec F S128 .f32) : IVec S2x8192x256 1 :=
  let main_v0 : FVec F S2x8192x256 .f32 := (fun l r => Host.dotGeneral dot_S2x8192x16_S16x256_S2x8192x256_2_0_01_1_n_n none l r) main_arg3 main_arg5
  let main_v1 : FVec F S1x1x256 .f32 := broadcastInDim S1x1x256 ![2] bcast_S256_S1x1x256_2 main_arg6
  let main_v2 : FVec F S2x8192x256 .f32 := broadcastInDim S2x8192x256 ![0, 1, 2] bcast_S1x1x256_S2x8192x256_0_1_2 main_v1
  let main_v3 : FVec F S2x8192x256 .f32 := addf main_v0 main_v2
  let main_cst : FVec F S_ .f32 := constant S_ .f32 0xC21C0000#32
  let main_v4 : FVec F S2x8192x256 .f32 := broadcastInDim S2x8192x256 ![] bcast_S_S2x8192x256 main_cst
  let main_v5 : IVec S2x8192x256 1 := cmpf .oge main_v3 main_v4
  main_v5
-- ==== Kernel.lean ====
abbrev S2x8192x256 : Shape := ⟨3, ![2, 8192, 256]⟩
abbrev S2x8192x512 : Shape := ⟨3, ![2, 8192, 512]⟩
abbrev S2x8192x16 : Shape := ⟨3, ![2, 8192, 16]⟩
abbrev S16x256 : Shape := ⟨2, ![16, 256]⟩
abbrev S256 : Shape := ⟨1, ![256]⟩
abbrev S128 : Shape := ⟨1, ![128]⟩
abbrev S256x256 : Shape := ⟨2, ![256, 256]⟩
abbrev S_ : Shape := ⟨0, ![]⟩
abbrev S2x8192x128 : Shape := ⟨3, ![2, 8192, 128]⟩
abbrev S2x8192x1664 : Shape := ⟨3, ![2, 8192, 1664]⟩
abbrev S128x256 : Shape := ⟨2, ![128, 256]⟩
abbrev S2x4x128x64 : Shape := ⟨4, ![2, 4, 128, 64]⟩
abbrev S1x256 : Shape := ⟨2, ![1, 256]⟩
abbrev S1x128 : Shape := ⟨2, ![1, 128]⟩
abbrev S2x256x1664 : Shape := ⟨3, ![2, 256, 1664]⟩
abbrev S2x256x512 : Shape := ⟨3, ![2, 256, 512]⟩
abbrev S1x256x256 : Shape := ⟨3, ![1, 256, 256]⟩
abbrev S1x256x512 : Shape := ⟨3, ![1, 256, 512]⟩
abbrev S256x512 : Shape := ⟨2, ![256, 512]⟩
abbrev S1x256x128 : Shape := ⟨3, ![1, 256, 128]⟩
abbrev S256x128 : Shape := ⟨2, ![256, 128]⟩
abbrev S64x256 : Shape := ⟨2, ![64, 256]⟩
abbrev S256x64 : Shape := ⟨2, ![256, 64]⟩
abbrev S1x1x128x64 : Shape := ⟨4, ![1, 1, 128, 64]⟩
abbrev S128x64 : Shape := ⟨2, ![128, 64]⟩
abbrev S64x64 : Shape := ⟨2, ![64, 64]⟩
abbrev S64x128 : Shape := ⟨2, ![64, 128]⟩
abbrev S1x64 : Shape := ⟨2, ![1, 64]⟩
abbrev S256x1 : Shape := ⟨2, ![256, 1]⟩

abbrev nBuf : Space → Nat
  | .hbm => 26
  | .vmem => 11
  | .smem => 0
  | _ => 0

abbrev bufTy : (tb : Table) → Fin (tcTables nBuf tb) → BufTy
  | .hbm, ⟨0, _⟩ => ⟨S2x8192x256, .f32⟩
  | .hbm, ⟨1, _⟩ => ⟨S2x8192x256, .f32⟩
  | .hbm, ⟨2, _⟩ => ⟨S2x8192x512, .f32⟩
  | .hbm, ⟨3, _⟩ => ⟨S2x8192x16, .f32⟩
  | .hbm, ⟨4, _⟩ => ⟨S2x8192x512, .f32⟩
  | .hbm, ⟨5, _⟩ => ⟨S16x256, .f32⟩
  | .hbm, ⟨6, _⟩ => ⟨S256, .f32⟩
  | .hbm, ⟨7, _⟩ => ⟨S128, .f32⟩
  | .hbm, ⟨8, _⟩ => ⟨S256x256, .bf16⟩
  | .hbm, ⟨9, _⟩ => ⟨S_, .f32⟩
  | .hbm, ⟨10, _⟩ => ⟨S2x8192x256, .f32⟩
  | .hbm, ⟨11, _⟩ => ⟨S2x8192x256, .f32⟩
  | .hbm, ⟨12, _⟩ => ⟨S_, .i32⟩
  | .hbm, ⟨13, _⟩ => ⟨S_, .f32⟩
  | .hbm, ⟨14, _⟩ => ⟨S2x8192x128, .f32⟩
  | .hbm, ⟨15, _⟩ => ⟨S2x8192x1664, .f32⟩
  | .hbm, ⟨16, _⟩ => ⟨S_, .i32⟩
  | .hbm, ⟨17, _⟩ => ⟨S_, .f32⟩
  | .hbm, ⟨18, _⟩ => ⟨S128x256, .f32⟩
  | .hbm, ⟨19, _⟩ => ⟨S128x256, .bf16⟩
  | .hbm, ⟨20, _⟩ => ⟨S_, .f32⟩
  | .hbm, ⟨21, _⟩ => ⟨S2x4x128x64, .f32⟩
  | .hbm, ⟨22, _⟩ => ⟨S1x256, .f32⟩
  | .hbm, ⟨23, _⟩ => ⟨S1x128, .f32⟩
  | .hbm, ⟨24, _⟩ => ⟨S2x8192x512, .bf16⟩
  | .hbm, ⟨25, _⟩ => ⟨S2x4x128x64, .f32⟩
  | .local _ .vmem, ⟨0, _⟩ => ⟨S2x256x1664, .f32⟩
  | .local _ .vmem, ⟨1, _⟩ => ⟨S2x256x1664, .f32⟩
  | .local _ .vmem, ⟨2, _⟩ => ⟨S2x4x128x64, .f32⟩
  | .local _ .vmem, ⟨3, _⟩ => ⟨S128x256, .bf16⟩
  | .local _ .vmem, ⟨4, _⟩ => ⟨S1x256, .f32⟩
  | .local _ .vmem, ⟨5, _⟩ => ⟨S1x128, .f32⟩
  | .local _ .vmem, ⟨6, _⟩ => ⟨S256x256, .bf16⟩
  | .local _ .vmem, ⟨7, _⟩ => ⟨S2x256x512, .bf16⟩
  | .local _ .vmem, ⟨8, _⟩ => ⟨S2x256x512, .bf16⟩
  | .local _ .vmem, ⟨9, _⟩ => ⟨S2x4x128x64, .f32⟩
  | .local _ .vmem, ⟨10, _⟩ => ⟨S2x4x128x64, .f32⟩
  | _, _ => ⟨S2x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_call0_v0 : Ref sig .tc := ⟨.hbm, 13, rfl⟩
abbrev main_v2 : Ref sig .tc := ⟨.hbm, 14, rfl⟩
abbrev main_v3 : Ref sig .tc := ⟨.hbm, 15, rfl⟩
abbrev main_c_1 : Ref sig .tc := ⟨.hbm, 16, rfl⟩
abbrev main_call1_v0 : Ref sig .tc := ⟨.hbm, 17, rfl⟩
abbrev main_v4 : Ref sig .tc := ⟨.hbm, 18, rfl⟩
abbrev main_v5 : Ref sig .tc := ⟨.hbm, 19, rfl⟩
abbrev main_cst_2 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9_0 : Ref sig .tc := ⟨.hbm, 24, rfl⟩
abbrev main_v9_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S2x256x1664 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x4x128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2x4x128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S2x8192x256 : Shape := ⟨3, ![2, 8192, 256]⟩
abbrev S2x8192x512 : Shape := ⟨3, ![2, 8192, 512]⟩
abbrev S2x8192x16 : Shape := ⟨3, ![2, 8192, 16]⟩
abbrev S16x256 : Shape := ⟨2, ![16, 256]⟩
abbrev S256 : Shape := ⟨1, ![256]⟩
abbrev S128 : Shape := ⟨1, ![128]⟩
abbrev S2x8192x4x64 : Shape := ⟨4, ![2, 8192, 4, 64]⟩
abbrev S_ : Shape := ⟨0, ![]⟩
abbrev S2x8192x4x128 : Shape := ⟨4, ![2, 8192, 4, 128]⟩
abbrev S1x1x256 : Shape := ⟨3, ![1, 1, 256]⟩
abbrev S2x4x64x128 : Shape := ⟨4, ![2, 4, 64, 128]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S1x1x64x64x1 : Shape := ⟨5, ![1, 1, 64, 64, 1]⟩
abbrev S2x128x64x4x64 : Shape := ⟨5, ![2, 128, 64, 4, 64]⟩
abbrev S128x2x4x64x64 : Shape := ⟨5, ![128, 2, 4, 64, 64]⟩
abbrev S2x128x64x4x128 : Shape := ⟨5, ![2, 128, 64, 4, 128]⟩
abbrev S128x2x4x64x128 : Shape := ⟨5, ![128, 2, 4, 64, 128]⟩
abbrev S1x2x4x64x64 : Shape := ⟨5, ![1, 2, 4, 64, 64]⟩
abbrev S2x4x64x64 : Shape := ⟨4, ![2, 4, 64, 64]⟩
abbrev S1x2x4x64x128 : Shape := ⟨5, ![1, 2, 4, 64, 128]⟩
abbrev S2x4x64x1x64 : Shape := ⟨5, ![2, 4, 64, 1, 64]⟩
abbrev S2x4x1x64x64 : Shape := ⟨5, ![2, 4, 1, 64, 64]⟩
abbrev S2x4x64x64x64 : Shape := ⟨5, ![2, 4, 64, 64, 64]⟩
abbrev S2x4x1x64 : Shape := ⟨4, ![2, 4, 1, 64]⟩
abbrev S2x4x64 : Shape := ⟨3, ![2, 4, 64]⟩
abbrev S2x4x64x1 : Shape := ⟨4, ![2, 4, 64, 1]⟩
abbrev S2x8192x4 : Shape := ⟨3, ![2, 8192, 4]⟩
abbrev S2x8192x4x1 : Shape := ⟨4, ![2, 8192, 4, 1]⟩
abbrev S1x1x1x128 : Shape := ⟨4, ![1, 1, 1, 128]⟩
abbrev S2x4x128x64 : Shape := ⟨4, ![2, 4, 128, 64]⟩

abbrev nBuf : Space → Nat
  | .hbm => 170
  | .vmem => 0
  | .smem => 0
  | _ => 0

abbrev hbmTy0_0 (i : Nat) : BufTy := match i % 128 with
  | 0 => ⟨S2x8192x256, .f32⟩
  | 1 => ⟨S2x8192x256, .f32⟩
  | 2 => ⟨S2x8192x512, .f32⟩
  | 3 => ⟨S2x8192x16, .f32⟩
  | 4 => ⟨S2x8192x512, .f32⟩
  | 5 => ⟨S16x256, .f32⟩
  | 6 => ⟨S256, .f32⟩
  | 7 => ⟨S128, .f32⟩
  | 8 => ⟨S2x8192x4x64, .f32⟩
  | 9 => ⟨S_, .f32⟩
  | 10 => ⟨S2x8192x4x64, .f32⟩
  | 11 => ⟨S2x8192x4x64, .f32⟩
  | 12 => ⟨S2x8192x4x64, .f32⟩
  | 13 => ⟨S2x8192x4x128, .f32⟩
  | 14 => ⟨S2x8192x256, .f32⟩
  | 15 => ⟨S1x1x256, .f32⟩
  | 16 => ⟨S2x8192x256, .f32⟩
  | 17 => ⟨S2x8192x256, .f32⟩
  | 18 => ⟨S2x8192x256, .f32⟩
  | 19 => ⟨S_, .f32⟩
  | 20 => ⟨S2x8192x256, .f32⟩
  | 21 => ⟨S2x8192x256, .f32⟩
  | 22 => ⟨S2x8192x256, .f32⟩
  | 23 => ⟨S2x8192x256, .f32⟩
  | 24 => ⟨S2x8192x256, .i1⟩
  | 25 => ⟨S2x8192x256, .f32⟩
  | 26 => ⟨S2x8192x256, .f32⟩
  | 27 => ⟨S2x8192x256, .f32⟩
  | 28 => ⟨S2x8192x256, .f32⟩
  | 29 => ⟨S2x8192x256, .f32⟩
  | 30 => ⟨S2x8192x256, .f32⟩
  | 31 => ⟨S2x8192x256, .f32⟩
  | 32 => ⟨S2x8192x256, .f32⟩
  | 33 => ⟨S2x8192x256, .f32⟩
  | 34 => ⟨S_, .f32⟩
  | 35 => ⟨S2x8192x256, .f32⟩
  | 36 => ⟨S2x8192x256, .f32⟩
  | 37 => ⟨S_, .f32⟩
  | 38 => ⟨S2x4x64x128, .f32⟩
  | 39 => ⟨S2x8192x4x64, .f32⟩
  | 40 => ⟨S64, .i32⟩
  | 41 => ⟨S1x64, .i32⟩
  | 42 => ⟨S64x1, .i32⟩
  | 43 => ⟨S64x64, .i32⟩
  | 44 => ⟨S64x64, .i32⟩
  | 45 => ⟨S64x64, .i1⟩
  | 46 => ⟨S1x1x64x64x1, .i1⟩
  | 47 => ⟨S2x128x64x4x64, .f32⟩
  | 48 => ⟨S128x2x4x64x64, .f32⟩
  | 49 => ⟨S2x128x64x4x64, .f32⟩
  | 50 => ⟨S128x2x4x64x64, .f32⟩
  | 51 => ⟨S2x128x64x4x128, .f32⟩
  | 52 => ⟨S128x2x4x64x128, .f32⟩
  | 53 => ⟨S2x128x64x4x64, .f32⟩
  | 54 => ⟨S128x2x4x64x64, .f32⟩
  | 55 => ⟨S_, .f32⟩
  | 56 => ⟨S128x2x4x64x128, .f32⟩
  | 57 => ⟨S_, .i32⟩
  | 58 => ⟨S128x2x4x64x64, .f32⟩
  | 59 => ⟨S128x2x4x64x64, .f32⟩
  | 60 => ⟨S128x2x4x64x128, .f32⟩
  | 61 => ⟨S128x2x4x64x64, .f32⟩
  | 62 => ⟨S1x1x64x64x1, .i1⟩
  | 63 => ⟨S_, .i32⟩
  | 64 => ⟨S2x4x64x128, .f32⟩
  | 65 => ⟨S128x2x4x64x128, .f32⟩
  | 66 => ⟨S_, .i32⟩
  | 67 => ⟨S_, .i1⟩
  | 68 => ⟨S_, .i32⟩
  | 69 => ⟨S_, .i32⟩
  | 70 => ⟨S_, .i32⟩
  | 71 => ⟨S_, .i32⟩
  | 72 => ⟨S1x2x4x64x64, .f32⟩
  | 73 => ⟨S2x4x64x64, .f32⟩
  | 74 => ⟨S_, .i32⟩
  | 75 => ⟨S_, .i32⟩
  | 76 => ⟨S_, .i32⟩
  | 77 => ⟨S_, .i32⟩
  | 78 => ⟨S1x2x4x64x64, .f32⟩
  | 79 => ⟨S2x4x64x64, .f32⟩
  | 80 => ⟨S_, .i32⟩
  | 81 => ⟨S_, .i32⟩
  | 82 => ⟨S_, .i32⟩
  | 83 => ⟨S_, .i32⟩
  | 84 => ⟨S1x2x4x64x128, .f32⟩
  | 85 => ⟨S2x4x64x128, .f32⟩
  | 86 => ⟨S_, .i32⟩
  | 87 => ⟨S_, .i32⟩
  | 88 => ⟨S_, .i32⟩
  | 89 => ⟨S_, .i32⟩
  | 90 => ⟨S1x2x4x64x64, .f32⟩
  | 91 => ⟨S2x4x64x64, .f32⟩
  | 92 => ⟨S_, .f32⟩
  | 93 => ⟨S_, .f32⟩
  | 94 => ⟨S2x4x64x64, .f32⟩
  | 95 => ⟨S2x4x64x1x64, .f32⟩
  | 96 => ⟨S2x4x1x64x64, .f32⟩
  | 97 => ⟨S2x4x64x64x64, .f32⟩
  | 98 => ⟨S2x4x64x64x64, .f32⟩
  | 99 => ⟨S2x4x64x64x64, .f32⟩
  | 100 => ⟨S_, .f32⟩
  | 101 => ⟨S2x4x64x64x64, .i1⟩
  | 102 => ⟨S2x4x64x64x64, .f32⟩
  | 103 => ⟨S2x4x64x64x64, .f32⟩
  | 104 => ⟨S2x4x64x64x64, .f32⟩
  | 105 => ⟨S2x4x64x1x64, .f32⟩
  | 106 => ⟨S2x4x1x64x64, .f32⟩
  | 107 => ⟨S2x4x64x64x64, .f32⟩
  | 108 => ⟨S2x4x64x64x64, .f32⟩
  | 109 => ⟨S2x4x64x64x64, .f32⟩
  | 110 => ⟨S2x4x64x64x64, .f32⟩
  | 111 => ⟨S_, .f32⟩
  | 112 => ⟨S2x4x64x64, .f32⟩
  | 113 => ⟨S2x4x64x64, .f32⟩
  | 114 => ⟨S2x4x64x64, .f32⟩
  | 115 => ⟨S2x4x64x128, .f32⟩
  | 116 => ⟨S2x4x64x128, .f32⟩
  | 117 => ⟨S2x4x64x128, .f32⟩
  | 118 => ⟨S2x4x1x64, .f32⟩
  | 119 => ⟨S2x4x64, .f32⟩
  | 120 => ⟨S2x4x64, .f32⟩
  | 121 => ⟨S2x4x64x1, .f32⟩
  | 122 => ⟨S2x4x64x128, .f32⟩
  | 123 => ⟨S2x4x64x128, .f32⟩
  | 124 => ⟨S2x4x1x64, .f32⟩
  | 125 => ⟨S2x4x64x64, .f32⟩
  | 126 => ⟨S2x4x64x64, .f32⟩
  | 127 => ⟨S2x4x64x64, .f32⟩
  | _ => ⟨S2x8192x256, .f32⟩

abbrev hbmTy0_1 (i : Nat) : BufTy := match i % 128 with
  | 0 => ⟨S2x4x64x64, .f32⟩
  | 1 => ⟨S2x4x64x128, .f32⟩
  | 2 => ⟨S2x4x64x128, .f32⟩
  | 3 => ⟨S1x2x4x64x128, .f32⟩
  | 4 => ⟨S_, .i32⟩
  | 5 => ⟨S_, .i32⟩
  | 6 => ⟨S_, .i32⟩
  | 7 => ⟨S_, .i32⟩
  | 8 => ⟨S128x2x4x64x128, .f32⟩
  | 9 => ⟨S_, .i32⟩
  | 10 => ⟨S_, .i32⟩
  | 11 => ⟨S2x128x64x4x128, .f32⟩
  | 12 => ⟨S2x8192x4x128, .f32⟩
  | 13 => ⟨S2x8192x4x128, .f32⟩
  | 14 => ⟨S_, .f32⟩
  | 15 => ⟨S2x8192x4, .f32⟩
  | 16 => ⟨S2x8192x4x1, .f32⟩
  | 17 => ⟨S_, .f32⟩
  | 18 => ⟨S2x8192x4x1, .f32⟩
  | 19 => ⟨S2x8192x4x1, .f32⟩
  | 20 => ⟨S_, .f32⟩
  | 21 => ⟨S2x8192x4x1, .f32⟩
  | 22 => ⟨S2x8192x4x1, .f32⟩
  | 23 => ⟨S2x8192x4x1, .f32⟩
  | 24 => ⟨S2x8192x4x128, .f32⟩
  | 25 => ⟨S2x8192x4x128, .f32⟩
  | 26 => ⟨S1x1x1x128, .f32⟩
  | 27 => ⟨S2x8192x4x128, .f32⟩
  | 28 => ⟨S2x8192x4x128, .f32⟩
  | 29 => ⟨S2x8192x512, .f32⟩
  | 30 => ⟨S2x8192x512, .f32⟩
  | 31 => ⟨S2x8192x512, .f32⟩
  | 32 => ⟨S_, .f32⟩
  | 33 => ⟨S2x8192x512, .f32⟩
  | 34 => ⟨S2x8192x512, .f32⟩
  | 35 => ⟨S_, .f32⟩
  | 36 => ⟨S2x8192x512, .f32⟩
  | 37 => ⟨S2x8192x512, .f32⟩
  | 38 => ⟨S2x8192x512, .f32⟩
  | 39 => ⟨S2x8192x512, .f32⟩
  | 40 => ⟨S2x8192x512, .bf16⟩
  | 41 => ⟨S2x4x128x64, .f32⟩
  | _ => ⟨S2x8192x256, .f32⟩

abbrev hbmTy (i : Nat) : BufTy := match i / 128 with
  | 0 => hbmTy0_0 i
  | 1 => hbmTy0_1 i
  | _ => ⟨S2x8192x256, .f32⟩

abbrev bufTy : (tb : Table) → Fin (tcTables nBuf tb) → BufTy
  | .hbm, ⟨i, _⟩ => hbmTy i
  | _, _ => ⟨S2x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_3 : Ref sig .tc := ⟨.hbm, 55, rfl⟩
abbrev main_v43 : Ref sig .tc := ⟨.hbm, 56, rfl⟩
abbrev main_c : Ref sig .tc := ⟨.hbm, 57, rfl⟩
abbrev main_v44_0 : Ref sig .tc := ⟨.hbm, 58, rfl⟩
abbrev main_v44_1 : Ref sig .tc := ⟨.hbm, 59, rfl⟩
abbrev main_v44_2 : Ref sig .tc := ⟨.hbm, 60, rfl⟩
abbrev main_v44_3 : Ref sig .tc := ⟨.hbm, 61, rfl⟩
abbrev main_v44_4 : Ref sig .tc := ⟨.hbm, 62, rfl⟩
abbrev main_v44_5 : Ref sig .tc := ⟨.hbm, 63, rfl⟩
abbrev main_v44_6 : Ref sig .tc := ⟨.hbm, 64, rfl⟩
abbrev main_v44_7 : Ref sig .tc := ⟨.hbm, 65, rfl⟩
abbrev main_while0c_c_14 : Ref sig .tc := ⟨.hbm, 66, rfl⟩
abbrev main_while0c_v65 : Ref sig .tc := ⟨.hbm, 67, rfl⟩
abbrev main_while0b_call0_c : Ref sig .tc := ⟨.hbm, 68, rfl⟩
abbrev main_while0b_call0_c_0 : Ref sig .tc := ⟨.hbm, 69, rfl⟩
abbrev main_while0b_call0_c_1 : Ref sig .tc := ⟨.hbm, 70, rfl⟩
abbrev main_while0b_call0_c_2 : Ref sig .tc := ⟨.hbm, 71, rfl⟩
abbrev main_while0b_call0_v0 : Ref sig .tc := ⟨.hbm, 72, rfl⟩
abbrev main_while0b_v65 : Ref sig .tc := ⟨.hbm, 73, rfl⟩
abbrev main_while0b_call1_c : Ref sig .tc := ⟨.hbm, 74, rfl⟩
abbrev main_while0b_call1_c_0 : Ref sig .tc := ⟨.hbm, 75, rfl⟩
abbrev main_while0b_call1_c_1 : Ref sig .tc := ⟨.hbm, 76, rfl⟩
abbrev main_while0b_call1_c_2 : Ref sig .tc := ⟨.hbm, 77, rfl⟩
abbrev main_while0b_call1_v0 : Ref sig .tc := ⟨.hbm, 78, rfl⟩
abbrev main_while0b_v66 : Ref sig .tc := ⟨.hbm, 79, rfl⟩
abbrev main_while0b_call2_c : Ref sig .tc := ⟨.hbm, 80, rfl⟩
abbrev main_while0b_call2_c_0 : Ref sig .tc := ⟨.hbm, 81, rfl⟩
abbrev main_while0b_call2_c_1 : Ref sig .tc := ⟨.hbm, 82, rfl⟩
abbrev main_while0b_call2_c_2 : Ref sig .tc := ⟨.hbm, 83, rfl⟩
abbrev main_while0b_call2_v0 : Ref sig .tc := ⟨.hbm, 84, rfl⟩
abbrev main_while0b_v67 : Ref sig .tc := ⟨.hbm, 85, rfl⟩
abbrev main_while0b_call3_c : Ref sig .tc := ⟨.hbm, 86, rfl⟩
abbrev main_while0b_call3_c_0 : Ref sig .tc := ⟨.hbm, 87, rfl⟩
abbrev main_while0b_call3_c_1 : Ref sig .tc := ⟨.hbm, 88, rfl⟩
abbrev main_while0b_call3_c_2 : Ref sig .tc := ⟨.hbm, 89, rfl⟩
abbrev main_while0b_call3_v0 : Ref sig .tc := ⟨.hbm, 90, rfl⟩
abbrev main_while0b_v68 : Ref sig .tc := ⟨.hbm, 91, rfl⟩
abbrev main_while0b_call4_call0_cst : Ref sig .tc := ⟨.hbm, 92, rfl⟩
abbrev main_while0b_call4_call0_v0 : Ref sig .tc := ⟨.hbm, 93, rfl⟩
abbrev main_while0b_v69 : Ref sig .tc := ⟨.hbm, 94, rfl⟩
abbrev main_while0b_v70 : Ref sig .tc := ⟨.hbm, 95, rfl⟩
abbrev main_while0b_v71 : Ref sig .tc := ⟨.hbm, 96, rfl⟩
abbrev main_while0b_v72 : Ref sig .tc := ⟨.hbm, 97, rfl⟩
abbrev main_while0b_v73 : Ref sig .tc := ⟨.hbm, 98, rfl⟩
abbrev main_while0b_v74 : Ref sig .tc := ⟨.hbm, 99, rfl⟩
abbrev main_while0b_cst_14 : Ref sig .tc := ⟨.hbm, 100, rfl⟩
abbrev main_while0b_call5_v0 : Ref sig .tc := ⟨.hbm, 101, rfl⟩
abbrev main_while0b_call5_v1 : Ref sig .tc := ⟨.hbm, 102, rfl⟩
abbrev main_while0b_v75 : Ref sig .tc := ⟨.hbm, 103, rfl⟩
abbrev main_while0b_v76 : Ref sig .tc := ⟨.hbm, 104, rfl⟩
abbrev main_while0b_v77 : Ref sig .tc := ⟨.hbm, 105, rfl⟩
abbrev main_while0b_v78 : Ref sig .tc := ⟨.hbm, 106, rfl⟩
abbrev main_while0b_v79 : Ref sig .tc := ⟨.hbm, 107, rfl⟩
abbrev main_while0b_v80 : Ref sig .tc := ⟨.hbm, 108, rfl⟩
abbrev main_while0b_v81 : Ref sig .tc := ⟨.hbm, 109, rfl⟩
abbrev main_while0b_v82 : Ref sig .tc := ⟨.hbm, 110, rfl⟩
abbrev main_while0b_cst_15 : Ref sig .tc := ⟨.hbm, 111, rfl⟩
abbrev main_while0b_v83 : Ref sig .tc := ⟨.hbm, 112, rfl⟩
abbrev main_while0b_v84 : Ref sig .tc := ⟨.hbm, 113, rfl⟩
abbrev main_while0b_v85 : Ref sig .tc := ⟨.hbm, 114, rfl⟩
abbrev main_while0b_v86 : Ref sig .tc := ⟨.hbm, 115, rfl⟩
abbrev main_while0b_v87 : Ref sig .tc := ⟨.hbm, 116, rfl⟩
abbrev main_while0b_v88 : Ref sig .tc := ⟨.hbm, 117, rfl⟩
abbrev main_while0b_v89 : Ref sig .tc := ⟨.hbm, 118, rfl⟩
abbrev main_while0b_v90 : Ref sig .tc := ⟨.hbm, 119, rfl⟩
abbrev main_while0b_v91 : Ref sig .tc := ⟨.hbm, 120, rfl⟩
abbrev main_while0b_v92 : Ref sig .tc := ⟨.hbm, 121, rfl⟩
abbrev main_while0b_v93 : Ref sig .tc := ⟨.hbm, 122, rfl⟩
abbrev main_while0b_v94 : Ref sig .tc := ⟨.hbm, 123, rfl⟩
abbrev main_while0b_v95 : Ref sig .tc := ⟨.hbm, 124, rfl⟩
abbrev main_while0b_v96 : Ref sig .tc := ⟨.hbm, 125, rfl⟩
abbrev main_while0b_v97 : Ref sig .tc := ⟨.hbm, 126, rfl⟩
abbrev main_while0b_v98 : Ref sig .tc := ⟨.hbm, 127, rfl⟩
abbrev main_while0b_v99 : Ref sig .tc := ⟨.hbm, 128, rfl⟩
abbrev main_while0b_v100 : Ref sig .tc := ⟨.hbm, 129, rfl⟩
abbrev main_while0b_v101 : Ref sig .tc := ⟨.hbm, 130, rfl⟩
abbrev main_while0b_call6_v0 : Ref sig .tc := ⟨.hbm, 131, rfl⟩
abbrev main_while0b_call6_c : Ref sig .tc := ⟨.hbm, 132, rfl⟩
abbrev main_while0b_call6_c_0 : Ref sig .tc := ⟨.hbm, 133, rfl⟩
abbrev main_while0b_call6_c_1 : Ref sig .tc := ⟨.hbm, 134, rfl⟩
abbrev main_while0b_call6_c_2 : Ref sig .tc := ⟨.hbm, 135, rfl⟩
abbrev main_while0b_v102 : Ref sig .tc := ⟨.hbm, 136, rfl⟩
abbrev main_while0b_c_16 : Ref sig .tc := ⟨.hbm, 137, rfl⟩
abbrev main_while0b_v103 : Ref sig .tc := ⟨.hbm, 138, rfl⟩
abbrev main_v45 : Ref sig .tc := ⟨.hbm, 139, rfl⟩
abbrev main_v46 : Ref sig .tc := ⟨.hbm, 140, rfl⟩
abbrev main_v47 : Ref sig .tc := ⟨.hbm, 141, rfl⟩
abbrev main_cst_4 : Ref sig .tc := ⟨.hbm, 142, rfl⟩
abbrev main_v48 : Ref sig .tc := ⟨.hbm, 143, rfl⟩
abbrev main_v49 : Ref sig .tc := ⟨.hbm, 144, rfl⟩
abbrev main_cst_5 : Ref sig .tc := ⟨.hbm, 145, rfl⟩
abbrev main_v50 : Ref sig .tc := ⟨.hbm, 146, rfl⟩
abbrev main_v51 : Ref sig .tc := ⟨.hbm, 147, rfl⟩
abbrev main_cst_6 : Ref sig .tc := ⟨.hbm, 148, rfl⟩
abbrev main_v52 : Ref sig .tc := ⟨.hbm, 149, rfl⟩
abbrev main_v53 : Ref sig .tc := ⟨.hbm, 150, rfl⟩
abbrev main_v54 : Ref sig .tc := ⟨.hbm, 151, rfl⟩
abbrev main_v55 : Ref sig .tc := ⟨.hbm, 152, rfl⟩
abbrev main_v56 : Ref sig .tc := ⟨.hbm, 153, rfl⟩
abbrev main_v57 : Ref sig .tc := ⟨.hbm, 154, rfl⟩
abbrev main_v58 : Ref sig .tc := ⟨.hbm, 155, rfl⟩
abbrev main_v59 : Ref sig .tc := ⟨.hbm, 156, rfl⟩
abbrev main_v60 : Ref sig .tc := ⟨.hbm, 157, rfl⟩
abbrev main_call7_v0 : Ref sig .tc := ⟨.hbm, 158, rfl⟩
abbrev main_call7_v1 : Ref sig .tc := ⟨.hbm, 159, rfl⟩
abbrev main_call7_cst : Ref sig .tc := ⟨.hbm, 160, rfl⟩
abbrev main_call7_v2 : Ref sig .tc := ⟨.hbm, 161, rfl⟩
abbrev main_call7_v3 : Ref sig .tc := ⟨.hbm, 162, rfl⟩
abbrev main_call7_cst_0 : Ref sig .tc := ⟨.hbm, 163, rfl⟩
abbrev main_call7_v4 : Ref sig .tc := ⟨.hbm, 164, rfl⟩
abbrev main_call7_v5 : Ref sig .tc := ⟨.hbm, 165, rfl⟩
abbrev main_v61 : Ref sig .tc := ⟨.hbm, 166, rfl⟩
abbrev main_v62 : Ref sig .tc := ⟨.hbm, 167, rfl⟩
abbrev main_v63 : Ref sig .tc := ⟨.hbm, 168, rfl⟩
abbrev main_v64 : Ref sig .tc := ⟨.hbm, 169, rfl⟩

abbrev nD : Nat := 1
abbrev τ : Topo := Topo.v7x

variable {F : FTy → Type} [FloatOps F]

abbrev main_while0_count : Scf.Loop 32 := ⟨0#32, 128#32, 1#32⟩
-- ==== Ffn.lean ====
abbrev S2x8192x1024 : Shape := ⟨3, ![2, 8192, 1024]⟩
abbrev S2x2x2816 : Shape := ⟨3, ![2, 2, 2816]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1x1024 : Shape := ⟨2, ![1, 1024]⟩
abbrev S1x2816 : Shape := ⟨2, ![1, 2816]⟩
abbrev S2x8x2816 : Shape := ⟨3, ![2, 8, 2816]⟩
abbrev S1x512x1024 : Shape := ⟨3, ![1, 512, 1024]⟩
abbrev S1x2x2816 : Shape := ⟨3, ![1, 2, 2816]⟩
abbrev S1x8x2816 : Shape := ⟨3, ![1, 8, 2816]⟩
abbrev S8x2816 : Shape := ⟨2, ![8, 2816]⟩
abbrev S2x2816 : Shape := ⟨2, ![2, 2816]⟩
abbrev S512x1024 : Shape := ⟨2, ![512, 1024]⟩
abbrev S512 : Shape := ⟨1, ![512]⟩
abbrev S512x1 : Shape := ⟨2, ![512, 1]⟩
abbrev S512x5632 : Shape := ⟨2, ![512, 5632]⟩
abbrev S512x2816 : Shape := ⟨2, ![512, 2816]⟩

abbrev nBuf : Space → Nat
  | .hbm => 13
  | .vmem => 14
  | .smem => 0
  | _ => 0

abbrev bufTy : (tb : Table) → Fin (tcTables nBuf tb) → BufTy
  | .hbm, ⟨0, _⟩ => ⟨S2x8192x1024, .f32⟩
  | .hbm, ⟨1, _⟩ => ⟨S2x2x2816, .f32⟩
  | .hbm, ⟨2, _⟩ => ⟨S1024, .f32⟩
  | .hbm, ⟨3, _⟩ => ⟨S1024x5632, .f32⟩
  | .hbm, ⟨4, _⟩ => ⟨S3x2816, .f32⟩
  | .hbm, ⟨5, _⟩ => ⟨S2816, .f32⟩
  | .hbm, ⟨6, _⟩ => ⟨S2816x1024, .f32⟩
  | .hbm, ⟨7, _⟩ => ⟨S1024x5632, .bf16⟩
  | .hbm, ⟨8, _⟩ => ⟨S2816x1024, .bf16⟩
  | .hbm, ⟨9, _⟩ => ⟨S1x1024, .f32⟩
  | .hbm, ⟨10, _⟩ => ⟨S1x2816, .f32⟩
  | .hbm, ⟨11, _⟩ => ⟨S2x8192x1024, .f32⟩
  | .hbm, ⟨12, _⟩ => ⟨S2x8x2816, .f32⟩
  | .local _ .vmem, ⟨0, _⟩ => ⟨S1x512x1024, .f32⟩
  | .local _ .vmem, ⟨1, _⟩ => ⟨S1x512x1024, .f32⟩
  | .local _ .vmem, ⟨2, _⟩ => ⟨S1x2x2816, .f32⟩
  | .local _ .vmem, ⟨3, _⟩ => ⟨S1x2x2816, .f32⟩
  | .local _ .vmem, ⟨4, _⟩ => ⟨S1x1024, .f32⟩
  | .local _ .vmem, ⟨5, _⟩ => ⟨S1024x5632, .bf16⟩
  | .local _ .vmem, ⟨6, _⟩ => ⟨S3x2816, .f32⟩
  | .local _ .vmem, ⟨7, _⟩ => ⟨S1x2816, .f32⟩
  | .local _ .vmem, ⟨8, _⟩ => ⟨S2816x1024, .bf16⟩
  | .local _ .vmem, ⟨9, _⟩ => ⟨S1x512x1024, .f32⟩
  | .local _ .vmem, ⟨10, _⟩ => ⟨S1x512x1024, .f32⟩
  | .local _ .vmem, ⟨11, _⟩ => ⟨S1x8x2816, .f32⟩
  | .local _ .vmem, ⟨12, _⟩ => ⟨S1x8x2816, .f32⟩
  | .local _ .vmem, ⟨13, _⟩ => ⟨S8x2816, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x2816 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== FfnReferenceIdeal.lean ====
abbrev S2x8192x1024 : Shape := ⟨3, ![2, 8192, 1024]⟩
abbrev S2x2x2816 : Shape := ⟨3, ![2, 2, 2816]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x5632 : Shape := ⟨3, ![2, 8192, 5632]⟩
abbrev S2x8192x2816 : Shape := ⟨3, ![2, 8192, 2816]⟩
abbrev S2x8194x2816 : Shape := ⟨3, ![2, 8194, 2816]⟩
abbrev S1x2816 : Shape := ⟨2, ![1, 2816]⟩
abbrev S1x1x2816 : Shape := ⟨3, ![1, 1, 2816]⟩
abbrev S2x8x2816 : Shape := ⟨3, ![2, 8, 2816]⟩

abbrev nBuf : Space → Nat
  | .hbm => 74
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x2x2816, .f32⟩
  | .hbm, ⟨2, _⟩ => ⟨S1024, .f32⟩
  | .hbm, ⟨3, _⟩ => ⟨S1024x5632, .f32⟩
  | .hbm, ⟨4, _⟩ => ⟨S3x2816, .f32⟩
  | .hbm, ⟨5, _⟩ => ⟨S2816, .f32⟩
  | .hbm, ⟨6, _⟩ => ⟨S2816x1024, .f32⟩
  | .hbm, ⟨7, _⟩ => ⟨S2x8192x1024, .f32⟩
  | .hbm, ⟨8, _⟩ => ⟨S_, .f32⟩
  | .hbm, ⟨9, _⟩ => ⟨S2x8192, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S2x8192x1, .f32⟩
  | .hbm, ⟨18, _⟩ => ⟨S2x8192x1024, .f32⟩
  | .hbm, ⟨19, _⟩ => ⟨S2x8192x1024, .f32⟩
  | .hbm, ⟨20, _⟩ => ⟨S1x1x1024, .f32⟩
  | .hbm, ⟨21, _⟩ => ⟨S2x8192x1024, .f32⟩
  | .hbm, ⟨22, _⟩ => ⟨S2x8192x1024, .f32⟩
  | .hbm, ⟨23, _⟩ => ⟨S2x8192x5632, .f32⟩
  | .hbm, ⟨24, _⟩ => ⟨S2x8192x2816, .f32⟩
  | .hbm, ⟨25, _⟩ => ⟨S2x8192x2816, .f32⟩
  | .hbm, ⟨26, _⟩ => ⟨S2x8194x2816, .f32⟩
  | .hbm, ⟨27, _⟩ => ⟨S1x2816, .f32⟩
  | .hbm, ⟨28, _⟩ => ⟨S2816, .f32⟩
  | .hbm, ⟨29, _⟩ => ⟨S2x8192x2816, .f32⟩
  | .hbm, ⟨30, _⟩ => ⟨S1x1x2816, .f32⟩
  | .hbm, ⟨31, _⟩ => ⟨S2x8192x2816, .f32⟩
  | .hbm, ⟨32, _⟩ => ⟨S2x8192x2816, .f32⟩
  | .hbm, ⟨33, _⟩ => ⟨S_, .f32⟩
  | .hbm, ⟨34, _⟩ => ⟨S2x8192x2816, .f32⟩
  | .hbm, ⟨35, _⟩ => ⟨S2x8192x2816, .f32⟩
  | .hbm, ⟨36, _⟩ => ⟨S1x2816, .f32⟩
  | .hbm, ⟨37, _⟩ => ⟨S2816, .f32⟩
  | .hbm, ⟨38, _⟩ => ⟨S2x8192x2816, .f32⟩
  | .hbm, ⟨39, _⟩ => ⟨S1x1x2816, .f32⟩
  | .hbm, ⟨40, _⟩ => ⟨S2x8192x2816, .f32⟩
  | .hbm, ⟨41, _⟩ => ⟨S2x8192x2816, .f32⟩
  | .hbm, ⟨42, _⟩ => ⟨S2x8192x2816, .f32⟩
  | .hbm, ⟨43, _⟩ => ⟨S1x2816, .f32⟩
  | .hbm, ⟨44, _⟩ => ⟨S2816, .f32⟩
  | .hbm, ⟨45, _⟩ => ⟨S2x8192x2816, .f32⟩
  | .hbm, ⟨46, _⟩ => ⟨S1x1x2816, .f32⟩
  | .hbm, ⟨47, _⟩ => ⟨S2x8192x2816, .f32⟩
  | .hbm, ⟨48, _⟩ => ⟨S2x8192x2816, .f32⟩
  | .hbm, ⟨49, _⟩ => ⟨S2x8192x2816, .f32⟩
  | .hbm, ⟨50, _⟩ => ⟨S1x1x2816, .f32⟩
  | .hbm, ⟨51, _⟩ => ⟨S2x8192x2816, .f32⟩
  | .hbm, ⟨52, _⟩ => ⟨S2x8192x2816, .f32⟩
  | .hbm, ⟨53, _⟩ => ⟨S2x8192x2816, .f32⟩
  | .hbm, ⟨54, _⟩ => ⟨S2x8192x2816, .f32⟩
  | .hbm, ⟨55, _⟩ => ⟨S_, .f32⟩
  | .hbm, ⟨56, _⟩ => ⟨S2x8192x2816, .f32⟩
  | .hbm, ⟨57, _⟩ => ⟨S2x8192x2816, .f32⟩
  | .hbm, ⟨58, _⟩ => ⟨S2x8192x2816, .f32⟩
  | .hbm, ⟨59, _⟩ => ⟨S_, .f32⟩
  | .hbm, ⟨60, _⟩ => ⟨S2x8192x2816, .f32⟩
  | .hbm, ⟨61, _⟩ => ⟨S2x8192x2816, .f32⟩
  | .hbm, ⟨62, _⟩ => ⟨S2x8192x2816, .f32⟩
  | .hbm, ⟨63, _⟩ => ⟨S_, .f32⟩
  | .hbm, ⟨64, _⟩ => ⟨S2x8192x2816, .f32⟩
  | .hbm, ⟨65, _⟩ => ⟨S2x8192x2816, .f32⟩
  | .hbm, ⟨66, _⟩ => ⟨S_, .f32⟩
  | .hbm, ⟨67, _⟩ => ⟨S2x8192x2816, .f32⟩
  | .hbm, ⟨68, _⟩ => ⟨S2x8192x2816, .f32⟩
  | .hbm, ⟨69, _⟩ => ⟨S2x8192x2816, .f32⟩
  | .hbm, ⟨70, _⟩ => ⟨S2x8192x2816, .f32⟩
  | .hbm, ⟨71, _⟩ => ⟨S2x8192x1024, .f32⟩
  | .hbm, ⟨72, _⟩ => ⟨S2x8x2816, .f32⟩
  | .hbm, ⟨73, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_3 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_4 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_5 : Ref sig .tc := ⟨.hbm, 63, rfl⟩
abbrev main_v50 : Ref sig .tc := ⟨.hbm, 64, rfl⟩
abbrev main_v51 : Ref sig .tc := ⟨.hbm, 65, rfl⟩
abbrev main_cst_6 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩

abbrev nD : Nat := 1
abbrev τ : Topo := Topo.v7x

variable {F : FTy → Type} [FloatOps F]
-- ==== Merge.lean ====
abbrev S2x8192x512 : Shape := ⟨3, ![2, 8192, 512]⟩
abbrev S2x8192x3072 : Shape := ⟨3, ![2, 8192, 3072]⟩
abbrev S2x8192x1024 : Shape := ⟨3, ![2, 8192, 1024]⟩
abbrev S512x1024 : Shape := ⟨2, ![512, 1024]⟩
abbrev S1024x1024 : Shape := ⟨2, ![1024, 1024]⟩
abbrev S16384x512 : Shape := ⟨2, ![16384, 512]⟩
abbrev S16384x3072 : Shape := ⟨2, ![16384, 3072]⟩
abbrev S16384x1024 : Shape := ⟨2, ![16384, 1024]⟩
abbrev S512x512 : Shape := ⟨2, ![512, 512]⟩
abbrev S512x3072 : Shape := ⟨2, ![512, 3072]⟩

abbrev nBuf : Space → Nat
  | .hbm => 19
  | .vmem => 16
  | .smem => 0
  | _ => 0

abbrev bufTy : (tb : Table) → Fin (tcTables nBuf tb) → BufTy
  | .hbm, ⟨0, _⟩ => ⟨S2x8192x512, .bf16⟩
  | .hbm, ⟨1, _⟩ => ⟨S2x8192x512, .bf16⟩
  | .hbm, ⟨2, _⟩ => ⟨S2x8192x512, .bf16⟩
  | .hbm, ⟨3, _⟩ => ⟨S2x8192x3072, .bf16⟩
  | .hbm, ⟨4, _⟩ => ⟨S2x8192x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S512x1024, .bf16⟩
  | .hbm, ⟨10, _⟩ => ⟨S512x1024, .bf16⟩
  | .hbm, ⟨11, _⟩ => ⟨S512x1024, .bf16⟩
  | .hbm, ⟨12, _⟩ => ⟨S1024x1024, .bf16⟩
  | .hbm, ⟨13, _⟩ => ⟨S16384x512, .bf16⟩
  | .hbm, ⟨14, _⟩ => ⟨S16384x512, .bf16⟩
  | .hbm, ⟨15, _⟩ => ⟨S16384x512, .bf16⟩
  | .hbm, ⟨16, _⟩ => ⟨S16384x3072, .bf16⟩
  | .hbm, ⟨17, _⟩ => ⟨S16384x1024, .f32⟩
  | .hbm, ⟨18, _⟩ => ⟨S16384x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x3072, .bf16⟩
  | .local _ .vmem, ⟨7, _⟩ => ⟨S512x3072, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S1024x1024, .bf16⟩
  | .local _ .vmem, ⟨14, _⟩ => ⟨S512x1024, .f32⟩
  | .local _ .vmem, ⟨15, _⟩ => ⟨S512x1024, .f32⟩
  | _, _ => ⟨S2x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeReferenceIdeal.lean ====
abbrev S2x8192x512 : Shape := ⟨3, ![2, 8192, 512]⟩
abbrev S2x8192x3072 : Shape := ⟨3, ![2, 8192, 3072]⟩
abbrev S2x8192x1024 : Shape := ⟨3, ![2, 8192, 1024]⟩
abbrev S512x1024 : Shape := ⟨2, ![512, 1024]⟩
abbrev S1024x1024 : Shape := ⟨2, ![1024, 1024]⟩
abbrev S2x8192x3x1024 : Shape := ⟨4, ![2, 8192, 3, 1024]⟩
abbrev S2x8192x1x1024 : Shape := ⟨4, ![2, 8192, 1, 1024]⟩
abbrev S16384x1024 : Shape := ⟨2, ![16384, 1024]⟩

abbrev nBuf : Space → Nat
  | .hbm => 31
  | .vmem => 0
  | .smem => 0
  | _ => 0

abbrev bufTy : (tb : Table) → Fin (tcTables nBuf tb) → BufTy
  | .hbm, ⟨0, _⟩ => ⟨S2x8192x512, .bf16⟩
  | .hbm, ⟨1, _⟩ => ⟨S2x8192x512, .bf16⟩
  | .hbm, ⟨2, _⟩ => ⟨S2x8192x512, .bf16⟩
  | .hbm, ⟨3, _⟩ => ⟨S2x8192x3072, .bf16⟩
  | .hbm, ⟨4, _⟩ => ⟨S2x8192x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S2x8192x3x1024, .bf16⟩
  | .hbm, ⟨10, _⟩ => ⟨S2x8192x3x1024, .f32⟩
  | .hbm, ⟨11, _⟩ => ⟨S2x8192x1x1024, .f32⟩
  | .hbm, ⟨12, _⟩ => ⟨S2x8192x1024, .f32⟩
  | .hbm, ⟨13, _⟩ => ⟨S2x8192x512, .f32⟩
  | .hbm, ⟨14, _⟩ => ⟨S2x8192x1024, .f32⟩
  | .hbm, ⟨15, _⟩ => ⟨S2x8192x1024, .f32⟩
  | .hbm, ⟨16, _⟩ => ⟨S2x8192x1x1024, .f32⟩
  | .hbm, ⟨17, _⟩ => ⟨S2x8192x1024, .f32⟩
  | .hbm, ⟨18, _⟩ => ⟨S2x8192x512, .f32⟩
  | .hbm, ⟨19, _⟩ => ⟨S2x8192x1024, .f32⟩
  | .hbm, ⟨20, _⟩ => ⟨S2x8192x1024, .f32⟩
  | .hbm, ⟨21, _⟩ => ⟨S2x8192x1024, .f32⟩
  | .hbm, ⟨22, _⟩ => ⟨S2x8192x1x1024, .f32⟩
  | .hbm, ⟨23, _⟩ => ⟨S2x8192x1024, .f32⟩
  | .hbm, ⟨24, _⟩ => ⟨S2x8192x512, .f32⟩
  | .hbm, ⟨25, _⟩ => ⟨S2x8192x1024, .f32⟩
  | .hbm, ⟨26, _⟩ => ⟨S2x8192x1024, .f32⟩
  | .hbm, ⟨27, _⟩ => ⟨S2x8192x1024, .f32⟩
  | .hbm, ⟨28, _⟩ => ⟨S2x8192x1024, .f32⟩
  | .hbm, ⟨29, _⟩ => ⟨S2x8192x1024, .f32⟩
  | .hbm, ⟨30, _⟩ => ⟨S16384x1024, .f32⟩
  | _, _ => ⟨S2x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Step.lean ====
abbrev S32x1024 : Shape := ⟨2, ![32, 1024]⟩
abbrev S32x2x2816 : Shape := ⟨3, ![32, 2, 2816]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S32x1x2816 : Shape := ⟨3, ![32, 1, 2816]⟩
abbrev S32x2816 : Shape := ⟨2, ![32, 2816]⟩
abbrev S1x1024 : Shape := ⟨2, ![1, 1024]⟩
abbrev S1x2816 : Shape := ⟨2, ![1, 2816]⟩
abbrev S32 : Shape := ⟨1, ![32]⟩
abbrev S32x1 : Shape := ⟨2, ![32, 1]⟩
abbrev S32x5632 : Shape := ⟨2, ![32, 5632]⟩

abbrev nBuf : Space → Nat
  | .hbm => 17
  | .vmem => 10
  | .smem => 0
  | _ => 0

abbrev bufTy : (tb : Table) → Fin (tcTables nBuf tb) → BufTy
  | .hbm, ⟨0, _⟩ => ⟨S32x1024, .f32⟩
  | .hbm, ⟨1, _⟩ => ⟨S32x2x2816, .f32⟩
  | .hbm, ⟨2, _⟩ => ⟨S1024, .f32⟩
  | .hbm, ⟨3, _⟩ => ⟨S1024x5632, .f32⟩
  | .hbm, ⟨4, _⟩ => ⟨S3x2816, .f32⟩
  | .hbm, ⟨5, _⟩ => ⟨S2816, .f32⟩
  | .hbm, ⟨6, _⟩ => ⟨S2816x1024, .f32⟩
  | .hbm, ⟨7, _⟩ => ⟨S1024x5632, .bf16⟩
  | .hbm, ⟨8, _⟩ => ⟨S2816x1024, .bf16⟩
  | .hbm, ⟨9, _⟩ => ⟨S32x1x2816, .f32⟩
  | .hbm, ⟨10, _⟩ => ⟨S32x2816, .f32⟩
  | .hbm, ⟨11, _⟩ => ⟨S32x1x2816, .f32⟩
  | .hbm, ⟨12, _⟩ => ⟨S32x2816, .f32⟩
  | .hbm, ⟨13, _⟩ => ⟨S1x1024, .f32⟩
  | .hbm, ⟨14, _⟩ => ⟨S1x2816, .f32⟩
  | .hbm, ⟨15, _⟩ => ⟨S32x1024, .f32⟩
  | .hbm, ⟨16, _⟩ => ⟨S32x2816, .f32⟩
  | .local _ .vmem, ⟨0, _⟩ => ⟨S32x1024, .f32⟩
  | .local _ .vmem, ⟨1, _⟩ => ⟨S32x2816, .f32⟩
  | .local _ .vmem, ⟨2, _⟩ => ⟨S32x2816, .f32⟩
  | .local _ .vmem, ⟨3, _⟩ => ⟨S1x1024, .f32⟩
  | .local _ .vmem, ⟨4, _⟩ => ⟨S1024x5632, .bf16⟩
  | .local _ .vmem, ⟨5, _⟩ => ⟨S3x2816, .f32⟩
  | .local _ .vmem, ⟨6, _⟩ => ⟨S1x2816, .f32⟩
  | .local _ .vmem, ⟨7, _⟩ => ⟨S2816x1024, .bf16⟩
  | .local _ .vmem, ⟨8, _⟩ => ⟨S32x1024, .f32⟩
  | .local _ .vmem, ⟨9, _⟩ => ⟨S32x2816, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x2816 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x2816 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== StepReferenceIdeal.lean ====
abbrev S32x1024 : Shape := ⟨2, ![32, 1024]⟩
abbrev S32x2x2816 : Shape := ⟨3, ![32, 2, 2816]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S32x1x1024 : Shape := ⟨3, ![32, 1, 1024]⟩
abbrev S_ : Shape := ⟨0, ![]⟩
abbrev S32x1 : Shape := ⟨2, ![32, 1]⟩
abbrev S32x1x1 : Shape := ⟨3, ![32, 1, 1]⟩
abbrev S1x1x1024 : Shape := ⟨3, ![1, 1, 1024]⟩
abbrev S32x1x5632 : Shape := ⟨3, ![32, 1, 5632]⟩
abbrev S32x1x2816 : Shape := ⟨3, ![32, 1, 2816]⟩
abbrev S32x3x2816 : Shape := ⟨3, ![32, 3, 2816]⟩
abbrev S1x2816 : Shape := ⟨2, ![1, 2816]⟩
abbrev S1x1x2816 : Shape := ⟨3, ![1, 1, 2816]⟩
abbrev S32x2816 : Shape := ⟨2, ![32, 2816]⟩

abbrev nBuf : Space → Nat
  | .hbm => 78
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S32x2x2816, .f32⟩
  | .hbm, ⟨2, _⟩ => ⟨S1024, .f32⟩
  | .hbm, ⟨3, _⟩ => ⟨S1024x5632, .f32⟩
  | .hbm, ⟨4, _⟩ => ⟨S3x2816, .f32⟩
  | .hbm, ⟨5, _⟩ => ⟨S2816, .f32⟩
  | .hbm, ⟨6, _⟩ => ⟨S2816x1024, .f32⟩
  | .hbm, ⟨7, _⟩ => ⟨S32x1x1024, .f32⟩
  | .hbm, ⟨8, _⟩ => ⟨S32x1x1024, .f32⟩
  | .hbm, ⟨9, _⟩ => ⟨S_, .f32⟩
  | .hbm, ⟨10, _⟩ => ⟨S32x1, .f32⟩
  | .hbm, ⟨11, _⟩ => ⟨S32x1x1, .f32⟩
  | .hbm, ⟨12, _⟩ => ⟨S_, .f32⟩
  | .hbm, ⟨13, _⟩ => ⟨S32x1x1, .f32⟩
  | .hbm, ⟨14, _⟩ => ⟨S32x1x1, .f32⟩
  | .hbm, ⟨15, _⟩ => ⟨S_, .f32⟩
  | .hbm, ⟨16, _⟩ => ⟨S32x1x1, .f32⟩
  | .hbm, ⟨17, _⟩ => ⟨S32x1x1, .f32⟩
  | .hbm, ⟨18, _⟩ => ⟨S32x1x1, .f32⟩
  | .hbm, ⟨19, _⟩ => ⟨S32x1x1024, .f32⟩
  | .hbm, ⟨20, _⟩ => ⟨S32x1x1024, .f32⟩
  | .hbm, ⟨21, _⟩ => ⟨S1x1x1024, .f32⟩
  | .hbm, ⟨22, _⟩ => ⟨S32x1x1024, .f32⟩
  | .hbm, ⟨23, _⟩ => ⟨S32x1x1024, .f32⟩
  | .hbm, ⟨24, _⟩ => ⟨S32x1x5632, .f32⟩
  | .hbm, ⟨25, _⟩ => ⟨S32x1x2816, .f32⟩
  | .hbm, ⟨26, _⟩ => ⟨S32x1x2816, .f32⟩
  | .hbm, ⟨27, _⟩ => ⟨S32x3x2816, .f32⟩
  | .hbm, ⟨28, _⟩ => ⟨S1x2816, .f32⟩
  | .hbm, ⟨29, _⟩ => ⟨S2816, .f32⟩
  | .hbm, ⟨30, _⟩ => ⟨S32x1x2816, .f32⟩
  | .hbm, ⟨31, _⟩ => ⟨S1x1x2816, .f32⟩
  | .hbm, ⟨32, _⟩ => ⟨S32x1x2816, .f32⟩
  | .hbm, ⟨33, _⟩ => ⟨S32x1x2816, .f32⟩
  | .hbm, ⟨34, _⟩ => ⟨S_, .f32⟩
  | .hbm, ⟨35, _⟩ => ⟨S32x1x2816, .f32⟩
  | .hbm, ⟨36, _⟩ => ⟨S32x1x2816, .f32⟩
  | .hbm, ⟨37, _⟩ => ⟨S1x2816, .f32⟩
  | .hbm, ⟨38, _⟩ => ⟨S2816, .f32⟩
  | .hbm, ⟨39, _⟩ => ⟨S32x1x2816, .f32⟩
  | .hbm, ⟨40, _⟩ => ⟨S1x1x2816, .f32⟩
  | .hbm, ⟨41, _⟩ => ⟨S32x1x2816, .f32⟩
  | .hbm, ⟨42, _⟩ => ⟨S32x1x2816, .f32⟩
  | .hbm, ⟨43, _⟩ => ⟨S32x1x2816, .f32⟩
  | .hbm, ⟨44, _⟩ => ⟨S1x2816, .f32⟩
  | .hbm, ⟨45, _⟩ => ⟨S2816, .f32⟩
  | .hbm, ⟨46, _⟩ => ⟨S32x1x2816, .f32⟩
  | .hbm, ⟨47, _⟩ => ⟨S1x1x2816, .f32⟩
  | .hbm, ⟨48, _⟩ => ⟨S32x1x2816, .f32⟩
  | .hbm, ⟨49, _⟩ => ⟨S32x1x2816, .f32⟩
  | .hbm, ⟨50, _⟩ => ⟨S32x1x2816, .f32⟩
  | .hbm, ⟨51, _⟩ => ⟨S1x1x2816, .f32⟩
  | .hbm, ⟨52, _⟩ => ⟨S32x1x2816, .f32⟩
  | .hbm, ⟨53, _⟩ => ⟨S32x1x2816, .f32⟩
  | .hbm, ⟨54, _⟩ => ⟨S32x1x2816, .f32⟩
  | .hbm, ⟨55, _⟩ => ⟨S32x1x2816, .f32⟩
  | .hbm, ⟨56, _⟩ => ⟨S_, .f32⟩
  | .hbm, ⟨57, _⟩ => ⟨S32x1x2816, .f32⟩
  | .hbm, ⟨58, _⟩ => ⟨S32x1x2816, .f32⟩
  | .hbm, ⟨59, _⟩ => ⟨S32x1x2816, .f32⟩
  | .hbm, ⟨60, _⟩ => ⟨S_, .f32⟩
  | .hbm, ⟨61, _⟩ => ⟨S32x1x2816, .f32⟩
  | .hbm, ⟨62, _⟩ => ⟨S32x1x2816, .f32⟩
  | .hbm, ⟨63, _⟩ => ⟨S32x1x2816, .f32⟩
  | .hbm, ⟨64, _⟩ => ⟨S_, .f32⟩
  | .hbm, ⟨65, _⟩ => ⟨S32x1x2816, .f32⟩
  | .hbm, ⟨66, _⟩ => ⟨S32x1x2816, .f32⟩
  | .hbm, ⟨67, _⟩ => ⟨S_, .f32⟩
  | .hbm, ⟨68, _⟩ => ⟨S32x1x2816, .f32⟩
  | .hbm, ⟨69, _⟩ => ⟨S32x1x2816, .f32⟩
  | .hbm, ⟨70, _⟩ => ⟨S32x1x2816, .f32⟩
  | .hbm, ⟨71, _⟩ => ⟨S32x1x2816, .f32⟩
  | .hbm, ⟨72, _⟩ => ⟨S32x1x1024, .f32⟩
  | .hbm, ⟨73, _⟩ => ⟨S32x2x2816, .f32⟩
  | .hbm, ⟨74, _⟩ => ⟨S32x1x1024, .f32⟩
  | .hbm, ⟨75, _⟩ => ⟨S32x1024, .f32⟩
  | .hbm, ⟨76, _⟩ => ⟨S32x1x2816, .f32⟩
  | .hbm, ⟨77, _⟩ => ⟨S32x2816, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_3 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_4 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_5 : Ref sig .tc := ⟨.hbm, 64, rfl⟩
abbrev main_v51 : Ref sig .tc := ⟨.hbm, 65, rfl⟩
abbrev main_v52 : Ref sig .tc := ⟨.hbm, 66, rfl⟩
abbrev main_cst_6 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩

abbrev nD : Nat := 1
abbrev τ : Topo := Topo.v7x

variable {F : FTy → Type} [FloatOps F]
-- ==== Token.lean ====
abbrev S32x256 : Shape := ⟨2, ![32, 256]⟩
abbrev S32x512 : Shape := ⟨2, ![32, 512]⟩
abbrev S32x16 : Shape := ⟨2, ![32, 16]⟩
abbrev S32x4x64x128 : Shape := ⟨4, ![32, 4, 64, 128]⟩
abbrev S16x256 : Shape := ⟨2, ![16, 256]⟩
abbrev S256 : Shape := ⟨1, ![256]⟩
abbrev S128 : Shape := ⟨1, ![128]⟩
abbrev S_ : Shape := ⟨0, ![]⟩
abbrev S32x128 : Shape := ⟨2, ![32, 128]⟩
abbrev S32x1664 : Shape := ⟨2, ![32, 1664]⟩
abbrev S256x16 : Shape := ⟨2, ![256, 16]⟩
abbrev S256x128 : Shape := ⟨2, ![256, 128]⟩
abbrev S4x64x128 : Shape := ⟨3, ![4, 64, 128]⟩
abbrev S32x4x64x1 : Shape := ⟨4, ![32, 4, 64, 1]⟩
abbrev S32x1x128 : Shape := ⟨3, ![32, 1, 128]⟩
abbrev S32x4x1x128 : Shape := ⟨4, ![32, 4, 1, 128]⟩
abbrev S4x64x1 : Shape := ⟨3, ![4, 64, 1]⟩
abbrev S1x128 : Shape := ⟨2, ![1, 128]⟩
abbrev S8x4x64x1 : Shape := ⟨4, ![8, 4, 64, 1]⟩
abbrev S8x1x128 : Shape := ⟨3, ![8, 1, 128]⟩
abbrev S8x4x1x128 : Shape := ⟨4, ![8, 4, 1, 128]⟩
abbrev S8x4x64x128 : Shape := ⟨4, ![8, 4, 64, 128]⟩
abbrev S1x1x128 : Shape := ⟨3, ![1, 1, 128]⟩
abbrev S1x64x128 : Shape := ⟨3, ![1, 64, 128]⟩
abbrev S64x128 : Shape := ⟨2, ![64, 128]⟩
abbrev S64 : Shape := ⟨1, ![64]⟩
abbrev S64x1 : Shape := ⟨2, ![64, 1]⟩
abbrev S1x64x1 : Shape := ⟨3, ![1, 64, 1]⟩
abbrev S1x1x64x128 : Shape := ⟨4, ![1, 1, 64, 128]⟩
abbrev S1x1x64x1 : Shape := ⟨4, ![1, 1, 64, 1]⟩
abbrev S1x1x1x128 : Shape := ⟨4, ![1, 1, 1, 128]⟩
abbrev S1 : Shape := ⟨1, ![1]⟩
abbrev S1x1 : Shape := ⟨2, ![1, 1]⟩

abbrev nBuf : Space → Nat
  | .hbm => 35
  | .vmem => 19
  | .smem => 0
  | _ => 0

abbrev bufTy : (tb : Table) → Fin (tcTables nBuf tb) → BufTy
  | .hbm, ⟨0, _⟩ => ⟨S32x256, .f32⟩
  | .hbm, ⟨1, _⟩ => ⟨S32x256, .f32⟩
  | .hbm, ⟨2, _⟩ => ⟨S32x512, .f32⟩
  | .hbm, ⟨3, _⟩ => ⟨S32x16, .f32⟩
  | .hbm, ⟨4, _⟩ => ⟨S32x512, .f32⟩
  | .hbm, ⟨5, _⟩ => ⟨S32x4x64x128, .f32⟩
  | .hbm, ⟨6, _⟩ => ⟨S16x256, .f32⟩
  | .hbm, ⟨7, _⟩ => ⟨S256, .f32⟩
  | .hbm, ⟨8, _⟩ => ⟨S128, .f32⟩
  | .hbm, ⟨9, _⟩ => ⟨S_, .f32⟩
  | .hbm, ⟨10, _⟩ => ⟨S32x256, .f32⟩
  | .hbm, ⟨11, _⟩ => ⟨S32x256, .f32⟩
  | .hbm, ⟨12, _⟩ => ⟨S_, .i32⟩
  | .hbm, ⟨13, _⟩ => ⟨S_, .f32⟩
  | .hbm, ⟨14, _⟩ => ⟨S32x128, .f32⟩
  | .hbm, ⟨15, _⟩ => ⟨S32x1664, .f32⟩
  | .hbm, ⟨16, _⟩ => ⟨S256x16, .f32⟩
  | .hbm, ⟨17, _⟩ => ⟨S_, .i32⟩
  | .hbm, ⟨18, _⟩ => ⟨S_, .f32⟩
  | .hbm, ⟨19, _⟩ => ⟨S256x128, .f32⟩
  | .hbm, ⟨20, _⟩ => ⟨S4x64x128, .f32⟩
  | .hbm, ⟨21, _⟩ => ⟨S32x256, .f32⟩
  | .hbm, ⟨22, _⟩ => ⟨S32x4x64x1, .f32⟩
  | .hbm, ⟨23, _⟩ => ⟨S32x256, .f32⟩
  | .hbm, ⟨24, _⟩ => ⟨S32x4x64x1, .f32⟩
  | .hbm, ⟨25, _⟩ => ⟨S32x128, .f32⟩
  | .hbm, ⟨26, _⟩ => ⟨S32x1x128, .f32⟩
  | .hbm, ⟨27, _⟩ => ⟨S32x512, .f32⟩
  | .hbm, ⟨28, _⟩ => ⟨S32x4x1x128, .f32⟩
  | .hbm, ⟨29, _⟩ => ⟨S32x512, .f32⟩
  | .hbm, ⟨30, _⟩ => ⟨S32x4x1x128, .f32⟩
  | .hbm, ⟨31, _⟩ => ⟨S4x64x1, .f32⟩
  | .hbm, ⟨32, _⟩ => ⟨S1x128, .f32⟩
  | .hbm, ⟨33, _⟩ => ⟨S32x4x1x128, .f32⟩
  | .hbm, ⟨34, _⟩ => ⟨S32x4x64x128, .f32⟩
  | .local _ .vmem, ⟨0, _⟩ => ⟨S8x4x64x1, .f32⟩
  | .local _ .vmem, ⟨1, _⟩ => ⟨S8x4x64x1, .f32⟩
  | .local _ .vmem, ⟨2, _⟩ => ⟨S8x4x64x1, .f32⟩
  | .local _ .vmem, ⟨3, _⟩ => ⟨S8x4x64x1, .f32⟩
  | .local _ .vmem, ⟨4, _⟩ => ⟨S8x1x128, .f32⟩
  | .local _ .vmem, ⟨5, _⟩ => ⟨S8x1x128, .f32⟩
  | .local _ .vmem, ⟨6, _⟩ => ⟨S8x4x1x128, .f32⟩
  | .local _ .vmem, ⟨7, _⟩ => ⟨S8x4x1x128, .f32⟩
  | .local _ .vmem, ⟨8, _⟩ => ⟨S8x4x1x128, .f32⟩
  | .local _ .vmem, ⟨9, _⟩ => ⟨S8x4x1x128, .f32⟩
  | .local _ .vmem, ⟨10, _⟩ => ⟨S8x4x64x128, .f32⟩
  | .local _ .vmem, ⟨11, _⟩ => ⟨S8x4x64x128, .f32⟩
  | .local _ .vmem, ⟨12, _⟩ => ⟨S4x64x128, .f32⟩
  | .local _ .vmem, ⟨13, _⟩ => ⟨S4x64x1, .f32⟩
  | .local _ .vmem, ⟨14, _⟩ => ⟨S1x128, .f32⟩
  | .local _ .vmem, ⟨15, _⟩ => ⟨S8x4x1x128, .f32⟩
  | .local _ .vmem, ⟨16, _⟩ => ⟨S8x4x1x128, .f32⟩
  | .local _ .vmem, ⟨17, _⟩ => ⟨S8x4x64x128, .f32⟩
  | .local _ .vmem, ⟨18, _⟩ => ⟨S8x4x64x128, .f32⟩
  | _, _ => ⟨S32x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_call0_v0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c_0 : Ref sig .tc := ⟨.hbm, 17, rfl⟩
abbrev main_call1_v0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19_0 : Ref sig .tc := ⟨.hbm, 33, rfl⟩
abbrev main_v19_1 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x4x64x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x4x64x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x4x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x4x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x4x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8x4x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x4x64x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== TokenReferenceIdeal.lean ====
abbrev S32x256 : Shape := ⟨2, ![32, 256]⟩
abbrev S32x512 : Shape := ⟨2, ![32, 512]⟩
abbrev S32x16 : Shape := ⟨2, ![32, 16]⟩
abbrev S32x4x64x128 : Shape := ⟨4, ![32, 4, 64, 128]⟩
abbrev S16x256 : Shape := ⟨2, ![16, 256]⟩
abbrev S256 : Shape := ⟨1, ![256]⟩
abbrev S128 : Shape := ⟨1, ![128]⟩
abbrev S32x1x4x64 : Shape := ⟨4, ![32, 1, 4, 64]⟩
abbrev S_ : Shape := ⟨0, ![]⟩
abbrev S32x1x4x128 : Shape := ⟨4, ![32, 1, 4, 128]⟩
abbrev S1x256 : Shape := ⟨2, ![1, 256]⟩
abbrev S1 : Shape := ⟨1, ![1]⟩
abbrev S1x1 : Shape := ⟨2, ![1, 1]⟩
abbrev S1x1x1x1x1 : Shape := ⟨5, ![1, 1, 1, 1, 1]⟩
abbrev S32x1x1x4x64 : Shape := ⟨5, ![32, 1, 1, 4, 64]⟩
abbrev S1x32x4x1x64 : Shape := ⟨5, ![1, 32, 4, 1, 64]⟩
abbrev S32x1x1x4x128 : Shape := ⟨5, ![32, 1, 1, 4, 128]⟩
abbrev S1x32x4x1x128 : Shape := ⟨5, ![1, 32, 4, 1, 128]⟩
abbrev S32x4x1x64 : Shape := ⟨4, ![32, 4, 1, 64]⟩
abbrev S32x4x1x128 : Shape := ⟨4, ![32, 4, 1, 128]⟩
abbrev S32x4x1x1x64 : Shape := ⟨5, ![32, 4, 1, 1, 64]⟩
abbrev S32x4x1x1 : Shape := ⟨4, ![32, 4, 1, 1]⟩
abbrev S32x4x64 : Shape := ⟨3, ![32, 4, 64]⟩
abbrev S32x4x64x1 : Shape := ⟨4, ![32, 4, 64, 1]⟩
abbrev S32x4x1 : Shape := ⟨3, ![32, 4, 1]⟩
abbrev S1x1x1x128 : Shape := ⟨4, ![1, 1, 1, 128]⟩

abbrev nBuf : Space → Nat
  | .hbm => 160
  | .vmem => 0
  | .smem => 0
  | _ => 0

abbrev hbmTy0_0 (i : Nat) : BufTy := match i % 128 with
  | 0 => ⟨S32x256, .f32⟩
  | 1 => ⟨S32x256, .f32⟩
  | 2 => ⟨S32x512, .f32⟩
  | 3 => ⟨S32x16, .f32⟩
  | 4 => ⟨S32x512, .f32⟩
  | 5 => ⟨S32x4x64x128, .f32⟩
  | 6 => ⟨S16x256, .f32⟩
  | 7 => ⟨S256, .f32⟩
  | 8 => ⟨S128, .f32⟩
  | 9 => ⟨S32x1x4x64, .f32⟩
  | 10 => ⟨S_, .f32⟩
  | 11 => ⟨S32x1x4x64, .f32⟩
  | 12 => ⟨S32x1x4x64, .f32⟩
  | 13 => ⟨S32x1x4x64, .f32⟩
  | 14 => ⟨S32x1x4x128, .f32⟩
  | 15 => ⟨S32x256, .f32⟩
  | 16 => ⟨S1x256, .f32⟩
  | 17 => ⟨S32x256, .f32⟩
  | 18 => ⟨S32x256, .f32⟩
  | 19 => ⟨S32x256, .f32⟩
  | 20 => ⟨S_, .f32⟩
  | 21 => ⟨S32x256, .f32⟩
  | 22 => ⟨S32x256, .f32⟩
  | 23 => ⟨S32x256, .f32⟩
  | 24 => ⟨S32x256, .f32⟩
  | 25 => ⟨S32x256, .i1⟩
  | 26 => ⟨S32x256, .f32⟩
  | 27 => ⟨S32x256, .f32⟩
  | 28 => ⟨S32x256, .f32⟩
  | 29 => ⟨S32x256, .f32⟩
  | 30 => ⟨S32x256, .f32⟩
  | 31 => ⟨S32x256, .f32⟩
  | 32 => ⟨S32x256, .f32⟩
  | 33 => ⟨S32x256, .f32⟩
  | 34 => ⟨S32x256, .f32⟩
  | 35 => ⟨S_, .f32⟩
  | 36 => ⟨S32x256, .f32⟩
  | 37 => ⟨S32x256, .f32⟩
  | 38 => ⟨S32x1x4x64, .f32⟩
  | 39 => ⟨S1, .i32⟩
  | 40 => ⟨S1x1, .i32⟩
  | 41 => ⟨S1x1, .i32⟩
  | 42 => ⟨S1x1, .i1⟩
  | 43 => ⟨S1x1x1x1x1, .i1⟩
  | 44 => ⟨S32x1x1x4x64, .f32⟩
  | 45 => ⟨S1x32x4x1x64, .f32⟩
  | 46 => ⟨S32x1x1x4x64, .f32⟩
  | 47 => ⟨S1x32x4x1x64, .f32⟩
  | 48 => ⟨S32x1x1x4x128, .f32⟩
  | 49 => ⟨S1x32x4x1x128, .f32⟩
  | 50 => ⟨S32x1x1x4x64, .f32⟩
  | 51 => ⟨S1x32x4x1x64, .f32⟩
  | 52 => ⟨S_, .f32⟩
  | 53 => ⟨S1x32x4x1x128, .f32⟩
  | 54 => ⟨S_, .i32⟩
  | 55 => ⟨S1x32x4x1x64, .f32⟩
  | 56 => ⟨S1x32x4x1x64, .f32⟩
  | 57 => ⟨S1x32x4x1x128, .f32⟩
  | 58 => ⟨S1x32x4x1x64, .f32⟩
  | 59 => ⟨S1x1x1x1x1, .i1⟩
  | 60 => ⟨S_, .i32⟩
  | 61 => ⟨S32x4x64x128, .f32⟩
  | 62 => ⟨S1x32x4x1x128, .f32⟩
  | 63 => ⟨S_, .i32⟩
  | 64 => ⟨S_, .i1⟩
  | 65 => ⟨S_, .i32⟩
  | 66 => ⟨S_, .i32⟩
  | 67 => ⟨S_, .i32⟩
  | 68 => ⟨S_, .i32⟩
  | 69 => ⟨S1x32x4x1x64, .f32⟩
  | 70 => ⟨S32x4x1x64, .f32⟩
  | 71 => ⟨S_, .i32⟩
  | 72 => ⟨S_, .i32⟩
  | 73 => ⟨S_, .i32⟩
  | 74 => ⟨S_, .i32⟩
  | 75 => ⟨S1x32x4x1x64, .f32⟩
  | 76 => ⟨S32x4x1x64, .f32⟩
  | 77 => ⟨S_, .i32⟩
  | 78 => ⟨S_, .i32⟩
  | 79 => ⟨S_, .i32⟩
  | 80 => ⟨S_, .i32⟩
  | 81 => ⟨S1x32x4x1x128, .f32⟩
  | 82 => ⟨S32x4x1x128, .f32⟩
  | 83 => ⟨S_, .i32⟩
  | 84 => ⟨S_, .i32⟩
  | 85 => ⟨S_, .i32⟩
  | 86 => ⟨S_, .i32⟩
  | 87 => ⟨S1x32x4x1x64, .f32⟩
  | 88 => ⟨S32x4x1x64, .f32⟩
  | 89 => ⟨S_, .f32⟩
  | 90 => ⟨S_, .f32⟩
  | 91 => ⟨S32x4x1x64, .f32⟩
  | 92 => ⟨S32x4x1x1x64, .f32⟩
  | 93 => ⟨S32x4x1x1x64, .f32⟩
  | 94 => ⟨S32x4x1x1x64, .f32⟩
  | 95 => ⟨S_, .f32⟩
  | 96 => ⟨S32x4x1x1x64, .i1⟩
  | 97 => ⟨S32x4x1x1x64, .f32⟩
  | 98 => ⟨S32x4x1x1x64, .f32⟩
  | 99 => ⟨S32x4x1x1x64, .f32⟩
  | 100 => ⟨S32x4x1x1x64, .f32⟩
  | 101 => ⟨S32x4x1x1x64, .f32⟩
  | 102 => ⟨S32x4x1x1x64, .f32⟩
  | 103 => ⟨S32x4x1x1x64, .f32⟩
  | 104 => ⟨S_, .f32⟩
  | 105 => ⟨S32x4x1x1, .f32⟩
  | 106 => ⟨S32x4x1x64, .f32⟩
  | 107 => ⟨S32x4x1x64, .f32⟩
  | 108 => ⟨S32x4x1x128, .f32⟩
  | 109 => ⟨S32x4x1x128, .f32⟩
  | 110 => ⟨S32x4x1x128, .f32⟩
  | 111 => ⟨S32x4x64, .f32⟩
  | 112 => ⟨S32x4x64, .f32⟩
  | 113 => ⟨S32x4x64x1, .f32⟩
  | 114 => ⟨S32x4x64x128, .f32⟩
  | 115 => ⟨S32x4x64x128, .f32⟩
  | 116 => ⟨S32x4x1x64, .f32⟩
  | 117 => ⟨S32x4x1x64, .f32⟩
  | 118 => ⟨S32x4x1x64, .f32⟩
  | 119 => ⟨S32x4x1x64, .f32⟩
  | 120 => ⟨S32x4x64x128, .f32⟩
  | 121 => ⟨S32x4x64x128, .f32⟩
  | 122 => ⟨S1x32x4x1x128, .f32⟩
  | 123 => ⟨S_, .i32⟩
  | 124 => ⟨S_, .i32⟩
  | 125 => ⟨S_, .i32⟩
  | 126 => ⟨S_, .i32⟩
  | 127 => ⟨S1x32x4x1x128, .f32⟩
  | _ => ⟨S32x256, .f32⟩

abbrev hbmTy0_1 (i : Nat) : BufTy := match i % 128 with
  | 0 => ⟨S_, .i32⟩
  | 1 => ⟨S_, .i32⟩
  | 2 => ⟨S32x1x1x4x128, .f32⟩
  | 3 => ⟨S32x1x4x128, .f32⟩
  | 4 => ⟨S32x4x1x128, .f32⟩
  | 5 => ⟨S32x4x1x128, .f32⟩
  | 6 => ⟨S_, .f32⟩
  | 7 => ⟨S32x4x1, .f32⟩
  | 8 => ⟨S32x4x1x1, .f32⟩
  | 9 => ⟨S_, .f32⟩
  | 10 => ⟨S32x4x1x1, .f32⟩
  | 11 => ⟨S32x4x1x1, .f32⟩
  | 12 => ⟨S_, .f32⟩
  | 13 => ⟨S32x4x1x1, .f32⟩
  | 14 => ⟨S32x4x1x1, .f32⟩
  | 15 => ⟨S32x4x1x1, .f32⟩
  | 16 => ⟨S32x4x1x128, .f32⟩
  | 17 => ⟨S32x4x1x128, .f32⟩
  | 18 => ⟨S1x1x1x128, .f32⟩
  | 19 => ⟨S32x4x1x128, .f32⟩
  | 20 => ⟨S32x4x1x128, .f32⟩
  | 21 => ⟨S32x512, .f32⟩
  | 22 => ⟨S32x512, .f32⟩
  | 23 => ⟨S_, .f32⟩
  | 24 => ⟨S32x512, .f32⟩
  | 25 => ⟨S32x512, .f32⟩
  | 26 => ⟨S_, .f32⟩
  | 27 => ⟨S32x512, .f32⟩
  | 28 => ⟨S32x512, .f32⟩
  | 29 => ⟨S32x512, .f32⟩
  | 30 => ⟨S32x4x1x128, .f32⟩
  | 31 => ⟨S32x4x1x128, .f32⟩
  | _ => ⟨S32x256, .f32⟩

abbrev hbmTy (i : Nat) : BufTy := match i / 128 with
  | 0 => hbmTy0_0 i
  | 1 => hbmTy0_1 i
  | _ => ⟨S32x256, .f32⟩

abbrev bufTy : (tb : Table) → Fin (tcTables nBuf tb) → BufTy
  | .hbm, ⟨i, _⟩ => hbmTy i
  | _, _ => ⟨S32x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_1 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_2 : Ref sig .tc := ⟨.hbm, 52, rfl⟩
abbrev main_v40 : Ref sig .tc := ⟨.hbm, 53, rfl⟩
abbrev main_c : Ref sig .tc := ⟨.hbm, 54, rfl⟩
abbrev main_v41_0 : Ref sig .tc := ⟨.hbm, 55, rfl⟩
abbrev main_v41_1 : Ref sig .tc := ⟨.hbm, 56, rfl⟩
abbrev main_v41_2 : Ref sig .tc := ⟨.hbm, 57, rfl⟩
abbrev main_v41_3 : Ref sig .tc := ⟨.hbm, 58, rfl⟩
abbrev main_v41_4 : Ref sig .tc := ⟨.hbm, 59, rfl⟩
abbrev main_v41_5 : Ref sig .tc := ⟨.hbm, 60, rfl⟩
abbrev main_v41_6 : Ref sig .tc := ⟨.hbm, 61, rfl⟩
abbrev main_v41_7 : Ref sig .tc := ⟨.hbm, 62, rfl⟩
abbrev main_while0c_c_13 : Ref sig .tc := ⟨.hbm, 63, rfl⟩
abbrev main_while0c_v61 : Ref sig .tc := ⟨.hbm, 64, rfl⟩
abbrev main_while0b_call0_c : Ref sig .tc := ⟨.hbm, 65, rfl⟩
abbrev main_while0b_call0_c_0 : Ref sig .tc := ⟨.hbm, 66, rfl⟩
abbrev main_while0b_call0_c_1 : Ref sig .tc := ⟨.hbm, 67, rfl⟩
abbrev main_while0b_call0_c_2 : Ref sig .tc := ⟨.hbm, 68, rfl⟩
abbrev main_while0b_call0_v0 : Ref sig .tc := ⟨.hbm, 69, rfl⟩
abbrev main_while0b_v61 : Ref sig .tc := ⟨.hbm, 70, rfl⟩
abbrev main_while0b_call1_c : Ref sig .tc := ⟨.hbm, 71, rfl⟩
abbrev main_while0b_call1_c_0 : Ref sig .tc := ⟨.hbm, 72, rfl⟩
abbrev main_while0b_call1_c_1 : Ref sig .tc := ⟨.hbm, 73, rfl⟩
abbrev main_while0b_call1_c_2 : Ref sig .tc := ⟨.hbm, 74, rfl⟩
abbrev main_while0b_call1_v0 : Ref sig .tc := ⟨.hbm, 75, rfl⟩
abbrev main_while0b_v62 : Ref sig .tc := ⟨.hbm, 76, rfl⟩
abbrev main_while0b_call2_c : Ref sig .tc := ⟨.hbm, 77, rfl⟩
abbrev main_while0b_call2_c_0 : Ref sig .tc := ⟨.hbm, 78, rfl⟩
abbrev main_while0b_call2_c_1 : Ref sig .tc := ⟨.hbm, 79, rfl⟩
abbrev main_while0b_call2_c_2 : Ref sig .tc := ⟨.hbm, 80, rfl⟩
abbrev main_while0b_call2_v0 : Ref sig .tc := ⟨.hbm, 81, rfl⟩
abbrev main_while0b_v63 : Ref sig .tc := ⟨.hbm, 82, rfl⟩
abbrev main_while0b_call3_c : Ref sig .tc := ⟨.hbm, 83, rfl⟩
abbrev main_while0b_call3_c_0 : Ref sig .tc := ⟨.hbm, 84, rfl⟩
abbrev main_while0b_call3_c_1 : Ref sig .tc := ⟨.hbm, 85, rfl⟩
abbrev main_while0b_call3_c_2 : Ref sig .tc := ⟨.hbm, 86, rfl⟩
abbrev main_while0b_call3_v0 : Ref sig .tc := ⟨.hbm, 87, rfl⟩
abbrev main_while0b_v64 : Ref sig .tc := ⟨.hbm, 88, rfl⟩
abbrev main_while0b_call4_call0_cst : Ref sig .tc := ⟨.hbm, 89, rfl⟩
abbrev main_while0b_call4_call0_v0 : Ref sig .tc := ⟨.hbm, 90, rfl⟩
abbrev main_while0b_v65 : Ref sig .tc := ⟨.hbm, 91, rfl⟩
abbrev main_while0b_v66 : Ref sig .tc := ⟨.hbm, 92, rfl⟩
abbrev main_while0b_v67 : Ref sig .tc := ⟨.hbm, 93, rfl⟩
abbrev main_while0b_v68 : Ref sig .tc := ⟨.hbm, 94, rfl⟩
abbrev main_while0b_cst_13 : Ref sig .tc := ⟨.hbm, 95, rfl⟩
abbrev main_while0b_call5_v0 : Ref sig .tc := ⟨.hbm, 96, rfl⟩
abbrev main_while0b_call5_v1 : Ref sig .tc := ⟨.hbm, 97, rfl⟩
abbrev main_while0b_v69 : Ref sig .tc := ⟨.hbm, 98, rfl⟩
abbrev main_while0b_v70 : Ref sig .tc := ⟨.hbm, 99, rfl⟩
abbrev main_while0b_v71 : Ref sig .tc := ⟨.hbm, 100, rfl⟩
abbrev main_while0b_v72 : Ref sig .tc := ⟨.hbm, 101, rfl⟩
abbrev main_while0b_v73 : Ref sig .tc := ⟨.hbm, 102, rfl⟩
abbrev main_while0b_v74 : Ref sig .tc := ⟨.hbm, 103, rfl⟩
abbrev main_while0b_cst_14 : Ref sig .tc := ⟨.hbm, 104, rfl⟩
abbrev main_while0b_v75 : Ref sig .tc := ⟨.hbm, 105, rfl⟩
abbrev main_while0b_v76 : Ref sig .tc := ⟨.hbm, 106, rfl⟩
abbrev main_while0b_v77 : Ref sig .tc := ⟨.hbm, 107, rfl⟩
abbrev main_while0b_v78 : Ref sig .tc := ⟨.hbm, 108, rfl⟩
abbrev main_while0b_v79 : Ref sig .tc := ⟨.hbm, 109, rfl⟩
abbrev main_while0b_v80 : Ref sig .tc := ⟨.hbm, 110, rfl⟩
abbrev main_while0b_v81 : Ref sig .tc := ⟨.hbm, 111, rfl⟩
abbrev main_while0b_v82 : Ref sig .tc := ⟨.hbm, 112, rfl⟩
abbrev main_while0b_v83 : Ref sig .tc := ⟨.hbm, 113, rfl⟩
abbrev main_while0b_v84 : Ref sig .tc := ⟨.hbm, 114, rfl⟩
abbrev main_while0b_v85 : Ref sig .tc := ⟨.hbm, 115, rfl⟩
abbrev main_while0b_v86 : Ref sig .tc := ⟨.hbm, 116, rfl⟩
abbrev main_while0b_v87 : Ref sig .tc := ⟨.hbm, 117, rfl⟩
abbrev main_while0b_v88 : Ref sig .tc := ⟨.hbm, 118, rfl⟩
abbrev main_while0b_v89 : Ref sig .tc := ⟨.hbm, 119, rfl⟩
abbrev main_while0b_v90 : Ref sig .tc := ⟨.hbm, 120, rfl⟩
abbrev main_while0b_v91 : Ref sig .tc := ⟨.hbm, 121, rfl⟩
abbrev main_while0b_call6_v0 : Ref sig .tc := ⟨.hbm, 122, rfl⟩
abbrev main_while0b_call6_c : Ref sig .tc := ⟨.hbm, 123, rfl⟩
abbrev main_while0b_call6_c_0 : Ref sig .tc := ⟨.hbm, 124, rfl⟩
abbrev main_while0b_call6_c_1 : Ref sig .tc := ⟨.hbm, 125, rfl⟩
abbrev main_while0b_call6_c_2 : Ref sig .tc := ⟨.hbm, 126, rfl⟩
abbrev main_while0b_v92 : Ref sig .tc := ⟨.hbm, 127, rfl⟩
abbrev main_while0b_c_15 : Ref sig .tc := ⟨.hbm, 128, rfl⟩
abbrev main_while0b_v93 : Ref sig .tc := ⟨.hbm, 129, rfl⟩
abbrev main_v42 : Ref sig .tc := ⟨.hbm, 130, rfl⟩
abbrev main_v43 : Ref sig .tc := ⟨.hbm, 131, rfl⟩
abbrev main_v44 : Ref sig .tc := ⟨.hbm, 132, rfl⟩
abbrev main_v45 : Ref sig .tc := ⟨.hbm, 133, rfl⟩
abbrev main_cst_3 : Ref sig .tc := ⟨.hbm, 134, rfl⟩
abbrev main_v46 : Ref sig .tc := ⟨.hbm, 135, rfl⟩
abbrev main_v47 : Ref sig .tc := ⟨.hbm, 136, rfl⟩
abbrev main_cst_4 : Ref sig .tc := ⟨.hbm, 137, rfl⟩
abbrev main_v48 : Ref sig .tc := ⟨.hbm, 138, rfl⟩
abbrev main_v49 : Ref sig .tc := ⟨.hbm, 139, rfl⟩
abbrev main_cst_5 : Ref sig .tc := ⟨.hbm, 140, rfl⟩
abbrev main_v50 : Ref sig .tc := ⟨.hbm, 141, rfl⟩
abbrev main_v51 : Ref sig .tc := ⟨.hbm, 142, rfl⟩
abbrev main_v52 : Ref sig .tc := ⟨.hbm, 143, rfl⟩
abbrev main_v53 : Ref sig .tc := ⟨.hbm, 144, rfl⟩
abbrev main_v54 : Ref sig .tc := ⟨.hbm, 145, rfl⟩
abbrev main_v55 : Ref sig .tc := ⟨.hbm, 146, rfl⟩
abbrev main_v56 : Ref sig .tc := ⟨.hbm, 147, rfl⟩
abbrev main_v57 : Ref sig .tc := ⟨.hbm, 148, rfl⟩
abbrev main_call7_v0 : Ref sig .tc := ⟨.hbm, 149, rfl⟩
abbrev main_call7_v1 : Ref sig .tc := ⟨.hbm, 150, rfl⟩
abbrev main_call7_cst : Ref sig .tc := ⟨.hbm, 151, rfl⟩
abbrev main_call7_v2 : Ref sig .tc := ⟨.hbm, 152, rfl⟩
abbrev main_call7_v3 : Ref sig .tc := ⟨.hbm, 153, rfl⟩
abbrev main_call7_cst_0 : Ref sig .tc := ⟨.hbm, 154, rfl⟩
abbrev main_call7_v4 : Ref sig .tc := ⟨.hbm, 155, rfl⟩
abbrev main_call7_v5 : Ref sig .tc := ⟨.hbm, 156, rfl⟩
abbrev main_v58 : Ref sig .tc := ⟨.hbm, 157, rfl⟩
abbrev main_v59 : Ref sig .tc := ⟨.hbm, 158, rfl⟩
abbrev main_v60 : Ref sig .tc := ⟨.hbm, 159, rfl⟩

abbrev nD : Nat := 1
abbrev τ : Topo := Topo.v7x

variable {F : FTy → Type} [FloatOps F]

abbrev main_while0_count : Scf.Loop 32 := ⟨0#32, 1#32, 1#32⟩
-- ==== Proof.RefRun.lean ====
/- The reference's run, read as a sequence of states.  `Gen.ReferenceIdeal.Run` runs the program; `Gen.ReferenceIdeal.Step`
   names one trip of its loop over the chunks.  Here: a trip of the program is that step, so the program's two results are
   functions of the 128-th state of any sequence that begins with the program's first state and goes on by the step. -/
module

public import proofs.«01_k».proof.Proof.Gen.ReferenceIdeal.Run
public import proofs.«01_k».proof.Proof.Gen.ReferenceIdeal.Step

@[expose] public section

set_option maxRecDepth 16384

noncomputable section

namespace Cert.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- The buffers of the loop hold state `s` as trip number `j` begins. -/
structure Begins (V : Valuation τ sig (Elt F)) (s : State F) (j : ℕ) : Prop where
  st : V (Proc.devRef .tc main_v44_6) = s.main_v44_6
  out : V (Proc.devRef .tc main_v44_7) = s.main_v44_7
  q : V (Proc.devRef .tc main_v44_0) = s.main_v44_0
  k : V (Proc.devRef .tc main_v44_1) = s.main_v44_1
  v : V (Proc.devRef .tc main_v44_2) = s.main_v44_2
  g : V (Proc.devRef .tc main_v44_3) = s.main_v44_3
  num : V (Proc.devRef .tc main_v44_5) = constantI S_ 32 (BitVec.ofNat 32 j)
  mask : V (Proc.devRef .tc main_v44_4) = Step.K_main_v34 (F := F)

variable {V : Valuation τ sig (Elt F)} {s : State F} {j : ℕ}

/-- The trip's state matrix is the step's. -/
theorem trip_st (h : Begins V s j) : step_main_v44_6 V = (step j s).main_v44_6 := by
  unfold step_main_v44_6 res_main_while0b_v90 res_main_while0b_v69 res_main_while0b_v66 res_main_while0b_v67
  simp only [h.st, h.out, h.q, h.k, h.v, h.g, h.num, h.mask]
  rfl

/-- The trip's output chunks are the step's. -/
theorem trip_out (h : Begins V s j) : step_main_v44_7 V = (step j s).main_v44_7 := by
  unfold step_main_v44_7 res_main_while0b_v69 res_main_while0b_v65 res_main_while0b_v66 res_main_while0b_v67
  simp only [h.st, h.out, h.q, h.k, h.v, h.g, h.num, h.mask]
  rfl

/-- The trip's number steps by one. -/
theorem trip_num (h : Begins V s j) : step_main_v44_5 V = constantI S_ 32 (BitVec.ofNat 32 (j + 1)) := by
  unfold step_main_v44_5
  rw [h.num]
  funext i
  show BitVec.ofNat 32 j + 1#32 = BitVec.ofNat 32 (j + 1)
  simp only [BitVec.ofNat_add]

/-- A trip takes a beginning of trip `j` to one of trip `j + 1`. -/
theorem trip (h : Begins V s j) : Begins (STEP V) (step j s) (j + 1) where
  st := (STEP_main_v44_6 V).trans (trip_st h)
  out := (STEP_main_v44_7 V).trans (trip_out h)
  q := (STEP_main_v44_0 V).trans h.q
  k := (STEP_main_v44_1 V).trans h.k
  v := (STEP_main_v44_2 V).trans h.v
  g := (STEP_main_v44_3 V).trans h.g
  num := (STEP_main_v44_5 V).trans (trip_num h)
  mask := (STEP_main_v44_4 V).trans h.mask

/-- The state the first trip begins with, of the memory the run begins with. -/
abbrev first (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg5)) (m ((c.tc : Thread nD τ).loc main_arg6))

set_option maxRecDepth 65536 in
set_option maxHeartbeats 400000 in
/-- What the operations before the loop leave is a beginning of trip 0. -/
theorem begins_first (m : (ℓ : Loc nD τ sig) → Buf (Elt F) ℓ) (c : Dev nD) : Begins (entryContents preI m c) (first m c) 0 := by
  constructor <;> (simp only [entryContents, afterL_cons, afterL_nil]; after_reads_simp) <;> rfl

/-- After `k` trips the loop begins trip `k` with the `k`-th state. -/
theorem begins_at (m : (ℓ : Loc nD τ sig) → Buf (Elt F) ℓ) (c : Dev nD) (it : ℕ → State F) (h0 : it 0 = first m c)
    (hs : ∀ n, it (n + 1) = step n (it n)) (k : ℕ) : Begins (STEP^[k] (entryContents preI m c)) (it k) k := by
  induction k with
  | zero => exact h0 ▸ begins_first m c
  | succ k ih => rw [Function.iterate_succ_apply', hs k]; exact trip ih

/-- The output rows read off the last beginning. -/
theorem out_rows (h : Begins V s j) {x4 : (⟨S2x8192x512, .f32⟩ : BufTy).Contents (Elt F)} (h4 : V (Proc.devRef .tc main_arg4) = x4)
    {x7 : (⟨S128, .f32⟩ : BufTy).Contents (Elt F)} (h7 : V (Proc.devRef .tc main_arg7) = x7) :
    out_main_v63 V = Step.R_main_v63 s x4 x7 := by
  unfold out_main_v63 Step.R_main_v63
  rw [h.out, h4, h7]
  try rfl

/-- The last state matrix read off the last beginning. -/
theorem out_state (h : Begins V s j) : out_main_v64 V = Step.R_main_v64 s := by
  unfold out_main_v64 Step.R_main_v64
  rw [h.st]
  try rfl

/-- Every run of the reference ends with its two results the functions `R_main_v63`, `R_main_v64` of the 128-th state, and
    with its arguments as they were. -/
theorem run (m : (ℓ : Loc nD τ sig) → Buf (Elt F) ℓ) (ρ : Dev nD → PrngReg) (it : Dev nD → ℕ → State F)
    (h0 : ∀ c, it c 0 = first m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v63)
          = Step.R_main_v63 (it c 128) (m ((c.tc : Thread nD τ).loc main_arg4)) (m ((c.tc : Thread nD τ).loc main_arg7))
      ∧ r.2.mem ((c.tc : Thread nD τ).loc main_v64) = Step.R_main_v64 (it c 128)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    have hk := begins_at m c (it c) (h0 c) (hs c) 128
    ⟨(h c).1.trans (out_rows hk (iter_main_arg4 m c 128) (iter_main_arg7 m c 128)), (h c).2.1.trans (out_state hk), (h c).2.2⟩)
    (Value.run m ρ)

end Cert.RefRun

end

end
-- ==== Proof.Head.lean ====
/- What one head of one tile of the kernel computes, as functions of numbers.  A tile is 256 rows, four chunks of 64; the head
   carries a 128 x 64 state through the four chunks, adds each row's attention within the tile to its product with the state
   its chunk begins with, and normalises and gates the sum. -/
module

public import proofs.«01_k».proof.Proof.Gen.KernelIdeal.Value
public import Idealize.ShloMosaic.Lib.Pipeline.ValueKit
public import Idealize.ShloMosaic.Lib.Pointwise

@[expose] public section

set_option maxRecDepth 16384

noncomputable section

namespace Cert.Head

open Idealize.ShloMosaic Idealize.ShloMosaic.TcCoe Idealize.SL.Sem Cert.KernelIdeal Cert.KernelIdeal.Gen

/-- The 64 columns of head `h` of a 256-column array of the tile. -/
def qcols {φ : FTy} (h : Fin 4) (x : FVec Ideal S256x256 φ) (t : Fin 256) (d : Fin 64) : EReal := x (ix2 t ⟨64 * h + d, by omega⟩)

/-- The 128 columns of head `h` of a 512-column array of the tile. -/
def vcols {φ : FTy} (h : Fin 4) (x : FVec Ideal S256x512 φ) (t : Fin 256) (e : Fin 128) : EReal := x (ix2 t ⟨128 * h + e, by omega⟩)

/-- The state after the chunk of rows `r .. r + 63`: decayed by the chunk's whole decay, plus the chunk's keys and values. -/
def upto (r : ℕ) (hr : r + 64 ≤ 256) (cb ke : Fin 256 → Fin 64 → EReal) (v : Fin 256 → Fin 128 → EReal)
    (s : Fin 128 → Fin 64 → EReal) (e : Fin 128) (d : Fin 64) : EReal :=
  s e d * Ideal.exp (cb ⟨r + 63, by omega⟩ d) + ∑ x : Fin 64, v ⟨r + x, by omega⟩ e * ke ⟨r + x, by omega⟩ d

/-- The state after the tile's four chunks. -/
def tileState (cb ke : Fin 256 → Fin 64 → EReal) (v : Fin 256 → Fin 128 → EReal) (s : Fin 128 → Fin 64 → EReal) :
    Fin 128 → Fin 64 → EReal :=
  upto 192 (by omega) cb ke v (upto 128 (by omega) cb ke v (upto 64 (by omega) cb ke v (upto 0 (by omega) cb ke v s)))

/-- A value per row of the tile, given chunk by chunk. -/
def ladder (f0 f1 f2 f3 : Fin 64 → EReal) (t : Fin 256) : EReal :=
  if h : t.1 < 64 then f0 ⟨t.1, h⟩ else if h : t.1 - 64 < 64 then f1 ⟨t.1 - 64, h⟩
  else if h : t.1 - 64 - 64 < 64 then f2 ⟨t.1 - 64 - 64, h⟩ else f3 ⟨t.1 - 64 - 64 - 64, by omega⟩

/-- Row `t` of the tile before normalisation: its attention over the tile's rows, plus its product with the state its chunk
    begins with. -/
def tileOut (m : IVec S256x256 1) (qa kb qe cb ke : Fin 256 → Fin 64 → EReal) (v : Fin 256 → Fin 128 → EReal)
    (s : Fin 128 → Fin 64 → EReal) (t : Fin 256) (e : Fin 128) : EReal :=
  (∑ x : Fin 256, Scalar.select (m (ix2 t x)) (∑ d : Fin 64, qa t d * kb x d) 0 * v x e)
    + ladder (fun r => ∑ d : Fin 64, qe ⟨0 + r, by omega⟩ d * s e d)
        (fun r => ∑ d : Fin 64, qe ⟨64 + r, by omega⟩ d * upto 0 (by omega) cb ke v s e d)
        (fun r => ∑ d : Fin 64, qe ⟨128 + r, by omega⟩ d * upto 64 (by omega) cb ke v (upto 0 (by omega) cb ke v s) e d)
        (fun r => ∑ d : Fin 64, qe ⟨192 + r, by omega⟩ d
          * upto 128 (by omega) cb ke v (upto 64 (by omega) cb ke v (upto 0 (by omega) cb ke v s)) e d) t

/-- A row's 128 values normalised by their root mean square, weighted by `g`, gated by `r` times its logistic. -/
def finish (o g r : Fin 128 → EReal) (e : Fin 128) : EReal :=
  o e * Ideal.rsqrt (Ideal.div (∑ x : Fin 128, o x * o x) (Ideal.ofBits .f32 0x43000000#32) + Ideal.ofBits .f32 0x358637BD#32)
    * g e * (r e * Ideal.div 1 (1 + Ideal.exp (0 - r e)))

/-- Head 0 of batch row 0: what the tile leaves as the head's state. -/
theorem state_0_0 (CB : FVec Ideal S256x256 .f32) (K : FVec Ideal S256x256 .f32) (LA : FVec Ideal S256x256 .f32) (V : FVec Ideal S256x512 .f32) (S : Vec Ideal S1x1x128x64 .f32) (e : Fin 128) (d : Fin 64) :
    k0_pay33 CB (k0_pay22 K CB LA) (k0_pay23 V) (k0_pay29 K V CB LA S) (k0_pay31 CB) (ix4 0 0 e d)
      = tileState (qcols 0 CB) (qcols 0 (k0_pay22 K CB LA)) (vcols 0 V) (fun e d => S (ix4 0 0 e d)) e d := by
  pointwise [k0_pay22, k0_pay23, k0_pay25, k0_pay27, k0_pay29, k0_pay31, k0_pay32, k0_pay33, tileState, upto, qcols, vcols]

/-- Head 1 of batch row 0: what the tile leaves as the head's state. -/
theorem state_0_1 (KE : FVec Ideal S256x256 .bf16) (CB : FVec Ideal S256x256 .f32) (V : FVec Ideal S256x512 .f32) (S : Vec Ideal S1x1x128x64 .f32) (e : Fin 128) (d : Fin 64) :
    k0_pay48 CB KE (k0_pay38 V) (k0_pay44 V CB KE S) (k0_pay46 CB) (ix4 0 0 e d)
      = tileState (qcols 1 CB) (qcols 1 KE) (vcols 1 V) (fun e d => S (ix4 0 0 e d)) e d := by
  pointwise [k0_pay38, k0_pay40, k0_pay42, k0_pay44, k0_pay46, k0_pay47, k0_pay48, tileState, upto, qcols, vcols]

/-- Head 2 of batch row 0: what the tile leaves as the head's state. -/
theorem state_0_2 (KE : FVec Ideal S256x256 .bf16) (CB : FVec Ideal S256x256 .f32) (V : FVec Ideal S256x512 .f32) (S : Vec Ideal S1x1x128x64 .f32) (e : Fin 128) (d : Fin 64) :
    k0_pay63 CB KE (k0_pay53 V) (k0_pay59 V CB KE S) (k0_pay61 CB) (ix4 0 0 e d)
      = tileState (qcols 2 CB) (qcols 2 KE) (vcols 2 V) (fun e d => S (ix4 0 0 e d)) e d := by
  pointwise [k0_pay53, k0_pay55, k0_pay57, k0_pay59, k0_pay61, k0_pay62, k0_pay63, tileState, upto, qcols, vcols]

/-- Head 3 of batch row 0: what the tile leaves as the head's state. -/
theorem state_0_3 (KE : FVec Ideal S256x256 .bf16) (CB : FVec Ideal S256x256 .f32) (V : FVec Ideal S256x512 .f32) (S : Vec Ideal S1x1x128x64 .f32) (e : Fin 128) (d : Fin 64) :
    k0_pay78 CB KE (k0_pay68 V) (k0_pay74 V CB KE S) (k0_pay76 CB) (ix4 0 0 e d)
      = tileState (qcols 3 CB) (qcols 3 KE) (vcols 3 V) (fun e d => S (ix4 0 0 e d)) e d := by
  pointwise [k0_pay68, k0_pay70, k0_pay72, k0_pay74, k0_pay76, k0_pay77, k0_pay78, tileState, upto, qcols, vcols]

/-- Head 0 of batch row 1: what the tile leaves as the head's state. -/
theorem state_1_0 (CB : FVec Ideal S256x256 .f32) (K : FVec Ideal S256x256 .f32) (EL : FVec Ideal S256x256 .f32) (V : FVec Ideal S256x512 .f32) (S : Vec Ideal S1x1x128x64 .f32) (e : Fin 128) (d : Fin 64) :
    k0_pay105 CB (k0_pay95 K EL) (k0_pay96 V) (k0_pay104 K V CB EL S) (ix4 0 0 e d)
      = tileState (qcols 0 CB) (qcols 0 (k0_pay95 K EL)) (vcols 0 V) (fun e d => S (ix4 0 0 e d)) e d := by
  pointwise [k0_pay95, k0_pay96, k0_pay98, k0_pay100, k0_pay102, k0_pay104, k0_pay105, tileState, upto, qcols, vcols]

/-- Head 1 of batch row 1: what the tile leaves as the head's state. -/
theorem state_1_1 (KE : FVec Ideal S256x256 .bf16) (CB : FVec Ideal S256x256 .f32) (V : FVec Ideal S256x512 .f32) (S : Vec Ideal S1x1x128x64 .f32) (e : Fin 128) (d : Fin 64) :
    k0_pay117 CB KE (k0_pay108 V) (k0_pay116 V CB KE S) (ix4 0 0 e d)
      = tileState (qcols 1 CB) (qcols 1 KE) (vcols 1 V) (fun e d => S (ix4 0 0 e d)) e d := by
  pointwise [k0_pay108, k0_pay110, k0_pay112, k0_pay114, k0_pay116, k0_pay117, tileState, upto, qcols, vcols]

/-- Head 2 of batch row 1: what the tile leaves as the head's state. -/
theorem state_1_2 (KE : FVec Ideal S256x256 .bf16) (CB : FVec Ideal S256x256 .f32) (V : FVec Ideal S256x512 .f32) (S : Vec Ideal S1x1x128x64 .f32) (e : Fin 128) (d : Fin 64) :
    k0_pay129 CB KE (k0_pay120 V) (k0_pay128 V CB KE S) (ix4 0 0 e d)
      = tileState (qcols 2 CB) (qcols 2 KE) (vcols 2 V) (fun e d => S (ix4 0 0 e d)) e d := by
  pointwise [k0_pay120, k0_pay122, k0_pay124, k0_pay126, k0_pay128, k0_pay129, tileState, upto, qcols, vcols]

/-- Head 3 of batch row 1: what the tile leaves as the head's state. -/
theorem state_1_3 (KE : FVec Ideal S256x256 .bf16) (CB : FVec Ideal S256x256 .f32) (V : FVec Ideal S256x512 .f32) (S : Vec Ideal S1x1x128x64 .f32) (e : Fin 128) (d : Fin 64) :
    k0_pay141 CB KE (k0_pay132 V) (k0_pay140 V CB KE S) (ix4 0 0 e d)
      = tileState (qcols 3 CB) (qcols 3 KE) (vcols 3 V) (fun e d => S (ix4 0 0 e d)) e d := by
  pointwise [k0_pay132, k0_pay134, k0_pay136, k0_pay138, k0_pay140, k0_pay141, tileState, upto, qcols, vcols]

/-- Head 0 of batch row 0: what the tile stores as the head's output rows. -/
theorem out_0_0 (QE : FVec Ideal S256x256 .bf16) (QA : FVec Ideal S256x256 .bf16) (CB : FVec Ideal S256x256 .f32) (K : FVec Ideal S256x256 .f32) (LA : FVec Ideal S256x256 .f32) (D : FVec Ideal S256x256 .f32) (V : FVec Ideal S256x512 .f32) (R : FVec Ideal S256x512 .f32) (M : IVec S256x256 1) (G : Vec Ideal S1x128 .f32) (S : Vec Ideal S1x1x128x64 .f32) (t : Fin 256) (e : Fin 128) :
    k0_pay37 (k0_pay34 QE (k0_pay22 K CB LA) (k0_pay23 V) (k0_pay24 M K V QA D) (k0_pay26 QE S) (k0_pay28 K V CB LA QE S) (k0_pay29 K V CB LA S) (k0_pay30 K V CB LA QE S) (k0_pay31 CB) G) (k0_pay35 R) (k0_pay36 R) (ix3 0 t e)
      = finish (tileOut M (qcols 0 QA) (qcols 0 (k0_pay21 K D)) (qcols 0 QE) (qcols 0 CB) (qcols 0 (k0_pay22 K CB LA)) (vcols 0 V)
          (fun e d => S (ix4 0 0 e d)) t) (fun e => G (ix2 0 e)) (vcols 0 R t) e := by
  pointwise [k0_pay21, k0_pay22, k0_pay23, k0_pay24, k0_pay25, k0_pay26, k0_pay27, k0_pay28, k0_pay29, k0_pay30, k0_pay31, k0_pay32, k0_pay34, k0_pay35, k0_pay36, k0_pay37, tileOut, ladder, finish, upto, qcols, vcols]

/-- Head 1 of batch row 0: what the tile stores as the head's output rows. -/
theorem out_0_1 (QE : FVec Ideal S256x256 .bf16) (QA : FVec Ideal S256x256 .bf16) (KB : FVec Ideal S256x256 .bf16) (KE : FVec Ideal S256x256 .bf16) (CB : FVec Ideal S256x256 .f32) (V : FVec Ideal S256x512 .f32) (R : FVec Ideal S256x512 .f32) (M : IVec S256x256 1) (G : Vec Ideal S1x128 .f32) (S : Vec Ideal S1x1x128x64 .f32) (t : Fin 256) (e : Fin 128) :
    k0_pay52 (k0_pay49 QE KE (k0_pay38 V) (k0_pay39 M V QA KB) (k0_pay41 QE S) (k0_pay43 V CB QE KE S) (k0_pay44 V CB KE S) (k0_pay45 V CB QE KE S) (k0_pay46 CB) G) (k0_pay50 R) (k0_pay51 R) (ix3 0 t e)
      = finish (tileOut M (qcols 1 QA) (qcols 1 KB) (qcols 1 QE) (qcols 1 CB) (qcols 1 KE) (vcols 1 V)
          (fun e d => S (ix4 0 0 e d)) t) (fun e => G (ix2 0 e)) (vcols 1 R t) e := by
  pointwise [k0_pay38, k0_pay39, k0_pay40, k0_pay41, k0_pay42, k0_pay43, k0_pay44, k0_pay45, k0_pay46, k0_pay47, k0_pay49, k0_pay50, k0_pay51, k0_pay52, tileOut, ladder, finish, upto, qcols, vcols]

/-- Head 2 of batch row 0: what the tile stores as the head's output rows. -/
theorem out_0_2 (QE : FVec Ideal S256x256 .bf16) (QA : FVec Ideal S256x256 .bf16) (KB : FVec Ideal S256x256 .bf16) (KE : FVec Ideal S256x256 .bf16) (CB : FVec Ideal S256x256 .f32) (V : FVec Ideal S256x512 .f32) (R : FVec Ideal S256x512 .f32) (M : IVec S256x256 1) (G : Vec Ideal S1x128 .f32) (S : Vec Ideal S1x1x128x64 .f32) (t : Fin 256) (e : Fin 128) :
    k0_pay67 (k0_pay64 QE KE (k0_pay53 V) (k0_pay54 M V QA KB) (k0_pay56 QE S) (k0_pay58 V CB QE KE S) (k0_pay59 V CB KE S) (k0_pay60 V CB QE KE S) (k0_pay61 CB) G) (k0_pay65 R) (k0_pay66 R) (ix3 0 t e)
      = finish (tileOut M (qcols 2 QA) (qcols 2 KB) (qcols 2 QE) (qcols 2 CB) (qcols 2 KE) (vcols 2 V)
          (fun e d => S (ix4 0 0 e d)) t) (fun e => G (ix2 0 e)) (vcols 2 R t) e := by
  pointwise [k0_pay53, k0_pay54, k0_pay55, k0_pay56, k0_pay57, k0_pay58, k0_pay59, k0_pay60, k0_pay61, k0_pay62, k0_pay64, k0_pay65, k0_pay66, k0_pay67, tileOut, ladder, finish, upto, qcols, vcols]

/-- Head 3 of batch row 0: what the tile stores as the head's output rows. -/
theorem out_0_3 (QE : FVec Ideal S256x256 .bf16) (QA : FVec Ideal S256x256 .bf16) (KB : FVec Ideal S256x256 .bf16) (KE : FVec Ideal S256x256 .bf16) (CB : FVec Ideal S256x256 .f32) (V : FVec Ideal S256x512 .f32) (R : FVec Ideal S256x512 .f32) (M : IVec S256x256 1) (G : Vec Ideal S1x128 .f32) (S : Vec Ideal S1x1x128x64 .f32) (t : Fin 256) (e : Fin 128) :
    k0_pay82 (k0_pay79 QE KE (k0_pay68 V) (k0_pay69 M V QA KB) (k0_pay71 QE S) (k0_pay73 V CB QE KE S) (k0_pay74 V CB KE S) (k0_pay75 V CB QE KE S) (k0_pay76 CB) G) (k0_pay80 R) (k0_pay81 R) (ix3 0 t e)
      = finish (tileOut M (qcols 3 QA) (qcols 3 KB) (qcols 3 QE) (qcols 3 CB) (qcols 3 KE) (vcols 3 V)
          (fun e d => S (ix4 0 0 e d)) t) (fun e => G (ix2 0 e)) (vcols 3 R t) e := by
  pointwise [k0_pay68, k0_pay69, k0_pay70, k0_pay71, k0_pay72, k0_pay73, k0_pay74, k0_pay75, k0_pay76, k0_pay77, k0_pay79, k0_pay80, k0_pay81, k0_pay82, tileOut, ladder, finish, upto, qcols, vcols]

/-- Head 0 of batch row 1: what the tile stores as the head's output rows. -/
theorem out_1_0 (QE : FVec Ideal S256x256 .bf16) (QA : FVec Ideal S256x256 .bf16) (KB : FVec Ideal S256x256 .bf16) (CB : FVec Ideal S256x256 .f32) (K : FVec Ideal S256x256 .f32) (EL : FVec Ideal S256x256 .f32) (V : FVec Ideal S256x512 .f32) (R : FVec Ideal S256x512 .f32) (M : IVec S256x256 1) (G : Vec Ideal S1x128 .f32) (S : Vec Ideal S1x1x128x64 .f32) (t : Fin 256) (e : Fin 128) :
    k0_pay107 (k0_pay106 R QE (k0_pay97 M V QA KB) (k0_pay99 QE S) (k0_pay101 K V CB QE EL S) (k0_pay103 K V CB QE EL S) (k0_pay104 K V CB EL S) G) (ix3 0 t e)
      = finish (tileOut M (qcols 0 QA) (qcols 0 KB) (qcols 0 QE) (qcols 0 CB) (qcols 0 (k0_pay95 K EL)) (vcols 0 V)
          (fun e d => S (ix4 0 0 e d)) t) (fun e => G (ix2 0 e)) (vcols 0 R t) e := by
  pointwise [k0_pay95, k0_pay96, k0_pay97, k0_pay98, k0_pay99, k0_pay100, k0_pay101, k0_pay102, k0_pay103, k0_pay104, k0_pay106, k0_pay107, tileOut, ladder, finish, upto, qcols, vcols]

/-- Head 1 of batch row 1: what the tile stores as the head's output rows. -/
theorem out_1_1 (QE : FVec Ideal S256x256 .bf16) (QA : FVec Ideal S256x256 .bf16) (KB : FVec Ideal S256x256 .bf16) (KE : FVec Ideal S256x256 .bf16) (CB : FVec Ideal S256x256 .f32) (V : FVec Ideal S256x512 .f32) (R : FVec Ideal S256x512 .f32) (M : IVec S256x256 1) (G : Vec Ideal S1x128 .f32) (S : Vec Ideal S1x1x128x64 .f32) (t : Fin 256) (e : Fin 128) :
    k0_pay119 (k0_pay118 R QE (k0_pay109 M V QA KB) (k0_pay111 QE S) (k0_pay113 V CB QE KE S) (k0_pay115 V CB QE KE S) (k0_pay116 V CB KE S) G) (ix3 0 t e)
      = finish (tileOut M (qcols 1 QA) (qcols 1 KB) (qcols 1 QE) (qcols 1 CB) (qcols 1 KE) (vcols 1 V)
          (fun e d => S (ix4 0 0 e d)) t) (fun e => G (ix2 0 e)) (vcols 1 R t) e := by
  pointwise [k0_pay108, k0_pay109, k0_pay110, k0_pay111, k0_pay112, k0_pay113, k0_pay114, k0_pay115, k0_pay116, k0_pay118, k0_pay119, tileOut, ladder, finish, upto, qcols, vcols]

/-- Head 2 of batch row 1: what the tile stores as the head's output rows. -/
theorem out_1_2 (QE : FVec Ideal S256x256 .bf16) (QA : FVec Ideal S256x256 .bf16) (KB : FVec Ideal S256x256 .bf16) (KE : FVec Ideal S256x256 .bf16) (CB : FVec Ideal S256x256 .f32) (V : FVec Ideal S256x512 .f32) (R : FVec Ideal S256x512 .f32) (M : IVec S256x256 1) (G : Vec Ideal S1x128 .f32) (S : Vec Ideal S1x1x128x64 .f32) (t : Fin 256) (e : Fin 128) :
    k0_pay131 (k0_pay130 R QE (k0_pay121 M V QA KB) (k0_pay123 QE S) (k0_pay125 V CB QE KE S) (k0_pay127 V CB QE KE S) (k0_pay128 V CB KE S) G) (ix3 0 t e)
      = finish (tileOut M (qcols 2 QA) (qcols 2 KB) (qcols 2 QE) (qcols 2 CB) (qcols 2 KE) (vcols 2 V)
          (fun e d => S (ix4 0 0 e d)) t) (fun e => G (ix2 0 e)) (vcols 2 R t) e := by
  pointwise [k0_pay120, k0_pay121, k0_pay122, k0_pay123, k0_pay124, k0_pay125, k0_pay126, k0_pay127, k0_pay128, k0_pay130, k0_pay131, tileOut, ladder, finish, upto, qcols, vcols]

/-- Head 3 of batch row 1: what the tile stores as the head's output rows. -/
theorem out_1_3 (QE : FVec Ideal S256x256 .bf16) (QA : FVec Ideal S256x256 .bf16) (KB : FVec Ideal S256x256 .bf16) (KE : FVec Ideal S256x256 .bf16) (CB : FVec Ideal S256x256 .f32) (V : FVec Ideal S256x512 .f32) (R : FVec Ideal S256x512 .f32) (M : IVec S256x256 1) (G : Vec Ideal S1x128 .f32) (S : Vec Ideal S1x1x128x64 .f32) (t : Fin 256) (e : Fin 128) :
    k0_pay1 (k0_pay142 R QE (k0_pay133 M V QA KB) (k0_pay135 QE S) (k0_pay137 V CB QE KE S) (k0_pay139 V CB QE KE S) (k0_pay140 V CB KE S) G) (ix3 0 t e)
      = finish (tileOut M (qcols 3 QA) (qcols 3 KB) (qcols 3 QE) (qcols 3 CB) (qcols 3 KE) (vcols 3 V)
          (fun e d => S (ix4 0 0 e d)) t) (fun e => G (ix2 0 e)) (vcols 3 R t) e := by
  pointwise [k0_pay1, k0_pay132, k0_pay133, k0_pay134, k0_pay135, k0_pay136, k0_pay137, k0_pay138, k0_pay139, k0_pay140, k0_pay142, tileOut, ladder, finish, upto, qcols, vcols]

end Cert.Head

end

end
-- ==== Proof.Tile.lean ====
/- What one tile of the kernel stores, as functions of the tile's input block: each head's state and output rows, of the
   decays' running sums and the queries, keys and values scaled by them. -/
module

public import proofs.«01_k».proof.Proof.Head

@[expose] public section

set_option maxRecDepth 16384

noncomputable section

namespace Cert.Tile

open Idealize.ShloMosaic Idealize.ShloMosaic.TcCoe Idealize.SL.Sem Cert.KernelIdeal Cert.KernelIdeal.Gen Cert.Head

/-- The 64 columns of head `h` of a tile of 256 columns. -/
def hq (h : Fin 4) (f : Fin 256 → Fin 256 → EReal) (t : Fin 256) (d : Fin 64) : EReal := f t ⟨64 * h + d, by omega⟩

/-- The 128 columns of head `h` of a tile of 512 columns. -/
def hv (h : Fin 4) (f : Fin 256 → Fin 512 → EReal) (t : Fin 256) (e : Fin 128) : EReal := f t ⟨128 * h + e, by omega⟩

/-- The kernel's log-decay of a gate logit: the logarithm of the logistic, over 16. -/
def gate (z : EReal) : EReal :=
  (min z 0 - Ideal.log1p (Ideal.exp (0 - FloatOps.absf (F := Ideal) (φ := .f32) z))) * Ideal.ofBits .f32 0x3D800000#32

variable (x0 : Vec Ideal S2x256x1664 .f32) (x2 : Vec Ideal S128x256 .bf16) (x3 : Vec Ideal S1x256 .f32)
  (x5 : Vec Ideal S256x256 .bf16) (b : Fin 2)

/-- The tile's queries, keys, values and output gates. -/
def tq (t j : Fin 256) : EReal := x0 (ix3 b t ⟨j, by omega⟩)
def tk (t j : Fin 256) : EReal := x0 (ix3 b t ⟨256 + j, by omega⟩)
def tv (t : Fin 256) (j : Fin 512) : EReal := x0 (ix3 b t ⟨512 + j, by omega⟩)
def tr (t : Fin 256) (j : Fin 512) : EReal := x0 (ix3 b t ⟨1152 + j, by omega⟩)

/-- The tile's log-decays. -/
def ta (t j : Fin 256) : EReal := gate ((∑ x : Fin 128, x0 (ix3 b t ⟨1024 + x, by omega⟩) * x2 (ix2 x j)) + x3 (ix2 0 j))

/-- The decays' running sums: the table `x5` times the decays, their residue after one rounding, and its residue. -/
def tc (t j : Fin 256) : EReal :=
  (∑ x : Fin 256, x5 (ix2 t x) * ta x0 x2 x3 b x j)
    + (∑ x : Fin 256, x5 (ix2 t x) * (ta x0 x2 x3 b x j - ta x0 x2 x3 b x j))
    + ∑ x : Fin 256, x5 (ix2 t x)
        * (ta x0 x2 x3 b x j - ta x0 x2 x3 b x j - (ta x0 x2 x3 b x j - ta x0 x2 x3 b x j))

/-- Row `r` of the chunk row `t` lies in. -/
def pick (r : ℕ) (hr : r < 64) (f : Fin 256 → EReal) : Fin 256 → EReal :=
  ladder (fun _ => f ⟨r, by omega⟩) (fun _ => f ⟨64 + r, by omega⟩) (fun _ => f ⟨128 + r, by omega⟩) (fun _ => f ⟨192 + r, by omega⟩)

/-- The scaled queries and keys: to the chunk's beginning, to and from its middle row, to its end. -/
def tqe (t j : Fin 256) : EReal := tq x0 b t j * Ideal.exp (tc x0 x2 x3 x5 b t j)
def tqa (t j : Fin 256) : EReal :=
  tq x0 b t j * Ideal.exp (min (tc x0 x2 x3 x5 b t j - pick 32 (by omega) (fun s => tc x0 x2 x3 x5 b s j) t) (Ideal.ofBits .f32 0x42A00000#32))
def tkb (t j : Fin 256) : EReal :=
  tk x0 b t j * Ideal.exp (min (pick 32 (by omega) (fun s => tc x0 x2 x3 x5 b s j) t - tc x0 x2 x3 x5 b t j) (Ideal.ofBits .f32 0x42A00000#32))
def tke (t j : Fin 256) : EReal :=
  tk x0 b t j * Ideal.exp (pick 63 (by omega) (fun s => tc x0 x2 x3 x5 b s j) t - tc x0 x2 x3 x5 b t j)

/-- The kernel's mask of rows `(t, s)`. -/
def maskK : IVec S256x256 1 :=
  k0_pay7 (iota Kind.tc S256x256 32 [0] iota_S256x256_d0_w32) k0_pay3 k0_pay4 64#32 k0_pay5 k0_pay6 1#32 0#32

/-- The state the tile leaves, at head `h` of batch row `b`, of the state `s` it finds. -/
def newState (s : Vec Ideal S2x4x128x64 .f32) (h : Fin 4) : Fin 128 → Fin 64 → EReal :=
  tileState (hq h (tc x0 x2 x3 x5 b)) (hq h (tke x0 x2 x3 x5 b)) (hv h (tv x0 b)) (fun e d => s (ix4 b h e d))

/-- The output row `t` the tile stores, at head `h` of batch row `b`. -/
def newOut (x4 : Vec Ideal S1x128 .f32) (s : Vec Ideal S2x4x128x64 .f32) (h : Fin 4) (t : Fin 256) : Fin 128 → EReal :=
  finish (tileOut maskK (hq h (tqa x0 x2 x3 x5 b)) (hq h (tkb x0 x2 x3 x5 b)) (hq h (tqe x0 x2 x3 x5 b))
      (hq h (tc x0 x2 x3 x5 b)) (hq h (tke x0 x2 x3 x5 b)) (hv h (tv x0 b)) (fun e d => s (ix4 b h e d)) t)
    (fun e => x4 (ix2 0 e)) (hv h (tr x0 b) t)

/-- Batch row 0: the running sums, at a row and a column. -/
theorem cb_0_at (hz0_1024 : ∀ a, ![0, 0, 1024] a + ![1, 256, 128] a ≤ S2x256x1664.size a) (t j : Fin 256) : k0_pay15 x5 (k0_pay13 (View.ld x0 (Rect.unit ![0, 0, 1024] ![1, 256, 128] hz0_1024)) x2 x3) (k0_pay14 (View.ld x0 (Rect.unit ![0, 0, 1024] ![1, 256, 128] hz0_1024)) x2 x3) (FloatOps.ofBits .f32 0#32) (ix2 t j) = tc x0 x2 x3 x5 0 t j := by
  pointwise [k0_pay12, k0_pay13, k0_pay14, k0_pay15, tc, ta, gate]

/-- Batch row 0: the running sums. -/
theorem cb_0 (hz0_1024 : ∀ a, ![0, 0, 1024] a + ![1, 256, 128] a ≤ S2x256x1664.size a) (h : Fin 4) : qcols h (k0_pay15 x5 (k0_pay13 (View.ld x0 (Rect.unit ![0, 0, 1024] ![1, 256, 128] hz0_1024)) x2 x3) (k0_pay14 (View.ld x0 (Rect.unit ![0, 0, 1024] ![1, 256, 128] hz0_1024)) x2 x3) (FloatOps.ofBits .f32 0#32)) = hq h (tc x0 x2 x3 x5 0) := by
  funext t d
  exact cb_0_at x0 x2 x3 x5 hz0_1024 t _

/-- Batch row 0: the queries scaled to the chunk's beginning. -/
theorem qe_0 (hz0_0 : ∀ a, ![0, 0, 0] a + ![1, 256, 256] a ≤ S2x256x1664.size a) (hz0_1024 : ∀ a, ![0, 0, 1024] a + ![1, 256, 128] a ≤ S2x256x1664.size a) (h : Fin 4) : qcols h (k0_pay18 x5 (k0_pay8 (View.ld x0 (Rect.unit ![0, 0, 0] ![1, 256, 256] hz0_0))) (k0_pay13 (View.ld x0 (Rect.unit ![0, 0, 1024] ![1, 256, 128] hz0_1024)) x2 x3) (k0_pay14 (View.ld x0 (Rect.unit ![0, 0, 1024] ![1, 256, 128] hz0_1024)) x2 x3) (FloatOps.ofBits .f32 0#32)) = hq h (tqe x0 x2 x3 x5 0) := by
  funext t d
  unfold hq tqe
  simp only [← cb_0_at x0 x2 x3 x5 hz0_1024]
  pointwise [k0_pay8, k0_pay18, qcols, tq]

/-- Batch row 0: the queries scaled to the chunk's middle row. -/
theorem qa_0 (hz0_0 : ∀ a, ![0, 0, 0] a + ![1, 256, 256] a ≤ S2x256x1664.size a) (hz0_1024 : ∀ a, ![0, 0, 1024] a + ![1, 256, 128] a ≤ S2x256x1664.size a) (h : Fin 4) : qcols h (k0_pay19 x5 (k0_pay8 (View.ld x0 (Rect.unit ![0, 0, 0] ![1, 256, 256] hz0_0))) (k0_pay13 (View.ld x0 (Rect.unit ![0, 0, 1024] ![1, 256, 128] hz0_1024)) x2 x3) (k0_pay14 (View.ld x0 (Rect.unit ![0, 0, 1024] ![1, 256, 128] hz0_1024)) x2 x3) (FloatOps.ofBits .f32 0#32)) = hq h (tqa x0 x2 x3 x5 0) := by
  funext t d
  unfold hq tqa
  simp only [← cb_0_at x0 x2 x3 x5 hz0_1024]
  pointwise [k0_pay8, k0_pay17, k0_pay19, qcols, tq, pick, ladder]

/-- Batch row 0: the keys scaled from the chunk's middle row. -/
theorem kb_0 (hz0_256 : ∀ a, ![0, 0, 256] a + ![1, 256, 256] a ≤ S2x256x1664.size a) (hz0_1024 : ∀ a, ![0, 0, 1024] a + ![1, 256, 128] a ≤ S2x256x1664.size a) (h : Fin 4) : qcols h (k0_pay21 (k0_pay9 (View.ld x0 (Rect.unit ![0, 0, 256] ![1, 256, 256] hz0_256))) (k0_pay20 x5 (k0_pay13 (View.ld x0 (Rect.unit ![0, 0, 1024] ![1, 256, 128] hz0_1024)) x2 x3) (k0_pay14 (View.ld x0 (Rect.unit ![0, 0, 1024] ![1, 256, 128] hz0_1024)) x2 x3) (FloatOps.ofBits .f32 0#32))) = hq h (tkb x0 x2 x3 x5 0) := by
  funext t d
  unfold hq tkb
  simp only [← cb_0_at x0 x2 x3 x5 hz0_1024]
  pointwise [k0_pay9, k0_pay17, k0_pay20, k0_pay21, qcols, tk, pick, ladder]

/-- Batch row 0: the keys scaled to the chunk's end. -/
theorem ke_0 (hz0_256 : ∀ a, ![0, 0, 256] a + ![1, 256, 256] a ≤ S2x256x1664.size a) (hz0_1024 : ∀ a, ![0, 0, 1024] a + ![1, 256, 128] a ≤ S2x256x1664.size a) (h : Fin 4) : qcols h (k0_pay22 (k0_pay9 (View.ld x0 (Rect.unit ![0, 0, 256] ![1, 256, 256] hz0_256))) (k0_pay15 x5 (k0_pay13 (View.ld x0 (Rect.unit ![0, 0, 1024] ![1, 256, 128] hz0_1024)) x2 x3) (k0_pay14 (View.ld x0 (Rect.unit ![0, 0, 1024] ![1, 256, 128] hz0_1024)) x2 x3) (FloatOps.ofBits .f32 0#32)) (k0_pay16 x5 (k0_pay13 (View.ld x0 (Rect.unit ![0, 0, 1024] ![1, 256, 128] hz0_1024)) x2 x3) (k0_pay14 (View.ld x0 (Rect.unit ![0, 0, 1024] ![1, 256, 128] hz0_1024)) x2 x3) (FloatOps.ofBits .f32 0#32))) = hq h (tke x0 x2 x3 x5 0) := by
  funext t d
  unfold hq tke
  simp only [← cb_0_at x0 x2 x3 x5 hz0_1024]
  pointwise [k0_pay9, k0_pay16, k0_pay22, qcols, tk, pick, ladder]

/-- Batch row 0: the values. -/
theorem val_0 (hz0_512 : ∀ a, ![0, 0, 512] a + ![1, 256, 512] a ≤ S2x256x1664.size a) (h : Fin 4) : vcols h (k0_pay10 (View.ld x0 (Rect.unit ![0, 0, 512] ![1, 256, 512] hz0_512))) = hv h (tv x0 0) := by
  funext t e
  pointwise [k0_pay10, vcols, hv, tv]

/-- Batch row 0: the output gates. -/
theorem rr_0 (hz0_1152 : ∀ a, ![0, 0, 1152] a + ![1, 256, 512] a ≤ S2x256x1664.size a) (h : Fin 4) : vcols h (k0_pay11 (View.ld x0 (Rect.unit ![0, 0, 1152] ![1, 256, 512] hz0_1152))) = hv h (tr x0 0) := by
  funext t e
  pointwise [k0_pay11, vcols, hv, tr]

/-- Batch row 1: the running sums, at a row and a column. -/
theorem cb_1_at (hz1_1024 : ∀ a, ![1, 0, 1024] a + ![1, 256, 128] a ≤ S2x256x1664.size a) (t j : Fin 256) : k0_pay89 x5 (k0_pay87 (View.ld x0 (Rect.unit ![1, 0, 1024] ![1, 256, 128] hz1_1024)) x2 x3) k0_pay88 (ix2 t j) = tc x0 x2 x3 x5 1 t j := by
  pointwise [k0_pay87, k0_pay88, k0_pay89, tc, ta, gate]

/-- Batch row 1: the running sums. -/
theorem cb_1 (hz1_1024 : ∀ a, ![1, 0, 1024] a + ![1, 256, 128] a ≤ S2x256x1664.size a) (h : Fin 4) : qcols h (k0_pay89 x5 (k0_pay87 (View.ld x0 (Rect.unit ![1, 0, 1024] ![1, 256, 128] hz1_1024)) x2 x3) k0_pay88) = hq h (tc x0 x2 x3 x5 1) := by
  funext t d
  exact cb_1_at x0 x2 x3 x5 hz1_1024 t _

/-- Batch row 1: the queries scaled to the chunk's beginning. -/
theorem qe_1 (hz1_0 : ∀ a, ![1, 0, 0] a + ![1, 256, 256] a ≤ S2x256x1664.size a) (hz1_1024 : ∀ a, ![1, 0, 1024] a + ![1, 256, 128] a ≤ S2x256x1664.size a) (h : Fin 4) : qcols h (k0_pay91 x5 (k0_pay83 (View.ld x0 (Rect.unit ![1, 0, 0] ![1, 256, 256] hz1_0))) (k0_pay87 (View.ld x0 (Rect.unit ![1, 0, 1024] ![1, 256, 128] hz1_1024)) x2 x3) k0_pay88) = hq h (tqe x0 x2 x3 x5 1) := by
  funext t d
  unfold hq tqe
  simp only [← cb_1_at x0 x2 x3 x5 hz1_1024]
  pointwise [k0_pay83, k0_pay91, qcols, tq]

/-- Batch row 1: the queries scaled to the chunk's middle row. -/
theorem qa_1 (hz1_0 : ∀ a, ![1, 0, 0] a + ![1, 256, 256] a ≤ S2x256x1664.size a) (hz1_1024 : ∀ a, ![1, 0, 1024] a + ![1, 256, 128] a ≤ S2x256x1664.size a) (h : Fin 4) : qcols h (k0_pay92 x5 (k0_pay83 (View.ld x0 (Rect.unit ![1, 0, 0] ![1, 256, 256] hz1_0))) (k0_pay87 (View.ld x0 (Rect.unit ![1, 0, 1024] ![1, 256, 128] hz1_1024)) x2 x3) k0_pay88) = hq h (tqa x0 x2 x3 x5 1) := by
  funext t d
  unfold hq tqa
  simp only [← cb_1_at x0 x2 x3 x5 hz1_1024]
  pointwise [k0_pay83, k0_pay90, k0_pay92, qcols, tq, pick, ladder]

/-- Batch row 1: the keys scaled from the chunk's middle row. -/
theorem kb_1 (hz1_256 : ∀ a, ![1, 0, 256] a + ![1, 256, 256] a ≤ S2x256x1664.size a) (hz1_1024 : ∀ a, ![1, 0, 1024] a + ![1, 256, 128] a ≤ S2x256x1664.size a) (h : Fin 4) : qcols h (k0_pay93 x5 (k0_pay84 (View.ld x0 (Rect.unit ![1, 0, 256] ![1, 256, 256] hz1_256))) (k0_pay87 (View.ld x0 (Rect.unit ![1, 0, 1024] ![1, 256, 128] hz1_1024)) x2 x3) k0_pay88) = hq h (tkb x0 x2 x3 x5 1) := by
  funext t d
  unfold hq tkb
  simp only [← cb_1_at x0 x2 x3 x5 hz1_1024]
  pointwise [k0_pay84, k0_pay90, k0_pay93, qcols, tk, pick, ladder]

/-- Batch row 1: the keys scaled to the chunk's end. -/
theorem ke_1 (hz1_256 : ∀ a, ![1, 0, 256] a + ![1, 256, 256] a ≤ S2x256x1664.size a) (hz1_1024 : ∀ a, ![1, 0, 1024] a + ![1, 256, 128] a ≤ S2x256x1664.size a) (h : Fin 4) : qcols h (k0_pay95 (k0_pay84 (View.ld x0 (Rect.unit ![1, 0, 256] ![1, 256, 256] hz1_256))) (k0_pay94 x5 (k0_pay87 (View.ld x0 (Rect.unit ![1, 0, 1024] ![1, 256, 128] hz1_1024)) x2 x3) k0_pay88)) = hq h (tke x0 x2 x3 x5 1) := by
  funext t d
  unfold hq tke
  simp only [← cb_1_at x0 x2 x3 x5 hz1_1024]
  pointwise [k0_pay84, k0_pay94, k0_pay95, qcols, tk, pick, ladder]

/-- Batch row 1: the values. -/
theorem val_1 (hz1_512 : ∀ a, ![1, 0, 512] a + ![1, 256, 512] a ≤ S2x256x1664.size a) (h : Fin 4) : vcols h (k0_pay85 (View.ld x0 (Rect.unit ![1, 0, 512] ![1, 256, 512] hz1_512))) = hv h (tv x0 1) := by
  funext t e
  pointwise [k0_pay85, vcols, hv, tv]

/-- Batch row 1: the output gates. -/
theorem rr_1 (hz1_1152 : ∀ a, ![1, 0, 1152] a + ![1, 256, 512] a ≤ S2x256x1664.size a) (h : Fin 4) : vcols h (k0_pay86 (View.ld x0 (Rect.unit ![1, 0, 1152] ![1, 256, 512] hz1_1152))) = hv h (tr x0 1) := by
  funext t e
  pointwise [k0_pay86, vcols, hv, tr]

end Cert.Tile

end

end
-- ==== Proof.Host.lean ====
/- The arrays the kernel's call reads, as the host code before the call makes them, at an index. -/
module

public import proofs.«01_k».proof.Proof.Gen.KernelIdeal.Value
public import proofs.«01_k».proof.Proof.Tile
public import Idealize.ShloMosaic.Lib.Claim
public import Idealize.ShloMosaic.Lib.StableHlo.ReadAt

@[expose] public section

set_option maxRecDepth 16384

noncomputable section

namespace Cert.Host

open Idealize.ShloMosaic Idealize.ShloMosaic.TcCoe Idealize.SL.Sem Cert.KernelIdeal Cert.KernelIdeal.Gen

variable (m : (ℓ : Loc nD τ sig) → Buf (Elt Ideal) ℓ) (c : Dev nD)

/-- The word of zero as a number. -/
theorem zero_word : FloatOps.sitofp (F := Ideal) .f32 0#32 = (0 : EReal) := by
  show (((0#32).toInt : ℝ) : EReal) = 0
  simp

/-- The gate inputs padded with zeros from 16 to 128 columns. -/
def padInputs (x : Vec Ideal S2x8192x16 .f32) : Vec Ideal S2x8192x128 .f32 :=
  pad S2x8192x128 ![0, 0, 0] ![0, 0, 112] ![0, 0, 0] x (sitofp (F := Ideal) .f32 (constantI S_ 32 0#32)) pads_S2x8192x16_S2x8192x128_000_000_01120 h_S_

/-- The gate weights padded with zeros from 16 to 128 rows. -/
def padWeights (x : Vec Ideal S16x256 .f32) : Vec Ideal S128x256 .bf16 :=
  truncf (F := Ideal) (φ := .f32) .bf16 (pad S128x256 ![0, 0] ![112, 0] ![0, 0] x (sitofp (F := Ideal) .f32 (constantI S_ 32 0#32)) pads_S16x256_S128x256_01120_000 h_S_) bitsLt_bf16_f32

/-- The five arrays joined along their columns. -/
def join (q k : Vec Ideal S2x8192x256 .f32) (v : Vec Ideal S2x8192x512 .f32) (l : Vec Ideal S2x8192x128 .f32) (r : Vec Ideal S2x8192x512 .f32) :
    Vec Ideal S2x8192x1664 .f32 :=
  concatenate S2x8192x1664 2 [⟨S2x8192x256, q⟩, ⟨S2x8192x256, k⟩, ⟨S2x8192x512, v⟩, ⟨S2x8192x128, l⟩, ⟨S2x8192x512, r⟩]
    concatenates_S2x8192x256_S2x8192x256_S2x8192x512_S2x8192x128_S2x8192x512_S2x8192x1664_d2

/-- What the host operations before the joining one leave at a buffer. -/
abbrev before (r : Ref sig .tc) : Buf (Elt Ideal) ((c : Thread nD τ).loc r) :=
  StableHlo.upto [hostOps0, hostOps0_1, hostOps0_2, hostOps0_3, hostOps0_4].flatten (fun b => m (c, b)) 7 (Proc.tc.devRef r)

theorem before_q : before m c main_v1 = mulf (F := Ideal) (φ := .f32) (m ((c : Thread nD τ).loc main_arg0)) (broadcastInDim S2x8192x256 ![] bcast_S_S2x8192x256 (constant (F := Ideal) S_ .f32 0x3E000000#32)) := by
  unfold before
  after_reads_simp

theorem before_k : before m c main_arg1 = m ((c : Thread nD τ).loc main_arg1) := by
  unfold before
  after_reads_simp

theorem before_v : before m c main_arg2 = m ((c : Thread nD τ).loc main_arg2) := by
  unfold before
  after_reads_simp

theorem before_l : before m c main_v2 = padInputs (m ((c : Thread nD τ).loc main_arg3)) := by
  unfold before
  after_reads_simp
  rfl

theorem before_r : before m c main_arg4 = m ((c : Thread nD τ).loc main_arg4) := by
  unfold before
  after_reads_simp

/-- The joined array the kernel reads. -/
theorem joined : V m c main_v3 = join (mulf (F := Ideal) (φ := .f32) (m ((c : Thread nD τ).loc main_arg0)) (broadcastInDim S2x8192x256 ![] bcast_S_S2x8192x256 (constant (F := Ideal) S_ .f32 0x3E000000#32)))
    (m ((c : Thread nD τ).loc main_arg1)) (m ((c : Thread nD τ).loc main_arg2)) (padInputs (m ((c : Thread nD τ).loc main_arg3))) (m ((c : Thread nD τ).loc main_arg4)) := by
  rw [← before_q m c, ← before_k m c, ← before_v m c, ← before_l m c, ← before_r m c]
  unfold V
  after_reads_simp
  rfl

/-- The gate weights the kernel reads. -/
theorem weights : V m c main_v5 = padWeights (m ((c : Thread nD τ).loc main_arg5)) := by
  simp only [V, hostOps0, hostOps0_1, hostOps0_2, hostOps0_3, hostOps0_4, List.flatten_cons, List.flatten_nil, List.append_nil, List.cons_append, List.nil_append]
  entry_read
  rfl

section Read
variable (q k : Vec Ideal S2x8192x256 .f32) (v : Vec Ideal S2x8192x512 .f32) (l : Vec Ideal S2x8192x128 .f32) (r : Vec Ideal S2x8192x512 .f32)
  (b : Fin 2) (t : Fin 8192)

theorem join_q (j : Fin 256) : join q k v l r (ix3 b t ⟨0 + j.val, by omega⟩) = q (ix3 b t j) := by
  pointwise [join]

theorem join_k (j : Fin 256) : join q k v l r (ix3 b t ⟨256 + j.val, by omega⟩) = k (ix3 b t j) := by
  pointwise [join]

theorem join_v (j : Fin 512) : join q k v l r (ix3 b t ⟨512 + j.val, by omega⟩) = v (ix3 b t j) := by
  pointwise [join]
  rw [dif_neg (by omega), dif_neg (by omega), dif_pos (by omega)]
  refine congrArg (fun i => v (ix3 b t i)) (Fin.ext ?_)
  show 512 + j.val - 256 - 256 = j.val
  omega

theorem join_l (j : Fin 128) : join q k v l r (ix3 b t ⟨1024 + j.val, by omega⟩) = l (ix3 b t j) := by
  pointwise [join]
  rw [dif_neg (by omega), dif_neg (by omega), dif_neg (by omega), dif_pos (by omega)]
  refine congrArg (fun i => l (ix3 b t i)) (Fin.ext ?_)
  show 1024 + j.val - 256 - 256 - 512 = j.val
  omega

theorem join_r (j : Fin 512) : join q k v l r (ix3 b t ⟨1152 + j.val, by omega⟩) = r (ix3 b t j) := by
  pointwise [join]
  rw [dif_neg (by omega), dif_neg (by omega), dif_neg (by omega), dif_neg (by omega)]
  refine congrArg (fun i => r (ix3 b t i)) (Fin.ext ?_)
  show 1152 + j.val - 256 - 256 - 512 - 128 = j.val
  omega

theorem pad_l (x : Vec Ideal S2x8192x16 .f32) (j : Fin 128) : padInputs x (ix3 b t j) = if h : j.val < 16 then x (ix3 b t ⟨j.val, h⟩) else (0 : EReal) := by
  pointwise [padInputs]
  rw [zero_word]

theorem pad_w (x : Vec Ideal S16x256 .f32) (j : Fin 128) (i : Fin 256) : padWeights x (ix2 j i) = if h : j.val < 16 then x (ix2 ⟨j.val, h⟩ i) else (0 : EReal) := by
  pointwise [padWeights]
  rw [zero_word]

end Read

/-- The state the kernel begins with is zero. -/
theorem s_at (y : S2x4x128x64.Idx) : (V m c main_v6 : Vec Ideal S2x4x128x64 .f32) y = (0 : EReal) := by
  simp only [V, hostOps0, hostOps0_1, hostOps0_2, hostOps0_3, hostOps0_4, List.flatten_cons, List.flatten_nil, List.append_nil, List.cons_append, List.nil_append]
  entry_read
  pointwise

/-- The bias. -/
theorem b_at (j : Fin 256) : (V m c main_v7 : Vec Ideal S1x256 .f32) (ix2 0 j) = m ((c : Thread nD τ).loc main_arg6) (ix1 j) := by
  simp only [V, hostOps0, hostOps0_1, hostOps0_2, hostOps0_3, hostOps0_4, List.flatten_cons, List.flatten_nil, List.append_nil, List.cons_append, List.nil_append]
  entry_read
  pointwise

/-- The normalisation's weights. -/
theorem g_at (e : Fin 128) : (V m c main_v8 : Vec Ideal S1x128 .f32) (ix2 0 e) = m ((c : Thread nD τ).loc main_arg7) (ix1 e) := by
  simp only [V, hostOps0, hostOps0_1, hostOps0_2, hostOps0_3, hostOps0_4, List.flatten_cons, List.flatten_nil, List.append_nil, List.cons_append, List.nil_append]
  entry_read
  pointwise

/-- The table. -/
theorem t_at (y : S256x256.Idx) : (V m c main_cst : Vec Ideal S256x256 .bf16) y = FloatOps.ofBits (F := Ideal) .bf16 (lit0 (S256x256.rowMajor y)) := by
  simp only [V, hostOps0, hostOps0_1, hostOps0_2, hostOps0_3, hostOps0_4, List.flatten_cons, List.flatten_nil, List.append_nil, List.cons_append, List.nil_append]
  entry_read
  rfl

end Cert.Host

end

end
-- ==== Proof.Tables.lean ====
/- The kernel's mask and its table: ones where the second row is in the first row's chunk and not after it. -/
module

public import proofs.«01_k».proof.Proof.Tile

@[expose] public section

set_option maxRecDepth 16384

noncomputable section

namespace Cert.Tables

open Idealize.ShloMosaic Idealize.ShloMosaic.TcCoe Idealize.SL.Sem Cert.KernelIdeal Cert.KernelIdeal.Gen Cert.Head Cert.Tile

/-- The columns' chunk numbers, as the kernel computes them by a floor division. -/
theorem floor_col (s : Fin 256) :
    Scalar.select
          (IntOp.andi
            (IntOp.cmpi CmpIPredicate.ne
              (IntOp.subi (BitVec.setWidth 32 (IntOp.cmpi CmpIPredicate.sgt (BitVec.ofNat 32 s.val) 0#32))
                (BitVec.setWidth 32 (IntOp.cmpi CmpIPredicate.slt (BitVec.ofNat 32 s.val) 0#32)))
              (Scalar.subi (Scalar.extui (Scalar.cmpi CmpIPredicate.sgt 64#32 0#32))
                (Scalar.extui (Scalar.cmpi CmpIPredicate.slt 64#32 0#32))))
            (IntOp.cmpi CmpIPredicate.ne (IntOp.remsi ArithUnit.vector (BitVec.ofNat 32 s.val) 64#32) 0#32))
          (IntOp.subi (IntOp.divsi ArithUnit.vector (BitVec.ofNat 32 s.val) 64#32) 1#32)
          (IntOp.divsi ArithUnit.vector (BitVec.ofNat 32 s.val) 64#32) = BitVec.ofNat 32 (s.val / 64) := by
  revert s
  decide +kernel

/-- The rows' chunk numbers likewise. -/
theorem floor_row (t : Fin 256) :
    Scalar.select
          (IntOp.andi
            (IntOp.cmpi CmpIPredicate.ne
              (IntOp.subi (BitVec.setWidth 32 (IntOp.cmpi CmpIPredicate.sgt (BitVec.ofNat 32 t.val) 0#32))
                (BitVec.setWidth 32 (IntOp.cmpi CmpIPredicate.slt (BitVec.ofNat 32 t.val) 0#32)))
              (Scalar.subi (1#32) (Scalar.extui (Scalar.cmpi CmpIPredicate.slt 64#32 0#32))))
            (IntOp.cmpi CmpIPredicate.ne (IntOp.remsi ArithUnit.vector (BitVec.ofNat 32 t.val) 64#32) 0#32))
          (IntOp.subi (IntOp.divsi ArithUnit.vector (BitVec.ofNat 32 t.val) 64#32) 1#32)
          (IntOp.divsi ArithUnit.vector (BitVec.ofNat 32 t.val) 64#32) = BitVec.ofNat 32 (t.val / 64) := by
  revert t
  decide +kernel

/-- The two comparisons together. -/
theorem both (t s : Fin 256) :
    IntOp.andi (IntOp.cmpi CmpIPredicate.sle (BitVec.ofNat 32 s.val) (BitVec.ofNat 32 t.val))
      (IntOp.cmpi CmpIPredicate.eq (BitVec.ofNat 32 (s.val / 64)) (BitVec.ofNat 32 (t.val / 64)))
      = if s ≤ t ∧ s.val / 64 = t.val / 64 then 1#1 else 0#1 := by
  revert t s
  decide +kernel

/-- The kernel's mask: one where column and row lie in one chunk and the column is not after the row. -/
theorem mask (t s : Fin 256) : maskK (ix2 t s) = if s ≤ t ∧ s.val / 64 = t.val / 64 then 1#1 else 0#1 := by
  rw [← both, ← floor_col, ← floor_row]
  unfold maskK
  pointwise [k0_pay7, k0_pay3, k0_pay4, k0_pay5, k0_pay6]

/-- A choice among 128 values of a function is the function's value. -/
theorem choice (f : ℕ → BitVec 16) (r : ℕ) : r < 128 → (match r with
    | 0 => f 0
    | 1 => f 1
    | 2 => f 2
    | 3 => f 3
    | 4 => f 4
    | 5 => f 5
    | 6 => f 6
    | 7 => f 7
    | 8 => f 8
    | 9 => f 9
    | 10 => f 10
    | 11 => f 11
    | 12 => f 12
    | 13 => f 13
    | 14 => f 14
    | 15 => f 15
    | 16 => f 16
    | 17 => f 17
    | 18 => f 18
    | 19 => f 19
    | 20 => f 20
    | 21 => f 21
    | 22 => f 22
    | 23 => f 23
    | 24 => f 24
    | 25 => f 25
    | 26 => f 26
    | 27 => f 27
    | 28 => f 28
    | 29 => f 29
    | 30 => f 30
    | 31 => f 31
    | 32 => f 32
    | 33 => f 33
    | 34 => f 34
    | 35 => f 35
    | 36 => f 36
    | 37 => f 37
    | 38 => f 38
    | 39 => f 39
    | 40 => f 40
    | 41 => f 41
    | 42 => f 42
    | 43 => f 43
    | 44 => f 44
    | 45 => f 45
    | 46 => f 46
    | 47 => f 47
    | 48 => f 48
    | 49 => f 49
    | 50 => f 50
    | 51 => f 51
    | 52 => f 52
    | 53 => f 53
    | 54 => f 54
    | 55 => f 55
    | 56 => f 56
    | 57 => f 57
    | 58 => f 58
    | 59 => f 59
    | 60 => f 60
    | 61 => f 61
    | 62 => f 62
    | 63 => f 63
    | 64 => f 64
    | 65 => f 65
    | 66 => f 66
    | 67 => f 67
    | 68 => f 68
    | 69 => f 69
    | 70 => f 70
    | 71 => f 71
    | 72 => f 72
    | 73 => f 73
    | 74 => f 74
    | 75 => f 75
    | 76 => f 76
    | 77 => f 77
    | 78 => f 78
    | 79 => f 79
    | 80 => f 80
    | 81 => f 81
    | 82 => f 82
    | 83 => f 83
    | 84 => f 84
    | 85 => f 85
    | 86 => f 86
    | 87 => f 87
    | 88 => f 88
    | 89 => f 89
    | 90 => f 90
    | 91 => f 91
    | 92 => f 92
    | 93 => f 93
    | 94 => f 94
    | 95 => f 95
    | 96 => f 96
    | 97 => f 97
    | 98 => f 98
    | 99 => f 99
    | 100 => f 100
    | 101 => f 101
    | 102 => f 102
    | 103 => f 103
    | 104 => f 104
    | 105 => f 105
    | 106 => f 106
    | 107 => f 107
    | 108 => f 108
    | 109 => f 109
    | 110 => f 110
    | 111 => f 111
    | 112 => f 112
    | 113 => f 113
    | 114 => f 114
    | 115 => f 115
    | 116 => f 116
    | 117 => f 117
    | 118 => f 118
    | 119 => f 119
    | 120 => f 120
    | 121 => f 121
    | 122 => f 122
    | 123 => f 123
    | 124 => f 124
    | 125 => f 125
    | 126 => f 126
    | 127 => f 127
    | _ => 0#16) = f r := by
  intro hr
  interval_cases r <;> rfl

/-- A choice among 128 values that are a function's is the function's value. -/
theorem choice_of (f : ℕ → BitVec 16) (r : ℕ) (a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 a48 a49 a50 a51 a52 a53 a54 a55 a56 a57 a58 a59 a60 a61 a62 a63 a64 a65 a66 a67 a68 a69 a70 a71 a72 a73 a74 a75 a76 a77 a78 a79 a80 a81 a82 a83 a84 a85 a86 a87 a88 a89 a90 a91 a92 a93 a94 a95 a96 a97 a98 a99 a100 a101 a102 a103 a104 a105 a106 a107 a108 a109 a110 a111 a112 a113 a114 a115 a116 a117 a118 a119 a120 a121 a122 a123 a124 a125 a126 a127 : BitVec 16)
    (h0 : a0 = f 0) (h1 : a1 = f 1) (h2 : a2 = f 2) (h3 : a3 = f 3) (h4 : a4 = f 4) (h5 : a5 = f 5) (h6 : a6 = f 6) (h7 : a7 = f 7) (h8 : a8 = f 8) (h9 : a9 = f 9) (h10 : a10 = f 10) (h11 : a11 = f 11) (h12 : a12 = f 12) (h13 : a13 = f 13) (h14 : a14 = f 14) (h15 : a15 = f 15) (h16 : a16 = f 16) (h17 : a17 = f 17) (h18 : a18 = f 18) (h19 : a19 = f 19) (h20 : a20 = f 20) (h21 : a21 = f 21) (h22 : a22 = f 22) (h23 : a23 = f 23) (h24 : a24 = f 24) (h25 : a25 = f 25) (h26 : a26 = f 26) (h27 : a27 = f 27) (h28 : a28 = f 28) (h29 : a29 = f 29) (h30 : a30 = f 30) (h31 : a31 = f 31) (h32 : a32 = f 32) (h33 : a33 = f 33) (h34 : a34 = f 34) (h35 : a35 = f 35) (h36 : a36 = f 36) (h37 : a37 = f 37) (h38 : a38 = f 38) (h39 : a39 = f 39) (h40 : a40 = f 40) (h41 : a41 = f 41) (h42 : a42 = f 42) (h43 : a43 = f 43) (h44 : a44 = f 44) (h45 : a45 = f 45) (h46 : a46 = f 46) (h47 : a47 = f 47) (h48 : a48 = f 48) (h49 : a49 = f 49) (h50 : a50 = f 50) (h51 : a51 = f 51) (h52 : a52 = f 52) (h53 : a53 = f 53) (h54 : a54 = f 54) (h55 : a55 = f 55) (h56 : a56 = f 56) (h57 : a57 = f 57) (h58 : a58 = f 58) (h59 : a59 = f 59) (h60 : a60 = f 60) (h61 : a61 = f 61) (h62 : a62 = f 62) (h63 : a63 = f 63) (h64 : a64 = f 64) (h65 : a65 = f 65) (h66 : a66 = f 66) (h67 : a67 = f 67) (h68 : a68 = f 68) (h69 : a69 = f 69) (h70 : a70 = f 70) (h71 : a71 = f 71) (h72 : a72 = f 72) (h73 : a73 = f 73) (h74 : a74 = f 74) (h75 : a75 = f 75) (h76 : a76 = f 76) (h77 : a77 = f 77) (h78 : a78 = f 78) (h79 : a79 = f 79) (h80 : a80 = f 80) (h81 : a81 = f 81) (h82 : a82 = f 82) (h83 : a83 = f 83) (h84 : a84 = f 84) (h85 : a85 = f 85) (h86 : a86 = f 86) (h87 : a87 = f 87) (h88 : a88 = f 88) (h89 : a89 = f 89) (h90 : a90 = f 90) (h91 : a91 = f 91) (h92 : a92 = f 92) (h93 : a93 = f 93) (h94 : a94 = f 94) (h95 : a95 = f 95) (h96 : a96 = f 96) (h97 : a97 = f 97) (h98 : a98 = f 98) (h99 : a99 = f 99) (h100 : a100 = f 100) (h101 : a101 = f 101) (h102 : a102 = f 102) (h103 : a103 = f 103) (h104 : a104 = f 104) (h105 : a105 = f 105) (h106 : a106 = f 106) (h107 : a107 = f 107) (h108 : a108 = f 108) (h109 : a109 = f 109) (h110 : a110 = f 110) (h111 : a111 = f 111) (h112 : a112 = f 112) (h113 : a113 = f 113) (h114 : a114 = f 114) (h115 : a115 = f 115) (h116 : a116 = f 116) (h117 : a117 = f 117) (h118 : a118 = f 118) (h119 : a119 = f 119) (h120 : a120 = f 120) (h121 : a121 = f 121) (h122 : a122 = f 122) (h123 : a123 = f 123) (h124 : a124 = f 124) (h125 : a125 = f 125) (h126 : a126 = f 126) (h127 : a127 = f 127) : r < 128 → (match r with
    | 0 => a0
    | 1 => a1
    | 2 => a2
    | 3 => a3
    | 4 => a4
    | 5 => a5
    | 6 => a6
    | 7 => a7
    | 8 => a8
    | 9 => a9
    | 10 => a10
    | 11 => a11
    | 12 => a12
    | 13 => a13
    | 14 => a14
    | 15 => a15
    | 16 => a16
    | 17 => a17
    | 18 => a18
    | 19 => a19
    | 20 => a20
    | 21 => a21
    | 22 => a22
    | 23 => a23
    | 24 => a24
    | 25 => a25
    | 26 => a26
    | 27 => a27
    | 28 => a28
    | 29 => a29
    | 30 => a30
    | 31 => a31
    | 32 => a32
    | 33 => a33
    | 34 => a34
    | 35 => a35
    | 36 => a36
    | 37 => a37
    | 38 => a38
    | 39 => a39
    | 40 => a40
    | 41 => a41
    | 42 => a42
    | 43 => a43
    | 44 => a44
    | 45 => a45
    | 46 => a46
    | 47 => a47
    | 48 => a48
    | 49 => a49
    | 50 => a50
    | 51 => a51
    | 52 => a52
    | 53 => a53
    | 54 => a54
    | 55 => a55
    | 56 => a56
    | 57 => a57
    | 58 => a58
    | 59 => a59
    | 60 => a60
    | 61 => a61
    | 62 => a62
    | 63 => a63
    | 64 => a64
    | 65 => a65
    | 66 => a66
    | 67 => a67
    | 68 => a68
    | 69 => a69
    | 70 => a70
    | 71 => a71
    | 72 => a72
    | 73 => a73
    | 74 => a74
    | 75 => a75
    | 76 => a76
    | 77 => a77
    | 78 => a78
    | 79 => a79
    | 80 => a80
    | 81 => a81
    | 82 => a82
    | 83 => a83
    | 84 => a84
    | 85 => a85
    | 86 => a86
    | 87 => a87
    | 88 => a88
    | 89 => a89
    | 90 => a90
    | 91 => a91
    | 92 => a92
    | 93 => a93
    | 94 => a94
    | 95 => a95
    | 96 => a96
    | 97 => a97
    | 98 => a98
    | 99 => a99
    | 100 => a100
    | 101 => a101
    | 102 => a102
    | 103 => a103
    | 104 => a104
    | 105 => a105
    | 106 => a106
    | 107 => a107
    | 108 => a108
    | 109 => a109
    | 110 => a110
    | 111 => a111
    | 112 => a112
    | 113 => a113
    | 114 => a114
    | 115 => a115
    | 116 => a116
    | 117 => a117
    | 118 => a118
    | 119 => a119
    | 120 => a120
    | 121 => a121
    | 122 => a122
    | 123 => a123
    | 124 => a124
    | 125 => a125
    | 126 => a126
    | 127 => a127
    | _ => 0#16) = f r := by
  subst h0 h1 h2 h3 h4 h5 h6 h7 h8 h9 h10 h11 h12 h13 h14 h15 h16 h17 h18 h19 h20 h21 h22 h23 h24 h25 h26 h27 h28 h29 h30 h31 h32 h33 h34 h35 h36 h37 h38 h39 h40 h41 h42 h43 h44 h45 h46 h47 h48 h49 h50 h51 h52 h53 h54 h55 h56 h57 h58 h59 h60 h61 h62 h63 h64 h65 h66 h67 h68 h69 h70 h71 h72 h73 h74 h75 h76 h77 h78 h79 h80 h81 h82 h83 h84 h85 h86 h87 h88 h89 h90 h91 h92 h93 h94 h95 h96 h97 h98 h99 h100 h101 h102 h103 h104 h105 h106 h107 h108 h109 h110 h111 h112 h113 h114 h115 h116 h117 h118 h119 h120 h121 h122 h123 h124 h125 h126 h127
  exact choice f r

/-- The table's word at column `r` of half `k`, a row being two halves of 128 columns. -/
def word (k r : ℕ) : BitVec 16 :=
  cond (Nat.ble (128 * (k % 2) + r) (k / 2) && Nat.beq ((128 * (k % 2) + r) / 64) (k / 2 / 64)) 0x3F80#16 0#16

/-- The table's words, quarter 0. -/
theorem quarter_0 (i : ℕ) : lit0t1_0 i = word (128 * 0 + i / 128 % 128) (i % 128) :=
  have c (k : ℕ) := choice (word k) (i % 128) (Nat.mod_lt _ (by decide))
  choice_of (fun m => word (128 * 0 + m) (i % 128)) (i / 128 % 128) (lit0t0_0 i) (lit0t0_1 i) (lit0t0_2 i) (lit0t0_3 i) (lit0t0_4 i) (lit0t0_5 i) (lit0t0_6 i) (lit0t0_7 i) (lit0t0_8 i) (lit0t0_9 i) (lit0t0_10 i) (lit0t0_11 i) (lit0t0_12 i) (lit0t0_13 i) (lit0t0_14 i) (lit0t0_15 i) (lit0t0_16 i) (lit0t0_17 i) (lit0t0_18 i) (lit0t0_19 i) (lit0t0_20 i) (lit0t0_21 i) (lit0t0_22 i) (lit0t0_23 i) (lit0t0_24 i) (lit0t0_25 i) (lit0t0_26 i) (lit0t0_27 i) (lit0t0_28 i) (lit0t0_29 i) (lit0t0_30 i) (lit0t0_31 i) (lit0t0_32 i) (lit0t0_33 i) (lit0t0_34 i) (lit0t0_35 i) (lit0t0_36 i) (lit0t0_37 i) (lit0t0_38 i) (lit0t0_39 i) (lit0t0_40 i) (lit0t0_41 i) (lit0t0_42 i) (lit0t0_43 i) (lit0t0_44 i) (lit0t0_45 i) (lit0t0_46 i) (lit0t0_47 i) (lit0t0_48 i) (lit0t0_49 i) (lit0t0_50 i) (lit0t0_51 i) (lit0t0_52 i) (lit0t0_53 i) (lit0t0_54 i) (lit0t0_55 i) (lit0t0_56 i) (lit0t0_57 i) (lit0t0_58 i) (lit0t0_59 i) (lit0t0_60 i) (lit0t0_61 i) (lit0t0_62 i) (lit0t0_63 i) (lit0t0_64 i) (lit0t0_65 i) (lit0t0_66 i) (lit0t0_67 i) (lit0t0_68 i) (lit0t0_69 i) (lit0t0_70 i) (lit0t0_71 i) (lit0t0_72 i) (lit0t0_73 i) (lit0t0_74 i) (lit0t0_75 i) (lit0t0_76 i) (lit0t0_77 i) (lit0t0_78 i) (lit0t0_79 i) (lit0t0_80 i) (lit0t0_81 i) (lit0t0_82 i) (lit0t0_83 i) (lit0t0_84 i) (lit0t0_85 i) (lit0t0_86 i) (lit0t0_87 i) (lit0t0_88 i) (lit0t0_89 i) (lit0t0_90 i) (lit0t0_91 i) (lit0t0_92 i) (lit0t0_93 i) (lit0t0_94 i) (lit0t0_95 i) (lit0t0_96 i) (lit0t0_97 i) (lit0t0_98 i) (lit0t0_99 i) (lit0t0_100 i) (lit0t0_101 i) (lit0t0_102 i) (lit0t0_103 i) (lit0t0_104 i) (lit0t0_105 i) (lit0t0_106 i) (lit0t0_107 i) (lit0t0_108 i) (lit0t0_109 i) (lit0t0_110 i) (lit0t0_111 i) (lit0t0_112 i) (lit0t0_113 i) (lit0t0_114 i) (lit0t0_115 i) (lit0t0_116 i) (lit0t0_117 i) (lit0t0_118 i) (lit0t0_119 i) (lit0t0_120 i) (lit0t0_121 i) (lit0t0_122 i) (lit0t0_123 i) (lit0t0_124 i) (lit0t0_125 i) (lit0t0_126 i) (lit0t0_127 i)
    (c 0) (c 1) (c 2) (c 3) (c 4) (c 5) (c 6) (c 7) (c 8) (c 9) (c 10) (c 11) (c 12) (c 13) (c 14) (c 15) (c 16) (c 17) (c 18) (c 19) (c 20) (c 21) (c 22) (c 23) (c 24) (c 25) (c 26) (c 27) (c 28) (c 29) (c 30) (c 31) (c 32) (c 33) (c 34) (c 35) (c 36) (c 37) (c 38) (c 39) (c 40) (c 41) (c 42) (c 43) (c 44) (c 45) (c 46) (c 47) (c 48) (c 49) (c 50) (c 51) (c 52) (c 53) (c 54) (c 55) (c 56) (c 57) (c 58) (c 59) (c 60) (c 61) (c 62) (c 63) (c 64) (c 65) (c 66) (c 67) (c 68) (c 69) (c 70) (c 71) (c 72) (c 73) (c 74) (c 75) (c 76) (c 77) (c 78) (c 79) (c 80) (c 81) (c 82) (c 83) (c 84) (c 85) (c 86) (c 87) (c 88) (c 89) (c 90) (c 91) (c 92) (c 93) (c 94) (c 95) (c 96) (c 97) (c 98) (c 99) (c 100) (c 101) (c 102) (c 103) (c 104) (c 105) (c 106) (c 107) (c 108) (c 109) (c 110) (c 111) (c 112) (c 113) (c 114) (c 115) (c 116) (c 117) (c 118) (c 119) (c 120) (c 121) (c 122) (c 123) (c 124) (c 125) (c 126) (c 127) (Nat.mod_lt _ (by decide))

/-- The table's words, quarter 1. -/
theorem quarter_1 (i : ℕ) : lit0t1_1 i = word (128 * 1 + i / 128 % 128) (i % 128) :=
  have c (k : ℕ) := choice (word k) (i % 128) (Nat.mod_lt _ (by decide))
  choice_of (fun m => word (128 * 1 + m) (i % 128)) (i / 128 % 128) (lit0t0_128 i) (lit0t0_129 i) (lit0t0_130 i) (lit0t0_131 i) (lit0t0_132 i) (lit0t0_133 i) (lit0t0_134 i) (lit0t0_135 i) (lit0t0_136 i) (lit0t0_137 i) (lit0t0_138 i) (lit0t0_139 i) (lit0t0_140 i) (lit0t0_141 i) (lit0t0_142 i) (lit0t0_143 i) (lit0t0_144 i) (lit0t0_145 i) (lit0t0_146 i) (lit0t0_147 i) (lit0t0_148 i) (lit0t0_149 i) (lit0t0_150 i) (lit0t0_151 i) (lit0t0_152 i) (lit0t0_153 i) (lit0t0_154 i) (lit0t0_155 i) (lit0t0_156 i) (lit0t0_157 i) (lit0t0_158 i) (lit0t0_159 i) (lit0t0_160 i) (lit0t0_161 i) (lit0t0_162 i) (lit0t0_163 i) (lit0t0_164 i) (lit0t0_165 i) (lit0t0_166 i) (lit0t0_167 i) (lit0t0_168 i) (lit0t0_169 i) (lit0t0_170 i) (lit0t0_171 i) (lit0t0_172 i) (lit0t0_173 i) (lit0t0_174 i) (lit0t0_175 i) (lit0t0_176 i) (lit0t0_177 i) (lit0t0_178 i) (lit0t0_179 i) (lit0t0_180 i) (lit0t0_181 i) (lit0t0_182 i) (lit0t0_183 i) (lit0t0_184 i) (lit0t0_185 i) (lit0t0_186 i) (lit0t0_187 i) (lit0t0_188 i) (lit0t0_189 i) (lit0t0_190 i) (lit0t0_191 i) (lit0t0_192 i) (lit0t0_193 i) (lit0t0_194 i) (lit0t0_195 i) (lit0t0_196 i) (lit0t0_197 i) (lit0t0_198 i) (lit0t0_199 i) (lit0t0_200 i) (lit0t0_201 i) (lit0t0_202 i) (lit0t0_203 i) (lit0t0_204 i) (lit0t0_205 i) (lit0t0_206 i) (lit0t0_207 i) (lit0t0_208 i) (lit0t0_209 i) (lit0t0_210 i) (lit0t0_211 i) (lit0t0_212 i) (lit0t0_213 i) (lit0t0_214 i) (lit0t0_215 i) (lit0t0_216 i) (lit0t0_217 i) (lit0t0_218 i) (lit0t0_219 i) (lit0t0_220 i) (lit0t0_221 i) (lit0t0_222 i) (lit0t0_223 i) (lit0t0_224 i) (lit0t0_225 i) (lit0t0_226 i) (lit0t0_227 i) (lit0t0_228 i) (lit0t0_229 i) (lit0t0_230 i) (lit0t0_231 i) (lit0t0_232 i) (lit0t0_233 i) (lit0t0_234 i) (lit0t0_235 i) (lit0t0_236 i) (lit0t0_237 i) (lit0t0_238 i) (lit0t0_239 i) (lit0t0_240 i) (lit0t0_241 i) (lit0t0_242 i) (lit0t0_243 i) (lit0t0_244 i) (lit0t0_245 i) (lit0t0_246 i) (lit0t0_247 i) (lit0t0_248 i) (lit0t0_249 i) (lit0t0_250 i) (lit0t0_251 i) (lit0t0_252 i) (lit0t0_253 i) (lit0t0_254 i) (lit0t0_255 i)
    (c 128) (c 129) (c 130) (c 131) (c 132) (c 133) (c 134) (c 135) (c 136) (c 137) (c 138) (c 139) (c 140) (c 141) (c 142) (c 143) (c 144) (c 145) (c 146) (c 147) (c 148) (c 149) (c 150) (c 151) (c 152) (c 153) (c 154) (c 155) (c 156) (c 157) (c 158) (c 159) (c 160) (c 161) (c 162) (c 163) (c 164) (c 165) (c 166) (c 167) (c 168) (c 169) (c 170) (c 171) (c 172) (c 173) (c 174) (c 175) (c 176) (c 177) (c 178) (c 179) (c 180) (c 181) (c 182) (c 183) (c 184) (c 185) (c 186) (c 187) (c 188) (c 189) (c 190) (c 191) (c 192) (c 193) (c 194) (c 195) (c 196) (c 197) (c 198) (c 199) (c 200) (c 201) (c 202) (c 203) (c 204) (c 205) (c 206) (c 207) (c 208) (c 209) (c 210) (c 211) (c 212) (c 213) (c 214) (c 215) (c 216) (c 217) (c 218) (c 219) (c 220) (c 221) (c 222) (c 223) (c 224) (c 225) (c 226) (c 227) (c 228) (c 229) (c 230) (c 231) (c 232) (c 233) (c 234) (c 235) (c 236) (c 237) (c 238) (c 239) (c 240) (c 241) (c 242) (c 243) (c 244) (c 245) (c 246) (c 247) (c 248) (c 249) (c 250) (c 251) (c 252) (c 253) (c 254) (c 255) (Nat.mod_lt _ (by decide))

/-- The table's words, quarter 2. -/
theorem quarter_2 (i : ℕ) : lit0t1_2 i = word (128 * 2 + i / 128 % 128) (i % 128) :=
  have c (k : ℕ) := choice (word k) (i % 128) (Nat.mod_lt _ (by decide))
  choice_of (fun m => word (128 * 2 + m) (i % 128)) (i / 128 % 128) (lit0t0_256 i) (lit0t0_257 i) (lit0t0_258 i) (lit0t0_259 i) (lit0t0_260 i) (lit0t0_261 i) (lit0t0_262 i) (lit0t0_263 i) (lit0t0_264 i) (lit0t0_265 i) (lit0t0_266 i) (lit0t0_267 i) (lit0t0_268 i) (lit0t0_269 i) (lit0t0_270 i) (lit0t0_271 i) (lit0t0_272 i) (lit0t0_273 i) (lit0t0_274 i) (lit0t0_275 i) (lit0t0_276 i) (lit0t0_277 i) (lit0t0_278 i) (lit0t0_279 i) (lit0t0_280 i) (lit0t0_281 i) (lit0t0_282 i) (lit0t0_283 i) (lit0t0_284 i) (lit0t0_285 i) (lit0t0_286 i) (lit0t0_287 i) (lit0t0_288 i) (lit0t0_289 i) (lit0t0_290 i) (lit0t0_291 i) (lit0t0_292 i) (lit0t0_293 i) (lit0t0_294 i) (lit0t0_295 i) (lit0t0_296 i) (lit0t0_297 i) (lit0t0_298 i) (lit0t0_299 i) (lit0t0_300 i) (lit0t0_301 i) (lit0t0_302 i) (lit0t0_303 i) (lit0t0_304 i) (lit0t0_305 i) (lit0t0_306 i) (lit0t0_307 i) (lit0t0_308 i) (lit0t0_309 i) (lit0t0_310 i) (lit0t0_311 i) (lit0t0_312 i) (lit0t0_313 i) (lit0t0_314 i) (lit0t0_315 i) (lit0t0_316 i) (lit0t0_317 i) (lit0t0_318 i) (lit0t0_319 i) (lit0t0_320 i) (lit0t0_321 i) (lit0t0_322 i) (lit0t0_323 i) (lit0t0_324 i) (lit0t0_325 i) (lit0t0_326 i) (lit0t0_327 i) (lit0t0_328 i) (lit0t0_329 i) (lit0t0_330 i) (lit0t0_331 i) (lit0t0_332 i) (lit0t0_333 i) (lit0t0_334 i) (lit0t0_335 i) (lit0t0_336 i) (lit0t0_337 i) (lit0t0_338 i) (lit0t0_339 i) (lit0t0_340 i) (lit0t0_341 i) (lit0t0_342 i) (lit0t0_343 i) (lit0t0_344 i) (lit0t0_345 i) (lit0t0_346 i) (lit0t0_347 i) (lit0t0_348 i) (lit0t0_349 i) (lit0t0_350 i) (lit0t0_351 i) (lit0t0_352 i) (lit0t0_353 i) (lit0t0_354 i) (lit0t0_355 i) (lit0t0_356 i) (lit0t0_357 i) (lit0t0_358 i) (lit0t0_359 i) (lit0t0_360 i) (lit0t0_361 i) (lit0t0_362 i) (lit0t0_363 i) (lit0t0_364 i) (lit0t0_365 i) (lit0t0_366 i) (lit0t0_367 i) (lit0t0_368 i) (lit0t0_369 i) (lit0t0_370 i) (lit0t0_371 i) (lit0t0_372 i) (lit0t0_373 i) (lit0t0_374 i) (lit0t0_375 i) (lit0t0_376 i) (lit0t0_377 i) (lit0t0_378 i) (lit0t0_379 i) (lit0t0_380 i) (lit0t0_381 i) (lit0t0_382 i) (lit0t0_383 i)
    (c 256) (c 257) (c 258) (c 259) (c 260) (c 261) (c 262) (c 263) (c 264) (c 265) (c 266) (c 267) (c 268) (c 269) (c 270) (c 271) (c 272) (c 273) (c 274) (c 275) (c 276) (c 277) (c 278) (c 279) (c 280) (c 281) (c 282) (c 283) (c 284) (c 285) (c 286) (c 287) (c 288) (c 289) (c 290) (c 291) (c 292) (c 293) (c 294) (c 295) (c 296) (c 297) (c 298) (c 299) (c 300) (c 301) (c 302) (c 303) (c 304) (c 305) (c 306) (c 307) (c 308) (c 309) (c 310) (c 311) (c 312) (c 313) (c 314) (c 315) (c 316) (c 317) (c 318) (c 319) (c 320) (c 321) (c 322) (c 323) (c 324) (c 325) (c 326) (c 327) (c 328) (c 329) (c 330) (c 331) (c 332) (c 333) (c 334) (c 335) (c 336) (c 337) (c 338) (c 339) (c 340) (c 341) (c 342) (c 343) (c 344) (c 345) (c 346) (c 347) (c 348) (c 349) (c 350) (c 351) (c 352) (c 353) (c 354) (c 355) (c 356) (c 357) (c 358) (c 359) (c 360) (c 361) (c 362) (c 363) (c 364) (c 365) (c 366) (c 367) (c 368) (c 369) (c 370) (c 371) (c 372) (c 373) (c 374) (c 375) (c 376) (c 377) (c 378) (c 379) (c 380) (c 381) (c 382) (c 383) (Nat.mod_lt _ (by decide))

/-- The table's words, quarter 3. -/
theorem quarter_3 (i : ℕ) : lit0t1_3 i = word (128 * 3 + i / 128 % 128) (i % 128) :=
  have c (k : ℕ) := choice (word k) (i % 128) (Nat.mod_lt _ (by decide))
  choice_of (fun m => word (128 * 3 + m) (i % 128)) (i / 128 % 128) (lit0t0_384 i) (lit0t0_385 i) (lit0t0_386 i) (lit0t0_387 i) (lit0t0_388 i) (lit0t0_389 i) (lit0t0_390 i) (lit0t0_391 i) (lit0t0_392 i) (lit0t0_393 i) (lit0t0_394 i) (lit0t0_395 i) (lit0t0_396 i) (lit0t0_397 i) (lit0t0_398 i) (lit0t0_399 i) (lit0t0_400 i) (lit0t0_401 i) (lit0t0_402 i) (lit0t0_403 i) (lit0t0_404 i) (lit0t0_405 i) (lit0t0_406 i) (lit0t0_407 i) (lit0t0_408 i) (lit0t0_409 i) (lit0t0_410 i) (lit0t0_411 i) (lit0t0_412 i) (lit0t0_413 i) (lit0t0_414 i) (lit0t0_415 i) (lit0t0_416 i) (lit0t0_417 i) (lit0t0_418 i) (lit0t0_419 i) (lit0t0_420 i) (lit0t0_421 i) (lit0t0_422 i) (lit0t0_423 i) (lit0t0_424 i) (lit0t0_425 i) (lit0t0_426 i) (lit0t0_427 i) (lit0t0_428 i) (lit0t0_429 i) (lit0t0_430 i) (lit0t0_431 i) (lit0t0_432 i) (lit0t0_433 i) (lit0t0_434 i) (lit0t0_435 i) (lit0t0_436 i) (lit0t0_437 i) (lit0t0_438 i) (lit0t0_439 i) (lit0t0_440 i) (lit0t0_441 i) (lit0t0_442 i) (lit0t0_443 i) (lit0t0_444 i) (lit0t0_445 i) (lit0t0_446 i) (lit0t0_447 i) (lit0t0_448 i) (lit0t0_449 i) (lit0t0_450 i) (lit0t0_451 i) (lit0t0_452 i) (lit0t0_453 i) (lit0t0_454 i) (lit0t0_455 i) (lit0t0_456 i) (lit0t0_457 i) (lit0t0_458 i) (lit0t0_459 i) (lit0t0_460 i) (lit0t0_461 i) (lit0t0_462 i) (lit0t0_463 i) (lit0t0_464 i) (lit0t0_465 i) (lit0t0_466 i) (lit0t0_467 i) (lit0t0_468 i) (lit0t0_469 i) (lit0t0_470 i) (lit0t0_471 i) (lit0t0_472 i) (lit0t0_473 i) (lit0t0_474 i) (lit0t0_475 i) (lit0t0_476 i) (lit0t0_477 i) (lit0t0_478 i) (lit0t0_479 i) (lit0t0_480 i) (lit0t0_481 i) (lit0t0_482 i) (lit0t0_483 i) (lit0t0_484 i) (lit0t0_485 i) (lit0t0_486 i) (lit0t0_487 i) (lit0t0_488 i) (lit0t0_489 i) (lit0t0_490 i) (lit0t0_491 i) (lit0t0_492 i) (lit0t0_493 i) (lit0t0_494 i) (lit0t0_495 i) (lit0t0_496 i) (lit0t0_497 i) (lit0t0_498 i) (lit0t0_499 i) (lit0t0_500 i) (lit0t0_501 i) (lit0t0_502 i) (lit0t0_503 i) (lit0t0_504 i) (lit0t0_505 i) (lit0t0_506 i) (lit0t0_507 i) (lit0t0_508 i) (lit0t0_509 i) (lit0t0_510 i) (lit0t0_511 i)
    (c 384) (c 385) (c 386) (c 387) (c 388) (c 389) (c 390) (c 391) (c 392) (c 393) (c 394) (c 395) (c 396) (c 397) (c 398) (c 399) (c 400) (c 401) (c 402) (c 403) (c 404) (c 405) (c 406) (c 407) (c 408) (c 409) (c 410) (c 411) (c 412) (c 413) (c 414) (c 415) (c 416) (c 417) (c 418) (c 419) (c 420) (c 421) (c 422) (c 423) (c 424) (c 425) (c 426) (c 427) (c 428) (c 429) (c 430) (c 431) (c 432) (c 433) (c 434) (c 435) (c 436) (c 437) (c 438) (c 439) (c 440) (c 441) (c 442) (c 443) (c 444) (c 445) (c 446) (c 447) (c 448) (c 449) (c 450) (c 451) (c 452) (c 453) (c 454) (c 455) (c 456) (c 457) (c 458) (c 459) (c 460) (c 461) (c 462) (c 463) (c 464) (c 465) (c 466) (c 467) (c 468) (c 469) (c 470) (c 471) (c 472) (c 473) (c 474) (c 475) (c 476) (c 477) (c 478) (c 479) (c 480) (c 481) (c 482) (c 483) (c 484) (c 485) (c 486) (c 487) (c 488) (c 489) (c 490) (c 491) (c 492) (c 493) (c 494) (c 495) (c 496) (c 497) (c 498) (c 499) (c 500) (c 501) (c 502) (c 503) (c 504) (c 505) (c 506) (c 507) (c 508) (c 509) (c 510) (c 511) (Nat.mod_lt _ (by decide))

/-- The table's words. -/
theorem words (t s : Fin 256) : lit0t (256 * t.val + s.val) = if s ≤ t ∧ s.val / 64 = t.val / 64 then 0x3F80#16 else 0#16 := by
  have e : lit0t (256 * t.val + s.val) = word (2 * t.val + s.val / 128) (s.val % 128) := by
    have h : (256 * t.val + s.val) / 16384 < 4 := by omega
    unfold lit0t
    generalize hq : (256 * t.val + s.val) / 16384 = q at h ⊢
    interval_cases q
    · exact (quarter_0 _).trans (congrArg₂ word (by omega) (by omega))
    · exact (quarter_1 _).trans (congrArg₂ word (by omega) (by omega))
    · exact (quarter_2 _).trans (congrArg₂ word (by omega) (by omega))
    · exact (quarter_3 _).trans (congrArg₂ word (by omega) (by omega))
  rw [e]
  unfold word
  rw [show 128 * ((2 * t.val + s.val / 128) % 2) + s.val % 128 = s.val by omega, show (2 * t.val + s.val / 128) / 2 = t.val by omega,
    Bool.cond_eq_ite]
  refine if_congr ?_ rfl rfl
  rw [Bool.and_eq_true, Nat.ble_eq, Nat.beq_eq, Fin.le_def]

/-- The kernel's table: one where column and row lie in one chunk and the column is not after the row, else zero. -/
theorem table (t s : Fin 256) :
    FloatOps.ofBits (F := Ideal) .bf16 (lit0 (S256x256.rowMajor (ix2 t s))) = if s ≤ t ∧ s.val / 64 = t.val / 64 then 1 else 0 := by
  have e : lit0 (S256x256.rowMajor (ix2 t s)) = lit0t (256 * t.val + s.val) := by
    show lit0t (S256x256.rowMajor (ix2 t s)).val = _
    refine congrArg lit0t ((rowMajor_val2 (ix2 t s) 256 rfl).trans ?_)
    show t.val * 256 + s.val = _
    ring
  rw [e, words]
  split_ifs
  · exact Ideal.ofBits_one_bf16
  · exact Ideal.ofBits_zero_bf16

end Cert.Tables

end

end
-- ==== Proof.Chunk.lean ====
/- The gated recurrence on one chunk of 64 rows, for one head: the definitions both programs are compared with, and what holds
   of the decays' running sums when the decays are real numbers between -5/2 and 0. -/
module

public import proofs.«01_k».proof.Proof.Tile

@[expose] public section

set_option maxRecDepth 16384

noncomputable section

namespace Cert.Chunk

open Idealize.ShloMosaic Idealize.ShloMosaic.TcCoe Idealize.SL.Sem

/-- A chunk's running sums of the log-decays: rows up to and with `t`. -/
def csum (a : Fin 64 → Fin 64 → EReal) (t d : Fin 64) : EReal := ∑ s : Fin 64, if s ≤ t then a s d else 0

/-- A chunk's attention of row `t` to row `s`: the product of query and key, each column decayed from `s` to `t`; nothing for
    rows after `t`. -/
def att (q k a : Fin 64 → Fin 64 → EReal) (t s : Fin 64) : EReal :=
  ∑ d : Fin 64, q t d * k s d * Ideal.exp (if s ≤ t then csum a t d - csum a s d else ⊥)

/-- A chunk's output row, before normalisation, of the state `s` the chunk begins with. -/
def row (q k a : Fin 64 → Fin 64 → EReal) (v : Fin 64 → Fin 128 → EReal) (s : Fin 128 → Fin 64 → EReal) (t : Fin 64)
    (e : Fin 128) : EReal :=
  (∑ x : Fin 64, att q k a t x * v x e) + ∑ d : Fin 64, q t d * Ideal.exp (csum a t d) * s e d

/-- The state the chunk leaves. -/
def next (k a : Fin 64 → Fin 64 → EReal) (v : Fin 64 → Fin 128 → EReal) (s : Fin 128 → Fin 64 → EReal) (e : Fin 128)
    (d : Fin 64) : EReal :=
  s e d * Ideal.exp (csum a 63 d) + ∑ x : Fin 64, v x e * (k x d * Ideal.exp (csum a 63 d - csum a x d))

/-- The state before chunk `n` of a sequence of chunks, from zero. -/
def states (k a : ℕ → Fin 64 → Fin 64 → EReal) (v : ℕ → Fin 64 → Fin 128 → EReal) : ℕ → Fin 128 → Fin 64 → EReal
  | 0 => fun _ _ => 0
  | n + 1 => next (k n) (a n) (v n) (states k a v n)

/-- A sum of real numbers is that sum of them as extended reals. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The running sums of real decays. -/
def rsum (ρ : Fin 64 → Fin 64 → ℝ) (t d : Fin 64) : ℝ := ∑ s : Fin 64, if s ≤ t then ρ s d else 0

/-- The running sums of real decays are real. -/
theorem csum_coe (ρ : Fin 64 → Fin 64 → ℝ) (t d : Fin 64) : csum (fun s d => (ρ s d : EReal)) t d = (rsum ρ t d : EReal) := by
  rw [csum, rsum, coe_sum]
  refine Finset.sum_congr rfl fun s _ => ?_
  split_ifs <;> simp

/-- From the middle row to any row the running sums rise by at most 80. -/
theorem rsum_sub_mid (ρ : Fin 64 → Fin 64 → ℝ) (h : ∀ s d, -(5 / 2) ≤ ρ s d ∧ ρ s d ≤ 0) (t d : Fin 64) :
    rsum ρ t d - rsum ρ 32 d ≤ 80 := by
  have e : (∑ s : Fin 64, if (1 ≤ s ∧ s ≤ (32 : Fin 64)) then (5 / 2 : ℝ) else 0) = 80 := by
    rw [← Finset.sum_filter, Finset.sum_const, show (Finset.univ.filter fun s : Fin 64 => 1 ≤ s ∧ s ≤ (32 : Fin 64)).card = 32 from by decide]
    norm_num
  rw [rsum, rsum, ← Finset.sum_sub_distrib, ← e]
  refine Finset.sum_le_sum fun s _ => ?_
  have hs := h s d
  have h1 : ¬ s ≤ t → 1 ≤ s := fun hn => by
    rw [Fin.le_def] at *
    show 1 ≤ s.val
    omega
  split_ifs <;> first | linarith | (exfalso; tauto)

/-- From any row to the middle row the running sums rise by at most 80. -/
theorem mid_sub_rsum (ρ : Fin 64 → Fin 64 → ℝ) (h : ∀ s d, -(5 / 2) ≤ ρ s d ∧ ρ s d ≤ 0) (t d : Fin 64) :
    rsum ρ 32 d - rsum ρ t d ≤ 80 := by
  have e : (∑ s : Fin 64, if ¬ s ≤ (32 : Fin 64) then (5 / 2 : ℝ) else 0) ≤ 80 := by
    rw [← Finset.sum_filter, Finset.sum_const, show (Finset.univ.filter fun s : Fin 64 => ¬ s ≤ (32 : Fin 64)).card = 31 from by decide]
    norm_num
  refine le_trans ?_ e
  rw [rsum, rsum, ← Finset.sum_sub_distrib]
  refine Finset.sum_le_sum fun s _ => ?_
  have hs := h s d
  split_ifs <;> linarith

/-- The bound the scaled queries and keys are clamped at is 80. -/
theorem bound : Ideal.ofBits .f32 0x42A00000#32 = ((80 : ℝ) : EReal) := by
  simp [Ideal.ofBits, Ideal.ieee, -EReal.coe_mul]; norm_num

/-- A clamp at 80 leaves a difference of at most 80. -/
theorem clamp {x y : ℝ} (h : x - y ≤ 80) : min ((x : EReal) - (y : EReal)) (Ideal.ofBits .f32 0x42A00000#32) = ((x - y : ℝ) : EReal) := by
  rw [bound, ← EReal.coe_sub]
  exact min_eq_left (EReal.coe_le_coe_iff.mpr h)

/-- One column of the attention: the query scaled to the middle row times the key scaled from it is the product of query and key
    decayed from row to row. -/
theorem factors (q k : EReal) {x m y : ℝ} (h1 : x - m ≤ 80) (h2 : m - y ≤ 80) :
    q * Ideal.exp (min ((x : EReal) - (m : EReal)) (Ideal.ofBits .f32 0x42A00000#32))
        * (k * Ideal.exp (min ((m : EReal) - (y : EReal)) (Ideal.ofBits .f32 0x42A00000#32)))
      = q * k * Ideal.exp ((x : EReal) - (y : EReal)) := by
  rw [clamp h1, clamp h2, ← EReal.coe_sub, Ideal.exp_coe, Ideal.exp_coe, Ideal.exp_coe, mul_mul_mul_comm, ← EReal.coe_mul,
    ← Real.exp_add]
  congr 3
  ring_nf

end Cert.Chunk

end

end
-- ==== Proof.Equal.lean ====
/- A tile of the kernel is four chunks of the gated recurrence: what its state and output rows are, when the table is the
   within-chunk lower triangle and the log-decays are real numbers between -5/2 and 0. -/
module

public import proofs.«01_k».proof.Proof.Chunk

@[expose] public section

set_option maxRecDepth 16384

noncomputable section

namespace Cert.Equal

open Idealize.ShloMosaic Idealize.ShloMosaic.TcCoe Idealize.SL.Sem Cert.KernelIdeal Cert.KernelIdeal.Gen Cert.Head Cert.Tile Cert.Chunk

/-- Row `r` of chunk `c` of a tile. -/
def at_ (c : Fin 4) (r : Fin 64) : Fin 256 := ⟨64 * c + r, by omega⟩

/-- Row `r` of chunk `c` lies at `64 c + r`. -/
theorem at_val (c : Fin 4) (r : Fin 64) : (at_ c r).val = 64 * c + r := rfl

/-- A choice by the mask's one. -/
theorem select_one (x y : EReal) : Scalar.select (1#1) x y = x := by unfold Scalar.select; simp

/-- A choice by the mask's zero. -/
theorem select_zero (x y : EReal) : Scalar.select (0#1) x y = y := by unfold Scalar.select; simp

/-- A sum over a tile's rows that vanishes off chunk `c` is a sum over the chunk's rows. -/
theorem sum_chunk (c : Fin 4) (f : Fin 256 → EReal) (h : ∀ c' r, c' ≠ c → f (at_ c' r) = 0) :
    ∑ x : Fin 256, f x = ∑ r : Fin 64, f (at_ c r) := by
  have e : ∑ x : Fin 256, f x = ∑ c' : Fin 4, ∑ r : Fin 64, f (at_ c' r) := by
    rw [Fin.sum_univ_tiles 4 64 rfl f]
    refine Finset.sum_congr rfl fun c' _ => Finset.sum_congr rfl fun r _ => congrArg f (Fin.ext ?_)
    rw [at_val]
    show c'.val * 64 + r.val = _
    ring
  rw [e]
  exact Finset.sum_eq_single c (fun c' _ hc => Finset.sum_eq_zero fun r _ => h c' r hc) (by simp)

/-- Rows of one chunk, compared. -/
theorem at_le (c : Fin 4) (r s : Fin 64) : (at_ c s ≤ at_ c r) ↔ s ≤ r := by
  rw [Fin.le_def, Fin.le_def, at_val, at_val]; omega

/-- A row's chunk. -/
theorem at_div (c : Fin 4) (r : Fin 64) : (at_ c r).val / 64 = c.val := by
  rw [at_val]; omega

/-- A value per row, given chunk by chunk, at a row. -/
theorem ladder_at (f : Fin 4 → Fin 64 → EReal) (c : Fin 4) (r : Fin 64) : ladder (f 0) (f 1) (f 2) (f 3) (at_ c r) = f c r := by
  have hr := r.isLt
  fin_cases c
  · unfold ladder
    rw [dif_pos (by simp [at_val])]
    exact congrArg (f 0) (Fin.ext (by simp [at_val]))
  · unfold ladder
    rw [dif_neg (by simp [at_val]), dif_pos (by simp [at_val])]
    exact congrArg (f 1) (Fin.ext (by simp [at_val]))
  · unfold ladder
    rw [dif_neg (by simp [at_val]; omega), dif_neg (by simp [at_val]; omega), dif_pos (by simp [at_val]; omega)]
    exact congrArg (f 2) (Fin.ext (by simp [at_val]; omega))
  · unfold ladder
    rw [dif_neg (by simp [at_val]; omega), dif_neg (by simp [at_val]; omega), dif_neg (by simp [at_val]; omega)]
    exact congrArg (f 3) (Fin.ext (by simp [at_val]; omega))

/-- The row of a chunk picked at one of its rows. -/
theorem pick_at (m : ℕ) (hm : m < 64) (f : Fin 256 → EReal) (c : Fin 4) (r : Fin 64) : pick m hm f (at_ c r) = f (at_ c ⟨m, hm⟩) := by
  unfold pick
  refine Eq.trans ?_ (ladder_at (fun c _ => f (at_ c ⟨m, hm⟩)) c r)
  simp only [at_]
  congr 1 <;> (funext _; refine congrArg f (Fin.ext ?_); simp)

section tile

variable {x0 : Vec Ideal S2x256x1664 .f32} {x2 : Vec Ideal S128x256 .bf16} {x3 : Vec Ideal S1x256 .f32}
  {x5 : Vec Ideal S256x256 .bf16} {b : Fin 2} {h : Fin 4} {Q K A : ℕ → Fin 64 → Fin 64 → EReal} {V : ℕ → Fin 64 → Fin 128 → EReal}
  {ρ : ℕ → Fin 64 → Fin 64 → ℝ} {τ : ℕ}

/-- The running sums of a head's columns at a row: the chunk's, which are real. -/
theorem sums (hX : ∀ t s : Fin 256, x5 (ix2 t s) = if s ≤ t ∧ s.val / 64 = t.val / 64 then 1 else 0)
    (hA : ∀ n r d, A n r d = (ρ n r d : EReal))
    (ha : ∀ c r d, hq h (ta x0 x2 x3 b) (at_ c r) d = A (4 * τ + c.val) r d) (c : Fin 4) (r d : Fin 64) :
    hq h (tc x0 x2 x3 x5 b) (at_ c r) d = csum (A (4 * τ + c.val)) r d := by
  have hz : ∀ x : Fin 256, ta x0 x2 x3 b x ⟨64 * h + d, by omega⟩ - ta x0 x2 x3 b x ⟨64 * h + d, by omega⟩ = 0 := by
    intro x
    obtain ⟨c', r', rfl⟩ : ∃ c' r', x = at_ c' r' := ⟨⟨x.val / 64, by omega⟩, ⟨x.val % 64, by omega⟩, Fin.ext (by rw [at_val]; simp only; omega)⟩
    have := ha c' r' d
    rw [hA] at this
    unfold hq at this
    rw [this, ← EReal.coe_sub, sub_self, EReal.coe_zero]
  unfold hq tc
  simp only [hz, sub_zero, mul_zero, Finset.sum_const_zero, add_zero]
  rw [sum_chunk c]
  · refine Finset.sum_congr rfl fun s _ => ?_
    rw [hX]
    simp only [at_le, at_div, and_true]
    have := ha c s d
    unfold hq at this
    rw [this]
    split_ifs <;> simp
  · intro c' r' hc
    rw [hX, if_neg, zero_mul]
    rw [at_div, at_div]
    exact fun hh => hc (Fin.ext hh.2)

/-- One chunk's step of the tile is the recurrence's. -/
theorem upto_chunk (hX : ∀ t s : Fin 256, x5 (ix2 t s) = if s ≤ t ∧ s.val / 64 = t.val / 64 then 1 else 0)
    (hA : ∀ n r d, A n r d = (ρ n r d : EReal))
    (ha : ∀ c r d, hq h (ta x0 x2 x3 b) (at_ c r) d = A (4 * τ + c.val) r d)
    (hk : ∀ c r d, hq h (tk x0 b) (at_ c r) d = K (4 * τ + c.val) r d)
    (hv' : ∀ c r e, hv h (tv x0 b) (at_ c r) e = V (4 * τ + c.val) r e) (c : Fin 4) (o : ℕ) (ho : o + 64 ≤ 256) (hc : o = 64 * c.val)
    (s : Fin 128 → Fin 64 → EReal) :
    upto o ho (hq h (tc x0 x2 x3 x5 b)) (hq h (tke x0 x2 x3 x5 b)) (hv h (tv x0 b)) s
      = next (K (4 * τ + c.val)) (A (4 * τ + c.val)) (V (4 * τ + c.val)) s := by
  subst hc
  funext e d
  unfold upto next
  rw [show (⟨64 * c.val + 63, by omega⟩ : Fin 256) = at_ c 63 from rfl, sums hX hA ha]
  refine congrArg₂ _ rfl (Finset.sum_congr rfl fun x _ => ?_)
  rw [show (⟨64 * c.val + x, by omega⟩ : Fin 256) = at_ c x from rfl, hv']
  refine congrArg₂ _ rfl ?_
  rw [← hk, ← sums hX hA ha, ← sums hX hA ha]
  unfold hq tke
  rw [pick_at]
  rfl

/-- The state the tile leaves: four chunks further. -/
theorem newState_eq (hX : ∀ t s : Fin 256, x5 (ix2 t s) = if s ≤ t ∧ s.val / 64 = t.val / 64 then 1 else 0)
    (hA : ∀ n r d, A n r d = (ρ n r d : EReal))
    (ha : ∀ c r d, hq h (ta x0 x2 x3 b) (at_ c r) d = A (4 * τ + c.val) r d)
    (hk : ∀ c r d, hq h (tk x0 b) (at_ c r) d = K (4 * τ + c.val) r d)
    (hv' : ∀ c r e, hv h (tv x0 b) (at_ c r) e = V (4 * τ + c.val) r e) (s : Vec Ideal S2x4x128x64 .f32)
    (hs : (fun e d => s (ix4 b h e d)) = states K A V (4 * τ)) :
    newState x0 x2 x3 x5 b s h = states K A V (4 * τ + 4) := by
  unfold newState tileState
  rw [hs, upto_chunk hX hA ha hk hv' 0 0 _ rfl, upto_chunk hX hA ha hk hv' 1 64 _ rfl, upto_chunk hX hA ha hk hv' 2 128 _ rfl,
    upto_chunk hX hA ha hk hv' 3 192 _ rfl]
  rfl

/-- The attention of a tile's row: its chunk's. -/
theorem attention (hX : ∀ t s : Fin 256, x5 (ix2 t s) = if s ≤ t ∧ s.val / 64 = t.val / 64 then 1 else 0)
    (hM : ∀ t s : Fin 256, maskK (ix2 t s) = if s ≤ t ∧ s.val / 64 = t.val / 64 then 1#1 else 0#1)
    (hA : ∀ n r d, A n r d = (ρ n r d : EReal)) (hρ : ∀ n r d, -(5 / 2) ≤ ρ n r d ∧ ρ n r d ≤ 0)
    (ha : ∀ c r d, hq h (ta x0 x2 x3 b) (at_ c r) d = A (4 * τ + c.val) r d)
    (hq' : ∀ c r d, hq h (tq x0 b) (at_ c r) d = Q (4 * τ + c.val) r d)
    (hk : ∀ c r d, hq h (tk x0 b) (at_ c r) d = K (4 * τ + c.val) r d)
    (hv' : ∀ c r e, hv h (tv x0 b) (at_ c r) e = V (4 * τ + c.val) r e) (c : Fin 4) (r : Fin 64) (e : Fin 128) :
    (∑ x : Fin 256, Scalar.select (maskK (ix2 (at_ c r) x))
        (∑ d : Fin 64, hq h (tqa x0 x2 x3 x5 b) (at_ c r) d * hq h (tkb x0 x2 x3 x5 b) x d) 0 * hv h (tv x0 b) x e)
      = ∑ s : Fin 64, att (Q (4 * τ + c.val)) (K (4 * τ + c.val)) (A (4 * τ + c.val)) r s * V (4 * τ + c.val) s e := by
  rw [sum_chunk c]
  · refine Finset.sum_congr rfl fun s _ => ?_
    rw [hv']
    refine congrArg (· * _) ?_
    rw [hM]
    simp only [at_le, at_div, and_true]
    unfold att
    by_cases hs : s ≤ r
    · simp only [if_pos hs]
      refine (select_one _ _).trans ?_
      refine Finset.sum_congr rfl fun d _ => ?_
      have e1 : ∀ r', tc x0 x2 x3 x5 b (at_ c r') ⟨64 * h + d, by omega⟩ = (rsum (ρ (4 * τ + c.val)) r' d : EReal) := by
        intro r'
        refine (sums hX hA ha c r' d).trans ?_
        rw [show A (4 * τ + c.val) = fun r d => (ρ (4 * τ + c.val) r d : EReal) from funext fun _ => funext fun _ => hA _ _ _]
        exact csum_coe _ r' d
      rw [← sums hX hA ha c r d, ← sums hX hA ha c s d, ← hq', ← hk]
      unfold hq tqa tkb
      rw [pick_at, pick_at, e1, e1, e1]
      exact factors _ _ (rsum_sub_mid _ (hρ _) r d) (mid_sub_rsum _ (hρ _) s d)
    · simp only [if_neg hs]
      refine (select_zero _ _).trans ?_
      simp
  · intro c' r' hc
    rw [hM, if_neg]
    · rw [select_zero, zero_mul]
    · rw [at_div, at_div]
      exact fun hh => hc (Fin.ext hh.2)

/-- The output row the tile stores: the recurrence's row, normalised and gated. -/
theorem newOut_eq (hX : ∀ t s : Fin 256, x5 (ix2 t s) = if s ≤ t ∧ s.val / 64 = t.val / 64 then 1 else 0)
    (hM : ∀ t s : Fin 256, maskK (ix2 t s) = if s ≤ t ∧ s.val / 64 = t.val / 64 then 1#1 else 0#1)
    (hA : ∀ n r d, A n r d = (ρ n r d : EReal)) (hρ : ∀ n r d, -(5 / 2) ≤ ρ n r d ∧ ρ n r d ≤ 0)
    (ha : ∀ c r d, hq h (ta x0 x2 x3 b) (at_ c r) d = A (4 * τ + c.val) r d)
    (hq' : ∀ c r d, hq h (tq x0 b) (at_ c r) d = Q (4 * τ + c.val) r d)
    (hk : ∀ c r d, hq h (tk x0 b) (at_ c r) d = K (4 * τ + c.val) r d)
    (hv' : ∀ c r e, hv h (tv x0 b) (at_ c r) e = V (4 * τ + c.val) r e) (x4 : Vec Ideal S1x128 .f32) (s : Vec Ideal S2x4x128x64 .f32)
    (hs : (fun e d => s (ix4 b h e d)) = states K A V (4 * τ)) (c : Fin 4) (r : Fin 64) :
    newOut x0 x2 x3 x5 b x4 s h (at_ c r)
      = finish (row (Q (4 * τ + c.val)) (K (4 * τ + c.val)) (A (4 * τ + c.val)) (V (4 * τ + c.val)) (states K A V (4 * τ + c.val)) r)
          (fun e => x4 (ix2 0 e)) (hv h (tr x0 b) (at_ c r)) := by
  unfold newOut
  refine congrArg (fun o => finish o _ _) (funext fun e => ?_)
  unfold tileOut row
  rw [attention hX hM hA hρ ha hq' hk hv']
  refine congrArg₂ _ rfl ?_
  rw [hs, upto_chunk hX hA ha hk hv' 0 0 _ rfl, upto_chunk hX hA ha hk hv' 1 64 _ rfl, upto_chunk hX hA ha hk hv' 2 128 _ rfl]
  refine Eq.trans ?_ ((ladder_at (fun c r => ∑ d : Fin 64, hq h (tqe x0 x2 x3 x5 b) (at_ c r) d * states K A V (4 * τ + c.val) e d) c r).trans ?_)
  · rfl
  · refine Finset.sum_congr rfl fun d _ => ?_
    rw [← hq', ← sums hX hA ha]
    rfl

end tile

end Cert.Equal

end

end
-- ==== Proof.Sums.lean ====
/- The reference's running sum of the log-decays along the rows of a chunk, as a sum over the rows up to the row asked for. -/
module

public import proofs.«01_k».proof.Proof.Chunk
public import proofs.«01_k».proof.Proof.Gen.ReferenceIdeal.Step

@[expose] public section

set_option maxRecDepth 16384

noncomputable section

namespace Cert.Sums

open Idealize.ShloMosaic Idealize.ShloMosaic.TcCoe Idealize.SL.Sem Cert.ReferenceIdeal Cert.ReferenceIdeal.Gen

/-- Adding up a list from the left is the start plus the list's sum. -/
theorem foldl_add {ι : Type} (l : List ι) (g : ι → EReal) (v : EReal) :
    l.foldl (fun r n => r + g n) v = v + (l.map g).sum := by
  induction l generalizing v with
  | nil => simp
  | cons x l ih => rw [List.foldl_cons, ih, List.map_cons, List.sum_cons, add_assoc]

/-- The window of 64 rows the running sum is taken over. -/
abbrev W : Shape := ⟨4, ![1, 1, 64, 1]⟩

/-- A sum over the window's positions is a sum over its 64 rows. -/
theorem sum_window (f : W.Idx → EReal) : ∑ n : Fin W.numel, f (W.rowMajor.symm n) = ∑ k : Fin 64, f (ix4 0 0 k 0) := by
  rw [Equiv.sum_comp W.rowMajor.symm f]
  symm
  refine Fintype.sum_bijective (fun k : Fin 64 => (ix4 0 0 k 0 : W.Idx)) ⟨fun a b e => ?_, fun y => ⟨y 2, ?_⟩⟩ _ _ fun k => rfl
  · exact congrFun e 2
  · funext a
    match a with
    | 0 => exact Subsingleton.elim (α := Fin 1) _ _
    | 1 => exact Subsingleton.elim (α := Fin 1) _ _
    | 2 => rfl
    | 3 => exact Subsingleton.elim (α := Fin 1) _ _

/-- A sum over the window's rows that lie inside the chunk is the sum over the rows up to `t`. -/
theorem sum_shift (x : Fin 64 → EReal) (t : Fin 64) (f : Fin 64 → EReal)
    (hf : ∀ k : Fin 64, f k = if h : 63 ≤ t.val + k.val then x ⟨t.val + k.val - 63, by omega⟩ else 0) :
    ∑ k : Fin 64, f k = ∑ s : Fin 64, if s ≤ t then x s else 0 := by
  refine Fintype.sum_equiv (Equiv.addRight (t + 1)) _ _ fun k => ?_
  have hv : (k + (t + 1)).val = (k.val + (t.val + 1)) % 64 := by
    rw [Fin.val_add, Fin.val_add]
    show (k.val + (t.val + 1) % 64) % 64 = _
    omega
  rw [hf]
  show _ = if k + (t + 1) ≤ t then x (k + (t + 1)) else 0
  have hk := k.isLt
  have ht := t.isLt
  by_cases h : 63 ≤ t.val + k.val
  · rw [dif_pos h, if_pos (by rw [Fin.le_def, hv]; omega)]
    congr 1
    apply Fin.ext
    rw [hv]
    show t.val + k.val - 63 = _
    omega
  · rw [dif_neg h, if_neg (by rw [Fin.le_def, hv]; omega)]

/-- The running sum along the rows, at a row and a column. -/
theorem cumsum_at (x : Vec Ideal S2x4x64x64 .f32) (init : S_.Idx → EReal) (h0 : init (Shape.Idx.first h_S_) = 0) (b : Fin 2) (h : Fin 4) (t d : Fin 64) :
    Host.reduceWindowAdd (F := Ideal) (φ := .f32) ![1, 1, 64, 1] ![1, 1, 1, 1] ![0, 0, 63, 0] ![0, 0, 0, 0] x init
      reduceWindows_S2x4x64x64_S2x4x64x64_w1s1p0_0_w1s1p0_0_w64s1p63_0_w1s1p0_0 h_S_ (ix4 b h t d) =
    Chunk.csum (fun r d => x (ix4 b h r d)) t d := by
  show Ideal.hostReduceWindowAdd ![1, 1, 64, 1] ![1, 1, 1, 1] ![0, 0, 63, 0] ![0, 0, 0, 0]
    reduceWindows_S2x4x64x64_S2x4x64x64_w1s1p0_0_w1s1p0_0_w64s1p63_0_w1s1p0_0 x (init (Shape.Idx.first h_S_)) (ix4 b h t d) = _
  rw [h0]
  unfold Ideal.hostReduceWindowAdd Host.reduceWindow
  refine (foldl_add _ _ _).trans ?_
  rw [zero_add, ← List.ofFn_eq_map, List.sum_ofFn]
  refine (sum_window (fun w => @dite EReal (∀ a : Fin 4, (![0, 0, 63, 0] : Fin 4 → ℕ) a ≤ (ix4 b h t d a).val * (![1, 1, 1, 1] : Fin 4 → ℕ) a + (w a).val ∧
    (ix4 b h t d a).val * (![1, 1, 1, 1] : Fin 4 → ℕ) a + (w a).val - (![0, 0, 63, 0] : Fin 4 → ℕ) a < S2x4x64x64.size a)
      (Nat.decidableForallFin _) (fun hin => x (fun a => ⟨(ix4 b h t d a).val * (![1, 1, 1, 1] : Fin 4 → ℕ) a + (w a).val -
        (![0, 0, 63, 0] : Fin 4 → ℕ) a, (hin a).2⟩)) (fun _ => 0))).trans ?_
  refine sum_shift (fun r => x (ix4 b h r d)) t _ fun k => ?_
  have hb := b.isLt
  have hh := h.isLt
  have hd := d.isLt
  have ht := t.isLt
  have hk := k.isLt
  by_cases hc : 63 ≤ t.val + k.val
  · rw [dif_pos hc, dif_pos ?_]
    · congr 1
      funext a
      match a with
      | 0 => exact Fin.ext (show b.val * 1 + 0 - 0 = b.val by omega)
      | 1 => exact Fin.ext (show h.val * 1 + 0 - 0 = h.val by omega)
      | 2 => exact Fin.ext (show t.val * 1 + k.val - 63 = t.val + k.val - 63 by omega)
      | 3 => exact Fin.ext (show d.val * 1 + 0 - 0 = d.val by omega)
    · intro a
      match a with
      | 0 => exact show 0 ≤ b.val * 1 + 0 ∧ b.val * 1 + 0 - 0 < 2 by omega
      | 1 => exact show 0 ≤ h.val * 1 + 0 ∧ h.val * 1 + 0 - 0 < 4 by omega
      | 2 => exact show 63 ≤ t.val * 1 + k.val ∧ t.val * 1 + k.val - 63 < 64 by omega
      | 3 => exact show 0 ≤ d.val * 1 + 0 ∧ d.val * 1 + 0 - 0 < 64 by omega
  · rw [dif_neg hc, dif_neg ?_]
    intro hin
    have h2 : 63 ≤ t.val * 1 + k.val := (hin 2).1
    omega

end Cert.Sums

end

end
-- ==== Proof.Gate.lean ====
/- The gate: the kernel's and the reference's log-decay are one number, a real number where the gate's argument is not
   minus infinity, and with the argument at least -39 one between -5/2 and 0. -/
module

public import proofs.«01_k».proof.Proof.Tile

@[expose] public section

set_option maxRecDepth 16384

noncomputable section

namespace Cert.Gate

open Idealize.ShloMosaic Idealize.ShloMosaic.TcCoe Idealize.SL.Sem Cert.Tile

/-- The kernel's factor is one sixteenth. -/
theorem factor : Ideal.ofBits .f32 0x3D800000#32 = ((1 / 16 : ℝ) : EReal) := by
  simp [Ideal.ofBits, Ideal.ieee, -EReal.coe_mul]; norm_num

/-- The reference's divisor is 16. -/
theorem divisor : Ideal.ofBits .f32 0x41800000#32 = ((16 : ℝ) : EReal) := by
  simp [Ideal.ofBits, Ideal.ieee, -EReal.coe_mul]; norm_num

/-- The precondition's bound is -39. -/
theorem least : Ideal.ofBits .f32 0xC21C0000#32 = ((-39 : ℝ) : EReal) := by
  simp [Ideal.ofBits, Ideal.ieee, -EReal.coe_mul]; norm_num

/-- A number or its negative. -/
theorem abs_eq (z : EReal) : FloatOps.absf (F := Ideal) (φ := .f32) z = max z (-z) := rfl

/-- The gate of a real argument. -/
theorem gate_coe (z : ℝ) : gate (z : EReal) = (((min z 0 - Real.log (1 + Real.exp (-|z|))) * (1 / 16) : ℝ) : EReal) := by
  have hp : (0 : ℝ) < 1 + Real.exp (-|z|) := by positivity
  have e1 : FloatOps.absf (F := Ideal) (φ := .f32) (z : EReal) = ((|z| : ℝ) : EReal) := by
    rw [abs_eq, ← EReal.coe_neg, abs_eq_max_neg]; exact (EReal.coe_strictMono.monotone.map_max (a := z) (b := -z)).symm
  unfold gate
  rw [factor, e1, zero_sub, ← EReal.coe_neg, Ideal.exp_coe]
  have e2 : Ideal.log1p ((Real.exp (-|z|) : ℝ) : EReal) = ((Real.log (1 + Real.exp (-|z|)) : ℝ) : EReal) := by
    show Ideal.log (1 + ((Real.exp (-|z|) : ℝ) : EReal)) = _
    rw [← EReal.coe_one, ← EReal.coe_add, Ideal.log_coe, if_neg (not_le.mpr hp)]
  rw [e2, EReal.coe_mul, EReal.coe_sub, show ((min z 0 : ℝ) : EReal) = min (z : EReal) 0 from EReal.coe_strictMono.monotone.map_min (a := z) (b := 0)]

/-- The gate of plus infinity is zero. -/
theorem gate_top : gate ⊤ = ((0 : ℝ) : EReal) := by
  unfold gate
  have e : FloatOps.absf (F := Ideal) (φ := .f32) (⊤ : EReal) = ⊤ := by rw [abs_eq]; simp
  rw [e]
  have e2 : Ideal.log1p (Ideal.exp (0 - ⊤)) = 0 := by
    show Ideal.log (1 + Ideal.exp (0 - ⊤)) = 0
    have e3 : Ideal.exp (0 - (⊤ : EReal)) = ((0 : ℝ) : EReal) := by rw [zero_sub]; rfl
    rw [e3, ← EReal.coe_one, ← EReal.coe_add, Ideal.log_coe]
    norm_num
  rw [e2]
  simp

/-- The gate of an argument other than minus infinity is a real number. -/
theorem gate_real (z : EReal) (hz : z ≠ ⊥) : ∃ ρ : ℝ, gate z = (ρ : EReal) := by
  induction z with
  | bot => exact absurd rfl hz
  | top => exact ⟨0, gate_top⟩
  | coe z => exact ⟨_, gate_coe z⟩

/-- An argument at least -39 is not minus infinity. -/
theorem ne_bot {z : EReal} (hz : ((-39 : ℝ) : EReal) ≤ z) : z ≠ ⊥ :=
  fun e => absurd (e ▸ hz) (by simp)

/-- The gate of an argument at least -39 is a real number between -5/2 and 0. -/
theorem gate_range (z : EReal) (hz : ((-39 : ℝ) : EReal) ≤ z) : ∃ ρ : ℝ, gate z = (ρ : EReal) ∧ -(5 / 2) ≤ ρ ∧ ρ ≤ 0 := by
  induction z with
  | bot => exact absurd hz (by simp)
  | top =>
    exact ⟨0, gate_top, by norm_num, le_refl _⟩
  | coe z =>
    have hz' : (-39 : ℝ) ≤ z := by exact_mod_cast hz
    refine ⟨_, gate_coe z, ?_, ?_⟩
    · have h1 : Real.exp (-|z|) ≤ 1 := Real.exp_le_one_iff.mpr (by simp)
      have h2 : Real.log (1 + Real.exp (-|z|)) ≤ 1 := by
        have := Real.log_le_sub_one_of_pos (show (0 : ℝ) < 1 + Real.exp (-|z|) by positivity)
        linarith
      have h3 : (-39 : ℝ) ≤ min z 0 := le_min hz' (by norm_num)
      linarith
    · have h1 : 0 ≤ Real.log (1 + Real.exp (-|z|)) := Real.log_nonneg (by have := Real.exp_pos (-|z|); linarith)
      have h2 : min z 0 ≤ 0 := min_le_right _ _
      linarith

/-- The reference's log-decay. -/
def decay (z : EReal) : EReal :=
  Ideal.div (-(max (-z) 0 + Ideal.log1p (Ideal.exp (-FloatOps.absf (F := Ideal) (φ := .f32) (-z))))) (Ideal.ofBits .f32 0x41800000#32)

/-- The two programs' log-decays are equal where the argument is not minus infinity. -/
theorem decay_eq (z : EReal) (hz : z ≠ ⊥) : decay z = gate z := by
  have ha : FloatOps.absf (F := Ideal) (φ := .f32) (-z) = FloatOps.absf (F := Ideal) (φ := .f32) z := by
    rw [abs_eq, abs_eq, neg_neg, max_comm]
  have hm : max (-z) 0 = -min z 0 := by
    rcases le_total z 0 with h | h
    · rw [min_eq_left h, max_eq_left (by simpa using EReal.neg_le_neg_iff.mpr h)]
    · rw [min_eq_right h, max_eq_right (by simpa using EReal.neg_le_neg_iff.mpr h)]; simp
  unfold decay
  rw [ha, hm, divisor]
  have key : ∀ w : EReal, Ideal.div w ((16 : ℝ) : EReal) = w * ((1 / 16 : ℝ) : EReal) := fun w => by
    rw [Ideal.div_coe]
    norm_num
  rw [key]
  unfold gate
  rw [factor]
  congr 1
  rw [zero_sub]
  have hlog : ∃ l : ℝ, Ideal.log1p (Ideal.exp (-FloatOps.absf (F := Ideal) (φ := .f32) z)) = (l : EReal) := by
    have hx : ∃ x : ℝ, 0 ≤ x ∧ Ideal.exp (-FloatOps.absf (F := Ideal) (φ := .f32) z) = (x : EReal) := by
      induction z with
      | bot => exact absurd rfl hz
      | top => exact ⟨0, le_refl _, by rw [abs_eq]; simp⟩
      | coe z =>
        refine ⟨Real.exp (-|z|), (Real.exp_pos _).le, ?_⟩
        have e1 : FloatOps.absf (F := Ideal) (φ := .f32) (z : EReal) = ((|z| : ℝ) : EReal) := by
          rw [abs_eq, ← EReal.coe_neg, abs_eq_max_neg]; exact (EReal.coe_strictMono.monotone.map_max (a := z) (b := -z)).symm
        rw [e1, ← EReal.coe_neg, Ideal.exp_coe]
    obtain ⟨x, h0, hx⟩ := hx
    refine ⟨Real.log (1 + x), ?_⟩
    rw [hx]
    show Ideal.log (1 + (x : EReal)) = _
    rw [← EReal.coe_one, ← EReal.coe_add, Ideal.log_coe, if_neg (by linarith)]
  obtain ⟨l, hl⟩ := hlog
  rw [hl]
  induction z with
  | bot => exact absurd rfl hz
  | top =>
    rw [min_eq_right le_top]
    rw [← EReal.coe_zero, ← EReal.coe_neg, ← EReal.coe_add, ← EReal.coe_neg, ← EReal.coe_sub]
    norm_num
  | coe z =>
    have e : min (z : EReal) 0 = ((min z 0 : ℝ) : EReal) := (EReal.coe_strictMono.monotone.map_min (a := z) (b := 0)).symm
    rw [e, ← EReal.coe_neg, ← EReal.coe_add, ← EReal.coe_neg, ← EReal.coe_sub]
    congr 1
    ring

end Cert.Gate

end

end
-- ==== Proof.RefAt.lean ====
/- The reference's operations read at an index: the arrays its loop over chunks begins with, a chunk's slices of them, the state
   and the output rows one trip leaves. -/
module

public import proofs.«01_k».proof.Proof.Sums
public import proofs.«01_k».proof.Proof.Gate
public import Idealize.ShloMosaic.Lib.DynamicIndex

@[expose] public section

set_option maxRecDepth 16384

noncomputable section

namespace Cert.RefAt

open Idealize.ShloMosaic Idealize.ShloMosaic.TcCoe Idealize.SL.Sem Cert.ReferenceIdeal Cert.ReferenceIdeal.Gen
open Cert.ReferenceIdeal.Step

/-- The row of the sequence that is row `r` of chunk `n`. -/
def pos (n : ℕ) (r : Fin 64) : Fin 8192 := ⟨(n * 64 + r.val) % 8192, Nat.mod_lt _ (by decide)⟩

theorem pos_fin (n : Fin 128) (r : Fin 64) : pos n.val r = ⟨n.val * 64 + r.val, by omega⟩ :=
  Fin.ext (Nat.mod_eq_of_lt (by have := n.isLt; have := r.isLt; omega))

/-- Column `d` of head `h` of the queries and keys. -/
def colq (h : Fin 4) (d : Fin 64) : Fin 256 := ⟨h.val * 64 + d.val, by omega⟩

/-- Column `e` of head `h` of the values. -/
def colv (h : Fin 4) (e : Fin 128) : Fin 512 := ⟨h.val * 128 + e.val, by omega⟩

section Args
variable (a0 : (⟨S2x8192x256, .f32⟩ : BufTy).Contents (Elt Ideal)) (a1 : (⟨S2x8192x256, .f32⟩ : BufTy).Contents (Elt Ideal))
  (a2 : (⟨S2x8192x512, .f32⟩ : BufTy).Contents (Elt Ideal)) (a3 : (⟨S2x8192x16, .f32⟩ : BufTy).Contents (Elt Ideal))
  (a4 : (⟨S2x8192x512, .f32⟩ : BufTy).Contents (Elt Ideal))
  (a5 : (⟨S16x256, .f32⟩ : BufTy).Contents (Elt Ideal)) (a6 : (⟨S256, .f32⟩ : BufTy).Contents (Elt Ideal))
  (a7 : (⟨S128, .f32⟩ : BufTy).Contents (Elt Ideal))

/-- The gate's argument. -/
def arg (b : Fin 2) (t : Fin 8192) (j : Fin 256) : EReal :=
  (∑ x : Fin 16, a3 (ix3 b t x) * a5 (ix2 x j)) + a6 (ix1 j)

/-- The scaled queries, chunk by chunk. -/
def Q (b : Fin 2) (h : Fin 4) (n : ℕ) (r d : Fin 64) : EReal := a0 (ix3 b (pos n r) (colq h d)) * Ideal.ofBits .f32 0x3E000000#32

/-- The keys, chunk by chunk. -/
def K (b : Fin 2) (h : Fin 4) (n : ℕ) (r d : Fin 64) : EReal := a1 (ix3 b (pos n r) (colq h d))

/-- The values, chunk by chunk. -/
def V (b : Fin 2) (h : Fin 4) (n : ℕ) (r : Fin 64) (e : Fin 128) : EReal := a2 (ix3 b (pos n r) (colv h e))

/-- The reference's log-decays, chunk by chunk. -/
def L (b : Fin 2) (h : Fin 4) (n : ℕ) (r d : Fin 64) : EReal := Gate.decay (arg a3 a5 a6 b (pos n r) (colq h d))

/-- The queries' array at an index. -/
theorem q_at (n : Fin 128) (b : Fin 2) (h : Fin 4) (r d : Fin 64) :
    A_main_v36 a0 a1 a2 a3 a5 a6 (ix5 n b h r d) = Q a0 b h n r d := by
  unfold Q
  rw [pos_fin]
  pointwise [A_main_v36, A_main_v35, A_main_v2, A_main_v0, K_main_cst, K_main_v1, colq]

/-- The keys' array at an index. -/
theorem k_at (n : Fin 128) (b : Fin 2) (h : Fin 4) (r d : Fin 64) :
    A_main_v38 a0 a1 a2 a3 a5 a6 (ix5 n b h r d) = K a1 b h n r d := by
  unfold K
  rw [pos_fin]
  pointwise [A_main_v38, A_main_v37, A_main_v3, colq]

/-- The values' array at an index. -/
theorem v_at (n : Fin 128) (b : Fin 2) (h : Fin 4) (r : Fin 64) (e : Fin 128) :
    A_main_v40 a0 a1 a2 a3 a5 a6 (ix5 n b h r e) = V a2 b h n r e := by
  unfold V
  rw [pos_fin]
  pointwise [A_main_v40, A_main_v39, A_main_v4, colv]

/-- The log-decays' array at an index. -/
theorem la_at (n : Fin 128) (b : Fin 2) (h : Fin 4) (r d : Fin 64) :
    A_main_v42 a0 a1 a2 a3 a5 a6 (ix5 n b h r d) = L a3 a5 a6 b h n r d := by
  unfold L
  rw [pos_fin]
  pointwise [A_main_v42, A_main_v41, A_main_v23, A_main_v22, A_main_v21,A_main_v20,A_main_v19,A_main_v18,A_main_v17,A_main_v16,A_main_v14,A_main_v13,A_main_v11,A_main_v9,A_main_v8,A_main_v7,A_main_v6,A_main_v5,A_main_v27,A_main_v25,K_main_cst,K_main_v1,K_main_cst_0,K_main_v10,K_main_v12,K_main_v15,K_main_cst_1,K_main_v24, colq, Gate.decay, arg]
  rw [if_neg (not_not.mpr rfl)]

/-- The state the loop begins with. -/
theorem zero_at (b : Fin 2) (h : Fin 4) (d : Fin 64) (e : Fin 128) :
    (init (F := Ideal) a0 a1 a2 a3 a5 a6).main_v44_6 (ix4 b h d e) = 0 := by
  show K_main_v26 (F := Ideal) (ix4 b h d e) = 0
  pointwise [K_main_v26, K_main_cst_2]

end Args

/-- A chunk's slice of an array of 64 columns. -/
theorem slice_64 (x : Vec Ideal S128x2x4x64x64 .f32) (j : ℕ) (hj : j < 128) (start : Fin 5 → Int)
    (hs : ∀ a, start a = ((![j, 0, 0, 0, 0] : Fin 5 → ℕ) a : Int)) (b : Fin 2) (h : Fin 4) (r d : Fin 64) :
    Host.dynamicSlice S1x2x4x64x64 x start sliceFits_S128x2x4x64x64_S1x2x4x64x64 (ix5 0 b h r d) = x (ix5 ⟨j, hj⟩ b h r d) := by
  have hoff : S128x2x4x64x64.Slices ![j, 0, 0, 0, 0] S1x2x4x64x64 := ⟨rfl, fun a => by
    match a with
    | 0 => exact show j + 1 ≤ 128 by omega
    | 1 => exact show 0 + 2 ≤ 2 by omega
    | 2 => exact show 0 + 4 ≤ 4 by omega
    | 3 => exact show 0 + 64 ≤ 64 by omega
    | 4 => exact show 0 + 64 ≤ 64 by omega⟩
  rw [Host.dynamicSlice_eq_extractStridedSlice S1x2x4x64x64 x start ![j, 0, 0, 0, 0] _ hoff hs]
  pointwise

/-- A chunk's slice of an array of 128 columns. -/
theorem slice_128 (x : Vec Ideal S128x2x4x64x128 .f32) (j : ℕ) (hj : j < 128) (start : Fin 5 → Int)
    (hs : ∀ a, start a = ((![j, 0, 0, 0, 0] : Fin 5 → ℕ) a : Int)) (b : Fin 2) (h : Fin 4) (r : Fin 64) (e : Fin 128) :
    Host.dynamicSlice S1x2x4x64x128 x start sliceFits_S128x2x4x64x128_S1x2x4x64x128 (ix5 0 b h r e) = x (ix5 ⟨j, hj⟩ b h r e) := by
  have hoff : S128x2x4x64x128.Slices ![j, 0, 0, 0, 0] S1x2x4x64x128 := ⟨rfl, fun a => by
    match a with
    | 0 => exact show j + 1 ≤ 128 by omega
    | 1 => exact show 0 + 2 ≤ 2 by omega
    | 2 => exact show 0 + 4 ≤ 4 by omega
    | 3 => exact show 0 + 64 ≤ 64 by omega
    | 4 => exact show 0 + 128 ≤ 128 by omega⟩
  rw [Host.dynamicSlice_eq_extractStridedSlice S1x2x4x64x128 x start ![j, 0, 0, 0, 0] _ hoff hs]
  pointwise

/-- A chunk's rows written into the array of output rows. -/
theorem update_at (x : Vec Ideal S128x2x4x64x128 .f32) (u : Vec Ideal S1x2x4x64x128 .f32) (j : ℕ) (hj : j < 128) (start : Fin 5 → Int)
    (hs : ∀ a, start a = ((![j, 0, 0, 0, 0] : Fin 5 → ℕ) a : Int)) (n : Fin 128) (b : Fin 2) (h : Fin 4) (r : Fin 64) (e : Fin 128) :
    Host.dynamicUpdateSlice x u start updateFits_S128x2x4x64x128_S1x2x4x64x128 (ix5 n b h r e) =
      if n.val = j then u (ix5 0 b h r e) else x (ix5 n b h r e) := by
  have hc : ∀ a : Fin 5, Host.clampedStart S128x2x4x64x128 S1x2x4x64x128 updateFits_S128x2x4x64x128_S1x2x4x64x128.1 start a = (![j, 0, 0, 0, 0] : Fin 5 → ℕ) a := fun a => by
    refine Host.clampedStart_of_le (s := S128x2x4x64x128) (t := S1x2x4x64x128) _ start a _ (hs a) ?_
    match a with
    | 0 => exact show j + 1 ≤ 128 by omega
    | 1 => exact show 0 + 2 ≤ 2 by omega
    | 2 => exact show 0 + 4 ≤ 4 by omega
    | 3 => exact show 0 + 64 ≤ 64 by omega
    | 4 => exact show 0 + 128 ≤ 128 by omega
  rw [Host.dynamicUpdateSlice_apply]
  by_cases hn : n.val = j
  · rw [if_pos hn, dif_pos ?_]
    · congr 1
      rw [Shape.Idx.norm_def]
      funext a
      match a with
      | 0 => exact Subsingleton.elim (α := Fin 1) _ _
      | 1 => exact Fin.ext ((congrArg (b.val - ·) (hc 1)).trans (Nat.sub_zero _))
      | 2 => exact Fin.ext ((congrArg (h.val - ·) (hc 2)).trans (Nat.sub_zero _))
      | 3 => exact Fin.ext ((congrArg (r.val - ·) (hc 3)).trans (Nat.sub_zero _))
      | 4 => exact Fin.ext ((congrArg (e.val - ·) (hc 4)).trans (Nat.sub_zero _))
    · intro a
      rw [hc]
      match a with
      | 0 => exact show j ≤ n.val ∧ n.val < j + 1 by omega
      | 1 => exact show 0 ≤ b.val ∧ b.val < 0 + 2 by omega
      | 2 => exact show 0 ≤ h.val ∧ h.val < 0 + 4 by omega
      | 3 => exact show 0 ≤ r.val ∧ r.val < 0 + 64 by omega
      | 4 => exact show 0 ≤ e.val ∧ e.val < 0 + 128 by omega
  · rw [if_neg hn, dif_neg ?_]
    intro hin
    have h0 := hin 0
    rw [hc] at h0
    have h1 : j ≤ n.val ∧ n.val < j + 1 := h0
    omega

/-- The starts of a chunk's slices, read as integers. -/
theorem starts (j : ℕ) (hj : j < 128) (w : Fin 5 → (⟨S_, .i32⟩ : BufTy).Contents (Elt Ideal))
    (h0 : w 0 = constantI S_ 32 (BitVec.ofNat 32 j)) (h1 : ∀ a : Fin 4, w a.succ = constantI S_ 32 0#32) (a : Fin 5) :
    (w a (Shape.Idx.first h_S_)).toInt = ((![j, 0, 0, 0, 0] : Fin 5 → ℕ) a : Int) := by
  refine Fin.cases ?_ (fun a => ?_) a
  · rw [h0]
    exact toInt_ofNat_of_lt (by omega)
  · rw [h1]
    fin_cases a <;> rfl

/-- The word for minus infinity. -/
theorem minus_inf : Ideal.ofBits .f32 0xFF800000#32 = ⊥ := by
  simp [Ideal.ofBits, Ideal.ieee]

/-- The choice between a value and minus infinity by the order of two rows. -/
theorem causal (x r : Fin 64) (v : EReal) :
    Scalar.select (IntOp.cmpi .sle (BitVec.ofNat 32 x.val) (BitVec.ofNat 32 r.val)) v (Ideal.ofBits .f32 0xFF800000#32) =
      if x ≤ r then v else ⊥ := by
  have e : IntOp.cmpi .sle (BitVec.ofNat 32 x.val) (BitVec.ofNat 32 r.val) = BitVec.ofBool (decide (x ≤ r)) := by
    show BitVec.ofBool (decide ((BitVec.ofNat 32 x.val).toInt ≤ (BitVec.ofNat 32 r.val).toInt)) = _
    rw [toInt_ofNat_of_lt (by omega), toInt_ofNat_of_lt (by omega)]
    simp
  rw [e, minus_inf]
  by_cases hx : x ≤ r
  · rw [if_pos hx, decide_eq_true hx]; rfl
  · rw [if_neg hx, decide_eq_false hx]; rfl

section Trip
variable (j : ℕ) (hj : j < 128) (s : State Ideal) (b : Fin 2) (h : Fin 4)
include hj

theorem b5_at (r d : Fin 64) : b5 j s (ix4 b h r d) = s.main_v44_0 (ix5 ⟨j, hj⟩ b h r d) := by
  pointwise [b5]
  exact slice_64 _ j hj _ (starts j hj _ rfl (fun a => by fin_cases a <;> rfl)) b h r d

theorem b11_at (r d : Fin 64) : b11 j s (ix4 b h r d) = s.main_v44_1 (ix5 ⟨j, hj⟩ b h r d) := by
  pointwise [b11]
  exact slice_64 _ j hj _ (starts j hj _ rfl (fun a => by fin_cases a <;> rfl)) b h r d

theorem b17_at (r : Fin 64) (e : Fin 128) : b17 j s (ix4 b h r e) = s.main_v44_2 (ix5 ⟨j, hj⟩ b h r e) := by
  pointwise [b17]
  exact slice_128 _ j hj _ (starts j hj _ rfl (fun a => by fin_cases a <;> rfl)) b h r e

theorem b23_at (r d : Fin 64) : b23 j s (ix4 b h r d) = s.main_v44_3 (ix5 ⟨j, hj⟩ b h r d) := by
  pointwise [b23]
  exact slice_64 _ j hj _ (starts j hj _ rfl (fun a => by fin_cases a <;> rfl)) b h r d

/-- The running sums of the chunk's log-decays. -/
theorem b26_at (r d : Fin 64) : b26 j s (ix4 b h r d) = Chunk.csum (fun r d => s.main_v44_3 (ix5 ⟨j, hj⟩ b h r d)) r d := by
  refine (Sums.cumsum_at _ _ ?_ b h r d).trans ?_
  · pointwise [b25, b24]
  · simp only [b23_at j hj]

/-- The state a trip leaves is the chunk's next state. -/
theorem b62_at (d : Fin 64) (e : Fin 128) :
    b62 j s (ix4 b h d e) = Chunk.next (fun r d => s.main_v44_1 (ix5 ⟨j, hj⟩ b h r d)) (fun r d => s.main_v44_3 (ix5 ⟨j, hj⟩ b h r d))
      (fun r e => s.main_v44_2 (ix5 ⟨j, hj⟩ b h r e)) (fun e d => s.main_v44_6 (ix4 b h d e)) e d := by
  pointwise [b62, b61, b55, b60, b59, b58, b57, b56, b54, b53, b52, b51, b50]
  simp only [b26_at j hj, b11_at j hj, b17_at j hj]
  unfold Chunk.next
  rw [mul_comm]
  refine congrArg (_ + ·) (Finset.sum_congr rfl fun x _ => ?_)
  rw [mul_comm]

/-- The rows a trip leaves are the chunk's output rows. -/
theorem b49_at (r : Fin 64) (e : Fin 128) :
    b49 j s (ix4 b h r e) = Chunk.row (fun r d => s.main_v44_0 (ix5 ⟨j, hj⟩ b h r d)) (fun r d => s.main_v44_1 (ix5 ⟨j, hj⟩ b h r d))
      (fun r d => s.main_v44_3 (ix5 ⟨j, hj⟩ b h r d)) (fun r e => s.main_v44_2 (ix5 ⟨j, hj⟩ b h r e))
      (fun e d => s.main_v44_6 (ix4 b h d e)) r e := by
  pointwise [b49, b48, b47, b46, b45, b44, b43, b42, b41, b40, b39, b38, b37, b36, b35, b34, b33, b32, b31, b30, b29, b28, b27, K_main_v28, K_main_v29, K_main_v30, K_main_v31, K_main_v32, K_main_v33, K_main_v34, K_main_cst_3]
  simp only [b26_at j hj, b11_at j hj, b17_at j hj, b5_at j hj]
  unfold Chunk.row Chunk.att
  rw [add_comm]
  refine congrArg₂ (· + ·) (Finset.sum_congr rfl fun x _ => ?_) rfl
  refine congrArg (· * _) (Finset.sum_congr rfl fun y _ => ?_)
  rw [causal]

/-- The rows' array after a trip. -/
theorem b68_at (n : Fin 128) (r : Fin 64) (e : Fin 128) :
    b68 j s (ix5 n b h r e) = if n.val = j then b49 j s (ix4 b h r e) else s.main_v44_7 (ix5 n b h r e) := by
  refine (update_at _ _ j hj _ (starts j hj _ rfl (fun a => by fin_cases a <;> rfl)) n b h r e).trans ?_
  have e : b63 j s (ix5 0 b h r e) = b49 j s (ix4 b h r e) := by pointwise [b63]
  rw [e]

end Trip

/-- The returned state. -/
theorem state_at (s : State Ideal) (b : Fin 2) (h : Fin 4) (e : Fin 128) (d : Fin 64) :
    R_main_v64 s (ix4 b h e d) = s.main_v44_6 (ix4 b h d e) := by
  pointwise [R_main_v64]

/-- The returned rows. -/
theorem rows_at (s : State Ideal) (a4 : (⟨S2x8192x512, .f32⟩ : BufTy).Contents (Elt Ideal))
    (a7 : (⟨S128, .f32⟩ : BufTy).Contents (Elt Ideal)) (b : Fin 2) (n : Fin 128) (r : Fin 64) (h : Fin 4) (e : Fin 128) :
    R_main_v63 s a4 a7 (ix3 b (pos n r) (colv h e)) =
      Head.finish (fun e => s.main_v44_7 (ix5 n b h r e)) (fun e => a7 (ix1 e)) (fun e => a4 (ix3 b (pos n r) (colv h e))) e := by
  rw [pos_fin]
  pointwise [R_main_v63, Head.finish, colv]
  rw [zero_sub]

end Cert.RefAt

end

end
-- ==== Proof.Blocks.lean ====
/- The blocks a tile of the kernel reads, at an index, over the call's arguments; and the tile's queries, keys, values, gates and
   table as rows of the sequence. -/
module

public import proofs.«01_k».proof.Proof.Host
public import proofs.«01_k».proof.Proof.Tables
public import proofs.«01_k».proof.Proof.Equal
public import proofs.«01_k».proof.Proof.RefAt
public import Idealize.ShloMosaic.Lib.Pipeline.ValueKit

@[expose] public section

set_option maxRecDepth 16384

noncomputable section

namespace Cert.Blocks

open Idealize.ShloMosaic Idealize.ShloMosaic.TcCoe Idealize.SL.Sem Cert.KernelIdeal Cert.KernelIdeal.Gen Cert.Tile Cert.Equal

variable (m : (ℓ : Loc nD τ sig) → Buf (Elt Ideal) ℓ) (c : Dev nD)

/-- Where each window's block lies. -/
theorem idx : ∀ t : Fin cfg0.N, win0_0.index t = ![0, t.val, 0] ∧ win0_1.index t = ![0, 0, 0, 0] ∧ win0_2.index t = ![0, 0] ∧
    win0_3.index t = ![0, 0] ∧ win0_4.index t = ![0, 0] ∧ win0_5.index t = ![0, 0] :=
  (by decide +kernel : ∀ t : Fin grid0.N, _)

theorem lt (t : Fin cfg0.N) : t.val < 32 := lt_of_lt_of_eq t.isLt (show cfg0.N = 32 from N_0)

/-- The tile's rows of the joined array. -/
theorem block_0 (t : Fin cfg0.N) (b : Fin 2) (r : Fin 256) (k : Fin 1664) :
    (iblk m c 0 t : Vec Ideal S2x256x1664 .f32) (ix3 b r k) =
      (V m c main_v3 : Vec Ideal S2x8192x1664 .f32) (ix3 b ⟨256 * t.val + r.val, by have := lt t; omega⟩ k) := by
  blk_ext [iblk, idx t]

theorem block_1 (t : Fin cfg0.N) : (iblk m c 1 t : Vec Ideal S2x4x128x64 .f32) = (V m c main_v6 : Vec Ideal S2x4x128x64 .f32) := by
  funext y
  blk_ext [iblk, idx t]

theorem block_2 (t : Fin cfg0.N) : (iblk m c 2 t : Vec Ideal S128x256 .bf16) = (V m c main_v5 : Vec Ideal S128x256 .bf16) := by
  funext y
  blk_ext [iblk, idx t]

theorem block_3 (t : Fin cfg0.N) : (iblk m c 3 t : Vec Ideal S1x256 .f32) = (V m c main_v7 : Vec Ideal S1x256 .f32) := by
  funext y
  blk_ext [iblk, idx t]

theorem block_4 (t : Fin cfg0.N) : (iblk m c 4 t : Vec Ideal S1x128 .f32) = (V m c main_v8 : Vec Ideal S1x128 .f32) := by
  funext y
  blk_ext [iblk, idx t]

theorem block_5 (t : Fin cfg0.N) : (iblk m c 5 t : Vec Ideal S256x256 .bf16) = (V m c main_cst : Vec Ideal S256x256 .bf16) := by
  funext y
  blk_ext [iblk, idx t]

end Cert.Blocks

end

end
-- ==== Proof.Later.lean ====
/- What a tile after the first stores: every head's piece of the state and of the output, put together. -/
module

public import proofs.«01_k».proof.Proof.Tile
public import Idealize.ShloMosaic.Lib.Pipeline.ReadBack
public import Idealize.ShloMosaic.Lib.Pipeline.FrameBody

@[expose] public section

set_option maxRecDepth 16384

noncomputable section

namespace Cert.Later

open Idealize.ShloMosaic Idealize.ShloMosaic.TcCoe Idealize.SL.Sem Cert.KernelIdeal Cert.KernelIdeal.Gen Cert.Head Cert.Tile

/-- The state a tile leaves, as an array, of the state it finds. -/
def stateOf (x0 : Vec Ideal S2x256x1664 .f32) (x2 : Vec Ideal S128x256 .bf16) (x3 : Vec Ideal S1x256 .f32)
    (x5 : Vec Ideal S256x256 .bf16) (s : Vec Ideal S2x4x128x64 .f32) : Vec Ideal S2x4x128x64 .f32 :=
  fun y => newState x0 x2 x3 x5 (y 0) s (y 1) (y 2) (y 3)

/-- The output rows a tile stores, as an array, of the state it finds. -/
def outOf (x0 : Vec Ideal S2x256x1664 .f32) (x2 : Vec Ideal S128x256 .bf16) (x3 : Vec Ideal S1x256 .f32)
    (x5 : Vec Ideal S256x256 .bf16) (x4 : Vec Ideal S1x128 .f32) (s : Vec Ideal S2x4x128x64 .f32) : Vec Ideal S2x256x512 .bf16 :=
  fun y => newOut x0 x2 x3 x5 (y 0) x4 s ⟨(y 2).val / 128, by have h : (y 2).val < 512 := (y 2).isLt; omega⟩ (y 1)
    ⟨(y 2).val % 128, by omega⟩

/-- A head's piece of the state, read at its own index, is the array's value there. -/
theorem at_state (x0 : Vec Ideal S2x256x1664 .f32) (x2 : Vec Ideal S128x256 .bf16) (x3 : Vec Ideal S1x256 .f32)
    (x5 : Vec Ideal S256x256 .bf16) (s : Vec Ideal S2x4x128x64 .f32) (b : Fin 2) (h : Fin 4) (w : Vec Ideal S1x1x128x64 .f32)
    (hw : ∀ (e : Fin 128) (d : Fin 64), w (ix4 0 0 e d) = newState x0 x2 x3 x5 b s h e d)
    (x : S1x1x128x64.Idx) (y : S2x4x128x64.Idx) (h0 : (y 0).val = b.val + (x 0).val) (h1 : (y 1).val = h.val + (x 1).val)
    (h2 : (y 2).val = 0 + (x 2).val) (h3 : (y 3).val = 0 + (x 3).val) (l0 : (x 0).val < 1) (l1 : (x 1).val < 1) :
    w x = stateOf x0 x2 x3 x5 s y := by
  have e0 : y 0 = b := Fin.ext (by omega)
  have e1 : y 1 = h := Fin.ext (by omega)
  have ex : x = ix4 0 0 (y 2) (y 3) := by
    funext a
    fin_cases a
    · exact Fin.ext (by show (x 0).val = 0; omega)
    · exact Fin.ext (by show (x 1).val = 0; omega)
    · exact Fin.ext (by show (x 2).val = (y 2).val; omega)
    · exact Fin.ext (by show (x 3).val = (y 3).val; omega)
  show w x = newState x0 x2 x3 x5 (y 0) s (y 1) (y 2) (y 3)
  exact (congrArg w ex).trans ((hw (y 2) (y 3)).trans (by rw [e0, e1]))

/-- A head's piece of the output, read at its own index, is the array's value there. -/
theorem at_out (x0 : Vec Ideal S2x256x1664 .f32) (x2 : Vec Ideal S128x256 .bf16) (x3 : Vec Ideal S1x256 .f32)
    (x5 : Vec Ideal S256x256 .bf16) (x4 : Vec Ideal S1x128 .f32) (s : Vec Ideal S2x4x128x64 .f32) (b : Fin 2) (h : Fin 4)
    (w : Vec Ideal S1x256x128 .bf16)
    (hw : ∀ (t : Fin 256) (e : Fin 128), w (ix3 0 t e) = newOut x0 x2 x3 x5 b x4 s h t e)
    (x : S1x256x128.Idx) (y : S2x256x512.Idx) (h0 : (y 0).val = b.val + (x 0).val) (h1 : (y 1).val = 0 + (x 1).val)
    (h2 : (y 2).val = 128 * h.val + (x 2).val) (l0 : (x 0).val < 1) (l2 : (x 2).val < 128) :
    w x = outOf x0 x2 x3 x5 x4 s y := by
  have e0 : y 0 = b := Fin.ext (by omega)
  have e2 : (⟨(y 2).val / 128, by have h : (y 2).val < 512 := (y 2).isLt; omega⟩ : Fin 4) = h := Fin.ext (by show (y 2).val / 128 = h.val; omega)
  have ex : x = ix3 0 (y 1) ⟨(y 2).val % 128, by omega⟩ := by
    funext a
    fin_cases a
    · exact Fin.ext (by show (x 0).val = 0; omega)
    · exact Fin.ext (by show (x 1).val = (y 1).val; omega)
    · exact Fin.ext (by show (x 2).val = (y 2).val % 128; omega)
  show w x = newOut x0 x2 x3 x5 (y 0) x4 s ⟨(y 2).val / 128, by have h : (y 2).val < 512 := (y 2).isLt; omega⟩ (y 1)
    ⟨(y 2).val % 128, by omega⟩
  exact (congrArg w ex).trans ((hw (y 1) _).trans (by rw [e0, e2]))

/-- The loaded state of head 0 of batch row 0. -/
theorem ld_0_0 (s : Vec Ideal S2x4x128x64 .f32) (inb : ∀ a, ![0, 0, 0, 0] a + ![1, 1, 128, 64] a ≤ S2x4x128x64.size a) :
    (fun (e : Fin 128) (d : Fin 64) => View.ld s (Rect.unit ![0, 0, 0, 0] ![1, 1, 128, 64] inb) (ix4 0 0 e d))
      = fun e d => s (ix4 0 0 e d) := by
  funext e d
  pointwise

/-- The loaded state of head 1 of batch row 0. -/
theorem ld_0_1 (s : Vec Ideal S2x4x128x64 .f32) (inb : ∀ a, ![0, 1, 0, 0] a + ![1, 1, 128, 64] a ≤ S2x4x128x64.size a) :
    (fun (e : Fin 128) (d : Fin 64) => View.ld s (Rect.unit ![0, 1, 0, 0] ![1, 1, 128, 64] inb) (ix4 0 0 e d))
      = fun e d => s (ix4 0 1 e d) := by
  funext e d
  pointwise

/-- The loaded state of head 2 of batch row 0. -/
theorem ld_0_2 (s : Vec Ideal S2x4x128x64 .f32) (inb : ∀ a, ![0, 2, 0, 0] a + ![1, 1, 128, 64] a ≤ S2x4x128x64.size a) :
    (fun (e : Fin 128) (d : Fin 64) => View.ld s (Rect.unit ![0, 2, 0, 0] ![1, 1, 128, 64] inb) (ix4 0 0 e d))
      = fun e d => s (ix4 0 2 e d) := by
  funext e d
  pointwise

/-- The loaded state of head 3 of batch row 0. -/
theorem ld_0_3 (s : Vec Ideal S2x4x128x64 .f32) (inb : ∀ a, ![0, 3, 0, 0] a + ![1, 1, 128, 64] a ≤ S2x4x128x64.size a) :
    (fun (e : Fin 128) (d : Fin 64) => View.ld s (Rect.unit ![0, 3, 0, 0] ![1, 1, 128, 64] inb) (ix4 0 0 e d))
      = fun e d => s (ix4 0 3 e d) := by
  funext e d
  pointwise

/-- The loaded state of head 0 of batch row 1. -/
theorem ld_1_0 (s : Vec Ideal S2x4x128x64 .f32) (inb : ∀ a, ![1, 0, 0, 0] a + ![1, 1, 128, 64] a ≤ S2x4x128x64.size a) :
    (fun (e : Fin 128) (d : Fin 64) => View.ld s (Rect.unit ![1, 0, 0, 0] ![1, 1, 128, 64] inb) (ix4 0 0 e d))
      = fun e d => s (ix4 1 0 e d) := by
  funext e d
  pointwise

/-- The loaded state of head 1 of batch row 1. -/
theorem ld_1_1 (s : Vec Ideal S2x4x128x64 .f32) (inb : ∀ a, ![1, 1, 0, 0] a + ![1, 1, 128, 64] a ≤ S2x4x128x64.size a) :
    (fun (e : Fin 128) (d : Fin 64) => View.ld s (Rect.unit ![1, 1, 0, 0] ![1, 1, 128, 64] inb) (ix4 0 0 e d))
      = fun e d => s (ix4 1 1 e d) := by
  funext e d
  pointwise

/-- The loaded state of head 2 of batch row 1. -/
theorem ld_1_2 (s : Vec Ideal S2x4x128x64 .f32) (inb : ∀ a, ![1, 2, 0, 0] a + ![1, 1, 128, 64] a ≤ S2x4x128x64.size a) :
    (fun (e : Fin 128) (d : Fin 64) => View.ld s (Rect.unit ![1, 2, 0, 0] ![1, 1, 128, 64] inb) (ix4 0 0 e d))
      = fun e d => s (ix4 1 2 e d) := by
  funext e d
  pointwise

/-- The loaded state of head 3 of batch row 1. -/
theorem ld_1_3 (s : Vec Ideal S2x4x128x64 .f32) (inb : ∀ a, ![1, 3, 0, 0] a + ![1, 1, 128, 64] a ≤ S2x4x128x64.size a) :
    (fun (e : Fin 128) (d : Fin 64) => View.ld s (Rect.unit ![1, 3, 0, 0] ![1, 1, 128, 64] inb) (ix4 0 0 e d))
      = fun e d => s (ix4 1 3 e d) := by
  funext e d
  pointwise

/-- The scratch after a later tile. -/
theorem state_B (c : Dev nD) (i : grid0.Coords) (arg1 : Memref sig .tc .vmem S2x256x1664 .f32) (harg1 : arg1.IsWhole) (arg2 : Memref sig .tc .vmem S2x4x128x64 .f32) (harg2 : arg2.IsWhole) (arg3 : Memref sig .tc .vmem S128x256 .bf16) (harg3 : arg3.IsWhole) (arg4 : Memref sig .tc .vmem S1x256 .f32) (harg4 : arg4.IsWhole) (arg5 : Memref sig .tc .vmem S1x128 .f32) (harg5 : arg5.IsWhole) (arg6 : Memref sig .tc .vmem S256x256 .bf16) (harg6 : arg6.IsWhole) (arg7 : Memref sig .tc .vmem S2x256x512 .bf16) (harg7 : arg7.IsWhole) (arg8 : Memref sig .tc .vmem S2x4x128x64 .f32) (harg8 : arg8.IsWhole) (arg9 : Memref sig .tc .vmem S2x4x128x64 .f32) (harg9 : arg9.IsWhole) (hc0 : ¬cond0_0 i)
    (x0 : Vec Ideal S2x256x1664 .f32) (x1 : Vec Ideal S2x4x128x64 .f32) (x2 : Vec Ideal S128x256 .bf16) (x3 : Vec Ideal S1x256 .f32) (x4 : Vec Ideal S1x128 .f32) (x5 : Vec Ideal S256x256 .bf16) (xs0 : Vec Ideal S2x4x128x64 .f32) :
    sout0_B_0 (F := Ideal) c i arg1 harg1 arg2 harg2 arg3 harg3 arg4 harg4 arg5 harg5 arg6 harg6 arg7 harg7 arg8 harg8 arg9 harg9 hc0 x0 x1 x2 x3 x4 x5 xs0 = stateOf x0 x2 x3 x5 xs0 := by
  funext y
  frame_out
  canon_tiles x h
  · refine at_state x0 x2 x3 x5 xs0 1 3 _ (fun e d => ?_) x y (by omega) (by omega) (by omega) (by omega) x0_lt x1_lt
    refine (state_1_3 (e := e) (d := d) ..).trans ?_
    rw [cb_1, ke_1, val_1, ld_1_3]
    rfl
  · refine at_state x0 x2 x3 x5 xs0 1 2 _ (fun e d => ?_) x y (by omega) (by omega) (by omega) (by omega) x0_lt x1_lt
    refine (state_1_2 (e := e) (d := d) ..).trans ?_
    rw [cb_1, ke_1, val_1, ld_1_2]
    rfl
  · refine at_state x0 x2 x3 x5 xs0 1 1 _ (fun e d => ?_) x y (by omega) (by omega) (by omega) (by omega) x0_lt x1_lt
    refine (state_1_1 (e := e) (d := d) ..).trans ?_
    rw [cb_1, ke_1, val_1, ld_1_1]
    rfl
  · refine at_state x0 x2 x3 x5 xs0 1 0 _ (fun e d => ?_) x y (by omega) (by omega) (by omega) (by omega) x0_lt x1_lt
    refine (state_1_0 (e := e) (d := d) ..).trans ?_
    rw [cb_1, ke_1, val_1, ld_1_0]
    rfl
  · refine at_state x0 x2 x3 x5 xs0 0 3 _ (fun e d => ?_) x y (by omega) (by omega) (by omega) (by omega) x0_lt x1_lt
    refine (state_0_3 (e := e) (d := d) ..).trans ?_
    rw [cb_0, ke_0, val_0, ld_0_3]
    rfl
  · refine at_state x0 x2 x3 x5 xs0 0 2 _ (fun e d => ?_) x y (by omega) (by omega) (by omega) (by omega) x0_lt x1_lt
    refine (state_0_2 (e := e) (d := d) ..).trans ?_
    rw [cb_0, ke_0, val_0, ld_0_2]
    rfl
  · refine at_state x0 x2 x3 x5 xs0 0 1 _ (fun e d => ?_) x y (by omega) (by omega) (by omega) (by omega) x0_lt x1_lt
    refine (state_0_1 (e := e) (d := d) ..).trans ?_
    rw [cb_0, ke_0, val_0, ld_0_1]
    rfl
  · refine at_state x0 x2 x3 x5 xs0 0 0 _ (fun e d => ?_) x y (by omega) (by omega) (by omega) (by omega) x0_lt x1_lt
    refine (state_0_0 (e := e) (d := d) ..).trans ?_
    rw [cb_0, ke_0, val_0, ld_0_0]
    rfl

/-- The output block of a later tile. -/
theorem out_B (c : Dev nD) (i : grid0.Coords) (arg1 : Memref sig .tc .vmem S2x256x1664 .f32) (harg1 : arg1.IsWhole) (arg2 : Memref sig .tc .vmem S2x4x128x64 .f32) (harg2 : arg2.IsWhole) (arg3 : Memref sig .tc .vmem S128x256 .bf16) (harg3 : arg3.IsWhole) (arg4 : Memref sig .tc .vmem S1x256 .f32) (harg4 : arg4.IsWhole) (arg5 : Memref sig .tc .vmem S1x128 .f32) (harg5 : arg5.IsWhole) (arg6 : Memref sig .tc .vmem S256x256 .bf16) (harg6 : arg6.IsWhole) (arg7 : Memref sig .tc .vmem S2x256x512 .bf16) (harg7 : arg7.IsWhole) (arg8 : Memref sig .tc .vmem S2x4x128x64 .f32) (harg8 : arg8.IsWhole) (arg9 : Memref sig .tc .vmem S2x4x128x64 .f32) (harg9 : arg9.IsWhole) (hc0 : ¬cond0_0 i)
    (x0 : Vec Ideal S2x256x1664 .f32) (x1 : Vec Ideal S2x4x128x64 .f32) (x2 : Vec Ideal S128x256 .bf16) (x3 : Vec Ideal S1x256 .f32) (x4 : Vec Ideal S1x128 .f32) (x5 : Vec Ideal S256x256 .bf16) (xs0 : Vec Ideal S2x4x128x64 .f32) :
    out0_B_6 (F := Ideal) c i arg1 harg1 arg2 harg2 arg3 harg3 arg4 harg4 arg5 harg5 arg6 harg6 arg7 harg7 arg8 harg8 arg9 harg9 hc0 x0 x1 x2 x3 x4 x5 xs0 = outOf x0 x2 x3 x5 x4 xs0 := by
  funext y
  frame_out
  canon_tiles x h
  · refine at_out x0 x2 x3 x5 x4 xs0 1 3 _ (fun t e => ?_) x y (by omega) (by omega) (by omega) x0_lt x2_lt
    refine (out_1_3 (t := t) (e := e) ..).trans ?_
    rw [cb_1, qa_1, kb_1, qe_1, ke_1, val_1, rr_1, ld_1_3]
    rfl
  · refine at_out x0 x2 x3 x5 x4 xs0 1 2 _ (fun t e => ?_) x y (by omega) (by omega) (by omega) x0_lt x2_lt
    refine (out_1_2 (t := t) (e := e) ..).trans ?_
    rw [cb_1, qa_1, kb_1, qe_1, ke_1, val_1, rr_1, ld_1_2]
    rfl
  · refine at_out x0 x2 x3 x5 x4 xs0 1 1 _ (fun t e => ?_) x y (by omega) (by omega) (by omega) x0_lt x2_lt
    refine (out_1_1 (t := t) (e := e) ..).trans ?_
    rw [cb_1, qa_1, kb_1, qe_1, ke_1, val_1, rr_1, ld_1_1]
    rfl
  · refine at_out x0 x2 x3 x5 x4 xs0 1 0 _ (fun t e => ?_) x y (by omega) (by omega) (by omega) x0_lt x2_lt
    refine (out_1_0 (t := t) (e := e) ..).trans ?_
    rw [cb_1, qa_1, kb_1, qe_1, ke_1, val_1, rr_1, ld_1_0]
    rfl
  · refine at_out x0 x2 x3 x5 x4 xs0 0 3 _ (fun t e => ?_) x y (by omega) (by omega) (by omega) x0_lt x2_lt
    refine (out_0_3 (t := t) (e := e) ..).trans ?_
    rw [cb_0, qa_0, kb_0, qe_0, ke_0, val_0, rr_0, ld_0_3]
    rfl
  · refine at_out x0 x2 x3 x5 x4 xs0 0 2 _ (fun t e => ?_) x y (by omega) (by omega) (by omega) x0_lt x2_lt
    refine (out_0_2 (t := t) (e := e) ..).trans ?_
    rw [cb_0, qa_0, kb_0, qe_0, ke_0, val_0, rr_0, ld_0_2]
    rfl
  · refine at_out x0 x2 x3 x5 x4 xs0 0 1 _ (fun t e => ?_) x y (by omega) (by omega) (by omega) x0_lt x2_lt
    refine (out_0_1 (t := t) (e := e) ..).trans ?_
    rw [cb_0, qa_0, kb_0, qe_0, ke_0, val_0, rr_0, ld_0_1]
    rfl
  · refine at_out x0 x2 x3 x5 x4 xs0 0 0 _ (fun t e => ?_) x y (by omega) (by omega) (by omega) x0_lt x2_lt
    refine (out_0_0 (t := t) (e := e) ..).trans ?_
    rw [cb_0, qa_0, kb_0, qe_0, ke_0, val_0, rr_0, ld_0_0]
    rfl

/-- The state block of a later tile: the scratch. -/
theorem copy_B (c : Dev nD) (i : grid0.Coords) (arg1 : Memref sig .tc .vmem S2x256x1664 .f32) (harg1 : arg1.IsWhole) (arg2 : Memref sig .tc .vmem S2x4x128x64 .f32) (harg2 : arg2.IsWhole) (arg3 : Memref sig .tc .vmem S128x256 .bf16) (harg3 : arg3.IsWhole) (arg4 : Memref sig .tc .vmem S1x256 .f32) (harg4 : arg4.IsWhole) (arg5 : Memref sig .tc .vmem S1x128 .f32) (harg5 : arg5.IsWhole) (arg6 : Memref sig .tc .vmem S256x256 .bf16) (harg6 : arg6.IsWhole) (arg7 : Memref sig .tc .vmem S2x256x512 .bf16) (harg7 : arg7.IsWhole) (arg8 : Memref sig .tc .vmem S2x4x128x64 .f32) (harg8 : arg8.IsWhole) (arg9 : Memref sig .tc .vmem S2x4x128x64 .f32) (harg9 : arg9.IsWhole) (hc0 : ¬cond0_0 i)
    (x0 : Vec Ideal S2x256x1664 .f32) (x1 : Vec Ideal S2x4x128x64 .f32) (x2 : Vec Ideal S128x256 .bf16) (x3 : Vec Ideal S1x256 .f32) (x4 : Vec Ideal S1x128 .f32) (x5 : Vec Ideal S256x256 .bf16) (xs0 : Vec Ideal S2x4x128x64 .f32) :
    out0_B_7 (F := Ideal) c i arg1 harg1 arg2 harg2 arg3 harg3 arg4 harg4 arg5 harg5 arg6 harg6 arg7 harg7 arg8 harg8 arg9 harg9 hc0 x0 x1 x2 x3 x4 x5 xs0 = stateOf x0 x2 x3 x5 xs0 := by
  funext y
  frame_out
  rw [View.readCov_eq_canon']
  refine (congrArg _ (show _ = y from ?_)).trans ?_
  · funext a
    refine Fin.ext ?_
    fin_cases a <;> simp [Rect.toLoadRect, LoadRect.idx, Rect.emb, Rect.unit]
  canon_tiles x h
  · refine at_state x0 x2 x3 x5 xs0 1 3 _ (fun e d => ?_) x y (by omega) (by omega) (by omega) (by omega) x0_lt x1_lt
    refine (state_1_3 (e := e) (d := d) ..).trans ?_
    rw [cb_1, ke_1, val_1, ld_1_3]
    rfl
  · refine at_state x0 x2 x3 x5 xs0 1 2 _ (fun e d => ?_) x y (by omega) (by omega) (by omega) (by omega) x0_lt x1_lt
    refine (state_1_2 (e := e) (d := d) ..).trans ?_
    rw [cb_1, ke_1, val_1, ld_1_2]
    rfl
  · refine at_state x0 x2 x3 x5 xs0 1 1 _ (fun e d => ?_) x y (by omega) (by omega) (by omega) (by omega) x0_lt x1_lt
    refine (state_1_1 (e := e) (d := d) ..).trans ?_
    rw [cb_1, ke_1, val_1, ld_1_1]
    rfl
  · refine at_state x0 x2 x3 x5 xs0 1 0 _ (fun e d => ?_) x y (by omega) (by omega) (by omega) (by omega) x0_lt x1_lt
    refine (state_1_0 (e := e) (d := d) ..).trans ?_
    rw [cb_1, ke_1, val_1, ld_1_0]
    rfl
  · refine at_state x0 x2 x3 x5 xs0 0 3 _ (fun e d => ?_) x y (by omega) (by omega) (by omega) (by omega) x0_lt x1_lt
    refine (state_0_3 (e := e) (d := d) ..).trans ?_
    rw [cb_0, ke_0, val_0, ld_0_3]
    rfl
  · refine at_state x0 x2 x3 x5 xs0 0 2 _ (fun e d => ?_) x y (by omega) (by omega) (by omega) (by omega) x0_lt x1_lt
    refine (state_0_2 (e := e) (d := d) ..).trans ?_
    rw [cb_0, ke_0, val_0, ld_0_2]
    rfl
  · refine at_state x0 x2 x3 x5 xs0 0 1 _ (fun e d => ?_) x y (by omega) (by omega) (by omega) (by omega) x0_lt x1_lt
    refine (state_0_1 (e := e) (d := d) ..).trans ?_
    rw [cb_0, ke_0, val_0, ld_0_1]
    rfl
  · refine at_state x0 x2 x3 x5 xs0 0 0 _ (fun e d => ?_) x y (by omega) (by omega) (by omega) (by omega) x0_lt x1_lt
    refine (state_0_0 (e := e) (d := d) ..).trans ?_
    rw [cb_0, ke_0, val_0, ld_0_0]
    rfl

end Cert.Later

end

end
-- ==== Proof.First.lean ====
/- What the first tile stores: it fills the scratch from its input, then does as a later tile does. -/
module

public import proofs.«01_k».proof.Proof.Later
public import Idealize.ShloMosaic.Lib.Pipeline.ReadBack
public import Idealize.ShloMosaic.Lib.Pipeline.FrameBody

@[expose] public section

set_option maxRecDepth 16384

noncomputable section

namespace Cert.First

open Idealize.ShloMosaic Idealize.ShloMosaic.TcCoe Idealize.SL.Sem Cert.KernelIdeal Cert.KernelIdeal.Gen Cert.Head Cert.Tile Cert.Later

/-- The fill of the scratch. -/
theorem fill (x1 : Vec Ideal S2x4x128x64 .f32) : k0_pay2 x1 = x1 := by
  funext y
  pointwise [k0_pay2]

/-- Earlier writes do not enter where later ones lie. -/
theorem drop_earlier {S : Shape} {t : EltTy} (y : S.Idx) (L' : List (View.Piece (Elt Ideal) S t)) :
    ∀ (L : List (View.Piece (Elt Ideal) S t)) (_ : ∃ p ∈ L, y ∈ p.1.set), View.canon (L ++ L') y = View.canon L y
  | [], h => by obtain ⟨p, hp, _⟩ := h; simp at hp
  | p :: L, h => by
    by_cases hm : y ∈ p.1.set
    · rw [List.cons_append, View.canon_cons, View.canon_cons]
      obtain ⟨x, rfl⟩ := p.1.exists_idx_of_mem hm
      exact (p.1.overlay_emb _ _ x).trans (p.1.overlay_emb _ _ x).symm
    · rw [List.cons_append, View.canon_cons_of_not_mem _ _ hm, View.canon_cons_of_not_mem _ _ hm]
      obtain ⟨q, hq, hy⟩ := h
      refine drop_earlier y L' L ⟨q, ?_, hy⟩
      rcases List.mem_cons.mp hq with rfl | hq
      · exact absurd hy hm
      · exact hq

/-- Of eight pieces over a fill, the fill does not enter where the eight lie. -/
theorem drop_fill {S : Shape} {t : EltTy} (p₁ p₂ p₃ p₄ p₅ p₆ p₇ p₈ q : View.Piece (Elt Ideal) S t) (y : S.Idx)
    (h : ∃ p ∈ [p₁, p₂, p₃, p₄, p₅, p₆, p₇, p₈], y ∈ p.1.set) :
    View.canon [p₁, p₂, p₃, p₄, p₅, p₆, p₇, p₈, q] y = View.canon [p₁, p₂, p₃, p₄, p₅, p₆, p₇, p₈] y :=
  drop_earlier y [q] _ h

/-- The scratch after the first tile. -/
theorem state_A (c : Dev nD) (i : grid0.Coords) (arg1 : Memref sig .tc .vmem S2x256x1664 .f32) (harg1 : arg1.IsWhole) (arg2 : Memref sig .tc .vmem S2x4x128x64 .f32) (harg2 : arg2.IsWhole) (arg3 : Memref sig .tc .vmem S128x256 .bf16) (harg3 : arg3.IsWhole) (arg4 : Memref sig .tc .vmem S1x256 .f32) (harg4 : arg4.IsWhole) (arg5 : Memref sig .tc .vmem S1x128 .f32) (harg5 : arg5.IsWhole) (arg6 : Memref sig .tc .vmem S256x256 .bf16) (harg6 : arg6.IsWhole) (arg7 : Memref sig .tc .vmem S2x256x512 .bf16) (harg7 : arg7.IsWhole) (arg8 : Memref sig .tc .vmem S2x4x128x64 .f32) (harg8 : arg8.IsWhole) (arg9 : Memref sig .tc .vmem S2x4x128x64 .f32) (harg9 : arg9.IsWhole) (hc0 : cond0_0 i)
    (x0 : Vec Ideal S2x256x1664 .f32) (x1 : Vec Ideal S2x4x128x64 .f32) (x2 : Vec Ideal S128x256 .bf16) (x3 : Vec Ideal S1x256 .f32) (x4 : Vec Ideal S1x128 .f32) (x5 : Vec Ideal S256x256 .bf16) :
    sout0_A_0 (F := Ideal) c i arg1 harg1 arg2 harg2 arg3 harg3 arg4 harg4 arg5 harg5 arg6 harg6 arg7 harg7 arg8 harg8 arg9 harg9 hc0 x0 x1 x2 x3 x4 x5 = stateOf x0 x2 x3 x5 (k0_pay2 x1) := by
  funext y
  frame_open
  simp (disch := decide) only [↓ View.readCov_skip, ↓ View.readCov_cons_toLoadRect, ↓ View.readCov_fill]
  frame_out
  refine (drop_fill _ _ _ _ _ _ _ _ _ _ (View.cover_of_tiled_head _ _ _ (by rfl) _)).trans ?_
  canon_tiles x h
  · refine at_state x0 x2 x3 x5 (k0_pay2 x1) 1 3 _ (fun e d => ?_) x y (by omega) (by omega) (by omega) (by omega) x0_lt x1_lt
    refine (state_1_3 (e := e) (d := d) ..).trans ?_
    rw [cb_1, ke_1, val_1, ld_1_3]
    rfl
  · refine at_state x0 x2 x3 x5 (k0_pay2 x1) 1 2 _ (fun e d => ?_) x y (by omega) (by omega) (by omega) (by omega) x0_lt x1_lt
    refine (state_1_2 (e := e) (d := d) ..).trans ?_
    rw [cb_1, ke_1, val_1, ld_1_2]
    rfl
  · refine at_state x0 x2 x3 x5 (k0_pay2 x1) 1 1 _ (fun e d => ?_) x y (by omega) (by omega) (by omega) (by omega) x0_lt x1_lt
    refine (state_1_1 (e := e) (d := d) ..).trans ?_
    rw [cb_1, ke_1, val_1, ld_1_1]
    rfl
  · refine at_state x0 x2 x3 x5 (k0_pay2 x1) 1 0 _ (fun e d => ?_) x y (by omega) (by omega) (by omega) (by omega) x0_lt x1_lt
    refine (state_1_0 (e := e) (d := d) ..).trans ?_
    rw [cb_1, ke_1, val_1, ld_1_0]
    rfl
  · refine at_state x0 x2 x3 x5 (k0_pay2 x1) 0 3 _ (fun e d => ?_) x y (by omega) (by omega) (by omega) (by omega) x0_lt x1_lt
    refine (state_0_3 (e := e) (d := d) ..).trans ?_
    rw [cb_0, ke_0, val_0, ld_0_3]
    rfl
  · refine at_state x0 x2 x3 x5 (k0_pay2 x1) 0 2 _ (fun e d => ?_) x y (by omega) (by omega) (by omega) (by omega) x0_lt x1_lt
    refine (state_0_2 (e := e) (d := d) ..).trans ?_
    rw [cb_0, ke_0, val_0, ld_0_2]
    rfl
  · refine at_state x0 x2 x3 x5 (k0_pay2 x1) 0 1 _ (fun e d => ?_) x y (by omega) (by omega) (by omega) (by omega) x0_lt x1_lt
    refine (state_0_1 (e := e) (d := d) ..).trans ?_
    rw [cb_0, ke_0, val_0, ld_0_1]
    rfl
  · refine at_state x0 x2 x3 x5 (k0_pay2 x1) 0 0 _ (fun e d => ?_) x y (by omega) (by omega) (by omega) (by omega) x0_lt x1_lt
    refine (state_0_0 (e := e) (d := d) ..).trans ?_
    rw [cb_0, ke_0, val_0, ld_0_0]
    rfl

/-- The output block of the first tile. -/
theorem out_A (c : Dev nD) (i : grid0.Coords) (arg1 : Memref sig .tc .vmem S2x256x1664 .f32) (harg1 : arg1.IsWhole) (arg2 : Memref sig .tc .vmem S2x4x128x64 .f32) (harg2 : arg2.IsWhole) (arg3 : Memref sig .tc .vmem S128x256 .bf16) (harg3 : arg3.IsWhole) (arg4 : Memref sig .tc .vmem S1x256 .f32) (harg4 : arg4.IsWhole) (arg5 : Memref sig .tc .vmem S1x128 .f32) (harg5 : arg5.IsWhole) (arg6 : Memref sig .tc .vmem S256x256 .bf16) (harg6 : arg6.IsWhole) (arg7 : Memref sig .tc .vmem S2x256x512 .bf16) (harg7 : arg7.IsWhole) (arg8 : Memref sig .tc .vmem S2x4x128x64 .f32) (harg8 : arg8.IsWhole) (arg9 : Memref sig .tc .vmem S2x4x128x64 .f32) (harg9 : arg9.IsWhole) (hc0 : cond0_0 i)
    (x0 : Vec Ideal S2x256x1664 .f32) (x1 : Vec Ideal S2x4x128x64 .f32) (x2 : Vec Ideal S128x256 .bf16) (x3 : Vec Ideal S1x256 .f32) (x4 : Vec Ideal S1x128 .f32) (x5 : Vec Ideal S256x256 .bf16) :
    out0_A_6 (F := Ideal) c i arg1 harg1 arg2 harg2 arg3 harg3 arg4 harg4 arg5 harg5 arg6 harg6 arg7 harg7 arg8 harg8 arg9 harg9 hc0 x0 x1 x2 x3 x4 x5 = outOf x0 x2 x3 x5 x4 (k0_pay2 x1) := by
  funext y
  frame_open
  simp (disch := decide) only [↓ View.readCov_skip, ↓ View.readCov_cons_toLoadRect, ↓ View.readCov_fill]
  frame_out
  canon_tiles x h
  · refine at_out x0 x2 x3 x5 x4 (k0_pay2 x1) 1 3 _ (fun t e => ?_) x y (by omega) (by omega) (by omega) x0_lt x2_lt
    refine (out_1_3 (t := t) (e := e) ..).trans ?_
    rw [cb_1, qa_1, kb_1, qe_1, ke_1, val_1, rr_1, ld_1_3]
    rfl
  · refine at_out x0 x2 x3 x5 x4 (k0_pay2 x1) 1 2 _ (fun t e => ?_) x y (by omega) (by omega) (by omega) x0_lt x2_lt
    refine (out_1_2 (t := t) (e := e) ..).trans ?_
    rw [cb_1, qa_1, kb_1, qe_1, ke_1, val_1, rr_1, ld_1_2]
    rfl
  · refine at_out x0 x2 x3 x5 x4 (k0_pay2 x1) 1 1 _ (fun t e => ?_) x y (by omega) (by omega) (by omega) x0_lt x2_lt
    refine (out_1_1 (t := t) (e := e) ..).trans ?_
    rw [cb_1, qa_1, kb_1, qe_1, ke_1, val_1, rr_1, ld_1_1]
    rfl
  · refine at_out x0 x2 x3 x5 x4 (k0_pay2 x1) 1 0 _ (fun t e => ?_) x y (by omega) (by omega) (by omega) x0_lt x2_lt
    refine (out_1_0 (t := t) (e := e) ..).trans ?_
    rw [cb_1, qa_1, kb_1, qe_1, ke_1, val_1, rr_1, ld_1_0]
    rfl
  · refine at_out x0 x2 x3 x5 x4 (k0_pay2 x1) 0 3 _ (fun t e => ?_) x y (by omega) (by omega) (by omega) x0_lt x2_lt
    refine (out_0_3 (t := t) (e := e) ..).trans ?_
    rw [cb_0, qa_0, kb_0, qe_0, ke_0, val_0, rr_0, ld_0_3]
    rfl
  · refine at_out x0 x2 x3 x5 x4 (k0_pay2 x1) 0 2 _ (fun t e => ?_) x y (by omega) (by omega) (by omega) x0_lt x2_lt
    refine (out_0_2 (t := t) (e := e) ..).trans ?_
    rw [cb_0, qa_0, kb_0, qe_0, ke_0, val_0, rr_0, ld_0_2]
    rfl
  · refine at_out x0 x2 x3 x5 x4 (k0_pay2 x1) 0 1 _ (fun t e => ?_) x y (by omega) (by omega) (by omega) x0_lt x2_lt
    refine (out_0_1 (t := t) (e := e) ..).trans ?_
    rw [cb_0, qa_0, kb_0, qe_0, ke_0, val_0, rr_0, ld_0_1]
    rfl
  · refine at_out x0 x2 x3 x5 x4 (k0_pay2 x1) 0 0 _ (fun t e => ?_) x y (by omega) (by omega) (by omega) x0_lt x2_lt
    refine (out_0_0 (t := t) (e := e) ..).trans ?_
    rw [cb_0, qa_0, kb_0, qe_0, ke_0, val_0, rr_0, ld_0_0]
    rfl

/-- The state block of the first tile: the scratch. -/
theorem copy_A (c : Dev nD) (i : grid0.Coords) (arg1 : Memref sig .tc .vmem S2x256x1664 .f32) (harg1 : arg1.IsWhole) (arg2 : Memref sig .tc .vmem S2x4x128x64 .f32) (harg2 : arg2.IsWhole) (arg3 : Memref sig .tc .vmem S128x256 .bf16) (harg3 : arg3.IsWhole) (arg4 : Memref sig .tc .vmem S1x256 .f32) (harg4 : arg4.IsWhole) (arg5 : Memref sig .tc .vmem S1x128 .f32) (harg5 : arg5.IsWhole) (arg6 : Memref sig .tc .vmem S256x256 .bf16) (harg6 : arg6.IsWhole) (arg7 : Memref sig .tc .vmem S2x256x512 .bf16) (harg7 : arg7.IsWhole) (arg8 : Memref sig .tc .vmem S2x4x128x64 .f32) (harg8 : arg8.IsWhole) (arg9 : Memref sig .tc .vmem S2x4x128x64 .f32) (harg9 : arg9.IsWhole) (hc0 : cond0_0 i)
    (x0 : Vec Ideal S2x256x1664 .f32) (x1 : Vec Ideal S2x4x128x64 .f32) (x2 : Vec Ideal S128x256 .bf16) (x3 : Vec Ideal S1x256 .f32) (x4 : Vec Ideal S1x128 .f32) (x5 : Vec Ideal S256x256 .bf16) :
    out0_A_7 (F := Ideal) c i arg1 harg1 arg2 harg2 arg3 harg3 arg4 harg4 arg5 harg5 arg6 harg6 arg7 harg7 arg8 harg8 arg9 harg9 hc0 x0 x1 x2 x3 x4 x5 = stateOf x0 x2 x3 x5 (k0_pay2 x1) := by
  funext y
  frame_open
  simp (disch := decide) only [↓ View.readCov_skip, ↓ View.readCov_cons_toLoadRect, ↓ View.readCov_fill]
  frame_out
  rw [View.readCov_eq_canon']
  refine (congrArg _ (show _ = y from ?_)).trans ?_
  · funext a
    refine Fin.ext ?_
    fin_cases a <;> simp [Rect.toLoadRect, LoadRect.idx, Rect.emb, Rect.unit]
  refine (drop_fill _ _ _ _ _ _ _ _ _ _ (View.cover_of_tiled_head _ _ _ (by rfl) _)).trans ?_
  canon_tiles x h
  · refine at_state x0 x2 x3 x5 (k0_pay2 x1) 1 3 _ (fun e d => ?_) x y (by omega) (by omega) (by omega) (by omega) x0_lt x1_lt
    refine (state_1_3 (e := e) (d := d) ..).trans ?_
    rw [cb_1, ke_1, val_1, ld_1_3]
    rfl
  · refine at_state x0 x2 x3 x5 (k0_pay2 x1) 1 2 _ (fun e d => ?_) x y (by omega) (by omega) (by omega) (by omega) x0_lt x1_lt
    refine (state_1_2 (e := e) (d := d) ..).trans ?_
    rw [cb_1, ke_1, val_1, ld_1_2]
    rfl
  · refine at_state x0 x2 x3 x5 (k0_pay2 x1) 1 1 _ (fun e d => ?_) x y (by omega) (by omega) (by omega) (by omega) x0_lt x1_lt
    refine (state_1_1 (e := e) (d := d) ..).trans ?_
    rw [cb_1, ke_1, val_1, ld_1_1]
    rfl
  · refine at_state x0 x2 x3 x5 (k0_pay2 x1) 1 0 _ (fun e d => ?_) x y (by omega) (by omega) (by omega) (by omega) x0_lt x1_lt
    refine (state_1_0 (e := e) (d := d) ..).trans ?_
    rw [cb_1, ke_1, val_1, ld_1_0]
    rfl
  · refine at_state x0 x2 x3 x5 (k0_pay2 x1) 0 3 _ (fun e d => ?_) x y (by omega) (by omega) (by omega) (by omega) x0_lt x1_lt
    refine (state_0_3 (e := e) (d := d) ..).trans ?_
    rw [cb_0, ke_0, val_0, ld_0_3]
    rfl
  · refine at_state x0 x2 x3 x5 (k0_pay2 x1) 0 2 _ (fun e d => ?_) x y (by omega) (by omega) (by omega) (by omega) x0_lt x1_lt
    refine (state_0_2 (e := e) (d := d) ..).trans ?_
    rw [cb_0, ke_0, val_0, ld_0_2]
    rfl
  · refine at_state x0 x2 x3 x5 (k0_pay2 x1) 0 1 _ (fun e d => ?_) x y (by omega) (by omega) (by omega) (by omega) x0_lt x1_lt
    refine (state_0_1 (e := e) (d := d) ..).trans ?_
    rw [cb_0, ke_0, val_0, ld_0_1]
    rfl
  · refine at_state x0 x2 x3 x5 (k0_pay2 x1) 0 0 _ (fun e d => ?_) x y (by omega) (by omega) (by omega) (by omega) x0_lt x1_lt
    refine (state_0_0 (e := e) (d := d) ..).trans ?_
    rw [cb_0, ke_0, val_0, ld_0_0]
    rfl

end Cert.First

end

end
-- ==== Proof.Rows.lean ====
/- The kernel's 32 tiles: the tile's blocks as rows of the sequence, the carried state after every tile, the rows every tile
   stores, and from these the two arrays the kernel leaves. -/
module

public import proofs.«01_k».proof.Proof.Blocks
public import proofs.«01_k».proof.Proof.First

@[expose] public section

set_option maxRecDepth 16384

noncomputable section

namespace Cert.Rows

open Idealize.ShloMosaic Idealize.ShloMosaic.TcCoe Idealize.SL.Sem Cert.KernelIdeal Cert.KernelIdeal.Gen Cert.KernelIdeal.Value
open Cert.Tile Cert.Equal Cert.Blocks Cert.Chunk Cert.Head
open Cert.RefAt (pos colq colv arg Q K)

variable (m : (ℓ : Loc nD τ sig) → Buf (Elt Ideal) ℓ) (c : Dev nD)

/-- The arguments. -/
abbrev q_ : Vec Ideal S2x8192x256 .f32 := m ((c : Thread nD τ).loc main_arg0)
abbrev k_ : Vec Ideal S2x8192x256 .f32 := m ((c : Thread nD τ).loc main_arg1)
abbrev v_ : Vec Ideal S2x8192x512 .f32 := m ((c : Thread nD τ).loc main_arg2)
abbrev l_ : Vec Ideal S2x8192x16 .f32 := m ((c : Thread nD τ).loc main_arg3)
abbrev r_ : Vec Ideal S2x8192x512 .f32 := m ((c : Thread nD τ).loc main_arg4)
abbrev w_ : Vec Ideal S16x256 .f32 := m ((c : Thread nD τ).loc main_arg5)
abbrev b_ : Vec Ideal S256 .f32 := m ((c : Thread nD τ).loc main_arg6)
abbrev g_ : Vec Ideal S128 .f32 := m ((c : Thread nD τ).loc main_arg7)

/-- The kernel's log-decays, chunk by chunk. -/
def A (b : Fin 2) (h : Fin 4) (n : ℕ) (r d : Fin 64) : EReal := gate (arg (l_ m c) (w_ m c) (b_ m c) b (pos n r) (colq h d))

/-- The blocks of tile `t`. -/
def X0 (t : Fin cfg0.N) : Vec Ideal S2x256x1664 .f32 := iblk m c 0 t
def X1 (t : Fin cfg0.N) : Vec Ideal S2x4x128x64 .f32 := iblk m c 1 t
def X2 (t : Fin cfg0.N) : Vec Ideal S128x256 .bf16 := iblk m c 2 t
def X3 (t : Fin cfg0.N) : Vec Ideal S1x256 .f32 := iblk m c 3 t
def X4 (t : Fin cfg0.N) : Vec Ideal S1x128 .f32 := iblk m c 4 t
def X5 (t : Fin cfg0.N) : Vec Ideal S256x256 .bf16 := iblk m c 5 t

/-- Row `r` of chunk `a` of tile `t` in the sequence. -/
theorem row_eq (t : Fin cfg0.N) (a : Fin 4) (r : Fin 64) :
    (⟨256 * t.val + (at_ a r).val, by have := lt t; omega⟩ : Fin 8192) = pos (4 * t.val + a.val) r :=
  Fin.ext (by
    have := lt t
    show 256 * t.val + (64 * a.val + r.val) = ((4 * t.val + a.val) * 64 + r.val) % 8192
    omega)

theorem col_q (h : Fin 4) (d : Fin 64) : (⟨64 * h + d, by omega⟩ : Fin 256) = colq h d :=
  Fin.ext (by show 64 * h.val + d.val = h.val * 64 + d.val; omega)

theorem col_v (h : Fin 4) (e : Fin 128) : (⟨128 * h + e, by omega⟩ : Fin 512) = colv h e :=
  Fin.ext (by show 128 * h.val + e.val = h.val * 128 + e.val; omega)

/-- A row of the tile's joined block. -/
theorem x0 (t : Fin cfg0.N) (b : Fin 2) (a : Fin 4) (r : Fin 64) (k : Fin 1664) : X0 m c t (ix3 b (at_ a r) k) =
    Host.join (mulf (F := Ideal) (φ := .f32) (q_ m c) (broadcastInDim S2x8192x256 ![] bcast_S_S2x8192x256 (constant (F := Ideal) S_ .f32 0x3E000000#32)))
      (k_ m c) (v_ m c) (Host.padInputs (l_ m c)) (r_ m c) (ix3 b (pos (4 * t.val + a.val) r) k) :=
  (block_0 m c t b (at_ a r) k).trans ((congrFun (Host.joined m c) _).trans (congrArg (fun x => Host.join _ _ _ _ _ (ix3 b x k)) (row_eq t a r)))

theorem x1 (t : Fin cfg0.N) (y : S2x4x128x64.Idx) : X1 m c t y = (0 : EReal) :=
  (congrFun (block_1 m c t) y).trans (Host.s_at m c y)

theorem x2 (t : Fin cfg0.N) : X2 m c t = Host.padWeights (w_ m c) := (block_2 m c t).trans (Host.weights m c)

theorem x3 (t : Fin cfg0.N) (j : Fin 256) : X3 m c t (ix2 0 j) = b_ m c (ix1 j) := (congrFun (block_3 m c t) _).trans (Host.b_at m c j)

theorem x4 (t : Fin cfg0.N) (e : Fin 128) : X4 m c t (ix2 0 e) = g_ m c (ix1 e) := (congrFun (block_4 m c t) _).trans (Host.g_at m c e)

section Tile
variable (t : Fin cfg0.N) (b : Fin 2) (h : Fin 4)

/-- The tile's queries. -/
theorem tile_q (a : Fin 4) (r d : Fin 64) : hq h (tq (X0 m c t) b) (at_ a r) d = Q (q_ m c) b h (4 * t.val + a.val) r d := by
  unfold hq tq Q
  rw [x0, ← col_q]
  refine (congrArg _ (congrArg (ix3 b _) (Fin.ext (Nat.zero_add _).symm))).trans ((Host.join_q _ _ _ _ _ _ _ ⟨64 * h + d, by omega⟩).trans ?_)
  rfl

/-- The tile's keys. -/
theorem tile_k (a : Fin 4) (r d : Fin 64) : hq h (tk (X0 m c t) b) (at_ a r) d = K (k_ m c) b h (4 * t.val + a.val) r d := by
  unfold hq tk K
  rw [x0, ← col_q]
  exact Host.join_k _ _ _ _ _ _ _ ⟨64 * h + d, by omega⟩

/-- The tile's values. -/
theorem tile_v (a : Fin 4) (r : Fin 64) (e : Fin 128) : hv h (tv (X0 m c t) b) (at_ a r) e = RefAt.V (v_ m c) b h (4 * t.val + a.val) r e := by
  unfold hv tv RefAt.V
  rw [x0, ← col_v]
  exact Host.join_v _ _ _ _ _ _ _ ⟨128 * h + e, by omega⟩

/-- The tile's gates of the output. -/
theorem tile_r (a : Fin 4) (r : Fin 64) (e : Fin 128) : hv h (tr (X0 m c t) b) (at_ a r) e = r_ m c (ix3 b (pos (4 * t.val + a.val) r) (colv h e)) := by
  unfold hv tr
  rw [x0, ← col_v]
  exact Host.join_r _ _ _ _ _ _ _ ⟨128 * h + e, by omega⟩

/-- A sum over 128 products of which all but the first 16 are zero. -/
theorem sum_pad (f g : Fin 16 → EReal) :
    (∑ x : Fin 128, (if h : x.val < 16 then f ⟨x.val, h⟩ else 0) * (if h : x.val < 16 then g ⟨x.val, h⟩ else 0)) = ∑ x : Fin 16, f x * g x := by
  symm
  refine Finset.sum_of_injOn (fun x : Fin 16 => (⟨x.val, by omega⟩ : Fin 128)) (fun a _ b _ e => Fin.ext (Fin.mk.inj e)) (fun _ _ => Finset.mem_coe.2 (Finset.mem_univ _)) (fun x _ hx => ?_) (fun x _ => ?_)
  · have : ¬ x.val < 16 := fun hlt => hx ⟨⟨x.val, hlt⟩, Finset.mem_coe.2 (Finset.mem_univ _), rfl⟩
    rw [dif_neg this, dif_neg this, mul_zero]
  · rw [dif_pos x.isLt, dif_pos x.isLt]

/-- The tile's log-decays. -/
theorem tile_a (a : Fin 4) (r d : Fin 64) : hq h (ta (X0 m c t) (X2 m c t) (X3 m c t) b) (at_ a r) d = A m c b h (4 * t.val + a.val) r d := by
  unfold hq ta A arg
  rw [x3, x2, col_q]
  refine congrArg (fun x : EReal => gate (x + b_ m c (ix1 (colq h d)))) ?_
  refine (Finset.sum_congr rfl fun x _ => ?_).trans (sum_pad (fun x => l_ m c (ix3 b (pos (4 * t.val + a.val) r) x)) (fun x => w_ m c (ix2 x (colq h d))))
  rw [x0, ← Host.pad_l, ← Host.pad_w, Host.join_l]

/-- The tile's table. -/
theorem tile_t (u s : Fin 256) : X5 m c t (ix2 u s) = if s ≤ u ∧ s.val / 64 = u.val / 64 then (1 : EReal) else 0 :=
  (congrFun (block_5 m c t) _).trans ((Host.t_at m c _).trans (Tables.table u s))

/-- The normalisation's weights. -/
theorem tile_g : (fun e => X4 m c t (ix2 0 e)) = fun e => g_ m c (ix1 e) := funext fun e => x4 m c t e

end Tile

/-- What the first tile leaves. -/
theorem first_tile (t : Fin cfg0.N) (acc) (h0 : t.val % 32 = 0) : stAt0 m c t.val t.isLt acc =
    (Later.outOf (X0 m c t) (X2 m c t) (X3 m c t) (X5 m c t) (X4 m c t) (X1 m c t), Later.stateOf (X0 m c t) (X2 m c t) (X3 m c t) (X5 m c t) (X1 m c t),
      Later.stateOf (X0 m c t) (X2 m c t) (X3 m c t) (X5 m c t) (X1 m c t)) := by
  rw [stAt0_A m c t acc h0, First.state_A, First.copy_A, First.out_A, First.fill]
  rfl

/-- What a later tile leaves, of the state it finds. -/
theorem later_tile (t : Fin cfg0.N) (acc) (h0 : ¬ t.val % 32 = 0) : stAt0 m c t.val t.isLt acc =
    (Later.outOf (X0 m c t) (X2 m c t) (X3 m c t) (X5 m c t) (X4 m c t) acc.2.2, Later.stateOf (X0 m c t) (X2 m c t) (X3 m c t) (X5 m c t) acc.2.2,
      Later.stateOf (X0 m c t) (X2 m c t) (X3 m c t) (X5 m c t) acc.2.2) := by
  rw [stAt0_B m c t acc h0, Later.state_B, Later.copy_B, Later.out_B]
  rfl

section Run
variable (hz : ∀ (b : Fin 2) (n : ℕ) (r : Fin 64) (j : Fin 256), ((-39 : ℝ) : EReal) ≤ arg (l_ m c) (w_ m c) (b_ m c) b (pos n r) j)
include hz

/-- With the precondition the log-decays are real numbers between -5/2 and 0. -/
theorem real (b : Fin 2) (h : Fin 4) : ∃ ρ : ℕ → Fin 64 → Fin 64 → ℝ, (∀ n r d, A m c b h n r d = (ρ n r d : EReal)) ∧
    ∀ n r d, -(5 / 2) ≤ ρ n r d ∧ ρ n r d ≤ 0 := by
  choose ρ h1 h2 using fun n r d => Gate.gate_range _ (hz b n r (colq h d))
  exact ⟨ρ, h1, h2⟩

/-- The head's states before every chunk. -/
abbrev S (b : Fin 2) (h : Fin 4) : ℕ → Fin 128 → Fin 64 → EReal := states (K (k_ m c) b h) (A m c b h) (RefAt.V (v_ m c) b h)

/-- A tile's state, of the state it finds. -/
theorem tile_state (t : Fin cfg0.N) (s : Vec Ideal S2x4x128x64 .f32) (hs : ∀ b h e d, s (ix4 b h e d) = S m c b h (4 * t.val) e d)
    (b : Fin 2) (h : Fin 4) (e : Fin 128) (d : Fin 64) :
    Later.stateOf (X0 m c t) (X2 m c t) (X3 m c t) (X5 m c t) s (ix4 b h e d) = S m c b h (4 * t.val + 4) e d := by
  obtain ⟨ρ, h1, h2⟩ := real m c hz b h
  exact congrFun (congrFun (newState_eq (tile_t m c t) h1 (tile_a m c t b h) (tile_k m c t b h) (tile_v m c t b h) s
    (funext fun e => funext fun d => hs b h e d)) e) d

/-- A tile's rows, of the state it finds. -/
theorem tile_rows (t : Fin cfg0.N) (s : Vec Ideal S2x4x128x64 .f32) (hs : ∀ b h e d, s (ix4 b h e d) = S m c b h (4 * t.val) e d)
    (b : Fin 2) (h : Fin 4) (a : Fin 4) (r : Fin 64) (e : Fin 128) :
    Later.outOf (X0 m c t) (X2 m c t) (X3 m c t) (X5 m c t) (X4 m c t) s (ix3 b (at_ a r) (colv h e)) =
      finish (row (Q (q_ m c) b h (4 * t.val + a.val)) (K (k_ m c) b h (4 * t.val + a.val)) (A m c b h (4 * t.val + a.val))
        (RefAt.V (v_ m c) b h (4 * t.val + a.val)) (S m c b h (4 * t.val + a.val)) r) (fun e => g_ m c (ix1 e))
        (fun e => r_ m c (ix3 b (pos (4 * t.val + a.val) r) (colv h e))) e := by
  obtain ⟨ρ, h1, h2⟩ := real m c hz b h
  have key := newOut_eq (tile_t m c t) Tables.mask h1 h2 (tile_a m c t b h) (tile_q m c t b h) (tile_k m c t b h) (tile_v m c t b h)
    (X4 m c t) s (funext fun e => funext fun d => hs b h e d) a r
  have eh : (⟨(colv h e).val / 128, by omega⟩ : Fin 4) = h := Fin.ext (by show (h.val * 128 + e.val) / 128 = h.val; omega)
  have ee : (⟨(colv h e).val % 128, by omega⟩ : Fin 128) = e := Fin.ext (by show (h.val * 128 + e.val) % 128 = e.val; omega)
  show newOut (X0 m c t) (X2 m c t) (X3 m c t) (X5 m c t) b (X4 m c t) s ⟨(colv h e).val / 128, _⟩ (at_ a r) ⟨(colv h e).val % 128, _⟩ = _
  rw [eh, ee, key, tile_g, show hv h (tr (X0 m c t) b) (at_ a r) = (fun e => r_ m c (ix3 b (pos (4 * t.val + a.val) r) (colv h e))) from
    funext fun e => tile_r m c t b h a r e]

/-- After tile `n`: the carried state, its copy, and the rows stored. -/
theorem after_tile (n : ℕ) (hn : n < cfg0.N) (b : Fin 2) (h : Fin 4) :
    (∀ e d, (outsAt0 m c n hn).2.2 (ix4 b h e d) = S m c b h (4 * n + 4) e d) ∧
      (∀ e d, (outsAt0 m c n hn).2.1 (ix4 b h e d) = S m c b h (4 * n + 4) e d) ∧
      ∀ a r e, (outsAt0 m c n hn).1 (ix3 b (at_ a r) (colv h e)) =
        finish (row (Q (q_ m c) b h (4 * n + a.val)) (K (k_ m c) b h (4 * n + a.val)) (A m c b h (4 * n + a.val))
          (RefAt.V (v_ m c) b h (4 * n + a.val)) (S m c b h (4 * n + a.val)) r) (fun e => g_ m c (ix1 e))
          (fun e => r_ m c (ix3 b (pos (4 * n + a.val) r) (colv h e))) e := by
  induction n generalizing b h with
  | zero =>
    have e0 : ∀ b h e d, X1 m c ⟨0, hn⟩ (ix4 b h e d) = S m c b h (4 * 0) e d := fun b h e d => x1 m c _ _
    rw [outsAt0_zero, first_tile m c ⟨0, hn⟩ _ (Nat.zero_mod _)]
    exact ⟨fun e d => tile_state m c hz ⟨0, hn⟩ _ e0 b h e d, fun e d => tile_state m c hz ⟨0, hn⟩ _ e0 b h e d,
      fun a r e => tile_rows m c hz ⟨0, hn⟩ _ e0 b h a r e⟩
  | succ n ih =>
    have hN := lt_of_lt_of_eq hn (show cfg0.N = 32 from N_0)
    have e0 : ∀ b h e d, (outsAt0 m c n (Nat.lt_of_succ_lt hn)).2.2 (ix4 b h e d) = S m c b h (4 * (n + 1)) e d := fun b h =>
      (ih (Nat.lt_of_succ_lt hn) b h).1
    rw [outsAt0_succ, later_tile m c ⟨n + 1, hn⟩ _ (by show ¬ (n + 1) % 32 = 0; omega)]
    exact ⟨fun e d => tile_state m c hz ⟨n + 1, hn⟩ _ e0 b h e d, fun e d => tile_state m c hz ⟨n + 1, hn⟩ _ e0 b h e d,
      fun a r e => tile_rows m c hz ⟨n + 1, hn⟩ _ e0 b h a r e⟩

/-- The state the kernel returns. -/
theorem returned_state (b : Fin 2) (h : Fin 4) (e : Fin 128) (d : Fin 64) : G7 m c (ix4 b h e d) = S m c b h 128 e d := by
  have hN : 31 < cfg0.N := lt_of_lt_of_eq (by decide) N_0.symm
  rw [G7_last, ← outsAt0_sweep m c 31 hN]
  exact (after_tile m c hz 31 hN b h).2.1 e d

/-- The rows the kernel returns. -/
theorem returned_rows (b : Fin 2) (n : Fin 128) (r : Fin 64) (h : Fin 4) (e : Fin 128) : G6 m c (ix3 b (pos n r) (colv h e)) =
    finish (row (Q (q_ m c) b h n) (K (k_ m c) b h n) (A m c b h n) (RefAt.V (v_ m c) b h n) (S m c b h n) r) (fun e => g_ m c (ix1 e))
      (fun e => r_ m c (ix3 b (pos n r) (colv h e))) e := by
  have hn := n.isLt
  have hN : n.val / 4 < cfg0.N := lt_of_lt_of_eq (by omega) N_0.symm
  have hp : pt6Of (ix3 b (pos n r) (colv h e)) = n.val / 4 := by
    show 32 * (b.val / 2 - 0) + 1 * ((n.val * 64 + r.val) % 8192 / 256 - 0) + 1 * ((h.val * 128 + e.val) / 512 - 0) = _
    omega
  have hl : loc6Of (ix3 b (pos n r) (colv h e)) = ix3 b (at_ ⟨n.val % 4, by omega⟩ r) (colv h e) := by
    funext a
    match a with
    | ⟨0, _⟩ => exact Fin.ext (show b.val % 2 = b.val by omega)
    | ⟨1, _⟩ => exact Fin.ext (show (n.val * 64 + r.val) % 8192 % 256 = 64 * (n.val % 4) + r.val by omega)
    | ⟨2, _⟩ => exact Fin.ext (show (h.val * 128 + e.val) % 512 = h.val * 128 + e.val by omega)
  have key := (after_tile m c hz (n.val / 4) hN b h).2.2 ⟨n.val % 4, by omega⟩ r e
  rw [show 4 * (n.val / 4) + ((⟨n.val % 4, by omega⟩ : Fin 4)).val = n.val from by show 4 * (n.val / 4) + n.val % 4 = n.val; omega] at key
  unfold G6
  rw [dif_pos (by rw [hp]; exact hN), fold0_congr m c _ _ _ (by omega) hp, ← outsAt0_sweep m c _ hN, hl]
  exact key

end Run

end Cert.Rows

end

end
-- ==== Proof.Loop.lean ====
/- The reference's loop over the 128 chunks: the state and the output rows after every chunk. -/
module

public import proofs.«01_k».proof.Proof.RefAt

@[expose] public section

set_option maxRecDepth 16384

noncomputable section

namespace Cert.Loop

open Idealize.ShloMosaic Idealize.ShloMosaic.TcCoe Idealize.SL.Sem Cert.ReferenceIdeal Cert.ReferenceIdeal.Gen
open Cert.ReferenceIdeal.Step Cert.RefAt Cert.Chunk

variable (a0 : (⟨S2x8192x256, .f32⟩ : BufTy).Contents (Elt Ideal)) (a1 : (⟨S2x8192x256, .f32⟩ : BufTy).Contents (Elt Ideal))
  (a2 : (⟨S2x8192x512, .f32⟩ : BufTy).Contents (Elt Ideal)) (a3 : (⟨S2x8192x16, .f32⟩ : BufTy).Contents (Elt Ideal))
  (a4 : (⟨S2x8192x512, .f32⟩ : BufTy).Contents (Elt Ideal))
  (a5 : (⟨S16x256, .f32⟩ : BufTy).Contents (Elt Ideal)) (a6 : (⟨S256, .f32⟩ : BufTy).Contents (Elt Ideal))
  (a7 : (⟨S128, .f32⟩ : BufTy).Contents (Elt Ideal))
  (it : ℕ → State Ideal) (h0 : it 0 = init a0 a1 a2 a3 a5 a6) (hs : ∀ n, n < 128 → it (n + 1) = step n (it n))
include h0 hs

/-- The arrays of queries, keys, values and log-decays stay as they are. -/
theorem kept (n : ℕ) (hn : n ≤ 128) :
    (it n).main_v44_0 = A_main_v36 a0 a1 a2 a3 a5 a6 ∧ (it n).main_v44_1 = A_main_v38 a0 a1 a2 a3 a5 a6 ∧
      (it n).main_v44_2 = A_main_v40 a0 a1 a2 a3 a5 a6 ∧ (it n).main_v44_3 = A_main_v42 a0 a1 a2 a3 a5 a6 := by
  induction n with
  | zero => rw [h0]; exact ⟨rfl, rfl, rfl, rfl⟩
  | succ n ih =>
    rw [hs n (by omega)]
    exact ih (by omega)

/-- The state before chunk `n`. -/
theorem state (n : ℕ) (hn : n ≤ 128) (b : Fin 2) (h : Fin 4) (d : Fin 64) (e : Fin 128) :
    (it n).main_v44_6 (ix4 b h d e) = states (K a1 b h) (L a3 a5 a6 b h) (V a2 b h) n e d := by
  induction n generalizing d e with
  | zero => rw [h0]; exact zero_at a0 a1 a2 a3 a5 a6 b h d e
  | succ n ih =>
    have hn' : n < 128 := by omega
    obtain ⟨-, e1, e2, e3⟩ := kept a0 a1 a2 a3 a5 a6 it h0 hs n (by omega)
    rw [hs n hn', step_main_v44_6, b62_at n hn', e1, e2, e3]
    simp only [k_at, v_at, la_at, ih (by omega)]
    rfl

/-- The output rows of the chunks before chunk `n`. -/
theorem rows (n : ℕ) (hn : n ≤ 128) (k : Fin 128) (hk : k.val < n) (b : Fin 2) (h : Fin 4) (r : Fin 64) (e : Fin 128) :
    (it n).main_v44_7 (ix5 k b h r e) = row (Q a0 b h k) (K a1 b h k) (L a3 a5 a6 b h k) (V a2 b h k)
      (states (K a1 b h) (L a3 a5 a6 b h) (V a2 b h) k) r e := by
  induction n with
  | zero => exact absurd hk (Nat.not_lt_zero _)
  | succ n ih =>
    have hn' : n < 128 := by omega
    obtain ⟨e0, e1, e2, e3⟩ := kept a0 a1 a2 a3 a5 a6 it h0 hs n (by omega)
    rw [hs n hn', step_main_v44_7, b68_at n hn']
    by_cases hkn : k.val = n
    · rw [if_pos hkn, b49_at n hn', e0, e1, e2, e3]
      simp only [q_at, k_at, v_at, la_at, state a0 a1 a2 a3 a5 a6 it h0 hs n (by omega), hkn]
    · rw [if_neg hkn]
      exact ih (by omega) (by omega)

/-- The state the reference returns. -/
theorem returned_state (b : Fin 2) (h : Fin 4) (e : Fin 128) (d : Fin 64) :
    R_main_v64 (it 128) (ix4 b h e d) = states (K a1 b h) (L a3 a5 a6 b h) (V a2 b h) 128 e d :=
  (state_at _ b h e d).trans (state a0 a1 a2 a3 a5 a6 it h0 hs 128 (le_refl _) b h d e)

/-- The rows the reference returns. -/
theorem returned_rows (b : Fin 2) (n : Fin 128) (r : Fin 64) (h : Fin 4) (e : Fin 128) :
    R_main_v63 (it 128) a4 a7 (ix3 b (pos n r) (colv h e)) =
      Head.finish (row (Q a0 b h n) (K a1 b h n) (L a3 a5 a6 b h n) (V a2 b h n) (states (K a1 b h) (L a3 a5 a6 b h) (V a2 b h) n) r)
        (fun e => a7 (ix1 e)) (fun e => a4 (ix3 b (pos n r) (colv h e))) e := by
  rw [rows_at]
  congr 1
  funext e
  exact rows a0 a1 a2 a3 a5 a6 it h0 hs 128 (le_refl _) n n.isLt b h r e

end Cert.Loop

end

end
-- ==== Proof.Range.lean ====
/- The precondition: what the gate's argument being at least -39 says of every entry. -/
module

public import proofs.«01_k».proof.Pre_gate_in_range
public import proofs.«01_k».proof.Proof.RefAt

@[expose] public section

set_option maxRecDepth 16384

noncomputable section

namespace Cert.Range

open Idealize.ShloMosaic Cert.Pre_gate_in_range

/-- The side conditions of the precondition's operations. -/
instance facts : Cert.Pre_gate_in_range.Facts where
  bcast_S256_S1x1x256_2 := by decide
  bcast_S1x1x256_S2x8192x256_0_1_2 := by decide
  bcast_S_S2x8192x256 := by decide
  dot_S2x8192x16_S16x256_S2x8192x256_2_0_01_1_n_n_wf := by decide

/-- An array of comparisons all true says that every argument of the gate is at least -39. -/
theorem least (a0 a1 : FVec Ideal S2x8192x256 .f32) (a2 : FVec Ideal S2x8192x512 .f32) (a3 : FVec Ideal S2x8192x16 .f32) (a4 : FVec Ideal S2x8192x512 .f32)
    (a5 : FVec Ideal S16x256 .f32) (a6 : FVec Ideal S256 .f32) (a7 : FVec Ideal S128 .f32)
    (h : fn (F := Ideal) a0 a1 a2 a3 a4 a5 a6 a7 = fun _ => 1#1) (b : Fin 2) (t : Fin 8192) (j : Fin 256) :
    ((-39 : ℝ) : EReal) ≤ RefAt.arg a3 a5 a6 b t j := by
  have e : fn (F := Ideal) a0 a1 a2 a3 a4 a5 a6 a7 (ix3 b t j) = BitVec.ofBool (decide (Ideal.ofBits .f32 0xC21C0000#32 ≤ RefAt.arg a3 a5 a6 b t j)) := by
    unfold RefAt.arg
    pointwise [fn]
  rw [congrFun h, Gate.least] at e
  by_contra hn
  rw [decide_eq_false hn] at e
  exact absurd e (by decide)

end Cert.Range

end

end
-- ==== Proof.Same.lean ====
/- The equation: the two arrays the kernel leaves are the two results of the reference on the same arguments. -/
module

public import proofs.«01_k».proof.Proof.Rows
public import proofs.«01_k».proof.Proof.Loop
public import proofs.«01_k».proof.Proof.Range

@[expose] public section

set_option maxRecDepth 16384

noncomputable section

namespace Cert.Same

open Idealize.ShloMosaic Idealize.ShloMosaic.TcCoe Idealize.SL.Sem Cert.KernelIdeal Cert.KernelIdeal.Value Cert.Rows
open Cert.RefAt (pos colq colv arg Q K)

/-- The states of the reference's loop, from its first. -/
def steps (s : ReferenceIdeal.Step.State Ideal) : ℕ → ReferenceIdeal.Step.State Ideal
  | 0 => s
  | n + 1 => ReferenceIdeal.Step.step n (steps s n)

variable (m : (ℓ : Loc nD τ sig) → Buf (Elt Ideal) ℓ) (c : Dev nD)

/-- The reference's last state, on the kernel's arguments. -/
abbrev end_ : ReferenceIdeal.Step.State Ideal := steps (ReferenceIdeal.Step.init (q_ m c) (k_ m c) (v_ m c) (l_ m c) (w_ m c) (b_ m c)) 128

variable (hz : ∀ (b : Fin 2) (t : Fin 8192) (j : Fin 256), ((-39 : ℝ) : EReal) ≤ arg (l_ m c) (w_ m c) (b_ m c) b t j)
include hz

/-- With the precondition the reference's log-decays are the kernel's. -/
theorem decays (b : Fin 2) (h : Fin 4) : RefAt.L (l_ m c) (w_ m c) (b_ m c) b h = A m c b h :=
  funext fun n => funext fun r => funext fun d => Gate.decay_eq _ (Gate.ne_bot (hz b (pos n r) (colq h d)))

/-- The states are equal. -/
theorem state_eq : ReferenceIdeal.Step.R_main_v64 (end_ m c) = G7 m c := by
  funext y
  obtain ⟨b, h, e, d, rfl⟩ : ∃ (b : Fin 2) (h : Fin 4) (e : Fin 128) (d : Fin 64), y = ix4 b h e d :=
    ⟨y 0, y 1, y 2, y 3, eq_ix4 y⟩
  refine (Loop.returned_state (q_ m c) (k_ m c) (v_ m c) (l_ m c) (w_ m c) (b_ m c) (steps _) rfl (fun _ _ => rfl) b h e d).trans ?_
  rw [Rows.returned_state m c (fun b n r j => hz b (pos n r) j), decays m c hz]

/-- The rows are equal. -/
theorem rows_eq : ReferenceIdeal.Step.R_main_v63 (end_ m c) (r_ m c) (g_ m c) = G6 m c := by
  funext y
  obtain ⟨b, n, r, h, e, rfl⟩ : ∃ (b : Fin 2) (n : Fin 128) (r : Fin 64) (h : Fin 4) (e : Fin 128), y = ix3 b (pos n r) (colv h e) := by
    obtain ⟨b, t, j, rfl⟩ : ∃ (b : Fin 2) (t : Fin 8192) (j : Fin 512), y = ix3 b t j := ⟨y 0, y 1, y 2, eq_ix3 y⟩
    refine ⟨b, ⟨t.val / 64, by omega⟩, ⟨t.val % 64, by omega⟩, ⟨j.val / 128, by omega⟩, ⟨j.val % 128, by omega⟩, ?_⟩
    have e1 : t = pos (t.val / 64) ⟨t.val % 64, by omega⟩ := Fin.ext (by show t.val = (t.val / 64 * 64 + t.val % 64) % 8192; omega)
    have e2 : j = colv ⟨j.val / 128, by omega⟩ ⟨j.val % 128, by omega⟩ := Fin.ext (by show j.val = j.val / 128 * 128 + j.val % 128; omega)
    exact congrArg₂ (fun t j => ix3 b t j) e1 e2
  refine (Loop.returned_rows (q_ m c) (k_ m c) (v_ m c) (l_ m c) (r_ m c) (w_ m c) (b_ m c) (g_ m c) (steps _) rfl (fun _ _ => rfl) b n r h e).trans ?_
  rw [Rows.returned_rows m c (fun b n r j => hz b (pos n r) j), decays m c hz]

end Cert.Same

end

end
-- ==== Proof.FfnHost.lean ====
/- The blocks a tile of the feed-forward kernel reads, at an index, over the call's arguments. -/
module

public import proofs.«01_k».proof.Proof.Gen.FfnIdeal.Value
public import Idealize.ShloMosaic.Lib.Claim
public import Idealize.ShloMosaic.Lib.StableHlo.ReadAt
public import Idealize.ShloMosaic.Lib.Pipeline.ValueKit

@[expose] public section

set_option maxRecDepth 16384

noncomputable section

namespace Cert.FfnHost

open Idealize.ShloMosaic Idealize.ShloMosaic.TcCoe Idealize.SL.Sem Cert.FfnIdeal Cert.FfnIdeal.Gen

variable (m : (ℓ : Loc nD τ sig) → Buf (Elt Ideal) ℓ) (c : Dev nD)

/-- The arguments: the rows, the convolution's past, the norm's weights, the first weights, the convolution's weights and
    bias, the last weights. -/
abbrev x_ : Vec Ideal S2x8192x1024 .f32 := m ((c : Thread nD τ).loc main_arg0)
abbrev p_ : Vec Ideal S2x2x2816 .f32 := m ((c : Thread nD τ).loc main_arg1)
abbrev g_ : Vec Ideal S1024 .f32 := m ((c : Thread nD τ).loc main_arg2)
abbrev wu_ : Vec Ideal S1024x5632 .f32 := m ((c : Thread nD τ).loc main_arg3)
abbrev cw_ : Vec Ideal S3x2816 .f32 := m ((c : Thread nD τ).loc main_arg4)
abbrev cb_ : Vec Ideal S2816 .f32 := m ((c : Thread nD τ).loc main_arg5)
abbrev wd_ : Vec Ideal S2816x1024 .f32 := m ((c : Thread nD τ).loc main_arg6)

/-- What the host code leaves at each buffer the call reads. -/
theorem host_0 : V m c main_arg0 = m ((c : Thread nD τ).loc main_arg0) := by
  unfold V
  after_reads_simp
theorem host_1 : V m c main_arg1 = m ((c : Thread nD τ).loc main_arg1) := by
  unfold V
  after_reads_simp
theorem host_2 : V m c main_v2 = shapeCast S1x1024 (m ((c : Thread nD τ).loc main_arg2)) shapeCasts_S1024_S1x1024 := by
  unfold V
  after_reads_simp
  rfl
theorem host_3 : V m c main_v0 = truncf (F := Ideal) (φ := .f32) .bf16 (m ((c : Thread nD τ).loc main_arg3)) bitsLt_bf16_f32 := by
  unfold V
  after_reads_simp
theorem host_4 : V m c main_arg4 = m ((c : Thread nD τ).loc main_arg4) := by
  unfold V
  after_reads_simp
theorem host_5 : V m c main_v3 = shapeCast S1x2816 (m ((c : Thread nD τ).loc main_arg5)) shapeCasts_S2816_S1x2816 := by
  unfold V
  after_reads_simp
  rfl
theorem host_6 : V m c main_v1 = truncf (F := Ideal) (φ := .f32) .bf16 (m ((c : Thread nD τ).loc main_arg6)) bitsLt_bf16_f32 := by
  unfold V
  after_reads_simp

/-- The same at an index. -/
theorem g_at (k : Fin 1024) : (V m c main_v2 : Vec Ideal S1x1024 .f32) (ix2 0 k) = (g_ m c (ix1 k) : EReal) := by
  rw [host_2]
  pointwise
theorem wu_at (k : Fin 1024) (j : Fin 5632) : (V m c main_v0 : Vec Ideal S1024x5632 .bf16) (ix2 k j) = (wu_ m c (ix2 k j) : EReal) := by
  rw [host_3]
  pointwise
theorem cb_at (f : Fin 2816) : (V m c main_v3 : Vec Ideal S1x2816 .f32) (ix2 0 f) = (cb_ m c (ix1 f) : EReal) := by
  rw [host_5]
  pointwise
theorem wd_at (f : Fin 2816) (j : Fin 1024) : (V m c main_v1 : Vec Ideal S2816x1024 .bf16) (ix2 f j) = (wd_ m c (ix2 f j) : EReal) := by
  rw [host_6]
  pointwise

/-- Where each window's block lies. -/
theorem idx : ∀ t : Fin cfg0.N, win0_0.index t = ![t.val / 16, t.val % 16, 0] ∧ win0_1.index t = ![t.val / 16, 0, 0] ∧ win0_2.index t = ![0, 0] ∧
    win0_3.index t = ![0, 0] ∧ win0_4.index t = ![0, 0] ∧ win0_5.index t = ![0, 0] ∧ win0_6.index t = ![0, 0] :=
  (by decide +kernel : ∀ t : Fin grid0.N, _)

theorem lt (t : Fin cfg0.N) : t.val < 32 := lt_of_lt_of_eq t.isLt (show cfg0.N = 32 from N_0)

/-- The tile's batch row, and its row `r` in the sequence. -/
def bat (t : Fin cfg0.N) : Fin 2 := ⟨t.val / 16, by have := lt t; omega⟩
def pos (t : Fin cfg0.N) (r : Fin 512) : Fin 8192 := ⟨512 * (t.val % 16) + r.val, by omega⟩

theorem block_0 (t : Fin cfg0.N) (r : Fin 512) (k : Fin 1024) :
    (iblk m c 0 t : Vec Ideal S1x512x1024 .f32) (ix3 0 r k) = (V m c main_arg0 : Vec Ideal S2x8192x1024 .f32) (ix3 (bat t) (pos t r) k) := by
  unfold bat pos
  blk_ext [iblk, idx t]
theorem block_1 (t : Fin cfg0.N) (a : Fin 2) (f : Fin 2816) :
    (iblk m c 1 t : Vec Ideal S1x2x2816 .f32) (ix3 0 a f) = (V m c main_arg1 : Vec Ideal S2x2x2816 .f32) (ix3 (bat t) a f) := by
  unfold bat
  blk_ext [iblk, idx t]
theorem block_2 (t : Fin cfg0.N) : (iblk m c 2 t : Vec Ideal S1x1024 .f32) = (V m c main_v2 : Vec Ideal S1x1024 .f32) := by
  funext y
  blk_ext [iblk, idx t]
theorem block_3 (t : Fin cfg0.N) : (iblk m c 3 t : Vec Ideal S1024x5632 .bf16) = (V m c main_v0 : Vec Ideal S1024x5632 .bf16) := by
  funext y
  blk_ext [iblk, idx t]
theorem block_4 (t : Fin cfg0.N) : (iblk m c 4 t : Vec Ideal S3x2816 .f32) = (V m c main_arg4 : Vec Ideal S3x2816 .f32) := by
  funext y
  blk_ext [iblk, idx t]
theorem block_5 (t : Fin cfg0.N) : (iblk m c 5 t : Vec Ideal S1x2816 .f32) = (V m c main_v3 : Vec Ideal S1x2816 .f32) := by
  funext y
  blk_ext [iblk, idx t]
theorem block_6 (t : Fin cfg0.N) : (iblk m c 6 t : Vec Ideal S2816x1024 .bf16) = (V m c main_v1 : Vec Ideal S2816x1024 .bf16) := by
  funext y
  blk_ext [iblk, idx t]

/-- The blocks of tile `t`. -/
def X0 (t : Fin cfg0.N) : Vec Ideal S1x512x1024 .f32 := iblk m c 0 t
def X1 (t : Fin cfg0.N) : Vec Ideal S1x2x2816 .f32 := iblk m c 1 t
def X2 (t : Fin cfg0.N) : Vec Ideal S1x1024 .f32 := iblk m c 2 t
def X3 (t : Fin cfg0.N) : Vec Ideal S1024x5632 .bf16 := iblk m c 3 t
def X4 (t : Fin cfg0.N) : Vec Ideal S3x2816 .f32 := iblk m c 4 t
def X5 (t : Fin cfg0.N) : Vec Ideal S1x2816 .f32 := iblk m c 5 t
def X6 (t : Fin cfg0.N) : Vec Ideal S2816x1024 .bf16 := iblk m c 6 t

/-- The same over the arguments. -/
theorem x0 (t : Fin cfg0.N) (r : Fin 512) (k : Fin 1024) : X0 m c t (ix3 0 r k) = (x_ m c (ix3 (bat t) (pos t r) k) : EReal) :=
  (block_0 m c t r k).trans (congrFun (host_0 m c) _)
theorem x1 (t : Fin cfg0.N) (a : Fin 2) (f : Fin 2816) : X1 m c t (ix3 0 a f) = (p_ m c (ix3 (bat t) a f) : EReal) :=
  (block_1 m c t a f).trans (congrFun (host_1 m c) _)
theorem x2 (t : Fin cfg0.N) (k : Fin 1024) : X2 m c t (ix2 0 k) = (g_ m c (ix1 k) : EReal) := (congrFun (block_2 m c t) _).trans (g_at m c k)
theorem x3 (t : Fin cfg0.N) (k : Fin 1024) (j : Fin 5632) : X3 m c t (ix2 k j) = (wu_ m c (ix2 k j) : EReal) :=
  (congrFun (block_3 m c t) _).trans (wu_at m c k j)
theorem x4 (t : Fin cfg0.N) (a : Fin 3) (f : Fin 2816) : X4 m c t (ix2 a f) = (cw_ m c (ix2 a f) : EReal) :=
  (congrFun (block_4 m c t) _).trans (congrFun (host_4 m c) _)
theorem x5 (t : Fin cfg0.N) (f : Fin 2816) : X5 m c t (ix2 0 f) = (cb_ m c (ix1 f) : EReal) := (congrFun (block_5 m c t) _).trans (cb_at m c f)
theorem x6 (t : Fin cfg0.N) (f : Fin 2816) (j : Fin 1024) : X6 m c t (ix2 f j) = (wd_ m c (ix2 f j) : EReal) :=
  (congrFun (block_6 m c t) _).trans (wd_at m c f j)

end Cert.FfnHost

end

end
-- ==== Proof.FfnTile.lean ====
/- What one tile of the feed-forward kernel computes: the normalised rows times the first weights, the gate columns shifted by
   one and two rows over the two rows carried from the tile before, and the rows the tile stores. -/
module

public import proofs.«01_k».proof.Proof.Gen.FfnIdeal.Value
public import Idealize.ShloMosaic.Lib.Pointwise

@[expose] public section

set_option maxRecDepth 16384

noncomputable section

namespace Cert.FfnTile

open Idealize.ShloMosaic Idealize.ShloMosaic.TcCoe Idealize.SL.Sem Cert.FfnIdeal Cert.FfnIdeal.Gen

/-- One entry of a row, divided by the row's root mean square and weighted, times a column of weights: the product with the
    first weights at one column. -/
def up (x g w : Fin 1024 → EReal) : EReal :=
  ∑ k, x k * Ideal.rsqrt (Ideal.div (∑ k, x k * x k) (Ideal.ofBits .f32 0x44800000#32) + Ideal.ofBits .f32 0x358637BD#32) * g k * w k

/-- The convolution over three rows: the row two before, the row before, the row itself. -/
def conv (b c0 c1 c2 p2 p1 p0 : EReal) : EReal := b + c0 * p2 + c1 * p1 + c2 * p0

/-- The smooth gate, by its tanh form. -/
def gelu (y : EReal) : EReal :=
  Ideal.ofBits .f32 0x3F000000#32 * y * (1 + Ideal.tanh (Ideal.ofBits .f32 0x3F4C422A#32 * (y + Ideal.ofBits .f32 0x3D372713#32 * (y * y * y))))

/-- One entry of the layer's output: the input plus the gated row times a column of the last weights. -/
def out (x : EReal) (b c0 c1 c2 p2 p1 p0 u w : Fin 2816 → EReal) : EReal :=
  x + ∑ f, gelu (conv (b f) (c0 f) (c1 f) (c2 f) (p2 f) (p1 f) (p0 f)) * u f * w f

variable (x0 : Vec Ideal S1x512x1024 .f32) (x2 : Vec Ideal S1x1024 .f32) (x3 : Vec Ideal S1024x5632 .bf16)

/-- The tile's product with the first weights at row `r` and column `j`. -/
def upAt (r : Fin 512) (j : Fin 5632) : EReal := up (fun k => x0 (ix3 0 r k)) (fun k => x2 (ix2 0 k)) (fun k => x3 (ix2 k j))

/-- The tile's gate columns: the second half. -/
def gateAt (r : Fin 512) (f : Fin 2816) : EReal := upAt x0 x2 x3 r ⟨2816 + f, by omega⟩

/-- The rows the convolution reads, counted from two rows before the tile: the two carried rows, then the tile's. -/
def rows (s : Fin 2 → Fin 2816 → EReal) (n : ℕ) (f : Fin 2816) : EReal :=
  if h : n < 2 then s ⟨n, h⟩ f else gateAt x0 x2 x3 ⟨(n - 2) % 512, by omega⟩ f

/-- The rows of the scratch a tile reads. -/
def carry (s : Vec Ideal S8x2816 .f32) (a : Fin 2) (f : Fin 2816) : EReal := s (ix2 ⟨6 + a, by omega⟩ f)

/-- What a tile stores to the output, as an array, of the rows it finds carried. -/
def outOf (x4 : Vec Ideal S3x2816 .f32) (x5 : Vec Ideal S1x2816 .f32) (x6 : Vec Ideal S2816x1024 .bf16) (s : Fin 2 → Fin 2816 → EReal) :
    Vec Ideal S1x512x1024 .f32 := fun y =>
  out (x0 (ix3 0 (y 1) (y 2))) (fun f => x5 (ix2 0 f)) (fun f => x4 (ix2 0 f)) (fun f => x4 (ix2 1 f)) (fun f => x4 (ix2 2 f))
    (rows x0 x2 x3 s (y 1).val) (rows x0 x2 x3 s ((y 1).val + 1)) (rows x0 x2 x3 s ((y 1).val + 2))
    (fun f => upAt x0 x2 x3 (y 1) ⟨f, by omega⟩) (fun f => x6 (ix2 f (y 2)))

/-- The tile's last eight gate rows, as the scratch holds them. -/
def tailOf : Vec Ideal S8x2816 .f32 := fun y => gateAt x0 x2 x3 ⟨504 + (y 0).val, by have h : (y 0).val < 8 := (y 0).isLt; omega⟩ (y 1)

/-- The same rows as the second output holds them. -/
def tailOut : Vec Ideal S1x8x2816 .f32 := fun y => gateAt x0 x2 x3 ⟨504 + (y 1).val, by have h : (y 1).val < 8 := (y 1).isLt; omega⟩ (y 2)

/-- The kernel's product with the first weights. -/
theorem pay7_at (r : Fin 512) (j : Fin 5632) : k0_pay7 x0 x2 x3 (ix2 r j) = upAt x0 x2 x3 r j := by
  unfold upAt up
  pointwise [k0_pay7, k0_pay6]

/-- The kernel's columns of the first half. -/
theorem pay8_at (r : Fin 512) (f : Fin 2816) : k0_pay8 x0 x2 x3 (ix2 r f) = upAt x0 x2 x3 r ⟨f, by omega⟩ := by
  refine Eq.trans ?_ (pay7_at x0 x2 x3 r ⟨f, by omega⟩)
  pointwise [k0_pay8]

/-- The kernel's gate columns. -/
theorem pay9_at (r : Fin 512) (f : Fin 2816) : k0_pay9 x0 x2 x3 (ix2 r f) = gateAt x0 x2 x3 r f := by
  refine Eq.trans ?_ (pay7_at x0 x2 x3 r ⟨2816 + f, by omega⟩)
  pointwise [k0_pay9]

/-- A row of a tile is row `n` exactly where the row's word is. -/
theorem row_word (r : Fin 512) (n : ℕ) (hn : n < 512) : IntOp.cmpi CmpIPredicate.eq (BitVec.ofNat 32 r.val) (BitVec.ofNat 32 n) = if r.val = n then 1#1 else 0#1 := by
  have h := r.isLt
  by_cases e : r.val = n
  · rw [if_pos e, e]
    simp [IntOp.cmpi]
  · rw [if_neg e]
    have : BitVec.ofNat 32 r.val ≠ BitVec.ofNat 32 n := fun h' => e (by
      have := congrArg BitVec.toNat h'
      simp only [BitVec.toNat_ofNat] at this
      omega)
    show BitVec.ofBool (BitVec.ofNat 32 r.val == BitVec.ofNat 32 n) = 0#1
    rw [beq_eq_false_iff_ne.mpr this]
    rfl

/-- The gate rows shifted by one. -/
theorem pay10_at (s : Fin 2 → Fin 2816 → EReal) (v : Vec Ideal S1x2816 .f32) (hv : ∀ f, v (ix2 0 f) = s 1 f) (r : Fin 512) (f : Fin 2816) :
    k0_pay10 x0 x2 x3 v (ix2 r f) = rows x0 x2 x3 s (r.val + 1) f := by
  have h : k0_pay10 x0 x2 x3 v (ix2 r f) = Scalar.select (IntOp.cmpi CmpIPredicate.eq (BitVec.ofNat 32 r.val) 0#32) (v (ix2 0 f))
      (k0_pay9 x0 x2 x3 (ix2 ⟨(r.val + 512 - 1) % 512, by omega⟩ f)) := by
    pointwise [k0_pay10]
  rw [h, row_word r 0 (by omega), pay9_at, hv]
  unfold rows
  by_cases e : r.val = 0
  · rw [if_pos e, dif_pos (by omega)]
    exact congrFun (congrArg s (Fin.ext (show 1 = r.val + 1 by omega))) f
  · rw [if_neg e, dif_neg (by omega)]
    refine congrFun (congrArg (gateAt x0 x2 x3) (Fin.ext ?_)) f
    show (r.val + 512 - 1) % 512 = (r.val + 1 - 2) % 512
    omega

/-- The gate rows shifted by two, before the choice of the carried rows is spelled out. -/
theorem shift2 (s : Fin 2 → Fin 2816 → EReal) (r : Fin 512) (f : Fin 2816) :
    Scalar.select (if r.val = 0 then 1#1 else 0#1) (s 0 f) (Scalar.select (if r.val = 1 then 1#1 else 0#1) (s 1 f)
      (gateAt x0 x2 x3 ⟨(r.val + 512 - 2) % 512, by omega⟩ f)) = rows x0 x2 x3 s r.val f := by
  unfold rows
  by_cases e : r.val = 0
  · rw [if_pos e, dif_pos (by omega)]
    exact congrFun (congrArg s (Fin.ext (show 0 = r.val by omega))) f
  · rw [if_neg e]
    by_cases e1 : r.val = 1
    · rw [if_pos e1, dif_pos (by omega)]
      exact congrFun (congrArg s (Fin.ext (show 1 = r.val by omega))) f
    · rw [if_neg e1, dif_neg (by omega)]
      refine congrFun (congrArg (gateAt x0 x2 x3) (Fin.ext ?_)) f
      show (r.val + 512 - 2) % 512 = (r.val - 2) % 512
      omega

/-- The rows a tile stores. -/
theorem pay12_at (x4 : Vec Ideal S3x2816 .f32) (x6 : Vec Ideal S2816x1024 .bf16) (s : Fin 2 → Fin 2816 → EReal)
    (v26 v27 v45 v47 v52 v56 : Vec Ideal S1x2816 .f32) (h26 : ∀ f, v26 (ix2 0 f) = s 1 f) (h27 : ∀ f, v27 (ix2 0 f) = s 0 f)
    (h47 : ∀ f, v47 (ix2 0 f) = x4 (ix2 0 f)) (h52 : ∀ f, v52 (ix2 0 f) = x4 (ix2 1 f)) (h56 : ∀ f, v56 (ix2 0 f) = x4 (ix2 2 f))
    (y : S1x512x1024.Idx) :
    k0_pay1 (k0_pay12 (k0_pay6 x0) (k0_pay8 x0 x2 x3) (k0_pay9 x0 x2 x3) (iota .tc S512x2816 32 [0] iota_S512x2816_d0_w32) v26 v27
      (k0_pay10 x0 x2 x3 v26) (k0_pay11) 1#32 v45 v47 v52 v56 x6) y = outOf x0 x2 x3 x4 v45 x6 s y := by
  have e2 : ∀ (r : Fin 512) (f : Fin 2816), Scalar.select (k0_pay11 (ix2 r f)) (v27 (ix2 0 f))
      (Scalar.select (IntOp.cmpi CmpIPredicate.eq ((iota .tc S512x2816 32 [0] iota_S512x2816_d0_w32) (ix2 r f)) 1#32) (v26 (ix2 0 f))
        (k0_pay9 x0 x2 x3 (ix2 ⟨(r.val + 512 - 2) % 512, by omega⟩ f))) = rows x0 x2 x3 s r.val f := fun r f => by
    have h11 : k0_pay11 (ix2 r f) = IntOp.cmpi CmpIPredicate.eq (BitVec.ofNat 32 r.val) 0#32 := by pointwise [k0_pay11]
    have hi : (iota .tc S512x2816 32 [0] iota_S512x2816_d0_w32) (ix2 r f) = BitVec.ofNat 32 r.val := by pointwise
    rw [h11, hi, row_word r 0 (by omega), row_word r 1 (by omega), h26, h27, pay9_at]
    exact shift2 x0 x2 x3 s r f
  have e0 : ∀ (r : Fin 512) (f : Fin 2816), k0_pay9 x0 x2 x3 (ix2 r f) = rows x0 x2 x3 s (r.val + 2) f := fun r f => by
    rw [pay9_at]
    unfold rows
    rw [dif_neg (by omega)]
    refine congrFun (congrArg (gateAt x0 x2 x3) (Fin.ext ?_)) f
    show r.val = (r.val + 2 - 2) % 512
    omega
  have h6 : ∀ (r : Fin 512) (j : Fin 1024), k0_pay6 x0 (ix2 r j) = x0 (ix3 0 r j) := fun r j => by pointwise [k0_pay6]
  obtain ⟨a, r, j, rfl⟩ : ∃ a r j, y = ix3 a r j := ⟨y 0, y 1, y 2, by funext a; fin_cases a <;> rfl⟩
  show _ = out (x0 (ix3 0 r j)) (fun f => v45 (ix2 0 f)) (fun f => x4 (ix2 0 f)) (fun f => x4 (ix2 1 f)) (fun f => x4 (ix2 2 f))
    (rows x0 x2 x3 s r.val) (rows x0 x2 x3 s (r.val + 1)) (rows x0 x2 x3 s (r.val + 2))
    (fun f => upAt x0 x2 x3 r ⟨f, by omega⟩) (fun f => x6 (ix2 f j))
  unfold out gelu conv
  simp only [← e2, ← e0, ← h6, ← h47, ← h52, ← h56, ← pay8_at, ← pay10_at x0 x2 x3 s v26 h26]
  pointwise [k0_pay1, k0_pay12]

/-- The scratch a tile leaves. -/
theorem pay2_at : k0_pay2 (k0_pay9 x0 x2 x3) = tailOf x0 x2 x3 := by
  funext y
  refine Eq.trans ?_ (pay9_at x0 x2 x3 ⟨504 + (y 0).val, by have h : (y 0).val < 8 := (y 0).isLt; omega⟩ (y 1))
  pointwise [k0_pay2]

/-- The second output's block. -/
theorem pay3_at : k0_pay3 (k0_pay9 x0 x2 x3) = tailOut x0 x2 x3 := by
  funext y
  refine Eq.trans ?_ (pay9_at x0 x2 x3 ⟨504 + (y 1).val, by have h : (y 1).val < 8 := (y 1).isLt; omega⟩ (y 2))
  pointwise [k0_pay3]

end Cert.FfnTile

end

end
-- ==== Proof.FfnCases.lean ====
/- What a tile of the feed-forward kernel leaves: the first tile of a batch row reads the carried rows from its input, a later
   one reads them from the scratch. -/
module

public import proofs.«01_k».proof.Proof.FfnTile
public import Idealize.ShloMosaic.Lib.Pipeline.ReadBack
public import Idealize.ShloMosaic.Lib.Pipeline.FrameBody
public import Idealize.ShloMosaic.Lib.Pipeline.ValueKit

@[expose] public section

set_option maxRecDepth 16384

noncomputable section

namespace Cert.FfnCases

open Idealize.ShloMosaic Idealize.ShloMosaic.TcCoe Idealize.SL.Sem Cert.FfnIdeal Cert.FfnIdeal.Gen Cert.FfnTile

variable (c : Dev nD) (i : grid0.Coords) (arg2 : Memref sig .tc .vmem S1x512x1024 .f32) (harg2 : arg2.IsWhole) (arg3 : Memref sig .tc .vmem S1x2x2816 .f32) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S3x2816 .f32) (harg6 : arg6.IsWhole) (arg7 : Memref sig .tc .vmem S1x2816 .f32) (harg7 : arg7.IsWhole) (arg8 : Memref sig .tc .vmem S2816x1024 .bf16) (harg8 : arg8.IsWhole) (arg9 : Memref sig .tc .vmem S1x512x1024 .f32) (harg9 : arg9.IsWhole) (arg10 : Memref sig .tc .vmem S1x8x2816 .f32) (harg10 : arg10.IsWhole) (arg11 : Memref sig .tc .vmem S8x2816 .f32) (harg11 : arg11.IsWhole)
  (x0 : Vec Ideal S1x512x1024 .f32) (x1 : Vec Ideal S1x2x2816 .f32) (x2 : Vec Ideal S1x1024 .f32) (x3 : Vec Ideal S1024x5632 .bf16) (x4 : Vec Ideal S3x2816 .f32) (x5 : Vec Ideal S1x2816 .f32) (x6 : Vec Ideal S2816x1024 .bf16)

/-- The two rows the first tile of a batch row carries in: its input. -/
def past (x1 : Vec Ideal S1x2x2816 .f32) (a : Fin 2) (f : Fin 2816) : EReal := x1 (ix3 0 a f)

/-- The scratch's rows a tile reads and fills. -/
abbrev rect_6 : Rect S8x2816 := Rect.unit (s := S8x2816) ![6, 0] ![1, 2816] inb_S8x2816_S1x2816_6_0
abbrev rect_7 : Rect S8x2816 := Rect.unit (s := S8x2816) ![7, 0] ![1, 2816] inb_S8x2816_S1x2816_7_0
abbrev rect_67 : Rect S8x2816 := Rect.unit (s := S8x2816) ![6, 0] ![2, 2816] inb_S8x2816_S2x2816_6_0
abbrev rect_all : Rect S8x2816 := Rect.unit (s := S8x2816) ![0, 0] ![8, 2816] inb_S8x2816_S8x2816_0_0

/-- The scratch filled with zeros, then its last two rows with the input. -/
abbrev fills : List (View.Piece (Elt Ideal) S8x2816 .f32) := [⟨rect_67, k0_pay5 (F := Ideal) x1⟩, ⟨rect_all, k0_pay4 (F := Ideal)⟩]

/-- The first of the two rows, read back. -/
theorem filled_6 (v : View sig .tc .vmem S8x2816 .f32) (f : Fin 2816) : v.readCov (fills x1) rect_6.toLoadRect (ix2 (0 : Fin 1) f : S1x2816.Idx) = past x1 0 f := by
  rw [View.readCov_eq_canon']
  have e : rect_6.toLoadRect.idx (ix2 (0 : Fin 1) f : S1x2816.Idx) = rect_67.emb (ix2 (0 : Fin 2) f : S2x2816.Idx) := by
    funext a
    refine Fin.ext ?_
    fin_cases a <;> simp [Rect.toLoadRect, LoadRect.idx, Rect.emb, Rect.unit]
  refine (congrArg _ e).trans ((View.canon_cons_emb _ _ _ _).trans ?_)
  unfold past
  pointwise [k0_pay5]

/-- The second of them. -/
theorem filled_7 (v : View sig .tc .vmem S8x2816 .f32) (f : Fin 2816) : v.readCov (fills x1) rect_7.toLoadRect (ix2 (0 : Fin 1) f : S1x2816.Idx) = past x1 1 f := by
  rw [View.readCov_eq_canon']
  have e : rect_7.toLoadRect.idx (ix2 (0 : Fin 1) f : S1x2816.Idx) = rect_67.emb (ix2 (1 : Fin 2) f : S2x2816.Idx) := by
    funext a
    refine Fin.ext ?_
    fin_cases a <;> simp [Rect.toLoadRect, LoadRect.idx, Rect.emb, Rect.unit]
  refine (congrArg _ e).trans ((View.canon_cons_emb _ _ _ _).trans ?_)
  unfold past
  pointwise [k0_pay5]

/-- A row of the convolution's weights, as loaded. -/
theorem row_0 (f : Fin 2816) : View.ld x4 (Rect.unit ![0, 0] ![1, 2816] inb_S3x2816_S1x2816_0_0) (ix2 0 f) = x4 (ix2 0 f) := by pointwise
theorem row_1 (f : Fin 2816) : View.ld x4 (Rect.unit ![1, 0] ![1, 2816] inb_S3x2816_S1x2816_1_0) (ix2 0 f) = x4 (ix2 1 f) := by pointwise
theorem row_2 (f : Fin 2816) : View.ld x4 (Rect.unit ![2, 0] ![1, 2816] inb_S3x2816_S1x2816_2_0) (ix2 0 f) = x4 (ix2 2 f) := by pointwise

/-- A carried row, as loaded. -/
theorem carry_0 (s : Vec Ideal S8x2816 .f32) (f : Fin 2816) :
    View.ld s (Rect.unit ![6, 0] ![1, 2816] inb_S8x2816_S1x2816_6_0) (ix2 0 f) = carry s 0 f := by
  unfold carry
  pointwise
theorem carry_1 (s : Vec Ideal S8x2816 .f32) (f : Fin 2816) :
    View.ld s (Rect.unit ![7, 0] ![1, 2816] inb_S8x2816_S1x2816_7_0) (ix2 0 f) = carry s 1 f := by
  unfold carry
  pointwise

/-- The rows of the output a later tile stores. -/
theorem out_B (hc0 : ¬cond0_0 i) (xs0 : Vec Ideal S8x2816 .f32) :
    out0_B_7 (F := Ideal) c i arg2 harg2 arg3 harg3 arg4 harg4 arg5 harg5 arg6 harg6 arg7 harg7 arg8 harg8 arg9 harg9 arg10 harg10 arg11 harg11 hc0 x0 x1 x2 x3 x4 x5 x6 xs0 = outOf x0 x2 x3 x4 x5 x6 (carry xs0) := by
  funext y
  frame_out
  exact pay12_at x0 x2 x3 x4 x6 (carry xs0) _ _ _ _ _ _ (carry_1 xs0) (carry_0 xs0) (row_0 x4) (row_1 x4) (row_2 x4) y

/-- The block of the second output after a later tile. -/
theorem tail_B (hc0 : ¬cond0_0 i) (xs0 : Vec Ideal S8x2816 .f32) :
    out0_B_8 (F := Ideal) c i arg2 harg2 arg3 harg3 arg4 harg4 arg5 harg5 arg6 harg6 arg7 harg7 arg8 harg8 arg9 harg9 arg10 harg10 arg11 harg11 hc0 x0 x1 x2 x3 x4 x5 x6 xs0 = tailOut x0 x2 x3 := by
  funext y
  frame_out
  exact congrFun (pay3_at x0 x2 x3) y

/-- The scratch after a later tile. -/
theorem scratch_B (hc0 : ¬cond0_0 i) (xs0 : Vec Ideal S8x2816 .f32) :
    sout0_B_0 (F := Ideal) c i arg2 harg2 arg3 harg3 arg4 harg4 arg5 harg5 arg6 harg6 arg7 harg7 arg8 harg8 arg9 harg9 arg10 harg10 arg11 harg11 hc0 x0 x1 x2 x3 x4 x5 x6 xs0 = tailOf x0 x2 x3 := by
  funext y
  frame_out
  exact congrFun (pay2_at x0 x2 x3) y

/-- The rows of the output the first tile of a batch row stores. -/
theorem out_A (hc0 : cond0_0 i) :
    out0_A_7 (F := Ideal) c i arg2 harg2 arg3 harg3 arg4 harg4 arg5 harg5 arg6 harg6 arg7 harg7 arg8 harg8 arg9 harg9 arg10 harg10 arg11 harg11 hc0 x0 x1 x2 x3 x4 x5 x6 = outOf x0 x2 x3 x4 x5 x6 (past x1) := by
  funext y
  frame_open
  simp (disch := decide) only [↓ View.readCov_skip, ↓ View.readCov_cons_toLoadRect, ↓ View.readCov_fill]
  frame_out
  exact pay12_at x0 x2 x3 x4 x6 (past x1) _ _ _ _ _ _ (filled_7 x1 _) (filled_6 x1 _) (row_0 x4) (row_1 x4) (row_2 x4) y

/-- The block of the second output after the first tile of a batch row. -/
theorem tail_A (hc0 : cond0_0 i) :
    out0_A_8 (F := Ideal) c i arg2 harg2 arg3 harg3 arg4 harg4 arg5 harg5 arg6 harg6 arg7 harg7 arg8 harg8 arg9 harg9 arg10 harg10 arg11 harg11 hc0 x0 x1 x2 x3 x4 x5 x6 = tailOut x0 x2 x3 := by
  funext y
  frame_open
  simp (disch := decide) only [↓ View.readCov_skip, ↓ View.readCov_cons_toLoadRect, ↓ View.readCov_fill]
  frame_out
  exact congrFun (pay3_at x0 x2 x3) y

/-- The scratch after the first tile of a batch row. -/
theorem scratch_A (hc0 : cond0_0 i) :
    sout0_A_0 (F := Ideal) c i arg2 harg2 arg3 harg3 arg4 harg4 arg5 harg5 arg6 harg6 arg7 harg7 arg8 harg8 arg9 harg9 arg10 harg10 arg11 harg11 hc0 x0 x1 x2 x3 x4 x5 x6 = tailOf x0 x2 x3 := by
  funext y
  frame_open
  simp (disch := decide) only [↓ View.readCov_skip, ↓ View.readCov_cons_toLoadRect, ↓ View.readCov_fill]
  frame_out
  exact congrFun (pay2_at x0 x2 x3) y

end Cert.FfnCases

end

end
-- ==== Proof.FfnRows.lean ====
/- The feed-forward kernel's 32 tiles, 16 to a batch row: the tile's blocks as rows of the sequence, the rows carried from tile
   to tile, and from these the two arrays the kernel leaves. -/
module

public import proofs.«01_k».proof.Proof.FfnHost
public import proofs.«01_k».proof.Proof.FfnCases

@[expose] public section

set_option maxRecDepth 16384

noncomputable section

namespace Cert.FfnRows

open Idealize.ShloMosaic Idealize.ShloMosaic.TcCoe Idealize.SL.Sem Cert.FfnIdeal Cert.FfnIdeal.Gen Cert.FfnIdeal.Value
open Cert.FfnTile Cert.FfnHost

/-- The product of row `t` of batch row `b` with column `j` of the first weights. -/
def upRow (x : Vec Ideal S2x8192x1024 .f32) (g : Vec Ideal S1024 .f32) (wu : Vec Ideal S1024x5632 .f32) (b : Fin 2) (t : Fin 8192) (j : Fin 5632) : EReal :=
  up (fun k => x (ix3 b t k)) (fun k => g (ix1 k)) (fun k => wu (ix2 k j))

/-- The gate columns: the second half. -/
def gateRow (x : Vec Ideal S2x8192x1024 .f32) (g : Vec Ideal S1024 .f32) (wu : Vec Ideal S1024x5632 .f32) (b : Fin 2) (t : Fin 8192) (f : Fin 2816) : EReal :=
  upRow x g wu b t ⟨2816 + f, by omega⟩

/-- The gate rows with the two past rows before them. -/
def ext (x : Vec Ideal S2x8192x1024 .f32) (p : Vec Ideal S2x2x2816 .f32) (g : Vec Ideal S1024 .f32) (wu : Vec Ideal S1024x5632 .f32) (b : Fin 2) (n : ℕ) (f : Fin 2816) : EReal :=
  if h : n < 2 then p (ix3 b ⟨n, h⟩ f) else gateRow x g wu b ⟨(n - 2) % 8192, by omega⟩ f

/-- The layer's output at row `t` of batch row `b` and column `j`. -/
def outRow (x : Vec Ideal S2x8192x1024 .f32) (p : Vec Ideal S2x2x2816 .f32) (g : Vec Ideal S1024 .f32) (wu : Vec Ideal S1024x5632 .f32)
    (cw : Vec Ideal S3x2816 .f32) (cb : Vec Ideal S2816 .f32) (wd : Vec Ideal S2816x1024 .f32) (b : Fin 2) (t : Fin 8192) (j : Fin 1024) : EReal :=
  out (x (ix3 b t j)) (fun f => cb (ix1 f)) (fun f => cw (ix2 0 f)) (fun f => cw (ix2 1 f)) (fun f => cw (ix2 2 f))
    (ext x p g wu b t.val) (ext x p g wu b (t.val + 1)) (ext x p g wu b (t.val + 2)) (fun f => upRow x g wu b t ⟨f, by omega⟩) (fun f => wd (ix2 f j))

variable (m : (ℓ : Loc nD τ sig) → Buf (Elt Ideal) ℓ) (c : Dev nD)

/-- These over the kernel's arguments. -/
abbrev gate (b : Fin 2) (t : Fin 8192) (f : Fin 2816) : EReal := gateRow (x_ m c) (g_ m c) (wu_ m c) b t f
abbrev past (b : Fin 2) (n : ℕ) (f : Fin 2816) : EReal := ext (x_ m c) (p_ m c) (g_ m c) (wu_ m c) b n f
abbrev final (b : Fin 2) (t : Fin 8192) (j : Fin 1024) : EReal :=
  outRow (x_ m c) (p_ m c) (g_ m c) (wu_ m c) (cw_ m c) (cb_ m c) (wd_ m c) b t j

/-- The tile's product with the first weights. -/
theorem tile_up (t : Fin cfg0.N) (r : Fin 512) (j : Fin 5632) :
    upAt (X0 m c t) (X2 m c t) (X3 m c t) r j = upRow (x_ m c) (g_ m c) (wu_ m c) (bat t) (pos t r) j := by
  unfold upAt upRow
  simp only [x0, x2, x3]

/-- The tile's gate columns. -/
theorem tile_gate (t : Fin cfg0.N) (r : Fin 512) (f : Fin 2816) :
    gateAt (X0 m c t) (X2 m c t) (X3 m c t) r f = gate m c (bat t) (pos t r) f := tile_up m c t r _

/-- The rows the tile's convolution reads, where the carried rows are the two before the tile. -/
theorem tile_rows (t : Fin cfg0.N) (s : Fin 2 → Fin 2816 → EReal) (hs : ∀ a f, s a f = past m c (bat t) (512 * (t.val % 16) + a.val) f)
    (n : ℕ) (hn : n < 514) : rows (X0 m c t) (X2 m c t) (X3 m c t) s n = past m c (bat t) (512 * (t.val % 16) + n) := by
  funext f
  unfold rows
  by_cases h : n < 2
  · rw [dif_pos h, hs]
  · rw [dif_neg h, tile_gate]
    unfold past ext
    rw [dif_neg (by omega)]
    refine congrArg (fun x => gate m c (bat t) x f) (Fin.ext ?_)
    show 512 * (t.val % 16) + (n - 2) % 512 = (512 * (t.val % 16) + n - 2) % 8192
    omega

/-- The rows the tile stores. -/
theorem tile_out (t : Fin cfg0.N) (s : Fin 2 → Fin 2816 → EReal) (hs : ∀ a f, s a f = past m c (bat t) (512 * (t.val % 16) + a.val) f)
    (r : Fin 512) (j : Fin 1024) :
    outOf (X0 m c t) (X2 m c t) (X3 m c t) (X4 m c t) (X5 m c t) (X6 m c t) s (ix3 0 r j) = final m c (bat t) (pos t r) j := by
  have hr := r.isLt
  show out (X0 m c t (ix3 0 r j)) (fun f => X5 m c t (ix2 0 f)) (fun f => X4 m c t (ix2 0 f)) (fun f => X4 m c t (ix2 1 f)) (fun f => X4 m c t (ix2 2 f))
    (rows (X0 m c t) (X2 m c t) (X3 m c t) s r.val) (rows (X0 m c t) (X2 m c t) (X3 m c t) s (r.val + 1)) (rows (X0 m c t) (X2 m c t) (X3 m c t) s (r.val + 2))
    (fun f => upAt (X0 m c t) (X2 m c t) (X3 m c t) r ⟨f, by omega⟩) (fun f => X6 m c t (ix2 f j)) = _
  rw [tile_rows m c t s hs _ (by omega), tile_rows m c t s hs _ (by omega), tile_rows m c t s hs _ (by omega)]
  simp only [x0, x4, x5, x6, tile_up]
  rfl

/-- The rows carried into the first tile of a batch row. -/
theorem first_carry (t : Fin cfg0.N) (h0 : t.val % 16 = 0) (a : Fin 2) (f : Fin 2816) :
    FfnCases.past (X1 m c t) a f = past m c (bat t) (512 * (t.val % 16) + a.val) f := by
  unfold FfnCases.past past ext
  have ha := a.isLt
  rw [x1, dif_pos (by omega)]
  exact congrArg (fun x => p_ m c (ix3 (bat t) x f)) (Fin.ext (by show a.val = 512 * (t.val % 16) + a.val; omega))

/-- The rows carried into a later tile, of the scratch the tile before leaves. -/
theorem later_carry (n : ℕ) (hn : n + 1 < cfg0.N) (h0 : ¬ (n + 1) % 16 = 0) (s : Vec Ideal S8x2816 .f32)
    (hs : ∀ a f, s (ix2 a f) = gate m c (bat ⟨n, Nat.lt_of_succ_lt hn⟩) (pos ⟨n, Nat.lt_of_succ_lt hn⟩ ⟨504 + a.val, by omega⟩) f) (a : Fin 2) (f : Fin 2816) :
    carry s a f = past m c (bat ⟨n + 1, hn⟩) (512 * ((n + 1) % 16) + a.val) f := by
  have ha := a.isLt
  unfold carry past ext
  rw [hs, dif_neg (by omega)]
  have e : bat ⟨n, Nat.lt_of_succ_lt hn⟩ = bat ⟨n + 1, hn⟩ := Fin.ext (by show n / 16 = (n + 1) / 16; omega)
  rw [e]
  refine congrArg (fun x => gate m c (bat ⟨n + 1, hn⟩) x f) (Fin.ext ?_)
  show 512 * (n % 16) + (504 + (6 + a.val)) = (512 * ((n + 1) % 16) + a.val - 2) % 8192
  omega

/-- What the first tile of a batch row leaves. -/
theorem first_tile (t : Fin cfg0.N) (acc) (h0 : t.val % 16 = 0) : stAt0 m c t.val t.isLt acc =
    (outOf (X0 m c t) (X2 m c t) (X3 m c t) (X4 m c t) (X5 m c t) (X6 m c t) (FfnCases.past (X1 m c t)),
      tailOut (X0 m c t) (X2 m c t) (X3 m c t), tailOf (X0 m c t) (X2 m c t) (X3 m c t)) := by
  rw [stAt0_A m c t acc h0, FfnCases.out_A, FfnCases.tail_A, FfnCases.scratch_A]
  rfl

/-- What a later tile leaves, of the scratch it finds. -/
theorem later_tile (t : Fin cfg0.N) (acc) (h0 : ¬ t.val % 16 = 0) : stAt0 m c t.val t.isLt acc =
    (outOf (X0 m c t) (X2 m c t) (X3 m c t) (X4 m c t) (X5 m c t) (X6 m c t) (carry acc.2.2),
      tailOut (X0 m c t) (X2 m c t) (X3 m c t), tailOf (X0 m c t) (X2 m c t) (X3 m c t)) := by
  rw [stAt0_B m c t acc h0, FfnCases.out_B, FfnCases.tail_B, FfnCases.scratch_B]
  rfl

/-- What holds of what a tile leaves: the rows it stores, and its last eight gate rows twice. -/
def Good (t : Fin cfg0.N) (st : Vec Ideal S1x512x1024 .f32 × Vec Ideal S1x8x2816 .f32 × Vec Ideal S8x2816 .f32) : Prop :=
  (∀ r j, st.1 (ix3 0 r j) = final m c (bat t) (pos t r) j) ∧
    (∀ (a : Fin 8) f, st.2.1 (ix3 0 a f) = gate m c (bat t) (pos t ⟨504 + a.val, by omega⟩) f) ∧
    ∀ (a : Fin 8) f, st.2.2 (ix2 a f) = gate m c (bat t) (pos t ⟨504 + a.val, by omega⟩) f

theorem good (t : Fin cfg0.N) (s : Fin 2 → Fin 2816 → EReal) (hs : ∀ a f, s a f = past m c (bat t) (512 * (t.val % 16) + a.val) f) :
    Good m c t (outOf (X0 m c t) (X2 m c t) (X3 m c t) (X4 m c t) (X5 m c t) (X6 m c t) s,
      tailOut (X0 m c t) (X2 m c t) (X3 m c t), tailOf (X0 m c t) (X2 m c t) (X3 m c t)) :=
  ⟨fun r j => tile_out m c t s hs r j, fun _ f => tile_gate m c t _ f, fun _ f => tile_gate m c t _ f⟩

/-- After every tile. -/
theorem after_tile (n : ℕ) (hn : n < cfg0.N) : Good m c ⟨n, hn⟩ (outsAt0 m c n hn) := by
  induction n with
  | zero =>
    rw [outsAt0_zero, first_tile m c ⟨0, hn⟩ _ (Nat.zero_mod _)]
    exact good m c ⟨0, hn⟩ _ (first_carry m c ⟨0, hn⟩ (Nat.zero_mod _))
  | succ n ih =>
    rw [outsAt0_succ]
    by_cases h0 : (n + 1) % 16 = 0
    · rw [first_tile m c ⟨n + 1, hn⟩ _ h0]
      exact good m c ⟨n + 1, hn⟩ _ (first_carry m c ⟨n + 1, hn⟩ h0)
    · rw [later_tile m c ⟨n + 1, hn⟩ _ h0]
      exact good m c ⟨n + 1, hn⟩ _ (later_carry m c n hn h0 _ (ih (Nat.lt_of_succ_lt hn)).2.2)

/-- The rows the kernel returns. -/
theorem returned_rows (b : Fin 2) (t : Fin 8192) (j : Fin 1024) : G7 m c (ix3 b t j) = final m c b t j := by
  have hb := b.isLt
  have ht := t.isLt
  have hN : 16 * b.val + t.val / 512 < cfg0.N := lt_of_lt_of_eq (by omega) N_0.symm
  have hp : pt7Of (ix3 b t j) = 16 * b.val + t.val / 512 := by
    show 16 * (b.val / 1 - 0) + 1 * (t.val / 512 - 0) + 1 * (j.val / 1024 - 0) = _
    omega
  have hl : loc7Of (ix3 b t j) = ix3 0 ⟨t.val % 512, by omega⟩ j := by
    funext a
    match a with
    | ⟨0, _⟩ => exact Fin.ext (show b.val % 1 = 0 by omega)
    | ⟨1, _⟩ => rfl
    | ⟨2, _⟩ => exact Fin.ext (show j.val % 1024 = j.val by omega)
  have key := (after_tile m c _ hN).1 ⟨t.val % 512, by omega⟩ j
  have e0 : bat ⟨16 * b.val + t.val / 512, hN⟩ = b := Fin.ext (by show (16 * b.val + t.val / 512) / 16 = b.val; omega)
  have e1 : pos ⟨16 * b.val + t.val / 512, hN⟩ ⟨t.val % 512, by omega⟩ = t :=
    Fin.ext (by show 512 * ((16 * b.val + t.val / 512) % 16) + t.val % 512 = t.val; omega)
  rw [e0, e1] at key
  unfold G7
  rw [dif_pos (by rw [hp]; exact hN), fold0_congr m c _ _ _ (by omega) hp, ← outsAt0_sweep m c _ hN, hl]
  exact key

/-- The last eight gate rows the kernel returns. -/
theorem returned_tail (b : Fin 2) (a : Fin 8) (f : Fin 2816) : G8 m c (ix3 b a f) = gate m c b ⟨8184 + a.val, by omega⟩ f := by
  have hb := b.isLt
  have ha := a.isLt
  have hN : 16 * b.val + 15 < cfg0.N := lt_of_lt_of_eq (by omega) N_0.symm
  have hp : pt8Of (ix3 b a f) = 16 * b.val + 15 := by
    show 16 * (1 * (b.val / 1 - 0) + 1 * (a.val / 8 - 0) + 1 * (f.val / 2816 - 0)) + 15 = _
    omega
  have hl : loc8Of (ix3 b a f) = ix3 0 a f := by
    funext x
    match x with
    | ⟨0, _⟩ => exact Fin.ext (show b.val % 1 = 0 by omega)
    | ⟨1, _⟩ => exact Fin.ext (show a.val % 8 = a.val by omega)
    | ⟨2, _⟩ => exact Fin.ext (show f.val % 2816 = f.val by omega)
  have key := (after_tile m c _ hN).2.1 a f
  have e0 : bat ⟨16 * b.val + 15, hN⟩ = b := Fin.ext (by show (16 * b.val + 15) / 16 = b.val; omega)
  have e1 : pos ⟨16 * b.val + 15, hN⟩ ⟨504 + a.val, by omega⟩ = ⟨8184 + a.val, by omega⟩ :=
    Fin.ext (by show 512 * ((16 * b.val + 15) % 16) + (504 + a.val) = 8184 + a.val; omega)
  rw [e0, e1] at key
  unfold G8
  rw [dif_pos (by rw [hp]; exact hN), fold0_congr m c _ _ _ (by omega) hp, ← outsAt0_sweep m c _ hN, hl]
  exact key

end Cert.FfnRows

end

end
-- ==== Proof.FfnRef.lean ====
/- The feed-forward reference's two results at an index, as the rows the kernel's tiles are read as. -/
module

public import proofs.«01_k».proof.Proof.Gen.FfnReferenceIdeal.Run
public import proofs.«01_k».proof.Proof.FfnRows
public import Idealize.ShloMosaic.Lib.Pointwise

@[expose] public section

set_option maxRecDepth 16384

noncomputable section

namespace Cert.FfnRef

open Idealize.ShloMosaic Idealize.ShloMosaic.TcCoe Idealize.SL.Sem Cert.FfnReferenceIdeal Cert.FfnReferenceIdeal.Gen Cert.FfnReferenceIdeal.Value
open Cert.FfnTile Cert.FfnRows

variable (m : (ℓ : Loc nD τ sig) → Buf (Elt Ideal) ℓ) (c : Dev nD)

/-- The arguments. -/
abbrev x_ : Vec Ideal S2x8192x1024 .f32 := m ((c : Thread nD τ).loc main_arg0)
abbrev p_ : Vec Ideal S2x2x2816 .f32 := m ((c : Thread nD τ).loc main_arg1)
abbrev g_ : Vec Ideal S1024 .f32 := m ((c : Thread nD τ).loc main_arg2)
abbrev wu_ : Vec Ideal S1024x5632 .f32 := m ((c : Thread nD τ).loc main_arg3)
abbrev cw_ : Vec Ideal S3x2816 .f32 := m ((c : Thread nD τ).loc main_arg4)
abbrev cb_ : Vec Ideal S2816 .f32 := m ((c : Thread nD τ).loc main_arg5)
abbrev wd_ : Vec Ideal S2816x1024 .f32 := m ((c : Thread nD τ).loc main_arg6)

/-- The reference's convolution: the three products summed first. -/
def conv' (b c0 c1 c2 p2 p1 p0 : EReal) : EReal := b + (c0 * p2 + c1 * p1 + c2 * p0)

/-- The reference's smooth gate. -/
def gelu' (y : EReal) : EReal :=
  y * (Ideal.ofBits .f32 0x3F000000#32 * (1 + Ideal.tanh (Ideal.ofBits .f32 0x3F4C422A#32 * (y + Ideal.ofBits .f32 0x3D372713#32 * (y * y * y)))))

/-- The gate rows with the two past rows before them, as the reference joins them. -/
def ext' (b : Fin 2) (n : ℕ) (hn : n < 8194) (f : Fin 2816) : EReal :=
  if h : n < 2 then p_ m c (ix3 b ⟨n, h⟩ f) else gateRow (x_ m c) (g_ m c) (wu_ m c) b ⟨n - 2, by omega⟩ f

/-- The reference's output. -/
theorem out_at (b : Fin 2) (t : Fin 8192) (j : Fin 1024) : (res_main_v58 m c : Vec Ideal S2x8192x1024 .f32) (ix3 b t j) =
    x_ m c (ix3 b t j) + ∑ f, gelu' (conv' (cb_ m c (ix1 f)) (cw_ m c (ix2 0 f)) (cw_ m c (ix2 1 f)) (cw_ m c (ix2 2 f))
      (ext' m c b t.val (by omega) f) (ext' m c b (1 + t.val) (by omega) f) (gateRow (x_ m c) (g_ m c) (wu_ m c) b t f)) *
      upRow (x_ m c) (g_ m c) (wu_ m c) b t ⟨f, by omega⟩ * wd_ m c (ix2 f j) := by
  unfold gelu' conv' ext' gateRow upRow up
  pointwise [res_main_v58]

/-- The two ways of writing the convolution and the gate agree. -/
theorem conv_eq (b c0 c1 c2 p2 p1 p0 : EReal) : conv' b c0 c1 c2 p2 p1 p0 = conv b c0 c1 c2 p2 p1 p0 := by
  unfold conv' conv
  rw [add_assoc, add_assoc, add_assoc]

theorem gelu_eq (y : EReal) : gelu' y = gelu y := by
  unfold gelu' gelu
  rw [← mul_assoc, mul_comm y]

theorem ext_eq (b : Fin 2) (n : ℕ) (hn : n < 8194) (f : Fin 2816) : ext' m c b n hn f = ext (x_ m c) (p_ m c) (g_ m c) (wu_ m c) b n f := by
  unfold ext' ext
  by_cases h : n < 2
  · rw [dif_pos h, dif_pos h]
  · rw [dif_neg h, dif_neg h]
    exact congrArg (fun x => gateRow (x_ m c) (g_ m c) (wu_ m c) b x f) (Fin.ext (by show n - 2 = (n - 2) % 8192; omega))

/-- A row of the sequence is the extended sequence's, two rows on. -/
theorem row_eq (b : Fin 2) (t : Fin 8192) (f : Fin 2816) :
    gateRow (x_ m c) (g_ m c) (wu_ m c) b t f = ext (x_ m c) (p_ m c) (g_ m c) (wu_ m c) b (t.val + 2) f := by
  unfold ext
  rw [dif_neg (by omega)]
  exact congrArg (fun x => gateRow (x_ m c) (g_ m c) (wu_ m c) b x f) (Fin.ext (by show t.val = (t.val + 2 - 2) % 8192; omega))

/-- The reference's output is the layer's output row. -/
theorem rows_eq (b : Fin 2) (t : Fin 8192) (j : Fin 1024) : (res_main_v58 m c : Vec Ideal S2x8192x1024 .f32) (ix3 b t j) =
    outRow (x_ m c) (p_ m c) (g_ m c) (wu_ m c) (cw_ m c) (cb_ m c) (wd_ m c) b t j := by
  rw [out_at]
  unfold outRow out
  refine congrArg _ (Finset.sum_congr rfl fun f _ => ?_)
  rw [gelu_eq, conv_eq, ext_eq, ext_eq, row_eq m c b t f, Nat.add_comm 1 t.val]

end Cert.FfnRef

end

end
-- ==== Proof.FfnSame.lean ====
/- The feed-forward kernel and its reference leave the same two arrays. -/
module

public import proofs.«01_k».proof.Proof.FfnRef
public import Idealize.ShloMosaic.Lib.Claim

@[expose] public section

set_option maxRecDepth 16384

noncomputable section

namespace Cert.FfnSame

open Idealize.ShloMosaic Idealize.ShloMosaic.TcCoe Idealize.SL.Sem Cert.FfnRef Cert.FfnRows

/-- What the reference leaves: the output at every index, the last eight gate rows at every index, and its arguments. -/
theorem run (m : (ℓ : Loc Cert.FfnReferenceIdeal.nD Cert.FfnReferenceIdeal.τ Cert.FfnReferenceIdeal.sig) → Buf (Elt Ideal) ℓ)
    (ρ : Dev Cert.FfnReferenceIdeal.nD → PrngReg) :
    θ_run Cert.FfnReferenceIdeal.defs (onTc (τ := Cert.FfnReferenceIdeal.τ) (Cert.FfnReferenceIdeal.main (F := Ideal))) ⟨m, fun _ => 0, ρ⟩ fun r =>
      ∀ c : Dev Cert.FfnReferenceIdeal.nD,
        (∀ (b : Fin 2) (t : Fin 8192) (j : Fin 1024), (r.2.mem ((c.tc : Thread _ Cert.FfnReferenceIdeal.τ).loc Cert.FfnReferenceIdeal.main_v58) : Vec Ideal Cert.FfnReferenceIdeal.S2x8192x1024 .f32) (ix3 b t j) =
          outRow (x_ m c) (p_ m c) (g_ m c) (wu_ m c) (cw_ m c) (cb_ m c) (wd_ m c) b t j) ∧
        (∀ (b : Fin 2) (a : Fin 8) (f : Fin 2816), (r.2.mem ((c.tc : Thread _ Cert.FfnReferenceIdeal.τ).loc Cert.FfnReferenceIdeal.main_v57) : Vec Ideal Cert.FfnReferenceIdeal.S2x8x2816 .f32) (ix3 b a f) =
          gateRow (x_ m c) (g_ m c) (wu_ m c) b ⟨8184 + a.val, by omega⟩ f) ∧
        r.2.mem ((c.tc : Thread _ Cert.FfnReferenceIdeal.τ).loc Cert.FfnReferenceIdeal.main_arg0) = m ((c.tc : Thread _ Cert.FfnReferenceIdeal.τ).loc Cert.FfnReferenceIdeal.main_arg0) ∧
        r.2.mem ((c.tc : Thread _ Cert.FfnReferenceIdeal.τ).loc Cert.FfnReferenceIdeal.main_arg1) = m ((c.tc : Thread _ Cert.FfnReferenceIdeal.τ).loc Cert.FfnReferenceIdeal.main_arg1) ∧
        r.2.mem ((c.tc : Thread _ Cert.FfnReferenceIdeal.τ).loc Cert.FfnReferenceIdeal.main_arg2) = m ((c.tc : Thread _ Cert.FfnReferenceIdeal.τ).loc Cert.FfnReferenceIdeal.main_arg2) ∧
        r.2.mem ((c.tc : Thread _ Cert.FfnReferenceIdeal.τ).loc Cert.FfnReferenceIdeal.main_arg3) = m ((c.tc : Thread _ Cert.FfnReferenceIdeal.τ).loc Cert.FfnReferenceIdeal.main_arg3) ∧
        r.2.mem ((c.tc : Thread _ Cert.FfnReferenceIdeal.τ).loc Cert.FfnReferenceIdeal.main_arg4) = m ((c.tc : Thread _ Cert.FfnReferenceIdeal.τ).loc Cert.FfnReferenceIdeal.main_arg4) ∧
        r.2.mem ((c.tc : Thread _ Cert.FfnReferenceIdeal.τ).loc Cert.FfnReferenceIdeal.main_arg5) = m ((c.tc : Thread _ Cert.FfnReferenceIdeal.τ).loc Cert.FfnReferenceIdeal.main_arg5) ∧
        r.2.mem ((c.tc : Thread _ Cert.FfnReferenceIdeal.τ).loc Cert.FfnReferenceIdeal.main_arg6) = m ((c.tc : Thread _ Cert.FfnReferenceIdeal.τ).loc Cert.FfnReferenceIdeal.main_arg6) :=
  (θ_run Cert.FfnReferenceIdeal.defs _ _).mono (fun _ h c => ⟨fun b t j => (congrFun (h c).1 (ix3 b t j)).trans (rows_eq m c b t j),
    fun b a f => (congrFun (h c).2.1 (ix3 b a f)).trans (by
      rw [show (⟨8184 + a.val, by omega⟩ : Fin 8192) = ⟨8186 + a.val - 2, by omega⟩ from Fin.ext (by show 8184 + a.val = 8186 + a.val - 2; omega)]
      unfold gateRow upRow FfnTile.up
      pointwise
      exact dif_neg (by omega)), (h c).2.2⟩) (Cert.FfnReferenceIdeal.Value.run (F := Ideal) m ρ)

/-- The output of a kernel and a reference started on the same arguments. -/
theorem rows_same (m : (ℓ : Loc Cert.FfnIdeal.nD Cert.FfnIdeal.τ Cert.FfnIdeal.sig) → Buf (Elt Ideal) ℓ) (c : Dev Cert.FfnIdeal.nD)
    (m' : (ℓ : Loc Cert.FfnReferenceIdeal.nD Cert.FfnReferenceIdeal.τ Cert.FfnReferenceIdeal.sig) → Buf (Elt Ideal) ℓ) (c' : Dev Cert.FfnReferenceIdeal.nD)
    (e0 : x_ m' c' = FfnHost.x_ m c) (e1 : p_ m' c' = FfnHost.p_ m c) (e2 : g_ m' c' = FfnHost.g_ m c) (e3 : wu_ m' c' = FfnHost.wu_ m c)
    (e4 : cw_ m' c' = FfnHost.cw_ m c) (e5 : cb_ m' c' = FfnHost.cb_ m c) (e6 : wd_ m' c' = FfnHost.wd_ m c)
    (v : Vec Ideal Cert.FfnReferenceIdeal.S2x8192x1024 .f32)
    (hv : ∀ b t j, v (ix3 b t j) = outRow (x_ m' c') (p_ m' c') (g_ m' c') (wu_ m' c') (cw_ m' c') (cb_ m' c') (wd_ m' c') b t j) :
    v = Cert.FfnIdeal.Value.G7 m c := by
  funext y
  obtain ⟨b, t, j, rfl⟩ : ∃ b t j, y = ix3 b t j := ⟨y 0, y 1, y 2, by funext a; fin_cases a <;> rfl⟩
  rw [hv, e0, e1, e2, e3, e4, e5, e6]
  exact (returned_rows m c b t j).symm

/-- The last eight gate rows of a kernel and a reference started on the same arguments. -/
theorem tail_same (m : (ℓ : Loc Cert.FfnIdeal.nD Cert.FfnIdeal.τ Cert.FfnIdeal.sig) → Buf (Elt Ideal) ℓ) (c : Dev Cert.FfnIdeal.nD)
    (m' : (ℓ : Loc Cert.FfnReferenceIdeal.nD Cert.FfnReferenceIdeal.τ Cert.FfnReferenceIdeal.sig) → Buf (Elt Ideal) ℓ) (c' : Dev Cert.FfnReferenceIdeal.nD)
    (e0 : x_ m' c' = FfnHost.x_ m c) (e2 : g_ m' c' = FfnHost.g_ m c) (e3 : wu_ m' c' = FfnHost.wu_ m c)
    (v : Vec Ideal Cert.FfnReferenceIdeal.S2x8x2816 .f32)
    (hv : ∀ (b : Fin 2) (a : Fin 8) (f : Fin 2816), v (ix3 b a f) = gateRow (x_ m' c') (g_ m' c') (wu_ m' c') b ⟨8184 + a.val, by omega⟩ f) :
    v = Cert.FfnIdeal.Value.G8 m c := by
  funext y
  obtain ⟨b, a, f, rfl⟩ : ∃ b a f, y = ix3 b a f := ⟨y 0, y 1, y 2, by funext a; fin_cases a <;> rfl⟩
  rw [hv, e0, e2, e3]
  exact (returned_tail m c b a f).symm

end Cert.FfnSame

end

end
-- ==== Proof.MergeSame.lean ====
/- The merge kernel and its reference leave the same array: the gated sum of three products, times the last weights, added to
   the input rows. -/
module

public import proofs.«01_k».proof.Proof.Gen.MergeIdeal.Value
public import proofs.«01_k».proof.Proof.Gen.MergeReferenceIdeal.Run
public import Idealize.ShloMosaic.Lib.Pointwise
public import Idealize.ShloMosaic.Lib.Claim
public import Idealize.ShloMosaic.Lib.StableHlo.ReadAt
public import Idealize.ShloMosaic.Lib.Pipeline.ValueKit

@[expose] public section

set_option maxRecDepth 16384

noncomputable section

namespace Cert.MergeSame

open Idealize.ShloMosaic Idealize.ShloMosaic.TcCoe Idealize.SL.Sem Cert.MergeIdeal Cert.MergeIdeal.Gen

/-- A row times a column of weights. -/
def dot (x w : Fin 512 → EReal) : EReal := ∑ i, x i * w i

/-- One entry of the result: the input plus the three gated products' sum times a column of the last weights. -/
def out (x : EReal) (gn gg gx pn pg px w : Fin 1024 → EReal) : EReal := x + ∑ k, (gn k * pn k + gg k * pg k + gx k * px k) * w k

/-- The whole result, the two batch rows one below the other. -/
def merged (on og ox : Vec Ideal S2x8192x512 .bf16) (mg : Vec Ideal S2x8192x3072 .bf16) (x : Vec Ideal S2x8192x1024 .f32)
    (wn wg wx : Vec Ideal S512x1024 .f32) (wo : Vec Ideal S1024x1024 .f32) (b : Fin 2) (t : Fin 8192) (j : Fin 1024) : EReal :=
  out (x (ix3 b t j)) (fun k => mg (ix3 b t ⟨k, by omega⟩)) (fun k => mg (ix3 b t ⟨1024 + k, by omega⟩)) (fun k => mg (ix3 b t ⟨2048 + k, by omega⟩))
    (fun k => dot (fun i => on (ix3 b t i)) (fun i => wn (ix2 i k))) (fun k => dot (fun i => og (ix3 b t i)) (fun i => wg (ix2 i k)))
    (fun k => dot (fun i => ox (ix3 b t i)) (fun i => wx (ix2 i k))) (fun k => wo (ix2 k j))

/-- The batch row and the row in it of row `n` of the joined array. -/
def bat (n : Fin 16384) : Fin 2 := ⟨n / 8192, by omega⟩
def pos (n : Fin 16384) : Fin 8192 := ⟨n % 8192, by omega⟩

section Tile

variable (x0 x1 x2 : Vec Ideal S512x512 .bf16) (x3 : Vec Ideal S512x3072 .bf16) (x4 : Vec Ideal S512x1024 .f32)
  (x5 x6 x7 : Vec Ideal S512x1024 .bf16) (x8 : Vec Ideal S1024x1024 .bf16)

/-- What one tile stores. -/
theorem tile_at (r : Fin 512) (j : Fin 1024) : out0_9 x0 x1 x2 x3 x4 x5 x6 x7 x8 (ix2 r j) =
    out (x4 (ix2 r j)) (fun k => x3 (ix2 r ⟨k, by omega⟩)) (fun k => x3 (ix2 r ⟨1024 + k, by omega⟩)) (fun k => x3 (ix2 r ⟨2048 + k, by omega⟩))
    (fun k => dot (fun i => x0 (ix2 r i)) (fun i => x5 (ix2 i k))) (fun k => dot (fun i => x1 (ix2 r i)) (fun i => x6 (ix2 i k)))
    (fun k => dot (fun i => x2 (ix2 r i)) (fun i => x7 (ix2 i k))) (fun k => x8 (ix2 k j)) := by
  unfold out0_9
  frame_out
  unfold out dot
  pointwise [k0_pay1, k0_pay2, k0_pay3, k0_pay4]

end Tile

variable (m : (ℓ : Loc nD τ sig) → Buf (Elt Ideal) ℓ) (c : Dev nD)

abbrev on_ : Vec Ideal S2x8192x512 .bf16 := m ((c : Thread nD τ).loc main_arg0)
abbrev og_ : Vec Ideal S2x8192x512 .bf16 := m ((c : Thread nD τ).loc main_arg1)
abbrev ox_ : Vec Ideal S2x8192x512 .bf16 := m ((c : Thread nD τ).loc main_arg2)
abbrev mg_ : Vec Ideal S2x8192x3072 .bf16 := m ((c : Thread nD τ).loc main_arg3)
abbrev x_ : Vec Ideal S2x8192x1024 .f32 := m ((c : Thread nD τ).loc main_arg4)
abbrev wn_ : Vec Ideal S512x1024 .f32 := m ((c : Thread nD τ).loc main_arg5)
abbrev wg_ : Vec Ideal S512x1024 .f32 := m ((c : Thread nD τ).loc main_arg6)
abbrev wx_ : Vec Ideal S512x1024 .f32 := m ((c : Thread nD τ).loc main_arg7)
abbrev wo_ : Vec Ideal S1024x1024 .f32 := m ((c : Thread nD τ).loc main_arg8)

/-- What the host code leaves at each buffer the call reads. -/
theorem host_0 : V m c main_v4 = shapeCast S16384x512 (on_ m c) shapeCasts_S2x8192x512_S16384x512 := by
  unfold V
  after_reads_simp
  rfl
theorem host_1 : V m c main_v5 = shapeCast S16384x512 (og_ m c) shapeCasts_S2x8192x512_S16384x512 := by
  unfold V
  after_reads_simp
  rfl
theorem host_2 : V m c main_v6 = shapeCast S16384x512 (ox_ m c) shapeCasts_S2x8192x512_S16384x512 := by
  unfold V
  after_reads_simp
  rfl
theorem host_3 : V m c main_v7 = shapeCast S16384x3072 (mg_ m c) shapeCasts_S2x8192x3072_S16384x3072 := by
  unfold V
  after_reads_simp
  rfl
theorem host_4 : V m c main_v8 = shapeCast S16384x1024 (x_ m c) shapeCasts_S2x8192x1024_S16384x1024 := by
  unfold V
  after_reads_simp
  rfl
theorem host_5 : V m c main_v0 = truncf (F := Ideal) (φ := .f32) .bf16 (wn_ m c) bitsLt_bf16_f32 := by
  unfold V
  after_reads_simp
theorem host_6 : V m c main_v1 = truncf (F := Ideal) (φ := .f32) .bf16 (wg_ m c) bitsLt_bf16_f32 := by
  unfold V
  after_reads_simp
theorem host_7 : V m c main_v2 = truncf (F := Ideal) (φ := .f32) .bf16 (wx_ m c) bitsLt_bf16_f32 := by
  unfold V
  after_reads_simp
theorem host_8 : V m c main_v3 = truncf (F := Ideal) (φ := .f32) .bf16 (wo_ m c) bitsLt_bf16_f32 := by
  unfold V
  after_reads_simp

/-- Where each window's block lies. -/
theorem idx : ∀ t : Fin cfg0.N, win0_0.index t = ![t.val, 0] ∧ win0_1.index t = ![t.val, 0] ∧ win0_2.index t = ![t.val, 0] ∧
    win0_3.index t = ![t.val, 0] ∧ win0_4.index t = ![t.val, 0] ∧ win0_5.index t = ![0, 0] ∧ win0_6.index t = ![0, 0] ∧ win0_7.index t = ![0, 0] ∧
    win0_8.index t = ![0, 0] ∧ win0_9.index t = ![t.val, 0] :=
  (by decide +kernel : ∀ t : Fin grid0.N, _)

theorem lt (t : Fin cfg0.N) : t.val < 32 := lt_of_lt_of_eq t.isLt (show cfg0.N = 32 from N_0)

/-- The row of the joined array row `r` of the tile is. -/
def row (t : Fin cfg0.N) (r : Fin 512) : Fin 16384 := ⟨512 * t.val + r.val, by have := lt t; omega⟩

abbrev X0 (t : Fin cfg0.N) : Vec Ideal S512x512 .bf16 := iblk m c 0 t
abbrev X1 (t : Fin cfg0.N) : Vec Ideal S512x512 .bf16 := iblk m c 1 t
abbrev X2 (t : Fin cfg0.N) : Vec Ideal S512x512 .bf16 := iblk m c 2 t
abbrev X3 (t : Fin cfg0.N) : Vec Ideal S512x3072 .bf16 := iblk m c 3 t
abbrev X4 (t : Fin cfg0.N) : Vec Ideal S512x1024 .f32 := iblk m c 4 t
abbrev X5 (t : Fin cfg0.N) : Vec Ideal S512x1024 .bf16 := iblk m c 5 t
abbrev X6 (t : Fin cfg0.N) : Vec Ideal S512x1024 .bf16 := iblk m c 6 t
abbrev X7 (t : Fin cfg0.N) : Vec Ideal S512x1024 .bf16 := iblk m c 7 t
abbrev X8 (t : Fin cfg0.N) : Vec Ideal S1024x1024 .bf16 := iblk m c 8 t

theorem block_0 (t : Fin cfg0.N) (r : Fin 512) (k : Fin 512) : X0 m c t (ix2 r k) = (V m c main_v4 : Vec Ideal S16384x512 .bf16) (ix2 (row t r) k) := by
  unfold row
  blk_ext [iblk, idx t]
theorem block_1 (t : Fin cfg0.N) (r : Fin 512) (k : Fin 512) : X1 m c t (ix2 r k) = (V m c main_v5 : Vec Ideal S16384x512 .bf16) (ix2 (row t r) k) := by
  unfold row
  blk_ext [iblk, idx t]
theorem block_2 (t : Fin cfg0.N) (r : Fin 512) (k : Fin 512) : X2 m c t (ix2 r k) = (V m c main_v6 : Vec Ideal S16384x512 .bf16) (ix2 (row t r) k) := by
  unfold row
  blk_ext [iblk, idx t]
theorem block_3 (t : Fin cfg0.N) (r : Fin 512) (k : Fin 3072) : X3 m c t (ix2 r k) = (V m c main_v7 : Vec Ideal S16384x3072 .bf16) (ix2 (row t r) k) := by
  unfold row
  blk_ext [iblk, idx t]
theorem block_4 (t : Fin cfg0.N) (r : Fin 512) (k : Fin 1024) : X4 m c t (ix2 r k) = (V m c main_v8 : Vec Ideal S16384x1024 .f32) (ix2 (row t r) k) := by
  unfold row
  blk_ext [iblk, idx t]
theorem block_5 (t : Fin cfg0.N) (r : Fin 512) (k : Fin 1024) : X5 m c t (ix2 r k) = (V m c main_v0 : Vec Ideal S512x1024 .bf16) (ix2 r k) := by
  blk_ext [iblk, idx t]
theorem block_6 (t : Fin cfg0.N) (r : Fin 512) (k : Fin 1024) : X6 m c t (ix2 r k) = (V m c main_v1 : Vec Ideal S512x1024 .bf16) (ix2 r k) := by
  blk_ext [iblk, idx t]
theorem block_7 (t : Fin cfg0.N) (r : Fin 512) (k : Fin 1024) : X7 m c t (ix2 r k) = (V m c main_v2 : Vec Ideal S512x1024 .bf16) (ix2 r k) := by
  blk_ext [iblk, idx t]
theorem block_8 (t : Fin cfg0.N) (r : Fin 1024) (k : Fin 1024) : X8 m c t (ix2 r k) = (V m c main_v3 : Vec Ideal S1024x1024 .bf16) (ix2 r k) := by
  blk_ext [iblk, idx t]

/-- A tile's blocks over the arguments. -/
theorem x0 (t : Fin cfg0.N) (r : Fin 512) (k : Fin 512) : (X0 m c t (ix2 r k) : EReal) = on_ m c (ix3 (bat (row t r)) (pos (row t r)) k) := by
  rw [block_0, host_0]
  unfold bat pos
  pointwise
theorem x1 (t : Fin cfg0.N) (r : Fin 512) (k : Fin 512) : (X1 m c t (ix2 r k) : EReal) = og_ m c (ix3 (bat (row t r)) (pos (row t r)) k) := by
  rw [block_1, host_1]
  unfold bat pos
  pointwise
theorem x2 (t : Fin cfg0.N) (r : Fin 512) (k : Fin 512) : (X2 m c t (ix2 r k) : EReal) = ox_ m c (ix3 (bat (row t r)) (pos (row t r)) k) := by
  rw [block_2, host_2]
  unfold bat pos
  pointwise
theorem x3 (t : Fin cfg0.N) (r : Fin 512) (k : Fin 3072) : (X3 m c t (ix2 r k) : EReal) = mg_ m c (ix3 (bat (row t r)) (pos (row t r)) k) := by
  rw [block_3, host_3]
  unfold bat pos
  pointwise
theorem x4 (t : Fin cfg0.N) (r : Fin 512) (k : Fin 1024) : (X4 m c t (ix2 r k) : EReal) = x_ m c (ix3 (bat (row t r)) (pos (row t r)) k) := by
  rw [block_4, host_4]
  unfold bat pos
  pointwise
theorem x5 (t : Fin cfg0.N) (r : Fin 512) (k : Fin 1024) : (X5 m c t (ix2 r k) : EReal) = wn_ m c (ix2 r k) := by
  rw [block_5, host_5]
  pointwise
theorem x6 (t : Fin cfg0.N) (r : Fin 512) (k : Fin 1024) : (X6 m c t (ix2 r k) : EReal) = wg_ m c (ix2 r k) := by
  rw [block_6, host_6]
  pointwise
theorem x7 (t : Fin cfg0.N) (r : Fin 512) (k : Fin 1024) : (X7 m c t (ix2 r k) : EReal) = wx_ m c (ix2 r k) := by
  rw [block_7, host_7]
  pointwise
theorem x8 (t : Fin cfg0.N) (r : Fin 1024) (k : Fin 1024) : (X8 m c t (ix2 r k) : EReal) = wo_ m c (ix2 r k) := by
  rw [block_8, host_8]
  pointwise

/-- The array the kernel leaves. -/
def result : Vec Ideal S16384x1024 .f32 := fun y =>
  merged (on_ m c) (og_ m c) (ox_ m c) (mg_ m c) (x_ m c) (wn_ m c) (wg_ m c) (wx_ m c) (wo_ m c) (bat (y 0)) (pos (y 0)) (y 1)

theorem tile_out (t : Fin cfg0.N) (r : Fin 512) (j : Fin 1024) :
    out0_9 (X0 m c t) (X1 m c t) (X2 m c t) (X3 m c t) (X4 m c t) (X5 m c t) (X6 m c t) (X7 m c t) (X8 m c t) (ix2 r j) = result m c (ix2 (row t r) j) := by
  rw [tile_at]
  simp only [x0, x1, x2, x3, x4, x5, x6, x7, x8]
  rfl

theorem final : (dats m 0 c).arrAt 9 cfg0.N = result m c := by
  refine (dats m 0 c).arrAt_eq_of_covers 9 _ (by decide +kernel) fun t _ y => ?_
  blk_simp
  rw [after0_9]
  obtain ⟨r, j, rfl⟩ : ∃ (r : Fin 512) (j : Fin 1024), y = ix2 r j := ⟨y 0, y 1, by funext a; fin_cases a <;> rfl⟩
  refine (tile_out m c t r j).trans (congrArg (result m c) ?_)
  unfold row
  blk_ext [idx t]

/-- A row of two sequences joined one below the other. -/
theorem joined_at (X : Vec Ideal Cert.MergeReferenceIdeal.S2x8192x1024 .f32) (n : Fin 16384) (j : Fin 1024) :
    shapeCast Cert.MergeReferenceIdeal.S16384x1024 X Cert.MergeReferenceIdeal.Gen.shapeCasts_S2x8192x1024_S16384x1024 (ix2 n j) = X (ix3 (bat n) (pos n) j) := by
  unfold bat pos
  pointwise

/-- What the reference leaves: the result at every index, and its arguments. -/
theorem run (m : (ℓ : Loc Cert.MergeReferenceIdeal.nD Cert.MergeReferenceIdeal.τ Cert.MergeReferenceIdeal.sig) → Buf (Elt Ideal) ℓ) (ρ : Dev Cert.MergeReferenceIdeal.nD → PrngReg) :
    θ_run Cert.MergeReferenceIdeal.defs (onTc (τ := Cert.MergeReferenceIdeal.τ) (Cert.MergeReferenceIdeal.main (F := Ideal))) ⟨m, fun _ => 0, ρ⟩ fun r =>
      ∀ c : Dev Cert.MergeReferenceIdeal.nD,
        (∀ (n : Fin 16384) (j : Fin 1024), (r.2.mem ((c.tc : Thread _ Cert.MergeReferenceIdeal.τ).loc Cert.MergeReferenceIdeal.main_v21) : Vec Ideal Cert.MergeReferenceIdeal.S16384x1024 .f32) (ix2 n j) =
          merged (m ((c.tc : Thread _ Cert.MergeReferenceIdeal.τ).loc Cert.MergeReferenceIdeal.main_arg0)) (m ((c.tc : Thread _ Cert.MergeReferenceIdeal.τ).loc Cert.MergeReferenceIdeal.main_arg1)) (m ((c.tc : Thread _ Cert.MergeReferenceIdeal.τ).loc Cert.MergeReferenceIdeal.main_arg2)) (m ((c.tc : Thread _ Cert.MergeReferenceIdeal.τ).loc Cert.MergeReferenceIdeal.main_arg3)) (m ((c.tc : Thread _ Cert.MergeReferenceIdeal.τ).loc Cert.MergeReferenceIdeal.main_arg4)) (m ((c.tc : Thread _ Cert.MergeReferenceIdeal.τ).loc Cert.MergeReferenceIdeal.main_arg5)) (m ((c.tc : Thread _ Cert.MergeReferenceIdeal.τ).loc Cert.MergeReferenceIdeal.main_arg6)) (m ((c.tc : Thread _ Cert.MergeReferenceIdeal.τ).loc Cert.MergeReferenceIdeal.main_arg7)) (m ((c.tc : Thread _ Cert.MergeReferenceIdeal.τ).loc Cert.MergeReferenceIdeal.main_arg8)) (bat n) (pos n) j) ∧
        r.2.mem ((c.tc : Thread _ Cert.MergeReferenceIdeal.τ).loc Cert.MergeReferenceIdeal.main_arg0) = m ((c.tc : Thread _ Cert.MergeReferenceIdeal.τ).loc Cert.MergeReferenceIdeal.main_arg0) ∧
        r.2.mem ((c.tc : Thread _ Cert.MergeReferenceIdeal.τ).loc Cert.MergeReferenceIdeal.main_arg1) = m ((c.tc : Thread _ Cert.MergeReferenceIdeal.τ).loc Cert.MergeReferenceIdeal.main_arg1) ∧
        r.2.mem ((c.tc : Thread _ Cert.MergeReferenceIdeal.τ).loc Cert.MergeReferenceIdeal.main_arg2) = m ((c.tc : Thread _ Cert.MergeReferenceIdeal.τ).loc Cert.MergeReferenceIdeal.main_arg2) ∧
        r.2.mem ((c.tc : Thread _ Cert.MergeReferenceIdeal.τ).loc Cert.MergeReferenceIdeal.main_arg3) = m ((c.tc : Thread _ Cert.MergeReferenceIdeal.τ).loc Cert.MergeReferenceIdeal.main_arg3) ∧
        r.2.mem ((c.tc : Thread _ Cert.MergeReferenceIdeal.τ).loc Cert.MergeReferenceIdeal.main_arg4) = m ((c.tc : Thread _ Cert.MergeReferenceIdeal.τ).loc Cert.MergeReferenceIdeal.main_arg4) ∧
        r.2.mem ((c.tc : Thread _ Cert.MergeReferenceIdeal.τ).loc Cert.MergeReferenceIdeal.main_arg5) = m ((c.tc : Thread _ Cert.MergeReferenceIdeal.τ).loc Cert.MergeReferenceIdeal.main_arg5) ∧
        r.2.mem ((c.tc : Thread _ Cert.MergeReferenceIdeal.τ).loc Cert.MergeReferenceIdeal.main_arg6) = m ((c.tc : Thread _ Cert.MergeReferenceIdeal.τ).loc Cert.MergeReferenceIdeal.main_arg6) ∧
        r.2.mem ((c.tc : Thread _ Cert.MergeReferenceIdeal.τ).loc Cert.MergeReferenceIdeal.main_arg7) = m ((c.tc : Thread _ Cert.MergeReferenceIdeal.τ).loc Cert.MergeReferenceIdeal.main_arg7) ∧
        r.2.mem ((c.tc : Thread _ Cert.MergeReferenceIdeal.τ).loc Cert.MergeReferenceIdeal.main_arg8) = m ((c.tc : Thread _ Cert.MergeReferenceIdeal.τ).loc Cert.MergeReferenceIdeal.main_arg8) :=
  (θ_run Cert.MergeReferenceIdeal.defs _ _).mono (fun _ h c => ⟨fun n j => (congrFun (h c).1 (ix2 n j)).trans (by
      refine (joined_at _ n j).trans ?_
      generalize bat n = b
      generalize pos n = t
      unfold merged out dot
      pointwise), (h c).2⟩) (Cert.MergeReferenceIdeal.Value.run (F := Ideal) m ρ)

/-- A reference started on the kernel's arguments leaves the kernel's array. -/
theorem same (v : Vec Ideal S16384x1024 .f32)
    (hv : ∀ n j, v (ix2 n j) = merged (on_ m c) (og_ m c) (ox_ m c) (mg_ m c) (x_ m c) (wn_ m c) (wg_ m c) (wx_ m c) (wo_ m c) (bat n) (pos n) j) :
    v = (dats m 0 c).arrAt 9 cfg0.N := by
  rw [final]
  funext y
  obtain ⟨n, j, rfl⟩ : ∃ (n : Fin 16384) (j : Fin 1024), y = ix2 n j := ⟨y 0, y 1, by funext a; fin_cases a <;> rfl⟩
  exact hv n j

end Cert.MergeSame

end

end
-- ==== Proof.StepSame.lean ====
/- The feed-forward part of one decoded token, and its reference: they leave the same two arrays. -/
module

public import proofs.«01_k».proof.Proof.Gen.StepIdeal.Value
public import proofs.«01_k».proof.Proof.Gen.StepReferenceIdeal.Run
public import proofs.«01_k».proof.Proof.FfnRef
public import Idealize.ShloMosaic.Lib.Pointwise
public import Idealize.ShloMosaic.Lib.Claim
public import Idealize.ShloMosaic.Lib.StableHlo.ReadAt
public import Idealize.ShloMosaic.Lib.Pipeline.ValueKit

@[expose] public section

set_option maxRecDepth 16384

noncomputable section

namespace Cert.StepSame

open Idealize.ShloMosaic Idealize.ShloMosaic.TcCoe Idealize.SL.Sem Cert.StepIdeal Cert.StepIdeal.Gen Cert.FfnTile

/-- The normalised row times the first weights at one column, over the arguments. -/
def upRow (x : Vec Ideal S32x1024 .f32) (g : Vec Ideal S1024 .f32) (wu : Vec Ideal S1024x5632 .f32) (b : Fin 32) (j : Fin 5632) : EReal :=
  up (fun k => x (ix2 b k)) (fun k => g (ix1 k)) (fun k => wu (ix2 k j))

/-- The layer's output row, over the arguments. -/
def outRow (x : Vec Ideal S32x1024 .f32) (p : Vec Ideal S32x2x2816 .f32) (g : Vec Ideal S1024 .f32) (wu : Vec Ideal S1024x5632 .f32)
    (cw : Vec Ideal S3x2816 .f32) (cb : Vec Ideal S2816 .f32) (wd : Vec Ideal S2816x1024 .f32) (b : Fin 32) (j : Fin 1024) : EReal :=
  out (x (ix2 b j)) (fun f => cb (ix1 f)) (fun f => cw (ix2 0 f)) (fun f => cw (ix2 1 f)) (fun f => cw (ix2 2 f)) (fun f => p (ix3 b 0 f))
    (fun f => p (ix3 b 1 f)) (fun f => upRow x g wu b ⟨2816 + f, by omega⟩) (fun f => upRow x g wu b ⟨f, by omega⟩) (fun f => wd (ix2 f j))

section Tile

variable (x0 : Vec Ideal S32x1024 .f32) (x1 x2 : Vec Ideal S32x2816 .f32) (x3 : Vec Ideal S1x1024 .f32) (x4 : Vec Ideal S1024x5632 .bf16)
  (x5 : Vec Ideal S3x2816 .f32) (x6 : Vec Ideal S1x2816 .f32) (x7 : Vec Ideal S2816x1024 .bf16)

/-- The product with the first weights, over the blocks. -/
def upAt (r : Fin 32) (j : Fin 5632) : EReal := up (fun k => x0 (ix2 r k)) (fun k => x3 (ix2 0 k)) (fun k => x4 (ix2 k j))

theorem pay2_at (r : Fin 32) (j : Fin 5632) : k0_pay2 x0 x3 x4 (ix2 r j) = upAt x0 x3 x4 r j := by
  unfold upAt up
  pointwise [k0_pay2]

theorem pay3_at (r : Fin 32) (f : Fin 2816) : k0_pay3 x0 x3 x4 (ix2 r f) = upAt x0 x3 x4 r ⟨f, by omega⟩ := by
  refine Eq.trans ?_ (pay2_at x0 x3 x4 r ⟨f, by omega⟩)
  pointwise [k0_pay3]

theorem pay4_at (r : Fin 32) (f : Fin 2816) : k0_pay4 x0 x3 x4 (ix2 r f) = upAt x0 x3 x4 r ⟨2816 + f, by omega⟩ := by
  refine Eq.trans ?_ (pay2_at x0 x3 x4 r ⟨2816 + f, by omega⟩)
  pointwise [k0_pay4]

/-- What the call stores to its second output. -/
theorem tile_gate (r : Fin 32) (f : Fin 2816) : out0_9 x0 x1 x2 x3 x4 x5 x6 x7 (ix2 r f) = upAt x0 x3 x4 r ⟨2816 + f, by omega⟩ := by
  refine Eq.trans ?_ (pay4_at x0 x3 x4 r f)
  unfold out0_9 k0_pay6
  frame_out

/-- What the call stores to its first output. -/
theorem tile_out (r : Fin 32) (j : Fin 1024) : out0_8 x0 x1 x2 x3 x4 x5 x6 x7 (ix2 r j) =
    out (x0 (ix2 r j)) (fun f => x6 (ix2 0 f)) (fun f => x5 (ix2 0 f)) (fun f => x5 (ix2 1 f)) (fun f => x5 (ix2 2 f)) (fun f => x1 (ix2 r f))
      (fun f => x2 (ix2 r f)) (fun f => upAt x0 x3 x4 r ⟨2816 + f, by omega⟩) (fun f => upAt x0 x3 x4 r ⟨f, by omega⟩) (fun f => x7 (ix2 f j)) := by
  unfold out gelu conv
  simp only [← pay3_at, ← pay4_at]
  unfold out0_8 k0_pay6
  frame_out
  generalize k0_pay3 x0 x3 x4 = U
  generalize k0_pay4 x0 x3 x4 = W
  pointwise [k0_pay1, k0_pay5]

end Tile

variable (m : (ℓ : Loc nD τ sig) → Buf (Elt Ideal) ℓ) (c : Dev nD)

abbrev x_ : Vec Ideal S32x1024 .f32 := m ((c : Thread nD τ).loc main_arg0)
abbrev p_ : Vec Ideal S32x2x2816 .f32 := m ((c : Thread nD τ).loc main_arg1)
abbrev g_ : Vec Ideal S1024 .f32 := m ((c : Thread nD τ).loc main_arg2)
abbrev wu_ : Vec Ideal S1024x5632 .f32 := m ((c : Thread nD τ).loc main_arg3)
abbrev cw_ : Vec Ideal S3x2816 .f32 := m ((c : Thread nD τ).loc main_arg4)
abbrev cb_ : Vec Ideal S2816 .f32 := m ((c : Thread nD τ).loc main_arg5)
abbrev wd_ : Vec Ideal S2816x1024 .f32 := m ((c : Thread nD τ).loc main_arg6)

/-- What the host code leaves at each buffer the call reads. -/
theorem host_0 : V m c main_arg0 = x_ m c := by
  unfold V
  after_reads_simp
theorem host_1 : V m c main_v3 = shapeCast S32x2816 (extractStridedSlice S32x1x2816 ![0, 0, 0] (p_ m c) slices_S32x2x2816_S32x1x2816_0_0_0) shapeCasts_S32x1x2816_S32x2816 := by
  unfold V
  after_reads_simp
  rfl
theorem host_2 : V m c main_v5 = shapeCast S32x2816 (extractStridedSlice S32x1x2816 ![0, 1, 0] (p_ m c) slices_S32x2x2816_S32x1x2816_0_1_0) shapeCasts_S32x1x2816_S32x2816 := by
  unfold V
  after_reads_simp
  rfl
theorem host_3 : V m c main_v6 = shapeCast S1x1024 (g_ m c) shapeCasts_S1024_S1x1024 := by
  unfold V
  after_reads_simp
  rfl
theorem host_4 : V m c main_v0 = truncf (F := Ideal) (φ := .f32) .bf16 (wu_ m c) bitsLt_bf16_f32 := by
  unfold V
  after_reads_simp
theorem host_5 : V m c main_arg4 = cw_ m c := by
  unfold V
  after_reads_simp
theorem host_6 : V m c main_v7 = shapeCast S1x2816 (cb_ m c) shapeCasts_S2816_S1x2816 := by
  unfold V
  after_reads_simp
  rfl
theorem host_7 : V m c main_v1 = truncf (F := Ideal) (φ := .f32) .bf16 (wd_ m c) bitsLt_bf16_f32 := by
  unfold V
  after_reads_simp

/-- Where each window's block lies: there is one. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] :=
  (by decide +kernel : ∀ t : Fin grid0.N, _)

abbrev X0 (t : Fin cfg0.N) : Vec Ideal S32x1024 .f32 := iblk m c 0 t
abbrev X1 (t : Fin cfg0.N) : Vec Ideal S32x2816 .f32 := iblk m c 1 t
abbrev X2 (t : Fin cfg0.N) : Vec Ideal S32x2816 .f32 := iblk m c 2 t
abbrev X3 (t : Fin cfg0.N) : Vec Ideal S1x1024 .f32 := iblk m c 3 t
abbrev X4 (t : Fin cfg0.N) : Vec Ideal S1024x5632 .bf16 := iblk m c 4 t
abbrev X5 (t : Fin cfg0.N) : Vec Ideal S3x2816 .f32 := iblk m c 5 t
abbrev X6 (t : Fin cfg0.N) : Vec Ideal S1x2816 .f32 := iblk m c 6 t
abbrev X7 (t : Fin cfg0.N) : Vec Ideal S2816x1024 .bf16 := iblk m c 7 t

theorem block_0 (t : Fin cfg0.N) (r : Fin 32) (k : Fin 1024) : X0 m c t (ix2 r k) = (V m c main_arg0 : Vec Ideal S32x1024 .f32) (ix2 r k) := by
  blk_ext [iblk, idx t]
theorem block_1 (t : Fin cfg0.N) (r : Fin 32) (k : Fin 2816) : X1 m c t (ix2 r k) = (V m c main_v3 : Vec Ideal S32x2816 .f32) (ix2 r k) := by
  blk_ext [iblk, idx t]
theorem block_2 (t : Fin cfg0.N) (r : Fin 32) (k : Fin 2816) : X2 m c t (ix2 r k) = (V m c main_v5 : Vec Ideal S32x2816 .f32) (ix2 r k) := by
  blk_ext [iblk, idx t]
theorem block_3 (t : Fin cfg0.N) (r : Fin 1) (k : Fin 1024) : X3 m c t (ix2 r k) = (V m c main_v6 : Vec Ideal S1x1024 .f32) (ix2 r k) := by
  blk_ext [iblk, idx t]
theorem block_4 (t : Fin cfg0.N) (r : Fin 1024) (k : Fin 5632) : X4 m c t (ix2 r k) = (V m c main_v0 : Vec Ideal S1024x5632 .bf16) (ix2 r k) := by
  blk_ext [iblk, idx t]
theorem block_5 (t : Fin cfg0.N) (r : Fin 3) (k : Fin 2816) : X5 m c t (ix2 r k) = (V m c main_arg4 : Vec Ideal S3x2816 .f32) (ix2 r k) := by
  blk_ext [iblk, idx t]
theorem block_6 (t : Fin cfg0.N) (r : Fin 1) (k : Fin 2816) : X6 m c t (ix2 r k) = (V m c main_v7 : Vec Ideal S1x2816 .f32) (ix2 r k) := by
  blk_ext [iblk, idx t]
theorem block_7 (t : Fin cfg0.N) (r : Fin 2816) (k : Fin 1024) : X7 m c t (ix2 r k) = (V m c main_v1 : Vec Ideal S2816x1024 .bf16) (ix2 r k) := by
  blk_ext [iblk, idx t]

/-- The blocks over the arguments. -/
theorem x0 (t : Fin cfg0.N) (r : Fin 32) (k : Fin 1024) : (X0 m c t (ix2 r k) : EReal) = x_ m c (ix2 r k) := by
  rw [block_0, host_0]
theorem x1 (t : Fin cfg0.N) (r : Fin 32) (k : Fin 2816) : (X1 m c t (ix2 r k) : EReal) = p_ m c (ix3 r 0 k) := by
  rw [block_1, host_1]
  pointwise
theorem x2 (t : Fin cfg0.N) (r : Fin 32) (k : Fin 2816) : (X2 m c t (ix2 r k) : EReal) = p_ m c (ix3 r 1 k) := by
  rw [block_2, host_2]
  pointwise
theorem x3 (t : Fin cfg0.N) (k : Fin 1024) : (X3 m c t (ix2 0 k) : EReal) = g_ m c (ix1 k) := by
  rw [block_3, host_3]
  pointwise
theorem x4 (t : Fin cfg0.N) (r : Fin 1024) (k : Fin 5632) : (X4 m c t (ix2 r k) : EReal) = wu_ m c (ix2 r k) := by
  rw [block_4, host_4]
  pointwise
theorem x5 (t : Fin cfg0.N) (r : Fin 3) (k : Fin 2816) : (X5 m c t (ix2 r k) : EReal) = cw_ m c (ix2 r k) := by
  rw [block_5, host_5]
theorem x6 (t : Fin cfg0.N) (k : Fin 2816) : (X6 m c t (ix2 0 k) : EReal) = cb_ m c (ix1 k) := by
  rw [block_6, host_6]
  pointwise
theorem x7 (t : Fin cfg0.N) (r : Fin 2816) (k : Fin 1024) : (X7 m c t (ix2 r k) : EReal) = wd_ m c (ix2 r k) := by
  rw [block_7, host_7]
  pointwise

/-- The arrays the kernel leaves. -/
def rows : Vec Ideal S32x1024 .f32 := fun y => outRow (x_ m c) (p_ m c) (g_ m c) (wu_ m c) (cw_ m c) (cb_ m c) (wd_ m c) (y 0) (y 1)
def gates : Vec Ideal S32x2816 .f32 := fun y => upRow (x_ m c) (g_ m c) (wu_ m c) (y 0) ⟨2816 + (y 1).val, by have h : (y 1).val < 2816 := (y 1).isLt; omega⟩

theorem up_eq (t : Fin cfg0.N) (r : Fin 32) (j : Fin 5632) : upAt (X0 m c t) (X3 m c t) (X4 m c t) r j = upRow (x_ m c) (g_ m c) (wu_ m c) r j := by
  unfold upAt upRow
  simp only [x0, x3, x4]

theorem final_rows : (dats m 0 c).arrAt 8 cfg0.N = rows m c := by
  refine (dats m 0 c).arrAt_eq_of_covers 8 _ (by decide +kernel) fun t _ y => ?_
  blk_simp
  rw [after0_8]
  obtain ⟨r, j, rfl⟩ : ∃ (r : Fin 32) (j : Fin 1024), y = ix2 r j := ⟨y 0, y 1, by funext a; fin_cases a <;> rfl⟩
  have e : out0_8 (X0 m c t) (X1 m c t) (X2 m c t) (X3 m c t) (X4 m c t) (X5 m c t) (X6 m c t) (X7 m c t) (ix2 r j) = rows m c (ix2 r j) := by
    rw [tile_out]
    simp only [x0, x1, x2, x5, x6, x7, up_eq]
    rfl
  refine e.trans (congrArg (rows m c) ?_)
  blk_ext [idx t]

theorem final_gates : (dats m 0 c).arrAt 9 cfg0.N = gates m c := by
  refine (dats m 0 c).arrAt_eq_of_covers 9 _ (by decide +kernel) fun t _ y => ?_
  blk_simp
  rw [after0_9]
  obtain ⟨r, j, rfl⟩ : ∃ (r : Fin 32) (j : Fin 2816), y = ix2 r j := ⟨y 0, y 1, by funext a; fin_cases a <;> rfl⟩
  have e : out0_9 (X0 m c t) (X1 m c t) (X2 m c t) (X3 m c t) (X4 m c t) (X5 m c t) (X6 m c t) (X7 m c t) (ix2 r j) = gates m c (ix2 r j) := by
    rw [tile_gate, up_eq]
    rfl
  refine e.trans (congrArg (gates m c) ?_)
  blk_ext [idx t]

section Reference

open Cert.StepReferenceIdeal.Value

variable (m' : (ℓ : Loc Cert.StepReferenceIdeal.nD Cert.StepReferenceIdeal.τ Cert.StepReferenceIdeal.sig) → Buf (Elt Ideal) ℓ) (c' : Dev Cert.StepReferenceIdeal.nD)

/-- The reference's arguments. -/
abbrev x' : Vec Ideal S32x1024 .f32 := m' ((c'.tc : Thread _ Cert.StepReferenceIdeal.τ).loc Cert.StepReferenceIdeal.main_arg0)
abbrev p' : Vec Ideal S32x2x2816 .f32 := m' ((c'.tc : Thread _ Cert.StepReferenceIdeal.τ).loc Cert.StepReferenceIdeal.main_arg1)
abbrev g' : Vec Ideal S1024 .f32 := m' ((c'.tc : Thread _ Cert.StepReferenceIdeal.τ).loc Cert.StepReferenceIdeal.main_arg2)
abbrev wu' : Vec Ideal S1024x5632 .f32 := m' ((c'.tc : Thread _ Cert.StepReferenceIdeal.τ).loc Cert.StepReferenceIdeal.main_arg3)
abbrev cw' : Vec Ideal S3x2816 .f32 := m' ((c'.tc : Thread _ Cert.StepReferenceIdeal.τ).loc Cert.StepReferenceIdeal.main_arg4)
abbrev cb' : Vec Ideal S2816 .f32 := m' ((c'.tc : Thread _ Cert.StepReferenceIdeal.τ).loc Cert.StepReferenceIdeal.main_arg5)
abbrev wd' : Vec Ideal S2816x1024 .f32 := m' ((c'.tc : Thread _ Cert.StepReferenceIdeal.τ).loc Cert.StepReferenceIdeal.main_arg6)

set_option maxHeartbeats 2000000 in
/-- The reference's output. -/
theorem ref_at (b : Fin 32) (j : Fin 1024) : (res_main_v60 m' c' : Vec Ideal S32x1024 .f32) (ix2 b j) =
    x' m' c' (ix2 b j) + ∑ f : Fin 2816, FfnRef.gelu' (FfnRef.conv' (cb' m' c' (ix1 f)) (cw' m' c' (ix2 0 f)) (cw' m' c' (ix2 1 f)) (cw' m' c' (ix2 2 f))
      (p' m' c' (ix3 b 0 f)) (p' m' c' (ix3 b 1 f)) (upRow (x' m' c') (g' m' c') (wu' m' c') b ⟨2816 + f, by omega⟩)) *
      upRow (x' m' c') (g' m' c') (wu' m' c') b ⟨f, by omega⟩ * wd' m' c' (ix2 f j) := by
  unfold FfnRef.gelu' FfnRef.conv' upRow up
  pointwise [res_main_v60]

theorem ref_rows (b : Fin 32) (j : Fin 1024) : (res_main_v60 m' c' : Vec Ideal S32x1024 .f32) (ix2 b j) = outRow (x' m' c') (p' m' c') (g' m' c') (wu' m' c') (cw' m' c') (cb' m' c') (wd' m' c') b j := by
  rw [ref_at]
  unfold outRow out
  refine congrArg _ (Finset.sum_congr rfl fun f _ => ?_)
  rw [FfnRef.gelu_eq, FfnRef.conv_eq]

end Reference

/-- What the reference leaves: the output and the gate row at every index, and its arguments. -/
theorem run (m : (ℓ : Loc Cert.StepReferenceIdeal.nD Cert.StepReferenceIdeal.τ Cert.StepReferenceIdeal.sig) → Buf (Elt Ideal) ℓ) (ρ : Dev Cert.StepReferenceIdeal.nD → PrngReg) :
    θ_run Cert.StepReferenceIdeal.defs (onTc (τ := Cert.StepReferenceIdeal.τ) (Cert.StepReferenceIdeal.main (F := Ideal))) ⟨m, fun _ => 0, ρ⟩ fun r =>
      ∀ c : Dev Cert.StepReferenceIdeal.nD,
        (∀ (b : Fin 32) (j : Fin 1024), (r.2.mem ((c.tc : Thread _ Cert.StepReferenceIdeal.τ).loc Cert.StepReferenceIdeal.main_v60) : Vec Ideal S32x1024 .f32) (ix2 b j) =
          outRow (x' m c) (p' m c) (g' m c) (wu' m c) (cw' m c) (cb' m c) (wd' m c) b j) ∧
        (∀ (b : Fin 32) (f : Fin 2816), (r.2.mem ((c.tc : Thread _ Cert.StepReferenceIdeal.τ).loc Cert.StepReferenceIdeal.main_v62) : Vec Ideal S32x2816 .f32) (ix2 b f) =
          upRow (x' m c) (g' m c) (wu' m c) b ⟨2816 + f, by omega⟩) ∧
        r.2.mem ((c.tc : Thread _ Cert.StepReferenceIdeal.τ).loc Cert.StepReferenceIdeal.main_arg0) = m ((c.tc : Thread _ Cert.StepReferenceIdeal.τ).loc Cert.StepReferenceIdeal.main_arg0) ∧
        r.2.mem ((c.tc : Thread _ Cert.StepReferenceIdeal.τ).loc Cert.StepReferenceIdeal.main_arg1) = m ((c.tc : Thread _ Cert.StepReferenceIdeal.τ).loc Cert.StepReferenceIdeal.main_arg1) ∧
        r.2.mem ((c.tc : Thread _ Cert.StepReferenceIdeal.τ).loc Cert.StepReferenceIdeal.main_arg2) = m ((c.tc : Thread _ Cert.StepReferenceIdeal.τ).loc Cert.StepReferenceIdeal.main_arg2) ∧
        r.2.mem ((c.tc : Thread _ Cert.StepReferenceIdeal.τ).loc Cert.StepReferenceIdeal.main_arg3) = m ((c.tc : Thread _ Cert.StepReferenceIdeal.τ).loc Cert.StepReferenceIdeal.main_arg3) ∧
        r.2.mem ((c.tc : Thread _ Cert.StepReferenceIdeal.τ).loc Cert.StepReferenceIdeal.main_arg4) = m ((c.tc : Thread _ Cert.StepReferenceIdeal.τ).loc Cert.StepReferenceIdeal.main_arg4) ∧
        r.2.mem ((c.tc : Thread _ Cert.StepReferenceIdeal.τ).loc Cert.StepReferenceIdeal.main_arg5) = m ((c.tc : Thread _ Cert.StepReferenceIdeal.τ).loc Cert.StepReferenceIdeal.main_arg5) ∧
        r.2.mem ((c.tc : Thread _ Cert.StepReferenceIdeal.τ).loc Cert.StepReferenceIdeal.main_arg6) = m ((c.tc : Thread _ Cert.StepReferenceIdeal.τ).loc Cert.StepReferenceIdeal.main_arg6) :=
  (θ_run Cert.StepReferenceIdeal.defs _ _).mono (fun _ h c => ⟨fun b j => (congrFun (h c).1 (ix2 b j)).trans (ref_rows m c b j),
    fun b f => (congrFun (h c).2.1 (ix2 b f)).trans (by
      unfold upRow up
      pointwise), (h c).2.2⟩) (Cert.StepReferenceIdeal.Value.run (F := Ideal) m ρ)

/-- A reference started on the kernel's arguments leaves the kernel's arrays. -/
theorem rows_same (v : Vec Ideal S32x1024 .f32)
    (hv : ∀ b j, v (ix2 b j) = outRow (x_ m c) (p_ m c) (g_ m c) (wu_ m c) (cw_ m c) (cb_ m c) (wd_ m c) b j) : v = (dats m 0 c).arrAt 8 cfg0.N := by
  rw [final_rows]
  funext y
  obtain ⟨r, j, rfl⟩ : ∃ (r : Fin 32) (j : Fin 1024), y = ix2 r j := ⟨y 0, y 1, by funext a; fin_cases a <;> rfl⟩
  exact hv r j

theorem gates_same (v : Vec Ideal S32x2816 .f32) (hv : ∀ (b : Fin 32) (f : Fin 2816), v (ix2 b f) = upRow (x_ m c) (g_ m c) (wu_ m c) b ⟨2816 + f, by omega⟩) :
    v = (dats m 0 c).arrAt 9 cfg0.N := by
  rw [final_gates]
  funext y
  obtain ⟨r, j, rfl⟩ : ∃ (r : Fin 32) (j : Fin 2816), y = ix2 r j := ⟨y 0, y 1, by funext a; fin_cases a <;> rfl⟩
  exact hv r j

end Cert.StepSame

end

end
-- ==== Proof.TokenTile.lean ====
/- The kernel's body on one block of eight decoded tokens, read at an index.  The body's thirty-two stretches, one for each token
   and head of the block, are one pair of functions of what each loads: here that pair is read at an index once, and each
   stretch is found to be it. -/
module

public import proofs.«01_k».proof.Proof.Gate
public import proofs.«01_k».proof.Proof.Gen.TokenIdeal.Frame
public import Idealize.ShloMosaic.Lib.Pipeline.ValueKit

@[expose] public section

set_option maxRecDepth 16384

noncomputable section

namespace Cert.TokenTile

open Idealize.ShloMosaic Idealize.ShloMosaic.TcCoe Idealize.SL.Sem Cert.TokenIdeal Cert.TokenIdeal.Gen

/-- A head's new state: the decayed state plus the key times the value. -/
def stateOf (a s k v : EReal) : EReal := a * s + k * v

/-- A head's output before its norm: the decayed state read by the query, plus the new token's share. -/
def outOf (q a k : Fin 64 → EReal) (s : Fin 64 → EReal) (v : EReal) : EReal :=
  (∑ d, q d * a d * s d) + (∑ d, q d * k d) * v

/-- The decay of a head's column, of the token's low-rank row and the gate's matrix and bias. -/
def decayOf (lr w : Fin 128 → EReal) (b : EReal) : EReal := Ideal.exp (Tile.gate ((∑ x, w x * lr x) + b))

/-- A head's output row. -/
def headOut (lr : Fin 128 → EReal) (w : Fin 64 → Fin 128 → EReal) (b : Fin 64 → EReal) (s : Fin 128 → Fin 64 → EReal) (k q : Fin 64 → EReal)
    (v g r : Fin 128 → EReal) : Fin 128 → EReal :=
  Head.finish (fun e => outOf q (fun d => decayOf lr (w d) (b d)) k (s e) (v e)) g r

theorem state_congr {lr lr' w w' : Fin 128 → EReal} {b b' s s' k k' v v' : EReal} (h1 : lr = lr') (h2 : w = w') (h3 : b = b') (h4 : s = s')
    (h5 : k = k') (h6 : v = v') : stateOf (decayOf lr w b) s k v = stateOf (decayOf lr' w' b') s' k' v' := by
  rw [h1, h2, h3, h4, h5, h6]

theorem out_congr {lr lr' : Fin 128 → EReal} {w w' : Fin 64 → Fin 128 → EReal} {b b' : Fin 64 → EReal} {s s' : Fin 128 → Fin 64 → EReal}
    {k k' q q' : Fin 64 → EReal} {v v' g g' r r' : Fin 128 → EReal} (e : Fin 128) (h1 : lr = lr') (h2 : w = w') (h3 : b = b') (h4 : s = s')
    (h5 : k = k') (h6 : q = q') (h7 : v = v') (h8 : g = g') (h9 : r = r') : headOut lr w b s k q v g r e = headOut lr' w' b' s' k' q' v' g' r' e := by
  rw [h1, h2, h3, h4, h5, h6, h7, h8, h9]

section Blocks
variable (lr : Vec Ideal S1x1x128 .f32) (w : Vec Ideal S1x64x128 .f32) (b : Vec Ideal S1x64x1 .f32)
  (s : Vec Ideal S1x1x64x128 .f32) (k q : Vec Ideal S1x1x64x1 .f32) (v : Vec Ideal S1x1x1x128 .f32)
  (g : Vec Ideal S1x128 .f32) (r : Vec Ideal S1x1x1x128 .f32)

/-- What a stretch stores as the new state. -/
def stateTile : Vec Ideal S1x1x64x128 .f32 := k0_pay7 (k0_pay2 lr w b) (k0_pay3 s) (k0_pay4 k) (k0_pay6 v)

/-- What a stretch stores as the output. -/
def outTile : Vec Ideal S1x1x1x128 .f32 :=
  k0_pay12 (k0_pay8 (k0_pay2 lr w b) (k0_pay3 s) (k0_pay4 k) (k0_pay5 q) (k0_pay6 v) g) (k0_pay9 r) (k0_pay10 r) k0_pay11

theorem decay_at (d : Fin 64) : (k0_pay2 lr w b : Vec Ideal S64x1 .f32) (ix2 d 0) =
    decayOf (fun x => lr (ix3 0 0 x)) (fun x => w (ix3 0 d x)) (b (ix3 0 d 0)) := by
  pointwise [k0_pay2, decayOf, Tile.gate]

theorem state_tile (d : Fin 64) (e : Fin 128) : stateTile lr w b s k v (ix4 0 0 d e) =
    stateOf (decayOf (fun x => lr (ix3 0 0 x)) (fun x => w (ix3 0 d x)) (b (ix3 0 d 0))) (s (ix4 0 0 d e)) (k (ix4 0 0 d 0)) (v (ix4 0 0 0 e)) := by
  rw [← decay_at]
  pointwise [stateTile, k0_pay3, k0_pay4, k0_pay6, k0_pay7, stateOf]

theorem out_tile (e : Fin 128) : outTile lr w b s k q v g r (ix4 0 0 0 e) =
    headOut (fun x => lr (ix3 0 0 x)) (fun d x => w (ix3 0 d x)) (fun d => b (ix3 0 d 0)) (fun e d => s (ix4 0 0 d e)) (fun d => k (ix4 0 0 d 0))
      (fun d => q (ix4 0 0 d 0)) (fun e => v (ix4 0 0 0 e)) (fun e => g (ix2 0 e)) (fun e => r (ix4 0 0 0 e)) e := by
  unfold headOut
  simp only [← decay_at]
  pointwise [outTile, k0_pay3, k0_pay4, k0_pay5, k0_pay6, k0_pay8, k0_pay9, k0_pay10, k0_pay11, k0_pay12, outOf, Head.finish]

end Blocks

variable (x0 x1 : Vec Ideal S8x4x64x1 .f32) (x2 : Vec Ideal S8x1x128 .f32) (x3 x4 : Vec Ideal S8x4x1x128 .f32)
  (x5 : Vec Ideal S8x4x64x128 .f32) (x6 : Vec Ideal S4x64x128 .f32) (x7 : Vec Ideal S4x64x1 .f32) (x8 : Vec Ideal S1x128 .f32)

/-- The block's new states. -/
def blkState (t : Fin 8) (h : Fin 4) (d : Fin 64) (e : Fin 128) : EReal :=
  stateOf (decayOf (fun x => x2 (ix3 t 0 x)) (fun x => x6 (ix3 h d x)) (x7 (ix3 h d 0))) (x5 (ix4 t h d e)) (x1 (ix4 t h d 0)) (x3 (ix4 t h 0 e))

/-- The block's outputs. -/
def blkOut (t : Fin 8) (h : Fin 4) (e : Fin 128) : EReal :=
  headOut (fun x => x2 (ix3 t 0 x)) (fun d x => x6 (ix3 h d x)) (fun d => x7 (ix3 h d 0)) (fun e d => x5 (ix4 t h d e)) (fun d => x1 (ix4 t h d 0))
    (fun d => x0 (ix4 t h d 0)) (fun e => x3 (ix4 t h 0 e)) (fun e => x8 (ix2 0 e)) (fun e => x4 (ix4 t h 0 e)) e

section Stretch
variable (t : Fin 8) (h : Fin 4)
  (i2 : ∀ a, ![t.val, 0, 0] a + S1x1x128.size a ≤ S8x1x128.size a)
  (i6 : ∀ a, ![h.val, 0, 0] a + S1x64x128.size a ≤ S4x64x128.size a)
  (i7 : ∀ a, ![h.val, 0, 0] a + S1x64x1.size a ≤ S4x64x1.size a)
  (i5 : ∀ a, ![t.val, h.val, 0, 0] a + S1x1x64x128.size a ≤ S8x4x64x128.size a)
  (i1 : ∀ a, ![t.val, h.val, 0, 0] a + S1x1x64x1.size a ≤ S8x4x64x1.size a)
  (i3 : ∀ a, ![t.val, h.val, 0, 0] a + S1x1x1x128.size a ≤ S8x4x1x128.size a)
  (i8 : ∀ a, ![0, 0] a + S1x128.size a ≤ S1x128.size a)

theorem ld2 (x : Fin 128) : View.ld x2 (Rect.unit ![t.val, 0, 0] S1x1x128.size i2) (ix3 0 0 x) = x2 (ix3 t 0 x) := by
  pointwise
theorem ld6 (d : Fin 64) (x : Fin 128) : View.ld x6 (Rect.unit ![h.val, 0, 0] S1x64x128.size i6) (ix3 0 d x) = x6 (ix3 h d x) := by
  pointwise
theorem ld7 (d : Fin 64) : View.ld x7 (Rect.unit ![h.val, 0, 0] S1x64x1.size i7) (ix3 0 d 0) = x7 (ix3 h d 0) := by
  pointwise
theorem ld5 (d : Fin 64) (e : Fin 128) : View.ld x5 (Rect.unit ![t.val, h.val, 0, 0] S1x1x64x128.size i5) (ix4 0 0 d e) = x5 (ix4 t h d e) := by
  pointwise
theorem ld1 (d : Fin 64) : View.ld x1 (Rect.unit ![t.val, h.val, 0, 0] S1x1x64x1.size i1) (ix4 0 0 d 0) = x1 (ix4 t h d 0) := by
  pointwise
theorem ld3 (e : Fin 128) : View.ld x3 (Rect.unit ![t.val, h.val, 0, 0] S1x1x1x128.size i3) (ix4 0 0 0 e) = x3 (ix4 t h 0 e) := by
  pointwise
theorem ld8 (e : Fin 128) : View.ld x8 (Rect.unit ![0, 0] S1x128.size i8) (ix2 0 e) = x8 (ix2 0 e) := by
  pointwise

/-- The state a stretch stores is the block's, at its token and head. -/
theorem state_stretch (y : S8x4x64x128.Idx) :
    View.TileAt (Val := Elt Ideal) (e := .f32) y ![t.val, h.val, 0, 0] S1x1x64x128.size
      (stateTile (View.ld x2 (Rect.unit ![t.val, 0, 0] S1x1x128.size i2)) (View.ld x6 (Rect.unit ![h.val, 0, 0] S1x64x128.size i6))
        (View.ld x7 (Rect.unit ![h.val, 0, 0] S1x64x1.size i7)) (View.ld x5 (Rect.unit ![t.val, h.val, 0, 0] S1x1x64x128.size i5))
        (View.ld x1 (Rect.unit ![t.val, h.val, 0, 0] S1x1x64x1.size i1)) (View.ld x3 (Rect.unit ![t.val, h.val, 0, 0] S1x1x1x128.size i3)))
      (blkState x1 x2 x3 x5 x6 x7 (y 0) (y 1) (y 2) (y 3)) := by
  intro x hx
  obtain ⟨d, e, rfl⟩ : ∃ (d : Fin 64) (e : Fin 128), x = ix4 0 0 d e :=
    ⟨x 2, x 3, by funext a; fin_cases a <;> first | rfl | exact Subsingleton.elim (α := Fin 1) _ _⟩
  have e0 : y 0 = t := Fin.ext (hx 0)
  have e1 : y 1 = h := Fin.ext (hx 1)
  have e2 : y 2 = d := Fin.ext ((hx 2).trans (Nat.zero_add _))
  have e3 : y 3 = e := Fin.ext ((hx 3).trans (Nat.zero_add _))
  rw [e0, e1, e2, e3]
  refine (state_tile _ _ _ _ _ _ d e).trans ?_
  exact state_congr (funext fun x => ld2 x2 t i2 x) (funext fun x => ld6 x6 h i6 d x) (ld7 x7 h i7 d) (ld5 x5 t h i5 d e) (ld1 x1 t h i1 d)
    (ld3 x3 t h i3 e)

/-- The output a stretch stores is the block's, at its token and head. -/
theorem out_stretch (y : S8x4x1x128.Idx) :
    View.TileAt (Val := Elt Ideal) (e := .f32) y ![t.val, h.val, 0, 0] S1x1x1x128.size
      (outTile (View.ld x2 (Rect.unit ![t.val, 0, 0] S1x1x128.size i2)) (View.ld x6 (Rect.unit ![h.val, 0, 0] S1x64x128.size i6))
        (View.ld x7 (Rect.unit ![h.val, 0, 0] S1x64x1.size i7)) (View.ld x5 (Rect.unit ![t.val, h.val, 0, 0] S1x1x64x128.size i5))
        (View.ld x1 (Rect.unit ![t.val, h.val, 0, 0] S1x1x64x1.size i1)) (View.ld x0 (Rect.unit ![t.val, h.val, 0, 0] S1x1x64x1.size i1))
        (View.ld x3 (Rect.unit ![t.val, h.val, 0, 0] S1x1x1x128.size i3)) (View.ld x8 (Rect.unit ![0, 0] S1x128.size i8))
        (View.ld x4 (Rect.unit ![t.val, h.val, 0, 0] S1x1x1x128.size i3)))
      (blkOut x0 x1 x2 x3 x4 x5 x6 x7 x8 (y 0) (y 1) (y 3)) := by
  intro x hx
  obtain ⟨e, rfl⟩ : ∃ (e : Fin 128), x = ix4 0 0 0 e :=
    ⟨x 3, by funext a; fin_cases a <;> first | rfl | exact Subsingleton.elim (α := Fin 1) _ _⟩
  have e0 : y 0 = t := Fin.ext (hx 0)
  have e1 : y 1 = h := Fin.ext (hx 1)
  have e3 : y 3 = e := Fin.ext ((hx 3).trans (Nat.zero_add _))
  rw [e0, e1, e3]
  refine (out_tile _ _ _ _ _ _ _ _ _ e).trans ?_
  exact out_congr e (funext fun x => ld2 x2 t i2 x) (funext fun d => funext fun x => ld6 x6 h i6 d x) (funext fun d => ld7 x7 h i7 d)
    (funext fun e => funext fun d => ld5 x5 t h i5 d e) (funext fun d => ld1 x1 t h i1 d) (funext fun d => ld1 x0 t h i1 d)
    (funext fun e => ld3 x3 t h i3 e) (funext fun e => ld8 x8 i8 e) (funext fun e => ld3 x4 t h i3 e)

end Stretch

set_option maxHeartbeats 4000000 in
/-- The states a block's body leaves. -/
theorem states (y : S8x4x64x128.Idx) : out0_10 x0 x1 x2 x3 x4 x5 x6 x7 x8 y = blkState x1 x2 x3 x5 x6 x7 (y 0) (y 1) (y 2) (y 3) := by
  unfold out0_10
  refine View.canon_eq_of_allAt _ y _ (View.cover_of_tiled_head _ _ _ (by rfl) _) ?_
  refine View.allAt_cons_unit _ _ _ _ _ (state_stretch x1 x2 x3 x5 x6 x7 7 3 _ _ _ _ _ _ y) ?_
  refine View.allAt_cons_unit _ _ _ _ _ (state_stretch x1 x2 x3 x5 x6 x7 7 2 _ _ _ _ _ _ y) ?_
  refine View.allAt_cons_unit _ _ _ _ _ (state_stretch x1 x2 x3 x5 x6 x7 7 1 _ _ _ _ _ _ y) ?_
  refine View.allAt_cons_unit _ _ _ _ _ (state_stretch x1 x2 x3 x5 x6 x7 7 0 _ _ _ _ _ _ y) ?_
  refine View.allAt_cons_unit _ _ _ _ _ (state_stretch x1 x2 x3 x5 x6 x7 6 3 _ _ _ _ _ _ y) ?_
  refine View.allAt_cons_unit _ _ _ _ _ (state_stretch x1 x2 x3 x5 x6 x7 6 2 _ _ _ _ _ _ y) ?_
  refine View.allAt_cons_unit _ _ _ _ _ (state_stretch x1 x2 x3 x5 x6 x7 6 1 _ _ _ _ _ _ y) ?_
  refine View.allAt_cons_unit _ _ _ _ _ (state_stretch x1 x2 x3 x5 x6 x7 6 0 _ _ _ _ _ _ y) ?_
  refine View.allAt_cons_unit _ _ _ _ _ (state_stretch x1 x2 x3 x5 x6 x7 5 3 _ _ _ _ _ _ y) ?_
  refine View.allAt_cons_unit _ _ _ _ _ (state_stretch x1 x2 x3 x5 x6 x7 5 2 _ _ _ _ _ _ y) ?_
  refine View.allAt_cons_unit _ _ _ _ _ (state_stretch x1 x2 x3 x5 x6 x7 5 1 _ _ _ _ _ _ y) ?_
  refine View.allAt_cons_unit _ _ _ _ _ (state_stretch x1 x2 x3 x5 x6 x7 5 0 _ _ _ _ _ _ y) ?_
  refine View.allAt_cons_unit _ _ _ _ _ (state_stretch x1 x2 x3 x5 x6 x7 4 3 _ _ _ _ _ _ y) ?_
  refine View.allAt_cons_unit _ _ _ _ _ (state_stretch x1 x2 x3 x5 x6 x7 4 2 _ _ _ _ _ _ y) ?_
  refine View.allAt_cons_unit _ _ _ _ _ (state_stretch x1 x2 x3 x5 x6 x7 4 1 _ _ _ _ _ _ y) ?_
  refine View.allAt_cons_unit _ _ _ _ _ (state_stretch x1 x2 x3 x5 x6 x7 4 0 _ _ _ _ _ _ y) ?_
  refine View.allAt_cons_unit _ _ _ _ _ (state_stretch x1 x2 x3 x5 x6 x7 3 3 _ _ _ _ _ _ y) ?_
  refine View.allAt_cons_unit _ _ _ _ _ (state_stretch x1 x2 x3 x5 x6 x7 3 2 _ _ _ _ _ _ y) ?_
  refine View.allAt_cons_unit _ _ _ _ _ (state_stretch x1 x2 x3 x5 x6 x7 3 1 _ _ _ _ _ _ y) ?_
  refine View.allAt_cons_unit _ _ _ _ _ (state_stretch x1 x2 x3 x5 x6 x7 3 0 _ _ _ _ _ _ y) ?_
  refine View.allAt_cons_unit _ _ _ _ _ (state_stretch x1 x2 x3 x5 x6 x7 2 3 _ _ _ _ _ _ y) ?_
  refine View.allAt_cons_unit _ _ _ _ _ (state_stretch x1 x2 x3 x5 x6 x7 2 2 _ _ _ _ _ _ y) ?_
  refine View.allAt_cons_unit _ _ _ _ _ (state_stretch x1 x2 x3 x5 x6 x7 2 1 _ _ _ _ _ _ y) ?_
  refine View.allAt_cons_unit _ _ _ _ _ (state_stretch x1 x2 x3 x5 x6 x7 2 0 _ _ _ _ _ _ y) ?_
  refine View.allAt_cons_unit _ _ _ _ _ (state_stretch x1 x2 x3 x5 x6 x7 1 3 _ _ _ _ _ _ y) ?_
  refine View.allAt_cons_unit _ _ _ _ _ (state_stretch x1 x2 x3 x5 x6 x7 1 2 _ _ _ _ _ _ y) ?_
  refine View.allAt_cons_unit _ _ _ _ _ (state_stretch x1 x2 x3 x5 x6 x7 1 1 _ _ _ _ _ _ y) ?_
  refine View.allAt_cons_unit _ _ _ _ _ (state_stretch x1 x2 x3 x5 x6 x7 1 0 _ _ _ _ _ _ y) ?_
  refine View.allAt_cons_unit _ _ _ _ _ (state_stretch x1 x2 x3 x5 x6 x7 0 3 _ _ _ _ _ _ y) ?_
  refine View.allAt_cons_unit _ _ _ _ _ (state_stretch x1 x2 x3 x5 x6 x7 0 2 _ _ _ _ _ _ y) ?_
  refine View.allAt_cons_unit _ _ _ _ _ (state_stretch x1 x2 x3 x5 x6 x7 0 1 _ _ _ _ _ _ y) ?_
  refine View.allAt_cons_unit _ _ _ _ _ (state_stretch x1 x2 x3 x5 x6 x7 0 0 _ _ _ _ _ _ y) ?_
  exact View.allAt_nil _ _

set_option maxHeartbeats 4000000 in
/-- The outputs a block's body leaves. -/
theorem outs (y : S8x4x1x128.Idx) : out0_9 x0 x1 x2 x3 x4 x5 x6 x7 x8 y = blkOut x0 x1 x2 x3 x4 x5 x6 x7 x8 (y 0) (y 1) (y 3) := by
  unfold out0_9
  refine View.canon_eq_of_allAt _ y _ (View.cover_of_tiled_head _ _ _ (by rfl) _) ?_
  refine View.allAt_cons_unit _ _ _ _ _ (out_stretch x0 x1 x2 x3 x4 x5 x6 x7 x8 7 3 _ _ _ _ _ _ _ y) ?_
  refine View.allAt_cons_unit _ _ _ _ _ (out_stretch x0 x1 x2 x3 x4 x5 x6 x7 x8 7 2 _ _ _ _ _ _ _ y) ?_
  refine View.allAt_cons_unit _ _ _ _ _ (out_stretch x0 x1 x2 x3 x4 x5 x6 x7 x8 7 1 _ _ _ _ _ _ _ y) ?_
  refine View.allAt_cons_unit _ _ _ _ _ (out_stretch x0 x1 x2 x3 x4 x5 x6 x7 x8 7 0 _ _ _ _ _ _ _ y) ?_
  refine View.allAt_cons_unit _ _ _ _ _ (out_stretch x0 x1 x2 x3 x4 x5 x6 x7 x8 6 3 _ _ _ _ _ _ _ y) ?_
  refine View.allAt_cons_unit _ _ _ _ _ (out_stretch x0 x1 x2 x3 x4 x5 x6 x7 x8 6 2 _ _ _ _ _ _ _ y) ?_
  refine View.allAt_cons_unit _ _ _ _ _ (out_stretch x0 x1 x2 x3 x4 x5 x6 x7 x8 6 1 _ _ _ _ _ _ _ y) ?_
  refine View.allAt_cons_unit _ _ _ _ _ (out_stretch x0 x1 x2 x3 x4 x5 x6 x7 x8 6 0 _ _ _ _ _ _ _ y) ?_
  refine View.allAt_cons_unit _ _ _ _ _ (out_stretch x0 x1 x2 x3 x4 x5 x6 x7 x8 5 3 _ _ _ _ _ _ _ y) ?_
  refine View.allAt_cons_unit _ _ _ _ _ (out_stretch x0 x1 x2 x3 x4 x5 x6 x7 x8 5 2 _ _ _ _ _ _ _ y) ?_
  refine View.allAt_cons_unit _ _ _ _ _ (out_stretch x0 x1 x2 x3 x4 x5 x6 x7 x8 5 1 _ _ _ _ _ _ _ y) ?_
  refine View.allAt_cons_unit _ _ _ _ _ (out_stretch x0 x1 x2 x3 x4 x5 x6 x7 x8 5 0 _ _ _ _ _ _ _ y) ?_
  refine View.allAt_cons_unit _ _ _ _ _ (out_stretch x0 x1 x2 x3 x4 x5 x6 x7 x8 4 3 _ _ _ _ _ _ _ y) ?_
  refine View.allAt_cons_unit _ _ _ _ _ (out_stretch x0 x1 x2 x3 x4 x5 x6 x7 x8 4 2 _ _ _ _ _ _ _ y) ?_
  refine View.allAt_cons_unit _ _ _ _ _ (out_stretch x0 x1 x2 x3 x4 x5 x6 x7 x8 4 1 _ _ _ _ _ _ _ y) ?_
  refine View.allAt_cons_unit _ _ _ _ _ (out_stretch x0 x1 x2 x3 x4 x5 x6 x7 x8 4 0 _ _ _ _ _ _ _ y) ?_
  refine View.allAt_cons_unit _ _ _ _ _ (out_stretch x0 x1 x2 x3 x4 x5 x6 x7 x8 3 3 _ _ _ _ _ _ _ y) ?_
  refine View.allAt_cons_unit _ _ _ _ _ (out_stretch x0 x1 x2 x3 x4 x5 x6 x7 x8 3 2 _ _ _ _ _ _ _ y) ?_
  refine View.allAt_cons_unit _ _ _ _ _ (out_stretch x0 x1 x2 x3 x4 x5 x6 x7 x8 3 1 _ _ _ _ _ _ _ y) ?_
  refine View.allAt_cons_unit _ _ _ _ _ (out_stretch x0 x1 x2 x3 x4 x5 x6 x7 x8 3 0 _ _ _ _ _ _ _ y) ?_
  refine View.allAt_cons_unit _ _ _ _ _ (out_stretch x0 x1 x2 x3 x4 x5 x6 x7 x8 2 3 _ _ _ _ _ _ _ y) ?_
  refine View.allAt_cons_unit _ _ _ _ _ (out_stretch x0 x1 x2 x3 x4 x5 x6 x7 x8 2 2 _ _ _ _ _ _ _ y) ?_
  refine View.allAt_cons_unit _ _ _ _ _ (out_stretch x0 x1 x2 x3 x4 x5 x6 x7 x8 2 1 _ _ _ _ _ _ _ y) ?_
  refine View.allAt_cons_unit _ _ _ _ _ (out_stretch x0 x1 x2 x3 x4 x5 x6 x7 x8 2 0 _ _ _ _ _ _ _ y) ?_
  refine View.allAt_cons_unit _ _ _ _ _ (out_stretch x0 x1 x2 x3 x4 x5 x6 x7 x8 1 3 _ _ _ _ _ _ _ y) ?_
  refine View.allAt_cons_unit _ _ _ _ _ (out_stretch x0 x1 x2 x3 x4 x5 x6 x7 x8 1 2 _ _ _ _ _ _ _ y) ?_
  refine View.allAt_cons_unit _ _ _ _ _ (out_stretch x0 x1 x2 x3 x4 x5 x6 x7 x8 1 1 _ _ _ _ _ _ _ y) ?_
  refine View.allAt_cons_unit _ _ _ _ _ (out_stretch x0 x1 x2 x3 x4 x5 x6 x7 x8 1 0 _ _ _ _ _ _ _ y) ?_
  refine View.allAt_cons_unit _ _ _ _ _ (out_stretch x0 x1 x2 x3 x4 x5 x6 x7 x8 0 3 _ _ _ _ _ _ _ y) ?_
  refine View.allAt_cons_unit _ _ _ _ _ (out_stretch x0 x1 x2 x3 x4 x5 x6 x7 x8 0 2 _ _ _ _ _ _ _ y) ?_
  refine View.allAt_cons_unit _ _ _ _ _ (out_stretch x0 x1 x2 x3 x4 x5 x6 x7 x8 0 1 _ _ _ _ _ _ _ y) ?_
  refine View.allAt_cons_unit _ _ _ _ _ (out_stretch x0 x1 x2 x3 x4 x5 x6 x7 x8 0 0 _ _ _ _ _ _ _ y) ?_
  exact View.allAt_nil _ _

end Cert.TokenTile

end

end
-- ==== Proof.TokenRef.lean ====
/- The reference's step of one decoded token.  Its loop takes one trip, over the one chunk of one row: here what the loop begins
   with, what its trip leaves, and the two results, each read at an index. -/
module

public import proofs.«01_k».proof.Proof.TokenTile
public import proofs.«01_k».proof.Proof.Sums
public import proofs.«01_k».proof.Proof.Gen.TokenReferenceIdeal.Run
public import proofs.«01_k».proof.Proof.Gen.TokenReferenceIdeal.Step
public import Idealize.ShloMosaic.Lib.DynamicIndex

@[expose] public section

set_option maxRecDepth 16384

noncomputable section

namespace Cert.TokenRef

open Idealize.ShloMosaic Idealize.ShloMosaic.TcCoe Idealize.SL.Sem Idealize.ShloMosaic.StableHlo
open Cert.TokenReferenceIdeal Cert.TokenReferenceIdeal.Gen Cert.TokenReferenceIdeal.Value
open Cert.TokenReferenceIdeal.Step

section Run

/-- The buffers of the loop hold state `s` as trip number `j` begins. -/
structure Begins (V : Valuation τ sig (Elt Ideal)) (s : State Ideal) (j : ℕ) : Prop where
  st : V (Proc.devRef .tc main_v41_6) = s.main_v41_6
  out : V (Proc.devRef .tc main_v41_7) = s.main_v41_7
  q : V (Proc.devRef .tc main_v41_0) = s.main_v41_0
  k : V (Proc.devRef .tc main_v41_1) = s.main_v41_1
  v : V (Proc.devRef .tc main_v41_2) = s.main_v41_2
  g : V (Proc.devRef .tc main_v41_3) = s.main_v41_3
  num : V (Proc.devRef .tc main_v41_5) = constantI S_ 32 (BitVec.ofNat 32 j)
  mask : V (Proc.devRef .tc main_v41_4) = K_main_v31 (F := Ideal)

variable {V : Valuation τ sig (Elt Ideal)} {s : State Ideal} {j : ℕ}

/-- The trip's state matrix is the step's. -/
theorem trip_st (h : Begins V s j) : Value.step_main_v41_6 V = (step j s).main_v41_6 := by
  unfold Value.step_main_v41_6 res_main_while0b_v81 res_main_while0b_v62 res_main_while0b_v65 res_main_while0b_v63
  simp only [h.st, h.out, h.q, h.k, h.v, h.g, h.num, h.mask]
  rfl

/-- The trip's output rows are the step's. -/
theorem trip_out (h : Begins V s j) : Value.step_main_v41_7 V = (step j s).main_v41_7 := by
  unfold Value.step_main_v41_7 res_main_while0b_v61 res_main_while0b_v65 res_main_while0b_v62 res_main_while0b_v63
  simp only [h.st, h.out, h.q, h.k, h.v, h.g, h.num, h.mask]
  rfl

/-- The state the trip begins with, of the memory the run begins with. -/
abbrev first (m : (ℓ : Loc nD τ sig) → Buf (Elt Ideal) ℓ) (c : Dev nD) : State Ideal :=
  init (m ((c.tc : Thread nD τ).loc main_arg5)) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg6))
    (m ((c.tc : Thread nD τ).loc main_arg7))

set_option maxRecDepth 65536 in
set_option maxHeartbeats 400000 in
/-- What the operations before the loop leave is a beginning of trip 0. -/
theorem begins_first (m : (ℓ : Loc nD τ sig) → Buf (Elt Ideal) ℓ) (c : Dev nD) : Begins (entryContents preI m c) (first m c) 0 := by
  constructor <;> (simp only [entryContents, afterL_cons, afterL_nil]; after_reads_simp) <;> rfl

/-- The output rows of a state the loop ends with. -/
theorem out_rows (h7 : V (Proc.devRef .tc main_v41_7) = s.main_v41_7) {x4 : (⟨S32x512, .f32⟩ : BufTy).Contents (Elt Ideal)}
    (h4 : V (Proc.devRef .tc main_arg4) = x4) {x8 : (⟨S128, .f32⟩ : BufTy).Contents (Elt Ideal)} (h8 : V (Proc.devRef .tc main_arg8) = x8) :
    out_main_v60 V = R_main_v60 s x4 x8 := by
  unfold out_main_v60 R_main_v60
  rw [h7, h4, h8]
  try rfl

/-- Every run of the reference ends with its results those of the state after the one trip, and with its arguments as they were. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v60)
          = R_main_v60 (step 0 (first m c)) (m ((c.tc : Thread nD τ).loc main_arg4)) (m ((c.tc : Thread nD τ).loc main_arg8))
      ∧ r.2.mem ((c.tc : Thread nD τ).loc main_v41_6) = b56 0 (first m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    have hb := begins_first m c
    ⟨(h c).1.trans (out_rows ((STEP_main_v41_7 _).trans (trip_out hb)) (iter_main_arg4 m c 1) (iter_main_arg8 m c 1)),
      (h c).2.1.trans ((STEP_main_v41_6 _).trans (trip_st hb)), (h c).2.2⟩)
    (Value.run m ρ)

end Run

/-- Column `d` of head `h` of the queries and keys. -/
def colq (h : Fin 4) (d : Fin 64) : Fin 256 := ⟨h.val * 64 + d.val, by omega⟩

/-- Column `e` of head `h` of the values. -/
def colv (h : Fin 4) (e : Fin 128) : Fin 512 := ⟨h.val * 128 + e.val, by omega⟩

section Args
variable (a0 a1 : Vec Ideal S32x256 .f32) (a2 : Vec Ideal S32x512 .f32) (a3 : Vec Ideal S32x16 .f32) (a4 : Vec Ideal S32x512 .f32)
  (a5 : Vec Ideal S32x4x64x128 .f32) (a6 : Vec Ideal S16x256 .f32) (a7 : Vec Ideal S256 .f32) (a8 : Vec Ideal S128 .f32)

/-- The gate's argument. -/
def arg (b : Fin 32) (j : Fin 256) : EReal := (∑ x : Fin 16, a3 (ix2 b x) * a6 (ix2 x j)) + a7 (ix1 j)

/-- The scaled query. -/
def Q (b : Fin 32) (h : Fin 4) (d : Fin 64) : EReal := a0 (ix2 b (colq h d)) * Ideal.ofBits .f32 0x3E000000#32

/-- The log-decay. -/
def L (b : Fin 32) (h : Fin 4) (d : Fin 64) : EReal := Gate.decay (arg a3 a6 a7 b (colq h d))

theorem q_at (b : Fin 32) (h : Fin 4) (d : Fin 64) : A_main_v33 a0 a1 a2 a3 a6 a7 (ix5 0 b h 0 d) = Q a0 b h d := by
  unfold Q
  pointwise [A_main_v33, A_main_v32, A_main_v2, A_main_v0, K_main_cst, K_main_v1, colq]

theorem k_at (b : Fin 32) (h : Fin 4) (d : Fin 64) : A_main_v35 a0 a1 a2 a3 a6 a7 (ix5 0 b h 0 d) = a1 (ix2 b (colq h d)) := by
  pointwise [A_main_v35, A_main_v34, A_main_v3, colq]

theorem v_at (b : Fin 32) (h : Fin 4) (e : Fin 128) : A_main_v37 a0 a1 a2 a3 a6 a7 (ix5 0 b h 0 e) = a2 (ix2 b (colv h e)) := by
  pointwise [A_main_v37, A_main_v36, A_main_v4, colv]

theorem la_at (b : Fin 32) (h : Fin 4) (d : Fin 64) : A_main_v39 a0 a1 a2 a3 a6 a7 (ix5 0 b h 0 d) = L a3 a6 a7 b h d := by
  unfold L
  pointwise [A_main_v39, A_main_v38, A_main_v26, A_main_v25, A_main_v23, A_main_v22, A_main_v21, A_main_v20, A_main_v19, A_main_v18, A_main_v17, A_main_v16, A_main_v14, A_main_v13, A_main_v11, A_main_v9, A_main_v8, A_main_v7, A_main_v6, A_main_v5, K_main_v24, K_main_cst_1, K_main_v15, K_main_v12, K_main_v10, K_main_cst_0, Gate.decay, arg, colq]
  rw [if_neg (not_not.mpr rfl)]

end Args

/-- The one chunk's slice of an array of 64 columns is the array. -/
theorem slice_64 (x : Vec Ideal S1x32x4x1x64 .f32) (start : Fin 5 → Int) (hs : ∀ a, start a = ((![0, 0, 0, 0, 0] : Fin 5 → ℕ) a : Int)) (b : Fin 32) (h : Fin 4) (d : Fin 64) :
    Host.dynamicSlice S1x32x4x1x64 x start sliceFits_S1x32x4x1x64_S1x32x4x1x64 (ix5 0 b h 0 d) = x (ix5 0 b h 0 d) := by
  have hoff : S1x32x4x1x64.Slices ![0, 0, 0, 0, 0] S1x32x4x1x64 := ⟨rfl, fun a => by
    fin_cases a <;> decide⟩
  rw [Host.dynamicSlice_eq_extractStridedSlice S1x32x4x1x64 x start ![0, 0, 0, 0, 0] _ hoff hs]
  pointwise

/-- The one chunk's slice of an array of 128 columns is the array. -/
theorem slice_128 (x : Vec Ideal S1x32x4x1x128 .f32) (start : Fin 5 → Int) (hs : ∀ a, start a = ((![0, 0, 0, 0, 0] : Fin 5 → ℕ) a : Int)) (b : Fin 32) (h : Fin 4) (e : Fin 128) :
    Host.dynamicSlice S1x32x4x1x128 x start sliceFits_S1x32x4x1x128_S1x32x4x1x128 (ix5 0 b h 0 e) = x (ix5 0 b h 0 e) := by
  have hoff : S1x32x4x1x128.Slices ![0, 0, 0, 0, 0] S1x32x4x1x128 := ⟨rfl, fun a => by
    fin_cases a <;> decide⟩
  rw [Host.dynamicSlice_eq_extractStridedSlice S1x32x4x1x128 x start ![0, 0, 0, 0, 0] _ hoff hs]
  pointwise

/-- The one chunk's rows written into the array of output rows are that array. -/
theorem update_at (x u : Vec Ideal S1x32x4x1x128 .f32) (start : Fin 5 → Int) (hs : ∀ a, start a = ((![0, 0, 0, 0, 0] : Fin 5 → ℕ) a : Int)) (b : Fin 32) (h : Fin 4) (e : Fin 128) :
    Host.dynamicUpdateSlice x u start updateFits_S1x32x4x1x128_S1x32x4x1x128 (ix5 0 b h 0 e) = u (ix5 0 b h 0 e) := by
  have hc : ∀ a : Fin 5, Host.clampedStart S1x32x4x1x128 S1x32x4x1x128 updateFits_S1x32x4x1x128_S1x32x4x1x128.1 start a = (![0, 0, 0, 0, 0] : Fin 5 → ℕ) a := fun a => by
    refine Host.clampedStart_of_le (s := S1x32x4x1x128) (t := S1x32x4x1x128) _ start a _ (hs a) ?_
    fin_cases a <;> decide
  rw [Host.dynamicUpdateSlice_apply, dif_pos ?_]
  · congr 1
    rw [Shape.Idx.norm_def]
    funext a
    match a with
    | 0 => exact Subsingleton.elim (α := Fin 1) _ _
    | 1 => exact Fin.ext ((congrArg (b.val - ·) (hc 1)).trans (Nat.sub_zero _))
    | 2 => exact Fin.ext ((congrArg (h.val - ·) (hc 2)).trans (Nat.sub_zero _))
    | 3 => exact Subsingleton.elim (α := Fin 1) _ _
    | 4 => exact Fin.ext ((congrArg (e.val - ·) (hc 4)).trans (Nat.sub_zero _))
  · intro a
    rw [hc]
    match a with
    | 0 => exact show 0 ≤ 0 ∧ 0 < 0 + 1 by omega
    | 1 => exact show 0 ≤ b.val ∧ b.val < 0 + 32 by omega
    | 2 => exact show 0 ≤ h.val ∧ h.val < 0 + 4 by omega
    | 3 => exact show 0 ≤ 0 ∧ 0 < 0 + 1 by omega
    | 4 => exact show 0 ≤ e.val ∧ e.val < 0 + 128 by omega

/-- The one position of the window the running sum is taken over. -/
abbrev W : Shape := ⟨4, ![1, 1, 1, 1]⟩

/-- The running sum over one row is the row. -/
theorem cumsum_at (x : Vec Ideal S32x4x1x64 .f32) (init : S_.Idx → EReal) (h0 : init (Shape.Idx.first h_S_) = 0) (b : Fin 32) (h : Fin 4) (d : Fin 64) :
    Host.reduceWindowAdd (F := Ideal) (φ := .f32) ![1, 1, 1, 1] ![1, 1, 1, 1] ![0, 0, 0, 0] ![0, 0, 0, 0] x init
      reduceWindows_S32x4x1x64_S32x4x1x64_w1s1p0_0_w1s1p0_0_w1s1p0_0_w1s1p0_0 h_S_ (ix4 b h 0 d) = x (ix4 b h 0 d) := by
  show Ideal.hostReduceWindowAdd ![1, 1, 1, 1] ![1, 1, 1, 1] ![0, 0, 0, 0] ![0, 0, 0, 0]
    reduceWindows_S32x4x1x64_S32x4x1x64_w1s1p0_0_w1s1p0_0_w1s1p0_0_w1s1p0_0 x (init (Shape.Idx.first h_S_)) (ix4 b h 0 d) = _
  rw [h0]
  unfold Ideal.hostReduceWindowAdd Host.reduceWindow
  refine (Sums.foldl_add _ _ _).trans ?_
  rw [zero_add, ← List.ofFn_eq_map, List.sum_ofFn]
  have one : ∀ f : W.Idx → EReal, ∑ n : Fin W.numel, f (W.rowMajor.symm n) = f (ix4 0 0 0 0) := fun f => by
    rw [Equiv.sum_comp W.rowMajor.symm f]
    refine Fintype.sum_eq_single _ fun y hy => absurd ?_ hy
    funext a
    match a with
    | 0 => exact Subsingleton.elim (α := Fin 1) _ _
    | 1 => exact Subsingleton.elim (α := Fin 1) _ _
    | 2 => exact Subsingleton.elim (α := Fin 1) _ _
    | 3 => exact Subsingleton.elim (α := Fin 1) _ _
  refine (one (fun w => @dite EReal (∀ a : Fin 4, (![0, 0, 0, 0] : Fin 4 → ℕ) a ≤ (ix4 b h 0 d a).val * (![1, 1, 1, 1] : Fin 4 → ℕ) a + (w a).val ∧
    (ix4 b h 0 d a).val * (![1, 1, 1, 1] : Fin 4 → ℕ) a + (w a).val - (![0, 0, 0, 0] : Fin 4 → ℕ) a < S32x4x1x64.size a)
      (Nat.decidableForallFin _) (fun hin => x (fun a => ⟨(ix4 b h 0 d a).val * (![1, 1, 1, 1] : Fin 4 → ℕ) a + (w a).val -
        (![0, 0, 0, 0] : Fin 4 → ℕ) a, (hin a).2⟩)) (fun _ => 0))).trans ?_
  have hb := b.isLt
  have hh := h.isLt
  have hd := d.isLt
  rw [dif_pos ?_]
  · congr 1
    funext a
    match a with
    | 0 => exact Fin.ext (show b.val * 1 + 0 - 0 = b.val by omega)
    | 1 => exact Fin.ext (show h.val * 1 + 0 - 0 = h.val by omega)
    | 2 => exact Subsingleton.elim (α := Fin 1) _ _
    | 3 => exact Fin.ext (show d.val * 1 + 0 - 0 = d.val by omega)
  · intro a
    match a with
    | 0 => exact show 0 ≤ b.val * 1 + 0 ∧ b.val * 1 + 0 - 0 < 32 by omega
    | 1 => exact show 0 ≤ h.val * 1 + 0 ∧ h.val * 1 + 0 - 0 < 4 by omega
    | 2 => exact show 0 ≤ 0 * 1 + 0 ∧ 0 * 1 + 0 - 0 < 1 by omega
    | 3 => exact show 0 ≤ d.val * 1 + 0 ∧ d.val * 1 + 0 - 0 < 64 by omega

section Trip
variable (s : State Ideal) (b : Fin 32) (h : Fin 4)

theorem starts (w : Fin 5 → (⟨S_, .i32⟩ : BufTy).Contents (Elt Ideal)) (h1 : ∀ a : Fin 5, w a = constantI S_ 32 0#32) (a : Fin 5) :
    (w a (Shape.Idx.first h_S_)).toInt = ((![0, 0, 0, 0, 0] : Fin 5 → ℕ) a : Int) := by
  rw [h1]
  fin_cases a <;> rfl

theorem b5_at (d : Fin 64) : b5 0 s (ix4 b h 0 d) = s.main_v41_0 (ix5 0 b h 0 d) := by
  pointwise [b5]
  exact slice_64 _ _ (starts _ (fun a => by fin_cases a <;> rfl)) b h d

theorem b11_at (d : Fin 64) : b11 0 s (ix4 b h 0 d) = s.main_v41_1 (ix5 0 b h 0 d) := by
  pointwise [b11]
  exact slice_64 _ _ (starts _ (fun a => by fin_cases a <;> rfl)) b h d

theorem b17_at (e : Fin 128) : b17 0 s (ix4 b h 0 e) = s.main_v41_2 (ix5 0 b h 0 e) := by
  pointwise [b17]
  exact slice_128 _ _ (starts _ (fun a => by fin_cases a <;> rfl)) b h e

theorem b23_at (d : Fin 64) : b23 0 s (ix4 b h 0 d) = s.main_v41_3 (ix5 0 b h 0 d) := by
  pointwise [b23]
  exact slice_64 _ _ (starts _ (fun a => by fin_cases a <;> rfl)) b h d

theorem b26_at (d : Fin 64) : b26 0 s (ix4 b h 0 d) = s.main_v41_3 (ix5 0 b h 0 d) := by
  refine (cumsum_at _ _ ?_ b h d).trans (b23_at s b h d)
  pointwise [b25, b24]

/-- The state the trip leaves. -/
theorem b56_at (d : Fin 64) (e : Fin 128) : b56 0 s (ix4 b h d e) =
    Ideal.exp (s.main_v41_3 (ix5 0 b h 0 d)) * s.main_v41_6 (ix4 b h d e) +
      s.main_v41_1 (ix5 0 b h 0 d) * Ideal.exp (s.main_v41_3 (ix5 0 b h 0 d) - s.main_v41_3 (ix5 0 b h 0 d)) * s.main_v41_2 (ix5 0 b h 0 e) := by
  pointwise [b56, b55, b54, b53, b52, b51, b50, b49, b48, b47, b46]
  simp only [b26_at, b11_at, b17_at, Finset.univ_unique, Finset.sum_singleton, Fin.default_eq_zero]
  try rfl

theorem causal (v w : EReal) : Scalar.select (IntOp.cmpi .sle (BitVec.ofNat 32 0) (BitVec.ofNat 32 0)) v w = v := rfl

/-- The output row the trip leaves. -/
theorem b45_at (e : Fin 128) : b45 0 s (ix4 b h 0 e) =
    (∑ d : Fin 64, s.main_v41_0 (ix5 0 b h 0 d) * Ideal.exp (s.main_v41_3 (ix5 0 b h 0 d)) * s.main_v41_6 (ix4 b h d e)) +
      (∑ d : Fin 64, s.main_v41_0 (ix5 0 b h 0 d) * s.main_v41_1 (ix5 0 b h 0 d) *
        Ideal.exp (s.main_v41_3 (ix5 0 b h 0 d) - s.main_v41_3 (ix5 0 b h 0 d))) * s.main_v41_2 (ix5 0 b h 0 e) := by
  pointwise [b45, b44, b43, b42, b41, b40, b39, b38, b37, b36, b35, b34, b33, b32, b31, b30, b29, b28, b27, K_main_v27, K_main_v28, K_main_v29, K_main_v30, K_main_v31]
  simp only [b26_at, b11_at, b17_at, b5_at, causal, Finset.univ_unique, Finset.sum_singleton, Fin.default_eq_zero]
  try rfl

theorem b62_at (e : Fin 128) : b62 0 s (ix5 0 b h 0 e) = b45 0 s (ix4 b h 0 e) := by
  refine (update_at _ _ _ (starts _ (fun a => by fin_cases a <;> rfl)) b h e).trans ?_
  pointwise [b57]

end Trip

/-- The returned rows. -/
theorem rows_at (s : State Ideal) (a4 : Vec Ideal S32x512 .f32) (a8 : Vec Ideal S128 .f32) (b : Fin 32) (h : Fin 4) (e : Fin 128) :
    R_main_v60 s a4 a8 (ix4 b h 0 e) =
      Head.finish (fun e => s.main_v41_7 (ix5 0 b h 0 e)) (fun e => a8 (ix1 e)) (fun e => a4 (ix2 b (colv h e))) e := by
  pointwise [R_main_v60, Head.finish, colv]
  rw [zero_sub]

end Cert.TokenRef

end

end
-- ==== Proof.TokenSame.lean ====
/- The step of one decoded token, kernel against reference: the arrays the kernel's blocks are cut from, the two arrays the kernel
   leaves over the arguments, and the reference's two arrays, which are the same where no argument of the gate is minus infinity. -/
module

public import proofs.«01_k».proof.Pre_gate_finite
public import proofs.«01_k».proof.Proof.TokenTile
public import proofs.«01_k».proof.Proof.TokenRef
public import proofs.«01_k».proof.Proof.Rows
public import proofs.«01_k».proof.Proof.Gen.TokenIdeal.Value
public import Idealize.ShloMosaic.Lib.Claim
public import Idealize.ShloMosaic.Lib.StableHlo.ReadAt

@[expose] public section

set_option maxRecDepth 16384

noncomputable section

namespace Cert.TokenSame

open Idealize.ShloMosaic Idealize.ShloMosaic.TcCoe Idealize.SL.Sem Cert.TokenIdeal Cert.TokenIdeal.Gen Cert.TokenTile
open Cert.TokenRef (colq colv arg)

section Over
variable (q k : Vec Ideal S32x256 .f32) (v : Vec Ideal S32x512 .f32) (l : Vec Ideal S32x16 .f32) (r : Vec Ideal S32x512 .f32)
  (s : Vec Ideal S32x4x64x128 .f32) (w : Vec Ideal S16x256 .f32) (b : Vec Ideal S256 .f32) (g : Vec Ideal S128 .f32)

/-- The decay of a token. -/
def A (n : Fin 32) (h : Fin 4) (d : Fin 64) : EReal := Ideal.exp (Tile.gate (arg l w b n (colq h d)))

/-- A token's new state, over the arguments. -/
def newState (n : Fin 32) (h : Fin 4) (d : Fin 64) (e : Fin 128) : EReal :=
  stateOf (A l w b n h d) (s (ix4 n h d e)) (k (ix2 n (colq h d))) (v (ix2 n (colv h e)))

/-- A token's output row, over the arguments. -/
def newOut (n : Fin 32) (h : Fin 4) (e : Fin 128) : EReal :=
  Head.finish (fun e => outOf (TokenRef.Q q n h) (A l w b n h) (fun d => k (ix2 n (colq h d))) (fun d => s (ix4 n h d e)) (v (ix2 n (colv h e))))
    (fun e => g (ix1 e)) (fun e => r (ix2 n (colv h e))) e

section Host

/-- The gate inputs padded with zeros from 16 to 128 columns. -/
def padInputs : Vec Ideal S32x128 .f32 :=
  pad S32x128 ![0, 0] ![0, 112] ![0, 0] l (sitofp (F := Ideal) .f32 (constantI S_ 32 0#32)) pads_S32x16_S32x128_000_01120 h_S_

/-- The gate weights, one row for each column of the queries, padded with zeros from 16 to 128 columns. -/
def padWeights : Vec Ideal S4x64x128 .f32 :=
  shapeCast S4x64x128 (pad S256x128 ![0, 0] ![0, 112] ![0, 0] (transpose S256x16 [1, 0] w transposes_S16x256_S256x16_1_0)
    (sitofp (F := Ideal) .f32 (constantI S_ 32 0#32)) pads_S256x16_S256x128_000_01120 h_S_) shapeCasts_S256x128_S4x64x128

/-- The scaled queries. -/
def scaled : Vec Ideal S32x256 .f32 :=
  mulf (F := Ideal) (φ := .f32) q (broadcastInDim S32x256 ![] bcast_S_S32x256 (constant (F := Ideal) S_ .f32 0x3E000000#32))

/-- The five arrays joined along their columns. -/
def join (l : Vec Ideal S32x128 .f32) : Vec Ideal S32x1664 .f32 :=
  concatenate S32x1664 1 [⟨S32x256, q⟩, ⟨S32x256, k⟩, ⟨S32x512, v⟩, ⟨S32x128, l⟩, ⟨S32x512, r⟩]
    concatenates_S32x256_S32x256_S32x512_S32x128_S32x512_S32x1664_d1

variable (n : Fin 32) (p : Vec Ideal S32x128 .f32)

theorem join_q (j : Fin 256) : join q k v r p (ix2 n ⟨0 + j.val, by omega⟩) = q (ix2 n j) := by
  pointwise [join]

theorem join_k (j : Fin 256) : join q k v r p (ix2 n ⟨256 + j.val, by omega⟩) = k (ix2 n j) := by
  pointwise [join]

theorem join_v (j : Fin 512) : join q k v r p (ix2 n ⟨512 + j.val, by omega⟩) = v (ix2 n j) := by
  pointwise [join]
  rw [dif_neg (by omega), dif_neg (by omega), dif_pos (by omega)]
  refine congrArg (fun i => v (ix2 n i)) (Fin.ext ?_)
  show 512 + j.val - 256 - 256 = j.val
  omega

theorem join_l (j : Fin 128) : join q k v r p (ix2 n ⟨1024 + j.val, by omega⟩) = p (ix2 n j) := by
  pointwise [join]
  rw [dif_neg (by omega), dif_neg (by omega), dif_neg (by omega), dif_pos (by omega)]
  refine congrArg (fun i => p (ix2 n i)) (Fin.ext ?_)
  show 1024 + j.val - 256 - 256 - 512 = j.val
  omega

theorem join_r (j : Fin 512) : join q k v r p (ix2 n ⟨1152 + j.val, by omega⟩) = r (ix2 n j) := by
  pointwise [join]
  rw [dif_neg (by omega), dif_neg (by omega), dif_neg (by omega), dif_neg (by omega)]
  refine congrArg (fun i => r (ix2 n i)) (Fin.ext ?_)
  show 1152 + j.val - 256 - 256 - 512 - 128 = j.val
  omega

theorem pad_l (x : Fin 128) : padInputs l (ix2 n x) = if h : x.val < 16 then l (ix2 n ⟨x.val, h⟩) else (0 : EReal) := by
  pointwise [padInputs]
  rw [Host.zero_word]

theorem pad_w (h : Fin 4) (d : Fin 64) (x : Fin 128) :
    padWeights w (ix3 h d x) = if hx : x.val < 16 then w (ix2 ⟨x.val, hx⟩ (colq h d)) else (0 : EReal) := by
  pointwise [padWeights, colq]
  rw [Host.zero_word]
  have hc : h.val * 64 + d.val < 256 := by omega
  by_cases hx : x.val < 16
  · rw [dif_pos ⟨hc, hx⟩, dif_pos hx]
  · rw [dif_neg fun hn => hx hn.2, dif_neg hx]

variable (J : Vec Ideal S32x1664 .f32) (h : Fin 4)

theorem cut_q (d : Fin 64) : shapeCast S32x4x64x1 (extractStridedSlice S32x256 ![0, 0] J slices_S32x1664_S32x256_0_0) shapeCasts_S32x256_S32x4x64x1 (ix4 n h d 0) =
    J (ix2 n ⟨0 + (colq h d).val, by have := (colq h d).isLt; omega⟩) := by
  pointwise [colq]

theorem cut_k (d : Fin 64) : shapeCast S32x4x64x1 (extractStridedSlice S32x256 ![0, 256] J slices_S32x1664_S32x256_0_256) shapeCasts_S32x256_S32x4x64x1 (ix4 n h d 0) =
    J (ix2 n ⟨256 + (colq h d).val, by have := (colq h d).isLt; omega⟩) := by
  pointwise [colq]

theorem cut_l (x : Fin 128) : shapeCast S32x1x128 (extractStridedSlice S32x128 ![0, 1024] J slices_S32x1664_S32x128_0_1024) shapeCasts_S32x128_S32x1x128 (ix3 n 0 x) =
    J (ix2 n ⟨1024 + x.val, by omega⟩) := by
  pointwise

theorem cut_v (e : Fin 128) : shapeCast S32x4x1x128 (extractStridedSlice S32x512 ![0, 512] J slices_S32x1664_S32x512_0_512) shapeCasts_S32x512_S32x4x1x128 (ix4 n h 0 e) =
    J (ix2 n ⟨512 + (colv h e).val, by have := (colv h e).isLt; omega⟩) := by
  pointwise [colv]

theorem cut_r (e : Fin 128) : shapeCast S32x4x1x128 (extractStridedSlice S32x512 ![0, 1152] J slices_S32x1664_S32x512_0_1152) shapeCasts_S32x512_S32x4x1x128 (ix4 n h 0 e) =
    J (ix2 n ⟨1152 + (colv h e).val, by have := (colv h e).isLt; omega⟩) := by
  pointwise [colv]

end Host
end Over

section Kernel
variable (m : (ℓ : Loc nD τ sig) → Buf (Elt Ideal) ℓ) (c : Dev nD)

/-- The arguments. -/
abbrev q_ : Vec Ideal S32x256 .f32 := m ((c.tc : Thread nD τ).loc main_arg0)
abbrev k_ : Vec Ideal S32x256 .f32 := m ((c.tc : Thread nD τ).loc main_arg1)
abbrev v_ : Vec Ideal S32x512 .f32 := m ((c.tc : Thread nD τ).loc main_arg2)
abbrev l_ : Vec Ideal S32x16 .f32 := m ((c.tc : Thread nD τ).loc main_arg3)
abbrev r_ : Vec Ideal S32x512 .f32 := m ((c.tc : Thread nD τ).loc main_arg4)
abbrev s_ : Vec Ideal S32x4x64x128 .f32 := m ((c.tc : Thread nD τ).loc main_arg5)
abbrev w_ : Vec Ideal S16x256 .f32 := m ((c.tc : Thread nD τ).loc main_arg6)
abbrev b_ : Vec Ideal S256 .f32 := m ((c.tc : Thread nD τ).loc main_arg7)
abbrev g_ : Vec Ideal S128 .f32 := m ((c.tc : Thread nD τ).loc main_arg8)

/-- What the host operations before the joining one leave at a buffer. -/
abbrev before (r : Ref sig .tc) : Buf (Elt Ideal) ((c : Thread nD τ).loc r) :=
  StableHlo.upto [hostOps0, hostOps0_1, hostOps0_2, hostOps0_3, hostOps0_4].flatten (fun b => m (c, b)) 6 (Proc.tc.devRef r)

theorem before_q : before m c main_v1 = scaled (q_ m c) := by
  unfold before
  after_reads_simp
  rfl

theorem before_k : before m c main_arg1 = k_ m c := by
  unfold before
  after_reads_simp

theorem before_v : before m c main_arg2 = v_ m c := by
  unfold before
  after_reads_simp

theorem before_l : before m c main_v2 = padInputs (l_ m c) := by
  unfold before
  after_reads_simp
  rfl

theorem before_r : before m c main_arg4 = r_ m c := by
  unfold before
  after_reads_simp

/-- The joined array. -/
abbrev J : Vec Ideal S32x1664 .f32 := join (scaled (q_ m c)) (k_ m c) (v_ m c) (r_ m c) (padInputs (l_ m c))

theorem host_0 : V m c main_v8 = shapeCast S32x4x64x1 (extractStridedSlice S32x256 ![0, 0] (J m c) slices_S32x1664_S32x256_0_0) shapeCasts_S32x256_S32x4x64x1 := by
  unfold J
  rw [← before_q m c, ← before_k m c, ← before_v m c, ← before_l m c, ← before_r m c]
  unfold V
  after_reads_simp
  rfl

theorem host_1 : V m c main_v10 = shapeCast S32x4x64x1 (extractStridedSlice S32x256 ![0, 256] (J m c) slices_S32x1664_S32x256_0_256) shapeCasts_S32x256_S32x4x64x1 := by
  unfold J
  rw [← before_q m c, ← before_k m c, ← before_v m c, ← before_l m c, ← before_r m c]
  unfold V
  after_reads_simp
  rfl

theorem host_2 : V m c main_v12 = shapeCast S32x1x128 (extractStridedSlice S32x128 ![0, 1024] (J m c) slices_S32x1664_S32x128_0_1024) shapeCasts_S32x128_S32x1x128 := by
  unfold J
  rw [← before_q m c, ← before_k m c, ← before_v m c, ← before_l m c, ← before_r m c]
  unfold V
  after_reads_simp
  rfl

theorem host_3 : V m c main_v14 = shapeCast S32x4x1x128 (extractStridedSlice S32x512 ![0, 512] (J m c) slices_S32x1664_S32x512_0_512) shapeCasts_S32x512_S32x4x1x128 := by
  unfold J
  rw [← before_q m c, ← before_k m c, ← before_v m c, ← before_l m c, ← before_r m c]
  unfold V
  after_reads_simp
  rfl

theorem host_4 : V m c main_v16 = shapeCast S32x4x1x128 (extractStridedSlice S32x512 ![0, 1152] (J m c) slices_S32x1664_S32x512_0_1152) shapeCasts_S32x512_S32x4x1x128 := by
  unfold J
  rw [← before_q m c, ← before_k m c, ← before_v m c, ← before_l m c, ← before_r m c]
  unfold V
  after_reads_simp
  rfl

theorem host_5 : V m c main_arg5 = s_ m c := by
  unfold V
  after_reads_simp

theorem host_6 : V m c main_v6 = padWeights (w_ m c) := by
  unfold V
  after_reads_simp
  rfl

theorem host_7 : V m c main_v17 = shapeCast S4x64x1 (b_ m c) shapeCasts_S256_S4x64x1 := by
  unfold V
  after_reads_simp
  rfl

theorem host_8 : V m c main_v18 = shapeCast S1x128 (g_ m c) shapeCasts_S128_S1x128 := by
  unfold V
  after_reads_simp
  rfl

/-- Which block of each array the kernel reads and writes at a point. -/
theorem idx : ∀ t : Fin cfg0.N, win0_0.index t = ![t.val, 0, 0, 0] ∧ win0_1.index t = ![t.val, 0, 0, 0] ∧ win0_2.index t = ![t.val, 0, 0] ∧
    win0_3.index t = ![t.val, 0, 0, 0] ∧ win0_4.index t = ![t.val, 0, 0, 0] ∧ win0_5.index t = ![t.val, 0, 0, 0] ∧ win0_6.index t = ![0, 0, 0] ∧
    win0_7.index t = ![0, 0, 0] ∧ win0_8.index t = ![0, 0] ∧ win0_9.index t = ![t.val, 0, 0, 0] ∧ win0_10.index t = ![t.val, 0, 0, 0] :=
  (by decide +kernel : ∀ t : Fin grid0.N, _)

theorem lt (t : Fin cfg0.N) : t.val < 4 := lt_of_lt_of_eq t.isLt (show cfg0.N = 4 from N_0)

/-- The token row `r` of the block is. -/
def row (t : Fin cfg0.N) (r : Fin 8) : Fin 32 := ⟨8 * t.val + r.val, by have := lt t; omega⟩

abbrev X0 (t : Fin cfg0.N) : Vec Ideal S8x4x64x1 .f32 := iblk m c 0 t
abbrev X1 (t : Fin cfg0.N) : Vec Ideal S8x4x64x1 .f32 := iblk m c 1 t
abbrev X2 (t : Fin cfg0.N) : Vec Ideal S8x1x128 .f32 := iblk m c 2 t
abbrev X3 (t : Fin cfg0.N) : Vec Ideal S8x4x1x128 .f32 := iblk m c 3 t
abbrev X4 (t : Fin cfg0.N) : Vec Ideal S8x4x1x128 .f32 := iblk m c 4 t
abbrev X5 (t : Fin cfg0.N) : Vec Ideal S8x4x64x128 .f32 := iblk m c 5 t
abbrev X6 (t : Fin cfg0.N) : Vec Ideal S4x64x128 .f32 := iblk m c 6 t
abbrev X7 (t : Fin cfg0.N) : Vec Ideal S4x64x1 .f32 := iblk m c 7 t
abbrev X8 (t : Fin cfg0.N) : Vec Ideal S1x128 .f32 := iblk m c 8 t

variable (t : Fin cfg0.N) (r : Fin 8) (h : Fin 4) (d : Fin 64) (e x : Fin 128)

theorem block_0 : X0 m c t (ix4 r h d 0) = (V m c main_v8 : Vec Ideal S32x4x64x1 .f32) (ix4 (row t r) h d 0) := by
  unfold row
  blk_ext [iblk, idx t]
theorem block_1 : X1 m c t (ix4 r h d 0) = (V m c main_v10 : Vec Ideal S32x4x64x1 .f32) (ix4 (row t r) h d 0) := by
  unfold row
  blk_ext [iblk, idx t]
theorem block_2 : X2 m c t (ix3 r 0 x) = (V m c main_v12 : Vec Ideal S32x1x128 .f32) (ix3 (row t r) 0 x) := by
  unfold row
  blk_ext [iblk, idx t]
theorem block_3 : X3 m c t (ix4 r h 0 e) = (V m c main_v14 : Vec Ideal S32x4x1x128 .f32) (ix4 (row t r) h 0 e) := by
  unfold row
  blk_ext [iblk, idx t]
theorem block_4 : X4 m c t (ix4 r h 0 e) = (V m c main_v16 : Vec Ideal S32x4x1x128 .f32) (ix4 (row t r) h 0 e) := by
  unfold row
  blk_ext [iblk, idx t]
theorem block_5 : X5 m c t (ix4 r h d e) = (V m c main_arg5 : Vec Ideal S32x4x64x128 .f32) (ix4 (row t r) h d e) := by
  unfold row
  blk_ext [iblk, idx t]
theorem block_6 : X6 m c t (ix3 h d x) = (V m c main_v6 : Vec Ideal S4x64x128 .f32) (ix3 h d x) := by
  blk_ext [iblk, idx t]
theorem block_7 : X7 m c t (ix3 h d 0) = (V m c main_v17 : Vec Ideal S4x64x1 .f32) (ix3 h d 0) := by
  blk_ext [iblk, idx t]
theorem block_8 : X8 m c t (ix2 0 e) = (V m c main_v18 : Vec Ideal S1x128 .f32) (ix2 0 e) := by
  blk_ext [iblk, idx t]

/-- A block's entries over the arguments. -/
theorem x0 : X0 m c t (ix4 r h d 0) = TokenRef.Q (q_ m c) (row t r) h d := by
  rw [block_0, host_0, cut_q, J, join_q]
  unfold TokenRef.Q
  pointwise [scaled]
theorem x1 : X1 m c t (ix4 r h d 0) = k_ m c (ix2 (row t r) (colq h d)) := by
  rw [block_1, host_1, cut_k, J, join_k]
theorem x2 : X2 m c t (ix3 r 0 x) = if hx : x.val < 16 then l_ m c (ix2 (row t r) ⟨x.val, hx⟩) else (0 : EReal) := by
  rw [block_2, host_2, cut_l, J, join_l, pad_l]
theorem x3 : X3 m c t (ix4 r h 0 e) = v_ m c (ix2 (row t r) (colv h e)) := by
  rw [block_3, host_3, cut_v, J, join_v]
theorem x4 : X4 m c t (ix4 r h 0 e) = r_ m c (ix2 (row t r) (colv h e)) := by
  rw [block_4, host_4, cut_r, J, join_r]
theorem x5 : X5 m c t (ix4 r h d e) = s_ m c (ix4 (row t r) h d e) := by
  rw [block_5, host_5]
theorem x6 : X6 m c t (ix3 h d x) = if hx : x.val < 16 then w_ m c (ix2 ⟨x.val, hx⟩ (colq h d)) else (0 : EReal) := by
  rw [block_6, host_6, pad_w]
theorem x7 : X7 m c t (ix3 h d 0) = b_ m c (ix1 (colq h d)) := by
  rw [block_7, host_7]
  pointwise [colq]
theorem x8 : X8 m c t (ix2 0 e) = g_ m c (ix1 e) := by
  rw [block_8, host_8]
  pointwise

/-- The block's decays over the arguments: the padded columns add nothing. -/
theorem decay_block : decayOf (fun x => X2 m c t (ix3 r 0 x)) (fun x => X6 m c t (ix3 h d x)) (X7 m c t (ix3 h d 0)) =
    A (l_ m c) (w_ m c) (b_ m c) (row t r) h d := by
  unfold decayOf A arg
  rw [x7]
  refine congrArg (fun z : EReal => Ideal.exp (Tile.gate (z + b_ m c (ix1 (colq h d))))) ?_
  refine (Finset.sum_congr rfl fun x _ => ?_).trans (Rows.sum_pad (fun x => l_ m c (ix2 (row t r) x)) (fun x => w_ m c (ix2 x (colq h d))))
  show X6 m c t (ix3 h d x) * X2 m c t (ix3 r 0 x) = _
  rw [x2, x6, mul_comm]

/-- The new states the kernel leaves, over the arguments. -/
abbrev states_ : Vec Ideal S32x4x64x128 .f32 := fun y => newState (k_ m c) (v_ m c) (l_ m c) (s_ m c) (w_ m c) (b_ m c) (y 0) (y 1) (y 2) (y 3)

/-- The outputs the kernel leaves, over the arguments. -/
abbrev outs_ : Vec Ideal S32x4x1x128 .f32 := fun y =>
  newOut (q_ m c) (k_ m c) (v_ m c) (l_ m c) (r_ m c) (s_ m c) (w_ m c) (b_ m c) (g_ m c) (y 0) (y 1) (y 3)

theorem state_block : blkState (X1 m c t) (X2 m c t) (X3 m c t) (X5 m c t) (X6 m c t) (X7 m c t) r h d e = states_ m c (ix4 (row t r) h d e) := by
  show _ = newState (k_ m c) (v_ m c) (l_ m c) (s_ m c) (w_ m c) (b_ m c) (row t r) h d e
  unfold blkState newState
  rw [decay_block, x5, x1, x3]

theorem out_block : blkOut (X0 m c t) (X1 m c t) (X2 m c t) (X3 m c t) (X4 m c t) (X5 m c t) (X6 m c t) (X7 m c t) (X8 m c t) r h e =
    outs_ m c (ix4 (row t r) h 0 e) := by
  show _ = newOut (q_ m c) (k_ m c) (v_ m c) (l_ m c) (r_ m c) (s_ m c) (w_ m c) (b_ m c) (g_ m c) (row t r) h e
  unfold blkOut headOut newOut
  simp only [decay_block, x0, x1, x3, x4, x5, x8]

theorem final_states : (dats m 0 c).arrAt 10 cfg0.N = states_ m c := by
  refine (dats m 0 c).arrAt_eq_of_covers 10 _ (by decide +kernel) fun t _ y => ?_
  blk_simp
  rw [after0_10]
  obtain ⟨r, h, d, e, rfl⟩ : ∃ (r : Fin 8) (h : Fin 4) (d : Fin 64) (e : Fin 128), y = ix4 r h d e := ⟨y 0, y 1, y 2, y 3, by funext a; fin_cases a <;> rfl⟩
  refine (states _ _ _ _ _ _ _ _ _ _).trans ((state_block m c t r h d e).trans (congrArg (states_ m c) ?_))
  unfold row
  blk_ext [idx t]

theorem final_outs : (dats m 0 c).arrAt 9 cfg0.N = outs_ m c := by
  refine (dats m 0 c).arrAt_eq_of_covers 9 _ (by decide +kernel) fun t _ y => ?_
  blk_simp
  rw [after0_9]
  obtain ⟨r, h, e, rfl⟩ : ∃ (r : Fin 8) (h : Fin 4) (e : Fin 128), y = ix4 r h 0 e :=
    ⟨y 0, y 1, y 3, by funext a; fin_cases a <;> first | rfl | exact Subsingleton.elim (α := Fin 1) _ _⟩
  refine (outs _ _ _ _ _ _ _ _ _ _).trans ((out_block m c t r h e).trans (congrArg (outs_ m c) ?_))
  unfold row
  blk_ext [idx t]

end Kernel

section Reference
variable (q k : Vec Ideal S32x256 .f32) (v : Vec Ideal S32x512 .f32) (l : Vec Ideal S32x16 .f32) (r : Vec Ideal S32x512 .f32)
  (s : Vec Ideal S32x4x64x128 .f32) (w : Vec Ideal S16x256 .f32) (b : Vec Ideal S256 .f32) (g : Vec Ideal S128 .f32)
  (n : Fin 32) (h : Fin 4) (hz : ∀ j, arg l w b n j ≠ ⊥)

/-- The side conditions of the precondition's operations. -/
instance facts : Cert.Pre_gate_finite.Facts where
  bcast_S256_S1x256_1 := by decide
  bcast_S1x256_S32x256_0_1 := by decide
  bcast_S_S32x256 := by decide
  dot_S32x16_S16x256_S32x256_1_0_0_1_n_n_wf := by decide

/-- An array of comparisons all true says that no argument of the gate is minus infinity. -/
theorem finite (hp : Cert.Pre_gate_finite.fn (F := Ideal) q k v l r s w b g = fun _ => 1#1) (n : Fin 32) (j : Fin 256) : arg l w b n j ≠ ⊥ := by
  have e : Cert.Pre_gate_finite.fn (F := Ideal) q k v l r s w b g (ix2 n j) = BitVec.ofBool (decide (Ideal.ofBits .f32 0xFF800000#32 < arg l w b n j)) := by
    unfold arg
    pointwise [Cert.Pre_gate_finite.fn]
  rw [congrFun hp, RefAt.minus_inf] at e
  intro hn
  rw [hn, decide_eq_false (lt_irrefl _)] at e
  exact absurd e (by decide)

/-- What the reference's trip begins with. -/
abbrev begin_ : Cert.TokenReferenceIdeal.Step.State Ideal := Cert.TokenReferenceIdeal.Step.init s q k v l w b

/-- The exponential of a number less itself is one where the number is real. -/
theorem exp_less_itself (z : EReal) (hz : z ≠ ⊥) : Ideal.exp (Tile.gate z - Tile.gate z) = 1 := by
  obtain ⟨ρ, e⟩ := Gate.gate_real z hz
  rw [show Tile.gate z = (ρ : EReal) from e, ← EReal.coe_sub, sub_self, Ideal.exp_coe, Real.exp_zero, EReal.coe_one]

include hz in
theorem decay_at (d : Fin 64) : TokenRef.L l w b n h d = Tile.gate (arg l w b n (colq h d)) := Gate.decay_eq _ (hz _)

include hz in
/-- The reference's new state. -/
theorem ref_state (d : Fin 64) (e : Fin 128) : Cert.TokenReferenceIdeal.Step.b56 0 (begin_ q k v l s w b) (ix4 n h d e) = newState k v l s w b n h d e := by
  rw [TokenRef.b56_at]
  show Ideal.exp (Cert.TokenReferenceIdeal.Step.A_main_v39 q k v l w b (ix5 0 n h 0 d)) * s (ix4 n h d e) +
    Cert.TokenReferenceIdeal.Step.A_main_v35 q k v l w b (ix5 0 n h 0 d) *
      Ideal.exp (Cert.TokenReferenceIdeal.Step.A_main_v39 q k v l w b (ix5 0 n h 0 d) - Cert.TokenReferenceIdeal.Step.A_main_v39 q k v l w b (ix5 0 n h 0 d)) *
        Cert.TokenReferenceIdeal.Step.A_main_v37 q k v l w b (ix5 0 n h 0 e) = _
  rw [TokenRef.la_at, TokenRef.k_at, TokenRef.v_at, decay_at l w b n h hz, exp_less_itself _ (hz _), mul_one]
  rfl

include hz in
/-- The reference's output row before its norm. -/
theorem ref_row (e : Fin 128) : Cert.TokenReferenceIdeal.Step.b45 0 (begin_ q k v l s w b) (ix4 n h 0 e) =
    outOf (TokenRef.Q q n h) (A l w b n h) (fun d => k (ix2 n (colq h d))) (fun d => s (ix4 n h d e)) (v (ix2 n (colv h e))) := by
  rw [TokenRef.b45_at]
  show (∑ d : Fin 64, Cert.TokenReferenceIdeal.Step.A_main_v33 q k v l w b (ix5 0 n h 0 d) *
      Ideal.exp (Cert.TokenReferenceIdeal.Step.A_main_v39 q k v l w b (ix5 0 n h 0 d)) * s (ix4 n h d e)) +
    (∑ d : Fin 64, Cert.TokenReferenceIdeal.Step.A_main_v33 q k v l w b (ix5 0 n h 0 d) * Cert.TokenReferenceIdeal.Step.A_main_v35 q k v l w b (ix5 0 n h 0 d) *
      Ideal.exp (Cert.TokenReferenceIdeal.Step.A_main_v39 q k v l w b (ix5 0 n h 0 d) - Cert.TokenReferenceIdeal.Step.A_main_v39 q k v l w b (ix5 0 n h 0 d))) *
        Cert.TokenReferenceIdeal.Step.A_main_v37 q k v l w b (ix5 0 n h 0 e) = _
  simp only [TokenRef.q_at, TokenRef.la_at, TokenRef.k_at, TokenRef.v_at, decay_at l w b n h hz, exp_less_itself _ (hz _), mul_one]
  rfl

include hz in
/-- The reference's output row. -/
theorem ref_out (e : Fin 128) : Cert.TokenReferenceIdeal.Step.R_main_v60 (Cert.TokenReferenceIdeal.Step.step 0 (begin_ q k v l s w b)) r g (ix4 n h 0 e) =
    newOut q k v l r s w b g n h e := by
  rw [TokenRef.rows_at]
  unfold newOut
  refine congrArg (fun f : Fin 128 → EReal => Head.finish f (fun e => g (ix1 e)) (fun e => r (ix2 n (colv h e))) e) (funext fun e => ?_)
  exact (TokenRef.b62_at _ n h e).trans (ref_row q k v l s w b n h hz e)

end Reference

section Same
variable (m : (ℓ : Loc nD τ sig) → Buf (Elt Ideal) ℓ) (c : Dev nD) (hz : ∀ n j, arg (l_ m c) (w_ m c) (b_ m c) n j ≠ ⊥)

include hz in
/-- The reference's states are the kernel's. -/
theorem states_same : Cert.TokenReferenceIdeal.Step.b56 0 (begin_ (q_ m c) (k_ m c) (v_ m c) (l_ m c) (s_ m c) (w_ m c) (b_ m c)) =
    (dats m 0 c).arrAt 10 cfg0.N := by
  rw [final_states]
  funext y
  obtain ⟨n, h, d, e, rfl⟩ : ∃ (n : Fin 32) (h : Fin 4) (d : Fin 64) (e : Fin 128), y = ix4 n h d e := ⟨y 0, y 1, y 2, y 3, by funext a; fin_cases a <;> rfl⟩
  exact ref_state _ _ _ _ _ _ _ n h (hz n) d e

include hz in
/-- The reference's outputs are the kernel's. -/
theorem outs_same : Cert.TokenReferenceIdeal.Step.R_main_v60
    (Cert.TokenReferenceIdeal.Step.step 0 (begin_ (q_ m c) (k_ m c) (v_ m c) (l_ m c) (s_ m c) (w_ m c) (b_ m c))) (r_ m c) (g_ m c) =
    (dats m 0 c).arrAt 9 cfg0.N := by
  rw [final_outs]
  funext y
  obtain ⟨n, h, e, rfl⟩ : ∃ (n : Fin 32) (h : Fin 4) (e : Fin 128), y = ix4 n h 0 e :=
    ⟨y 0, y 1, y 3, by funext a; fin_cases a <;> first | rfl | exact Subsingleton.elim (α := Fin 1) _ _⟩
  exact ref_out _ _ _ _ _ _ _ _ _ n h (hz n) e

end Same

end Cert.TokenSame

end

end
-- ==== Proof.lean ====
/- The certificate of five kernels: the chunked gated linear attention and its step of one decoded token, the convolutional
   feed-forward part and its step, and the branches' merge.  `Same`, `TokenSame`, `FfnSame`, `StepSame` and `MergeSame` hold the
   equations between the arrays each kernel leaves and its reference's results; here the runs of the programs are put together with them. -/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.RefRun
public import proofs.«01_k».proof.Proof.Same
public import proofs.«01_k».proof.Proof.FfnSame
public import proofs.«01_k».proof.Proof.MergeSame
public import proofs.«01_k».proof.Proof.StepSame
public import proofs.«01_k».proof.Proof.TokenSame
public import proofs.«01_k».proof.Proof.Gen.Ffn.Frame
public import proofs.«01_k».proof.Proof.Gen.FfnIdeal.Frame
public import proofs.«01_k».proof.Proof.Gen.FfnIdeal.Value
public import proofs.«01_k».proof.Proof.Gen.FfnReferenceIdeal.Run
public import proofs.«01_k».proof.Proof.Gen.Merge.Frame
public import proofs.«01_k».proof.Proof.Gen.MergeIdeal.Frame
public import proofs.«01_k».proof.Proof.Gen.MergeIdeal.Value
public import proofs.«01_k».proof.Proof.Gen.MergeReferenceIdeal.Run
public import proofs.«01_k».proof.Proof.Gen.Step.Frame
public import proofs.«01_k».proof.Proof.Gen.StepIdeal.Frame
public import proofs.«01_k».proof.Proof.Gen.StepIdeal.Value
public import proofs.«01_k».proof.Proof.Gen.StepReferenceIdeal.Run
public import proofs.«01_k».proof.Proof.Gen.Token.Frame
public import proofs.«01_k».proof.Proof.Gen.TokenIdeal.Frame
public import proofs.«01_k».proof.Proof.Gen.TokenIdeal.Value
public import proofs.«01_k».proof.Proof.Gen.TokenReferenceIdeal.Run
public import proofs.«01_k».proof.Proof.Gen.TokenReferenceIdeal.Step
public import Idealize.ShloMosaic.Adequacy
public import Idealize.ShloMosaic.Init

@[expose] public section

noncomputable section

namespace Cert.Proof

open Idealize.ShloMosaic Idealize.SL.Sem

/-- The kernel ends, with its arguments as they were and no semaphore raised. -/
theorem frame_kernel : Cert.quiescent_Kernel := fun m ρ _ => Cert.Kernel.Gen.frame m ρ

/-- So does its reading over the extended reals. -/
theorem frame_ideal : Cert.quiescent_KernelIdeal := fun m ρ _ => Cert.KernelIdeal.Gen.frame m ρ

/-- So does the reference. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The kernel's two results are the reference's, for arguments of the gate not below -39. -/
theorem equal : Cert.algebraic_KernelIdeal_ReferenceIdeal_pre_gate_in_range := by
  intro m ρ m' ρ' hpre hargs
  have hz : ∀ c, ∀ (b : Fin 2) (t : Fin 8192) (j : Fin 256), ((-39 : ℝ) : EReal) ≤ RefAt.arg (Rows.l_ m c) (Rows.w_ m c) (Rows.b_ m c) b t j :=
    fun c => Range.least _ _ _ _ _ _ _ _ (hpre c)
  refine ⟨fun c => KernelIdeal.Value.G6 m c, fun c => KernelIdeal.Value.G7 m c, Cert.KernelIdeal.Value.run m ρ, ?_⟩
  refine (θ_run Cert.ReferenceIdeal.defs _ _).mono (fun r h c => ?_)
    (RefRun.run (F := Ideal) m' ρ' (fun c => Same.steps (RefRun.first m' c)) (fun _ => rfl) (fun _ _ => rfl))
  obtain ⟨e0, e1, e2, e3, e4, e5, e6, e7⟩ := hargs c
  have hs : RefRun.first m' c = ReferenceIdeal.Step.init (Rows.q_ m c) (Rows.k_ m c) (Rows.v_ m c) (Rows.l_ m c) (Rows.w_ m c) (Rows.b_ m c) := by
    unfold RefRun.first
    rw [e0, e1, e2, e3, e5, e6]
  refine ⟨(h c).1.trans ?_, (h c).2.1.trans ?_, (h c).2.2⟩
  · rw [hs, e4, e7]
    exact Same.rows_eq m c (hz c)
  · rw [hs]
    exact Same.state_eq m c (hz c)

/-- The feed-forward kernel ends, with its arguments as they were and no semaphore raised. -/
theorem frame_ffn : Cert.quiescent_Ffn := fun m ρ _ => Cert.Ffn.Gen.frame m ρ

/-- So does its reading over the extended reals. -/
theorem frame_ffn_ideal : Cert.quiescent_FfnIdeal := fun m ρ _ => Cert.FfnIdeal.Gen.frame m ρ

/-- So does its reference. -/
theorem frame_ffn_reference : Cert.quiescent_FfnReferenceIdeal := fun m ρ _ =>
  (θ_run Cert.FfnReferenceIdeal.defs _ _).mono (fun r h => ⟨fun c => (h c).2.2, sem_eq_zero_of_no_sems (by decide) r.2⟩)
    (Cert.FfnReferenceIdeal.Value.run (F := Ideal) m ρ)

/-- The feed-forward kernel's two results are its reference's. -/
theorem equal_ffn : Cert.algebraic_FfnIdeal_FfnReferenceIdeal := by
  intro m ρ m' ρ' _ hargs
  refine ⟨fun c => FfnIdeal.Value.G7 m c, fun c => FfnIdeal.Value.G8 m c, Cert.FfnIdeal.Value.run m ρ, ?_⟩
  refine (θ_run Cert.FfnReferenceIdeal.defs _ _).mono (fun r h c => ?_) (FfnSame.run m' ρ')
  obtain ⟨e0, e1, e2, e3, e4, e5, e6⟩ := hargs c
  exact ⟨FfnSame.rows_same m c m' c e0 e1 e2 e3 e4 e5 e6 _ (h c).1, FfnSame.tail_same m c m' c e0 e2 e3 _ (h c).2.1, (h c).2.2⟩

/-- The merge kernel ends, with its arguments as they were and no semaphore raised. -/
theorem frame_merge : Cert.quiescent_Merge := fun m ρ _ => Cert.Merge.Gen.frame m ρ

/-- So does its reading over the extended reals. -/
theorem frame_merge_ideal : Cert.quiescent_MergeIdeal := fun m ρ _ => Cert.MergeIdeal.Gen.frame m ρ

/-- So does its reference. -/
theorem frame_merge_reference : Cert.quiescent_MergeReferenceIdeal := fun m ρ _ =>
  (θ_run Cert.MergeReferenceIdeal.defs _ _).mono (fun r h => ⟨fun c => (h c).2, sem_eq_zero_of_no_sems (by decide) r.2⟩)
    (Cert.MergeReferenceIdeal.Value.run (F := Ideal) m ρ)

/-- The merge kernel's result is its reference's. -/
theorem equal_merge : Cert.algebraic_MergeIdeal_MergeReferenceIdeal := by
  intro m ρ m' ρ' _ hargs
  refine ⟨fun c => (MergeIdeal.Gen.dats m 0 c).arrAt 9 MergeIdeal.cfg0.N, MergeIdeal.Value.run_blocks m ρ, ?_⟩
  refine (θ_run Cert.MergeReferenceIdeal.defs _ _).mono (fun r h c => ?_) (MergeSame.run m' ρ')
  obtain ⟨e0, e1, e2, e3, e4, e5, e6, e7, e8⟩ := hargs c
  refine ⟨MergeSame.same m c _ fun n j => ((h c).1 n j).trans ?_, (h c).2⟩
  rw [e0, e1, e2, e3, e4, e5, e6, e7, e8]

/-- The feed-forward step's kernel ends, with its arguments as they were and no semaphore raised. -/
theorem frame_step : Cert.quiescent_Step := fun m ρ _ => Cert.Step.Gen.frame m ρ

/-- So does its reading over the extended reals. -/
theorem frame_step_ideal : Cert.quiescent_StepIdeal := fun m ρ _ => Cert.StepIdeal.Gen.frame m ρ

/-- So does its reference. -/
theorem frame_step_reference : Cert.quiescent_StepReferenceIdeal := fun m ρ _ =>
  (θ_run Cert.StepReferenceIdeal.defs _ _).mono (fun r h => ⟨fun c => (h c).2.2, sem_eq_zero_of_no_sems (by decide) r.2⟩)
    (StepSame.run m ρ)

/-- The feed-forward step's two results are its reference's. -/
theorem equal_step : Cert.algebraic_StepIdeal_StepReferenceIdeal := by
  intro m ρ m' ρ' _ hargs
  refine ⟨fun c => (StepIdeal.Gen.dats m 0 c).arrAt 8 StepIdeal.cfg0.N, fun c => (StepIdeal.Gen.dats m 0 c).arrAt 9 StepIdeal.cfg0.N,
    StepIdeal.Value.run_blocks m ρ, ?_⟩
  refine (θ_run Cert.StepReferenceIdeal.defs _ _).mono (fun r h c => ?_) (StepSame.run m' ρ')
  obtain ⟨e0, e1, e2, e3, e4, e5, e6⟩ := hargs c
  refine ⟨StepSame.rows_same m c _ fun b j => ((h c).1 b j).trans ?_, StepSame.gates_same m c _ fun b f => ((h c).2.1 b f).trans ?_, (h c).2.2⟩
  · simp only [StepSame.x', StepSame.p', StepSame.g', StepSame.wu', StepSame.cw', StepSame.cb', StepSame.wd']
    rw [e0, e1, e2, e3, e4, e5, e6]
  · simp only [StepSame.x', StepSame.g', StepSame.wu']
    rw [e0, e2, e3]

/-- The attention step's kernel ends, with its arguments as they were and no semaphore raised. -/
theorem frame_token : Cert.quiescent_Token := fun m ρ _ => Cert.Token.Gen.frame m ρ

/-- So does its reading over the extended reals. -/
theorem frame_token_ideal : Cert.quiescent_TokenIdeal := fun m ρ _ => Cert.TokenIdeal.Gen.frame m ρ

/-- So does its reference. -/
theorem frame_token_reference : Cert.quiescent_TokenReferenceIdeal := fun m ρ _ =>
  (θ_run Cert.TokenReferenceIdeal.defs _ _).mono (fun r h => ⟨fun c => (h c).2.2, sem_eq_zero_of_no_sems (by decide) r.2⟩)
    (TokenRef.run m ρ)

/-- The attention step's two results are its reference's, where no argument of the gate is minus infinity. -/
theorem equal_token : Cert.algebraic_TokenIdeal_TokenReferenceIdeal_pre_gate_finite := by
  intro m ρ m' ρ' hpre hargs
  have hz : ∀ c, ∀ (n : Fin 32) (j : Fin 256), TokenRef.arg (TokenSame.l_ m c) (TokenSame.w_ m c) (TokenSame.b_ m c) n j ≠ ⊥ :=
    fun c => TokenSame.finite _ _ _ _ _ _ _ _ _ (hpre c)
  refine ⟨fun c => (TokenIdeal.Gen.dats m 0 c).arrAt 9 TokenIdeal.cfg0.N, fun c => (TokenIdeal.Gen.dats m 0 c).arrAt 10 TokenIdeal.cfg0.N,
    TokenIdeal.Value.run_blocks m ρ, ?_⟩
  refine (θ_run Cert.TokenReferenceIdeal.defs _ _).mono (fun r h c => ?_) (TokenRef.run m' ρ')
  obtain ⟨e0, e1, e2, e3, e4, e5, e6, e7, e8⟩ := hargs c
  have hs : TokenRef.first m' c = TokenSame.begin_ (TokenSame.q_ m c) (TokenSame.k_ m c) (TokenSame.v_ m c) (TokenSame.l_ m c) (TokenSame.s_ m c)
      (TokenSame.w_ m c) (TokenSame.b_ m c) := by
    unfold TokenRef.first
    rw [e0, e1, e2, e3, e5, e6, e7]
  refine ⟨(h c).1.trans ?_, (h c).2.1.trans ?_, (h c).2.2⟩
  · rw [hs, e4, e8]
    exact TokenSame.outs_same m c (hz c)
  · rw [hs]
    exact TokenSame.states_same m c (hz c)

/-- Everything claimed. -/
theorem claim : Cert.Claim := ⟨Cert.Kernel.Gen.facts, Cert.KernelIdeal.Gen.facts, Cert.ReferenceIdeal.Gen.facts,
  Cert.Ffn.Gen.facts, Cert.FfnIdeal.Gen.facts, Cert.FfnReferenceIdeal.Gen.facts,
  Cert.Merge.Gen.facts, Cert.MergeIdeal.Gen.facts, Cert.MergeReferenceIdeal.Gen.facts,
  Cert.Step.Gen.facts, Cert.StepIdeal.Gen.facts, Cert.StepReferenceIdeal.Gen.facts,
  Cert.Token.Gen.facts, Cert.TokenIdeal.Gen.facts, Cert.TokenReferenceIdeal.Gen.facts, Cert.Range.facts, TokenSame.facts,
  frame_kernel, frame_ideal, fun m ρ _ => Cert.KernelIdeal.Gen.frame m ρ, frame_reference, fun m ρ _ => frame_reference m ρ trivial,
  frame_ffn, frame_ffn_ideal, frame_ffn_reference,
  frame_merge, frame_merge_ideal, frame_merge_reference,
  frame_step, frame_step_ideal, frame_step_reference,
  frame_token, frame_token_ideal, fun m ρ _ => Cert.TokenIdeal.Gen.frame m ρ, frame_token_reference, fun m ρ _ => frame_token_reference m ρ trivial,
  trivial, equal, trivial, equal_ffn, trivial, equal_merge, trivial, equal_step, trivial, equal_token⟩

end Cert.Proof

end

end
